-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dt_nonneg [hPre_dt_nonneg : Cert.Pre_dt_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_dt_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dt_nonneg [hPre_dt_nonneg : Cert.Pre_dt_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dt_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_dt_nonneg_sample [hPre_dt_nonneg_sample : Cert.Pre_dt_nonneg_sample.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_dt_nonneg_sample.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_dt_nonneg_sample [hPre_dt_nonneg_sample : Cert.Pre_dt_nonneg_sample.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_dt_nonneg_sample.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_dt_nonneg [hKernelIdeal : Cert.KernelIdeal.Facts] [hPre_dt_nonneg : Cert.Pre_dt_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dt_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_dt_nonneg [hReferenceIdeal : Cert.ReferenceIdeal.Facts] [hPre_dt_nonneg : Cert.Pre_dt_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dt_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_dt_nonneg_sample [hKernel9Ideal : Cert.Kernel9Ideal.Facts] [hPre_dt_nonneg_sample : Cert.Pre_dt_nonneg_sample.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_dt_nonneg_sample m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_dt_nonneg_sample [hReference9Ideal : Cert.Reference9Ideal.Facts] [hPre_dt_nonneg_sample : Cert.Pre_dt_nonneg_sample.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_dt_nonneg_sample m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal_pre_dt_nonneg [hKernelIdeal : Cert.KernelIdeal.Facts] [hReferenceIdeal : Cert.ReferenceIdeal.Facts] [hPre_dt_nonneg : Cert.Pre_dt_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dt_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_dt_nonneg_sample [hKernel9Ideal : Cert.Kernel9Ideal.Facts] [hReference9Ideal : Cert.Reference9Ideal.Facts] [hPre_dt_nonneg_sample : Cert.Pre_dt_nonneg_sample.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_dt_nonneg_sample m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v18_0)) (v1 : (c : Dev Cert.Kernel9Ideal.nD) → Buf (Elt Ideal) ((c.tc : Thread Cert.Kernel9Ideal.nD Cert.Kernel9Ideal.τ).loc Cert.Kernel9Ideal.main_v18_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v18_0) = v0 c
          ∧ r.2.mem ((c.tc : Thread Cert.Kernel9Ideal.nD Cert.Kernel9Ideal.τ).loc Cert.Kernel9Ideal.main_v18_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v56) = v0 c
          ∧ r.2.mem ((c.tc : Thread Cert.Reference9Ideal.nD Cert.Reference9Ideal.τ).loc Cert.Reference9Ideal.main_v58) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_dt_nonneg : Cert.Pre_dt_nonneg.Facts) (hPre_dt_nonneg_sample : Cert.Pre_dt_nonneg_sample.Facts),
    quiescent_Kernel (hKernel := hKernel)
    ∧ quiescent_KernelIdeal (hKernelIdeal := hKernelIdeal)
    ∧ quiescent_KernelIdeal_pre_dt_nonneg (hKernelIdeal := hKernelIdeal) (hPre_dt_nonneg := hPre_dt_nonneg)
    ∧ quiescent_ReferenceIdeal (hReferenceIdeal := hReferenceIdeal)
    ∧ quiescent_ReferenceIdeal_pre_dt_nonneg (hReferenceIdeal := hReferenceIdeal) (hPre_dt_nonneg := hPre_dt_nonneg)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_dt_nonneg_sample (hKernel9Ideal := hKernel9Ideal) (hPre_dt_nonneg_sample := hPre_dt_nonneg_sample)
    ∧ quiescent_Reference9Ideal (hReference9Ideal := hReference9Ideal)
    ∧ quiescent_Reference9Ideal_pre_dt_nonneg_sample (hReference9Ideal := hReference9Ideal) (hPre_dt_nonneg_sample := hPre_dt_nonneg_sample)
    ∧ preserves_Kernel_KernelIdeal
    ∧ algebraic_KernelIdeal_ReferenceIdeal_pre_dt_nonneg (hKernelIdeal := hKernelIdeal) (hReferenceIdeal := hReferenceIdeal) (hPre_dt_nonneg := hPre_dt_nonneg)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_dt_nonneg_sample (hKernel9Ideal := hKernel9Ideal) (hReference9Ideal := hReference9Ideal) (hPre_dt_nonneg_sample := hPre_dt_nonneg_sample)
-- ==== Pre_dt_nonneg.lean ====
abbrev S8192x6144 : Shape := ⟨2, ![8192, 6144]⟩
abbrev S8704x34816 : Shape := ⟨2, ![8704, 34816]⟩
abbrev S8704x128 : Shape := ⟨2, ![8704, 128]⟩
abbrev S64 : Shape := ⟨1, ![64]⟩
abbrev S4096 : Shape := ⟨1, ![4096]⟩
abbrev S1x64x64x128 : Shape := ⟨4, ![1, 64, 64, 128]⟩
abbrev S_ : Shape := ⟨0, ![]⟩

class Facts : Prop where
  bcast_S_S8704x128 : S_.BroadcastsInDim S8704x128 (![] : Fin 0 → Fin S8704x128.rank)
  reducesTo_S8704x128_S_d0_1 : S8704x128.ReducesTo [0, 1] S_
  h_S_ : 0 < S_.numel

variable [Facts]

def fn {F : FTy → Type} [FloatOps F] (main_arg0 : FVec F S8192x6144 .f32) (main_arg1 : FVec F S8704x34816 .f32) (main_arg2 : FVec F S8704x128 .f32) (main_arg3 : FVec F S64 .f32) (main_arg4 : FVec F S64 .f32) (main_arg5 : FVec F S4096 .f32) (main_arg6 : FVec F S1x64x64x128 .f32) : IVec S_ 1 :=
  let main_cst : FVec F S_ .f32 := constant S_ .f32 0x00000000#32
  let main_v0 : FVec F S8704x128 .f32 := broadcastInDim S8704x128 ![] bcast_S_S8704x128 main_cst
  let main_v1 : IVec S8704x128 1 := cmpf .oge main_arg2 main_v0
  let main_c : IVec S_ 1 := constantI S_ 1 1#1
  let main_v2 : IVec S_ 1 := (fun x v => Host.reduce IntOp.andi x v reducesTo_S8704x128_S_d0_1 h_S_) main_v1 main_c
  main_v2
-- ==== Pre_dt_nonneg_sample.lean ====
abbrev S512x6144 : Shape := ⟨2, ![512, 6144]⟩
abbrev S8704x34816 : Shape := ⟨2, ![8704, 34816]⟩
abbrev S8704x128 : Shape := ⟨2, ![8704, 128]⟩
abbrev S64 : Shape := ⟨1, ![64]⟩
abbrev S4096 : Shape := ⟨1, ![4096]⟩
abbrev S1x16x64x64x128 : Shape := ⟨5, ![1, 16, 64, 64, 128]⟩
abbrev S_ : Shape := ⟨0, ![]⟩

class Facts : Prop where
  bcast_S_S8704x128 : S_.BroadcastsInDim S8704x128 (![] : Fin 0 → Fin S8704x128.rank)
  reducesTo_S8704x128_S_d0_1 : S8704x128.ReducesTo [0, 1] S_
  h_S_ : 0 < S_.numel

variable [Facts]

def fn {F : FTy → Type} [FloatOps F] (main_arg0 : FVec F S512x6144 .f32) (main_arg1 : FVec F S8704x34816 .f32) (main_arg2 : FVec F S8704x128 .f32) (main_arg3 : FVec F S64 .f32) (main_arg4 : FVec F S64 .f32) (main_arg5 : FVec F S4096 .f32) (main_arg6 : FVec F S1x16x64x64x128 .f32) : IVec S_ 1 :=
  let main_cst : FVec F S_ .f32 := constant S_ .f32 0x00000000#32
  let main_v0 : FVec F S8704x128 .f32 := broadcastInDim S8704x128 ![] bcast_S_S8704x128 main_cst
  let main_v1 : IVec S8704x128 1 := cmpf .oge main_arg2 main_v0
  let main_c : IVec S_ 1 := constantI S_ 1 1#1
  let main_v2 : IVec S_ 1 := (fun x v => Host.reduce IntOp.andi x v reducesTo_S8704x128_S_d0_1 h_S_) main_v1 main_c
  main_v2
-- ==== Kernel.lean ====
abbrev S8192x6144 : Shape := ⟨2, ![8192, 6144]⟩
abbrev S8704x34816 : Shape := ⟨2, ![8704, 34816]⟩
abbrev S8704x128 : Shape := ⟨2, ![8704, 128]⟩
abbrev S64 : Shape := ⟨1, ![64]⟩
abbrev S4096 : Shape := ⟨1, ![4096]⟩
abbrev S1x64x64x128 : Shape := ⟨4, ![1, 64, 64, 128]⟩
abbrev S8704x64 : Shape := ⟨2, ![8704, 64]⟩
abbrev S8704x64x64 : Shape := ⟨3, ![8704, 64, 64]⟩
abbrev S8704x4096 : Shape := ⟨2, ![8704, 4096]⟩
abbrev S8192x64 : Shape := ⟨2, ![8192, 64]⟩
abbrev S128x64x8x8 : Shape := ⟨4, ![128, 64, 8, 8]⟩
abbrev S8x128x8x64 : Shape := ⟨4, ![8, 128, 8, 64]⟩
abbrev S64x64 : Shape := ⟨2, ![64, 64]⟩
abbrev S1x4096 : Shape := ⟨2, ![1, 4096]⟩
abbrev S8x8x1 : Shape := ⟨3, ![8, 8, 1]⟩
abbrev S1x8x8x64x128 : Shape := ⟨5, ![1, 8, 8, 64, 128]⟩
abbrev S1x8x128x8x64 : Shape := ⟨5, ![1, 8, 128, 8, 64]⟩
abbrev S1x8x128x512 : Shape := ⟨4, ![1, 8, 128, 512]⟩
abbrev S8192x4096 : Shape := ⟨2, ![8192, 4096]⟩
abbrev S512x2048 : Shape := ⟨2, ![512, 2048]⟩
abbrev S512x512 : Shape := ⟨2, ![512, 512]⟩
abbrev S4x8x8x64 : Shape := ⟨4, ![4, 8, 8, 64]⟩
abbrev S1x2048 : Shape := ⟨2, ![1, 2048]⟩
abbrev S4x8x1 : Shape := ⟨3, ![4, 8, 1]⟩
abbrev S1x4x128x512 : Shape := ⟨4, ![1, 4, 128, 512]⟩
abbrev S4x128x512 : Shape := ⟨3, ![4, 128, 512]⟩
abbrev S64x192 : Shape := ⟨2, ![64, 192]⟩
abbrev S32x1 : Shape := ⟨2, ![32, 1]⟩
abbrev S64x2048 : Shape := ⟨2, ![64, 2048]⟩
abbrev S192x2048 : Shape := ⟨2, ![192, 2048]⟩
abbrev S4x1x8x64 : Shape := ⟨4, ![4, 1, 8, 64]⟩
abbrev S4x8x64 : Shape := ⟨3, ![4, 8, 64]⟩
abbrev S32x64 : Shape := ⟨2, ![32, 64]⟩
abbrev S64x128 : Shape := ⟨2, ![64, 128]⟩
abbrev S1x128x512 : Shape := ⟨3, ![1, 128, 512]⟩
abbrev S128x512 : Shape := ⟨2, ![128, 512]⟩
abbrev S64x512 : Shape := ⟨2, ![64, 512]⟩
abbrev S1x64 : Shape := ⟨2, ![1, 64]⟩
abbrev S64x1 : Shape := ⟨2, ![64, 1]⟩
abbrev S1x512 : Shape := ⟨2, ![1, 512]⟩

abbrev nBuf : Space → Nat
  | .hbm => 26
  | .vmem => 27
  | .smem => 0
  | _ => 0

abbrev bufTy : (tb : Table) → Fin (tcTables nBuf tb) → BufTy
  | .hbm, ⟨0, _⟩ => ⟨S8192x6144, .f32⟩
  | .hbm, ⟨1, _⟩ => ⟨S8704x34816, .f32⟩
  | .hbm, ⟨2, _⟩ => ⟨S8704x128, .f32⟩
  | .hbm, ⟨3, _⟩ => ⟨S64, .f32⟩
  | .hbm, ⟨4, _⟩ => ⟨S64, .f32⟩
  | .hbm, ⟨5, _⟩ => ⟨S4096, .f32⟩
  | .hbm, ⟨6, _⟩ => ⟨S1x64x64x128, .f32⟩
  | .hbm, ⟨7, _⟩ => ⟨S8704x64, .f32⟩
  | .hbm, ⟨8, _⟩ => ⟨S8704x64x64, .f32⟩
  | .hbm, ⟨9, _⟩ => ⟨S8704x4096, .f32⟩
  | .hbm, ⟨10, _⟩ => ⟨S8192x64, .f32⟩
  | .hbm, ⟨11, _⟩ => ⟨S128x64x8x8, .f32⟩
  | .hbm, ⟨12, _⟩ => ⟨S8x128x8x64, .f32⟩
  | .hbm, ⟨13, _⟩ => ⟨S64x64, .f32⟩
  | .hbm, ⟨14, _⟩ => ⟨S4096, .f32⟩
  | .hbm, ⟨15, _⟩ => ⟨S1x4096, .f32⟩
  | .hbm, ⟨16, _⟩ => ⟨S8x8x1, .f32⟩
  | .hbm, ⟨17, _⟩ => ⟨S64x64, .f32⟩
  | .hbm, ⟨18, _⟩ => ⟨S4096, .f32⟩
  | .hbm, ⟨19, _⟩ => ⟨S1x4096, .f32⟩
  | .hbm, ⟨20, _⟩ => ⟨S1x8x8x64x128, .f32⟩
  | .hbm, ⟨21, _⟩ => ⟨S1x8x128x8x64, .f32⟩
  | .hbm, ⟨22, _⟩ => ⟨S1x8x128x512, .f32⟩
  | .hbm, ⟨23, _⟩ => ⟨S1x4096, .f32⟩
  | .hbm, ⟨24, _⟩ => ⟨S8192x4096, .bf16⟩
  | .hbm, ⟨25, _⟩ => ⟨S1x8x128x512, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S4x8x8x64, .f32⟩
  | .local _ .vmem, ⟨11, _⟩ => ⟨S4x8x8x64, .f32⟩
  | .local _ .vmem, ⟨12, _⟩ => ⟨S1x2048, .f32⟩
  | .local _ .vmem, ⟨13, _⟩ => ⟨S1x2048, .f32⟩
  | .local _ .vmem, ⟨14, _⟩ => ⟨S4x8x1, .f32⟩
  | .local _ .vmem, ⟨15, _⟩ => ⟨S4x8x1, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x4x128x512, .f32⟩
  | .local _ .vmem, ⟨21, _⟩ => ⟨S1x4x128x512, .f32⟩
  | .local _ .vmem, ⟨22, _⟩ => ⟨S512x2048, .bf16⟩
  | .local _ .vmem, ⟨23, _⟩ => ⟨S512x2048, .bf16⟩
  | .local _ .vmem, ⟨24, _⟩ => ⟨S1x4x128x512, .f32⟩
  | .local _ .vmem, ⟨25, _⟩ => ⟨S1x4x128x512, .f32⟩
  | .local _ .vmem, ⟨26, _⟩ => ⟨S4x128x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![1, 2, 16], ![false, false, false]⟩

@[reducible] def k0_t1_loop : Scf.Loop 32 :=
  let c0_i32_12 : BitVec 32 := 0#32
  let c8_i32 : BitVec 32 := 8#32
  let v41 : BitVec 32 := Scalar.addi c0_i32_12 c8_i32
  let c1_i32 : BitVec 32 := 1#32
  ⟨c0_i32_12, v41, c1_i32⟩
def k0_mult1 (k0_t1 : Fin k0_t1_loop.trips) : BitVec 32 :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  v45
def k0_off1 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v47 : Index := Scalar.indexCast v46
  let c0_16 : Index := 0#32
  ![v47.toNat, 0]
def k0_off2 (k0_t1 : Fin k0_t1_loop.trips) : Fin 4 → Nat :=
  let c0_19 : Index := 0#32
  let c0_i32_12 : BitVec 32 := 0#32
  let c1_i32 : BitVec 32 := 1#32
  let arg17 : BitVec 32 := Scf.iv c0_i32_12 c1_i32 k0_t1
  let v63 : Index := Scalar.indexCast arg17
  let c0_20 : Index := 0#32
  let c0_21 : Index := 0#32
  ![0, v63.toNat, 0, 0]
def k0_off3 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v104 : Index := Scalar.indexCast v46
  let c0_29 : Index := 0#32
  ![v104.toNat, 0]
def k0_off4 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v225 : Index := Scalar.indexCast v46
  let c0_55 : Index := 0#32
  ![v225.toNat, 0]
def k0_off5 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v236 : Index := Scalar.indexCast v46
  let c128 : Index := 128#32
  ![v236.toNat, 128]
def k0_off6 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v357 : Index := Scalar.indexCast v46
  let c512 : Index := 512#32
  ![v357.toNat, 512]
def k0_off7 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v368 : Index := Scalar.indexCast v46
  let c256 : Index := 256#32
  ![v368.toNat, 256]
def k0_off8 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v489 : Index := Scalar.indexCast v46
  let c1024 : Index := 1024#32
  ![v489.toNat, 1024]
def k0_off9 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v500 : Index := Scalar.indexCast v46
  let c384 : Index := 384#32
  ![v500.toNat, 384]
def k0_off10 (k0_t1 : Fin k0_t1_loop.trips) : Fin 2 → Nat :=
  let c0_i32_12 : BitVec 32 := 0#32
  let c1_i32 : BitVec 32 := 1#32
  let arg17 : BitVec 32 := Scf.iv c0_i32_12 c1_i32 k0_t1
  let c64_i32_15 : BitVec 32 := 64#32
  let v45 : BitVec 32 := Scalar.muli arg17 c64_i32_15
  let v46 : BitVec 32 := v45
  let v621 : Index := Scalar.indexCast v46
  let c1536 : Index := 1536#32
  ![v621.toNat, 1536]
def k0_cond2 (i : grid0.Coords) : BitVec 1 :=
  let arg2 : BitVec 32 := BitVec.ofNat 32 (i 2).val
  let c15_i32 : BitVec 32 := 15#32
  let v42 : BitVec 1 := Scalar.cmpi .eq arg2 c15_i32
  let v43 : BitVec 32 := Scalar.extui v42
  let c0_i32_14 : BitVec 32 := 0#32
  let v44 : BitVec 1 := Scalar.cmpi .ne v43 c0_i32_14
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c10_i32 : BitVec 32 := 10#32
  let v2 : BitVec 32 := Scalar.addi c10_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x8x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4x8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x4x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x4x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ReferenceIdeal.lean ====
abbrev S8192x6144 : Shape := ⟨2, ![8192, 6144]⟩
abbrev S8704x34816 : Shape := ⟨2, ![8704, 34816]⟩
abbrev S8704x128 : Shape := ⟨2, ![8704, 128]⟩
abbrev S64 : Shape := ⟨1, ![64]⟩
abbrev S4096 : Shape := ⟨1, ![4096]⟩
abbrev S1x64x64x128 : Shape := ⟨4, ![1, 64, 64, 128]⟩
abbrev S8192x4096 : Shape := ⟨2, ![8192, 4096]⟩
abbrev S1x8192x8x8x64 : Shape := ⟨5, ![1, 8192, 8, 8, 64]⟩
abbrev S8192x1024 : Shape := ⟨2, ![8192, 1024]⟩
abbrev S1x8192x8x128 : Shape := ⟨4, ![1, 8192, 8, 128]⟩
abbrev S8192x64 : Shape := ⟨2, ![8192, 64]⟩
abbrev S1x8192x8x8 : Shape := ⟨4, ![1, 8192, 8, 8]⟩
abbrev S8x8 : Shape := ⟨2, ![8, 8]⟩
abbrev S1x8x8x64x128 : Shape := ⟨5, ![1, 8, 8, 64, 128]⟩
abbrev S_ : Shape := ⟨0, ![]⟩
abbrev S64x64 : Shape := ⟨2, ![64, 64]⟩
abbrev S1x64x64x1x1 : Shape := ⟨5, ![1, 64, 64, 1, 1]⟩
abbrev S1x128x64x8x8x64 : Shape := ⟨6, ![1, 128, 64, 8, 8, 64]⟩
abbrev S128x1x64x8x8x64 : Shape := ⟨6, ![128, 1, 64, 8, 8, 64]⟩
abbrev S1x128x64x8x8 : Shape := ⟨5, ![1, 128, 64, 8, 8]⟩
abbrev S128x1x64x8x8 : Shape := ⟨5, ![128, 1, 64, 8, 8]⟩
abbrev S1x128x64x8x128 : Shape := ⟨5, ![1, 128, 64, 8, 128]⟩
abbrev S128x1x64x8x128 : Shape := ⟨5, ![128, 1, 64, 8, 128]⟩
abbrev S1x1x64x8x8x64 : Shape := ⟨6, ![1, 1, 64, 8, 8, 64]⟩
abbrev S1x64x8x8x64 : Shape := ⟨5, ![1, 64, 8, 8, 64]⟩
abbrev S1x1x64x8x8 : Shape := ⟨5, ![1, 1, 64, 8, 8]⟩
abbrev S1x64x8x8 : Shape := ⟨4, ![1, 64, 8, 8]⟩
abbrev S1x1x64x8x128 : Shape := ⟨5, ![1, 1, 64, 8, 128]⟩
abbrev S1x64x8x128 : Shape := ⟨4, ![1, 64, 8, 128]⟩
abbrev S1x1x8x8 : Shape := ⟨4, ![1, 1, 8, 8]⟩
abbrev S1x64x1x8x8 : Shape := ⟨5, ![1, 64, 1, 8, 8]⟩
abbrev S1x64x64x8x8 : Shape := ⟨5, ![1, 64, 64, 8, 8]⟩
abbrev S1x8x64x64 : Shape := ⟨4, ![1, 8, 64, 64]⟩
abbrev S1x64x64x8 : Shape := ⟨4, ![1, 64, 64, 8]⟩
abbrev S1x64x64x8x1 : Shape := ⟨5, ![1, 64, 64, 8, 1]⟩
abbrev S1x64x8x8x1 : Shape := ⟨5, ![1, 64, 8, 8, 1]⟩
abbrev S1x8x8x64x64 : Shape := ⟨5, ![1, 8, 8, 64, 64]⟩
abbrev S1x8x8 : Shape := ⟨3, ![1, 8, 8]⟩
abbrev S1x8x8x1x1 : Shape := ⟨5, ![1, 8, 8, 1, 1]⟩
abbrev S8x8x1 : Shape := ⟨3, ![8, 8, 1]⟩
abbrev S1x1x8x8x1 : Shape := ⟨5, ![1, 1, 8, 8, 1]⟩
abbrev S1x8192x4096 : Shape := ⟨3, ![1, 8192, 4096]⟩
abbrev S1x8192x8x512 : Shape := ⟨4, ![1, 8192, 8, 512]⟩
abbrev S8x512 : Shape := ⟨2, ![8, 512]⟩
abbrev S1x8192x8 : Shape := ⟨3, ![1, 8192, 8]⟩
abbrev S1x8192x8x1 : Shape := ⟨4, ![1, 8192, 8, 1]⟩
abbrev S1x1x8x512 : Shape := ⟨4, ![1, 1, 8, 512]⟩
abbrev S1x8x128x8x64 : Shape := ⟨5, ![1, 8, 128, 8, 64]⟩
abbrev S1x8x128x512 : Shape := ⟨4, ![1, 8, 128, 512]⟩

abbrev nBuf : Space → Nat
  | .hbm => 181
  | .vmem => 0
  | .smem => 0
  | _ => 0

abbrev hbmTy0_0 (i : Nat) : BufTy := match i % 128 with
  | 0 => ⟨S8192x6144, .f32⟩
  | 1 => ⟨S8704x34816, .f32⟩
  | 2 => ⟨S8704x128, .f32⟩
  | 3 => ⟨S64, .f32⟩
  | 4 => ⟨S64, .f32⟩
  | 5 => ⟨S4096, .f32⟩
  | 6 => ⟨S1x64x64x128, .f32⟩
  | 7 => ⟨S8192x4096, .f32⟩
  | 8 => ⟨S1x8192x8x8x64, .f32⟩
  | 9 => ⟨S8192x1024, .f32⟩
  | 10 => ⟨S1x8192x8x128, .f32⟩
  | 11 => ⟨S8192x1024, .f32⟩
  | 12 => ⟨S1x8192x8x128, .f32⟩
  | 13 => ⟨S8192x64, .f32⟩
  | 14 => ⟨S1x8192x8x8, .f32⟩
  | 15 => ⟨S64, .f32⟩
  | 16 => ⟨S8x8, .f32⟩
  | 17 => ⟨S8x8, .f32⟩
  | 18 => ⟨S1x8x8x64x128, .f32⟩
  | 19 => ⟨S_, .i1⟩
  | 20 => ⟨S64x64, .i1⟩
  | 21 => ⟨S64x64, .i32⟩
  | 22 => ⟨S_, .i32⟩
  | 23 => ⟨S64x64, .i32⟩
  | 24 => ⟨S64x64, .i32⟩
  | 25 => ⟨S64x64, .i32⟩
  | 26 => ⟨S64x64, .i1⟩
  | 27 => ⟨S_, .i1⟩
  | 28 => ⟨S64x64, .i1⟩
  | 29 => ⟨S64x64, .i1⟩
  | 30 => ⟨S1x64x64x1x1, .i1⟩
  | 31 => ⟨S1x128x64x8x8x64, .f32⟩
  | 32 => ⟨S128x1x64x8x8x64, .f32⟩
  | 33 => ⟨S1x128x64x8x8, .f32⟩
  | 34 => ⟨S128x1x64x8x8, .f32⟩
  | 35 => ⟨S1x128x64x8x128, .f32⟩
  | 36 => ⟨S128x1x64x8x128, .f32⟩
  | 37 => ⟨S1x128x64x8x128, .f32⟩
  | 38 => ⟨S128x1x64x8x128, .f32⟩
  | 39 => ⟨S_, .f32⟩
  | 40 => ⟨S128x1x64x8x8x64, .f32⟩
  | 41 => ⟨S_, .i32⟩
  | 42 => ⟨S128x1x64x8x8x64, .f32⟩
  | 43 => ⟨S128x1x64x8x8, .f32⟩
  | 44 => ⟨S128x1x64x8x128, .f32⟩
  | 45 => ⟨S128x1x64x8x128, .f32⟩
  | 46 => ⟨S8x8, .f32⟩
  | 47 => ⟨S1x64x64x1x1, .i1⟩
  | 48 => ⟨S_, .i32⟩
  | 49 => ⟨S1x8x8x64x128, .f32⟩
  | 50 => ⟨S128x1x64x8x8x64, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x1x64x8x8x64, .f32⟩
  | 59 => ⟨S1x64x8x8x64, .f32⟩
  | 60 => ⟨S_, .i32⟩
  | 61 => ⟨S_, .i32⟩
  | 62 => ⟨S_, .i32⟩
  | 63 => ⟨S_, .i32⟩
  | 64 => ⟨S1x1x64x8x8, .f32⟩
  | 65 => ⟨S1x64x8x8, .f32⟩
  | 66 => ⟨S_, .i32⟩
  | 67 => ⟨S_, .i32⟩
  | 68 => ⟨S_, .i32⟩
  | 69 => ⟨S_, .i32⟩
  | 70 => ⟨S1x1x64x8x128, .f32⟩
  | 71 => ⟨S1x64x8x128, .f32⟩
  | 72 => ⟨S_, .i32⟩
  | 73 => ⟨S_, .i32⟩
  | 74 => ⟨S_, .i32⟩
  | 75 => ⟨S_, .i32⟩
  | 76 => ⟨S1x1x64x8x128, .f32⟩
  | 77 => ⟨S1x64x8x128, .f32⟩
  | 78 => ⟨S1x1x8x8, .f32⟩
  | 79 => ⟨S1x64x8x8, .f32⟩
  | 80 => ⟨S1x64x8x8, .f32⟩
  | 81 => ⟨S_, .f32⟩
  | 82 => ⟨S_, .f32⟩
  | 83 => ⟨S1x64x8x8, .f32⟩
  | 84 => ⟨S1x64x1x8x8, .f32⟩
  | 85 => ⟨S1x1x64x8x8, .f32⟩
  | 86 => ⟨S1x64x64x8x8, .f32⟩
  | 87 => ⟨S1x64x64x8x8, .f32⟩
  | 88 => ⟨S1x64x64x8x8, .f32⟩
  | 89 => ⟨S_, .f32⟩
  | 90 => ⟨S_, .f32⟩
  | 91 => ⟨S1x64x64x8x8, .i1⟩
  | 92 => ⟨S1x64x64x8x8, .f32⟩
  | 93 => ⟨S1x64x64x8x8, .f32⟩
  | 94 => ⟨S1x64x64x8x8, .f32⟩
  | 95 => ⟨S1x8x64x64, .f32⟩
  | 96 => ⟨S1x64x64x8, .f32⟩
  | 97 => ⟨S1x64x64x8x1, .f32⟩
  | 98 => ⟨S1x64x64x8x8, .f32⟩
  | 99 => ⟨S1x64x64x8x8, .f32⟩
  | 100 => ⟨S1x64x8x8x1, .f32⟩
  | 101 => ⟨S1x64x8x8x64, .f32⟩
  | 102 => ⟨S1x64x8x8x64, .f32⟩
  | 103 => ⟨S1x8x8x64x64, .f32⟩
  | 104 => ⟨S1x64x8x8x64, .f32⟩
  | 105 => ⟨S1x8x8x64x64, .f32⟩
  | 106 => ⟨S1x64x8x8x64, .f32⟩
  | 107 => ⟨S1x64x8x8, .f32⟩
  | 108 => ⟨S1x64x8x8x1, .f32⟩
  | 109 => ⟨S1x64x8x8x64, .f32⟩
  | 110 => ⟨S1x64x8x8x64, .f32⟩
  | 111 => ⟨S1x64x8x8x64, .f32⟩
  | 112 => ⟨S1x1x8x8, .f32⟩
  | 113 => ⟨S1x64x8x8, .f32⟩
  | 114 => ⟨S1x64x8x8, .f32⟩
  | 115 => ⟨S1x64x8x8, .f32⟩
  | 116 => ⟨S1x64x8x8, .f32⟩
  | 117 => ⟨S1x1x8x8, .f32⟩
  | 118 => ⟨S1x8x8, .f32⟩
  | 119 => ⟨S1x8x8, .f32⟩
  | 120 => ⟨S1x8x8x1x1, .f32⟩
  | 121 => ⟨S1x8x8x64x128, .f32⟩
  | 122 => ⟨S1x8x8x64x128, .f32⟩
  | 123 => ⟨S1x64x8x8x1, .f32⟩
  | 124 => ⟨S1x64x8x8x64, .f32⟩
  | 125 => ⟨S1x64x8x8x64, .f32⟩
  | 126 => ⟨S1x8x8x64x128, .f32⟩
  | 127 => ⟨S1x8x8x64x128, .f32⟩
  | _ => ⟨S8192x6144, .f32⟩

abbrev hbmTy0_1 (i : Nat) : BufTy := match i % 128 with
  | 0 => ⟨S1x1x64x8x8x64, .f32⟩
  | 1 => ⟨S_, .i32⟩
  | 2 => ⟨S_, .i32⟩
  | 3 => ⟨S_, .i32⟩
  | 4 => ⟨S_, .i32⟩
  | 5 => ⟨S_, .i32⟩
  | 6 => ⟨S128x1x64x8x8x64, .f32⟩
  | 7 => ⟨S_, .i32⟩
  | 8 => ⟨S_, .i32⟩
  | 9 => ⟨S1x128x64x8x8x64, .f32⟩
  | 10 => ⟨S1x8192x8x8x64, .f32⟩
  | 11 => ⟨S8x8x1, .f32⟩
  | 12 => ⟨S8192x4096, .f32⟩
  | 13 => ⟨S1x8192x8x8x64, .f32⟩
  | 14 => ⟨S1x1x8x8x1, .f32⟩
  | 15 => ⟨S1x8192x8x8x64, .f32⟩
  | 16 => ⟨S1x8192x8x8x64, .f32⟩
  | 17 => ⟨S1x8192x8x8x64, .f32⟩
  | 18 => ⟨S1x8192x4096, .f32⟩
  | 19 => ⟨S8192x4096, .f32⟩
  | 20 => ⟨S1x8192x4096, .f32⟩
  | 21 => ⟨S1x8192x4096, .f32⟩
  | 22 => ⟨S1x8192x4096, .f32⟩
  | 23 => ⟨S_, .f32⟩
  | 24 => ⟨S1x8192x4096, .f32⟩
  | 25 => ⟨S1x8192x4096, .f32⟩
  | 26 => ⟨S_, .f32⟩
  | 27 => ⟨S1x8192x4096, .f32⟩
  | 28 => ⟨S1x8192x4096, .f32⟩
  | 29 => ⟨S1x8192x4096, .f32⟩
  | 30 => ⟨S1x8192x4096, .f32⟩
  | 31 => ⟨S1x8192x8x512, .f32⟩
  | 32 => ⟨S8x512, .f32⟩
  | 33 => ⟨S1x8192x8x512, .f32⟩
  | 34 => ⟨S_, .f32⟩
  | 35 => ⟨S1x8192x8, .f32⟩
  | 36 => ⟨S1x8192x8x1, .f32⟩
  | 37 => ⟨S_, .f32⟩
  | 38 => ⟨S1x8192x8x1, .f32⟩
  | 39 => ⟨S1x8192x8x1, .f32⟩
  | 40 => ⟨S_, .f32⟩
  | 41 => ⟨S1x8192x8x1, .f32⟩
  | 42 => ⟨S1x8192x8x1, .f32⟩
  | 43 => ⟨S1x8192x8x1, .f32⟩
  | 44 => ⟨S1x8192x8x512, .f32⟩
  | 45 => ⟨S1x8192x8x512, .f32⟩
  | 46 => ⟨S1x1x8x512, .f32⟩
  | 47 => ⟨S1x8192x8x512, .f32⟩
  | 48 => ⟨S1x8192x8x512, .f32⟩
  | 49 => ⟨S8192x4096, .f32⟩
  | 50 => ⟨S8192x4096, .bf16⟩
  | 51 => ⟨S1x8x128x8x64, .f32⟩
  | 52 => ⟨S1x8x128x512, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_c_0 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev main_v24_6 : Ref sig .tc := ⟨.hbm, 48, rfl⟩
abbrev main_v24_7 : Ref sig .tc := ⟨.hbm, 49, rfl⟩
abbrev main_v24_8 : Ref sig .tc := ⟨.hbm, 50, rfl⟩
abbrev main_while0c_c_12 : Ref sig .tc := ⟨.hbm, 51, rfl⟩
abbrev main_while0c_v58 : Ref sig .tc := ⟨.hbm, 52, rfl⟩
abbrev main_while0b_call1_c : Ref sig .tc := ⟨.hbm, 53, rfl⟩
abbrev main_while0b_call1_c_0 : Ref sig .tc := ⟨.hbm, 54, rfl⟩
abbrev main_while0b_call1_c_1 : Ref sig .tc := ⟨.hbm, 55, rfl⟩
abbrev main_while0b_call1_c_2 : Ref sig .tc := ⟨.hbm, 56, rfl⟩
abbrev main_while0b_call1_c_3 : Ref sig .tc := ⟨.hbm, 57, rfl⟩
abbrev main_while0b_call1_v0 : Ref sig .tc := ⟨.hbm, 58, rfl⟩
abbrev main_while0b_v58 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_c_2 : Ref sig .tc := ⟨.hbm, 63, rfl⟩
abbrev main_while0b_call2_v0 : Ref sig .tc := ⟨.hbm, 64, rfl⟩
abbrev main_while0b_v59 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_c_2 : Ref sig .tc := ⟨.hbm, 69, rfl⟩
abbrev main_while0b_call3_v0 : Ref sig .tc := ⟨.hbm, 70, rfl⟩
abbrev main_while0b_v60 : Ref sig .tc := ⟨.hbm, 71, rfl⟩
abbrev main_while0b_call4_c : Ref sig .tc := ⟨.hbm, 72, rfl⟩
abbrev main_while0b_call4_c_0 : Ref sig .tc := ⟨.hbm, 73, rfl⟩
abbrev main_while0b_call4_c_1 : Ref sig .tc := ⟨.hbm, 74, rfl⟩
abbrev main_while0b_call4_c_2 : Ref sig .tc := ⟨.hbm, 75, rfl⟩
abbrev main_while0b_call4_v0 : Ref sig .tc := ⟨.hbm, 76, rfl⟩
abbrev main_while0b_v61 : Ref sig .tc := ⟨.hbm, 77, rfl⟩
abbrev main_while0b_v62 : Ref sig .tc := ⟨.hbm, 78, rfl⟩
abbrev main_while0b_v63 : Ref sig .tc := ⟨.hbm, 79, rfl⟩
abbrev main_while0b_v64 : Ref sig .tc := ⟨.hbm, 80, rfl⟩
abbrev main_while0b_call5_call0_cst : Ref sig .tc := ⟨.hbm, 81, rfl⟩
abbrev main_while0b_call5_call0_v0 : Ref sig .tc := ⟨.hbm, 82, rfl⟩
abbrev main_while0b_v65 : Ref sig .tc := ⟨.hbm, 83, rfl⟩
abbrev main_while0b_v66 : Ref sig .tc := ⟨.hbm, 84, rfl⟩
abbrev main_while0b_v67 : Ref sig .tc := ⟨.hbm, 85, rfl⟩
abbrev main_while0b_v68 : Ref sig .tc := ⟨.hbm, 86, rfl⟩
abbrev main_while0b_v69 : Ref sig .tc := ⟨.hbm, 87, rfl⟩
abbrev main_while0b_v70 : Ref sig .tc := ⟨.hbm, 88, rfl⟩
abbrev main_while0b_cst_12 : Ref sig .tc := ⟨.hbm, 89, rfl⟩
abbrev main_while0b_call6_v0 : Ref sig .tc := ⟨.hbm, 90, rfl⟩
abbrev main_while0b_call6_v1 : Ref sig .tc := ⟨.hbm, 91, rfl⟩
abbrev main_while0b_call6_v2 : Ref sig .tc := ⟨.hbm, 92, rfl⟩
abbrev main_while0b_v71 : Ref sig .tc := ⟨.hbm, 93, rfl⟩
abbrev main_while0b_v72 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_v77 : Ref sig .tc := ⟨.hbm, 99, rfl⟩
abbrev main_while0b_v78 : Ref sig .tc := ⟨.hbm, 100, rfl⟩
abbrev main_while0b_v79 : Ref sig .tc := ⟨.hbm, 101, rfl⟩
abbrev main_while0b_v80 : Ref sig .tc := ⟨.hbm, 102, rfl⟩
abbrev main_while0b_v81 : Ref sig .tc := ⟨.hbm, 103, rfl⟩
abbrev main_while0b_v82 : Ref sig .tc := ⟨.hbm, 104, rfl⟩
abbrev main_while0b_v83 : Ref sig .tc := ⟨.hbm, 105, rfl⟩
abbrev main_while0b_v84 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_v88 : Ref sig .tc := ⟨.hbm, 110, rfl⟩
abbrev main_while0b_v89 : Ref sig .tc := ⟨.hbm, 111, rfl⟩
abbrev main_while0b_v90 : Ref sig .tc := ⟨.hbm, 112, rfl⟩
abbrev main_while0b_v91 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_v95 : Ref sig .tc := ⟨.hbm, 117, rfl⟩
abbrev main_while0b_v96 : Ref sig .tc := ⟨.hbm, 118, rfl⟩
abbrev main_while0b_v97 : Ref sig .tc := ⟨.hbm, 119, rfl⟩
abbrev main_while0b_v98 : Ref sig .tc := ⟨.hbm, 120, rfl⟩
abbrev main_while0b_v99 : Ref sig .tc := ⟨.hbm, 121, rfl⟩
abbrev main_while0b_v100 : Ref sig .tc := ⟨.hbm, 122, rfl⟩
abbrev main_while0b_v101 : Ref sig .tc := ⟨.hbm, 123, rfl⟩
abbrev main_while0b_v102 : Ref sig .tc := ⟨.hbm, 124, rfl⟩
abbrev main_while0b_v103 : Ref sig .tc := ⟨.hbm, 125, rfl⟩
abbrev main_while0b_v104 : Ref sig .tc := ⟨.hbm, 126, rfl⟩
abbrev main_while0b_v105 : Ref sig .tc := ⟨.hbm, 127, rfl⟩
abbrev main_while0b_call7_v0 : Ref sig .tc := ⟨.hbm, 128, rfl⟩
abbrev main_while0b_call7_c : Ref sig .tc := ⟨.hbm, 129, rfl⟩
abbrev main_while0b_call7_c_0 : Ref sig .tc := ⟨.hbm, 130, rfl⟩
abbrev main_while0b_call7_c_1 : Ref sig .tc := ⟨.hbm, 131, rfl⟩
abbrev main_while0b_call7_c_2 : Ref sig .tc := ⟨.hbm, 132, rfl⟩
abbrev main_while0b_call7_c_3 : Ref sig .tc := ⟨.hbm, 133, rfl⟩
abbrev main_while0b_v106 : Ref sig .tc := ⟨.hbm, 134, rfl⟩
abbrev main_while0b_c_13 : Ref sig .tc := ⟨.hbm, 135, rfl⟩
abbrev main_while0b_v107 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_call8_v0 : Ref sig .tc := ⟨.hbm, 149, rfl⟩
abbrev main_call8_v1 : Ref sig .tc := ⟨.hbm, 150, rfl⟩
abbrev main_call8_cst : Ref sig .tc := ⟨.hbm, 151, rfl⟩
abbrev main_call8_v2 : Ref sig .tc := ⟨.hbm, 152, rfl⟩
abbrev main_call8_v3 : Ref sig .tc := ⟨.hbm, 153, rfl⟩
abbrev main_call8_cst_0 : Ref sig .tc := ⟨.hbm, 154, rfl⟩
abbrev main_call8_v4 : Ref sig .tc := ⟨.hbm, 155, rfl⟩
abbrev main_call8_v5 : Ref sig .tc := ⟨.hbm, 156, rfl⟩
abbrev main_v37 : Ref sig .tc := ⟨.hbm, 157, rfl⟩
abbrev main_v38 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_cst_1 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_cst_3 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8704x4096 : Shape := ⟨2, ![8704, 4096]⟩
abbrev S1x4096x34880 : Shape := ⟨3, ![1, 4096, 34880]⟩
abbrev S1x16384x4096 : Shape := ⟨3, ![1, 16384, 4096]⟩
abbrev S4096x34880 : Shape := ⟨2, ![4096, 34880]⟩
abbrev S34880x4096 : Shape := ⟨2, ![34880, 4096]⟩
abbrev S16384x4096 : Shape := ⟨2, ![16384, 4096]⟩
abbrev S8704x34816 : Shape := ⟨2, ![8704, 34816]⟩
abbrev S512x4096 : Shape := ⟨2, ![512, 4096]⟩
abbrev S1024x4096 : Shape := ⟨2, ![1024, 4096]⟩
abbrev S64x4096 : Shape := ⟨2, ![64, 4096]⟩
abbrev S32x4096 : Shape := ⟨2, ![32, 4096]⟩
abbrev S512x1024 : Shape := ⟨2, ![512, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8704x4096, .bf16⟩
  | .hbm, ⟨1, _⟩ => ⟨S1x4096x34880, .f32⟩
  | .hbm, ⟨2, _⟩ => ⟨S1x16384x4096, .f32⟩
  | .hbm, ⟨3, _⟩ => ⟨S1x16384x4096, .f32⟩
  | .hbm, ⟨4, _⟩ => ⟨S4096x34880, .f32⟩
  | .hbm, ⟨5, _⟩ => ⟨S34880x4096, .f32⟩
  | .hbm, ⟨6, _⟩ => ⟨S16384x4096, .f32⟩
  | .hbm, ⟨7, _⟩ => ⟨S16384x4096, .f32⟩
  | .hbm, ⟨8, _⟩ => ⟨S8704x34816, .f32⟩
  | .hbm, ⟨9, _⟩ => ⟨S16384x4096, .bf16⟩
  | .hbm, ⟨10, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .f32⟩
  | .local _ .vmem, ⟨3, _⟩ => ⟨S1024x4096, .f32⟩
  | .local _ .vmem, ⟨4, _⟩ => ⟨S64x4096, .f32⟩
  | .local _ .vmem, ⟨5, _⟩ => ⟨S64x4096, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S512x1024, .f32⟩
  | .local _ .vmem, ⟨11, _⟩ => ⟨S512x1024, .f32⟩
  | .local _ .vmem, ⟨12, _⟩ => ⟨S32x4096, .bf16⟩
  | .local _ .vmem, ⟨13, _⟩ => ⟨S32x4096, .bf16⟩
  | .local _ .vmem, ⟨14, _⟩ => ⟨S32x4096, .bf16⟩
  | .local _ .vmem, ⟨15, _⟩ => ⟨S32x4096, .bf16⟩
  | .local _ .vmem, ⟨16, _⟩ => ⟨S1024x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![34, 17], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let arg0 : BitVec 32 := BitVec.ofNat 32 (i 0).val
  let c10_i32 : BitVec 32 := 10#32
  let v9 : BitVec 1 := Scalar.cmpi .slt arg0 c10_i32
  let v10 : BitVec 1 := Scalar.andi v8 v9
  let v11 : BitVec 32 := Scalar.extui v10
  let c0_i32_7 : BitVec 32 := 0#32
  let v12 : BitVec 1 := Scalar.cmpi .ne v11 c0_i32_7
  v12

@[reducible] def k0_t1_loop : Scf.Loop 32 :=
  let c0_i32_17 : BitVec 32 := 0#32
  let c16_i32 : BitVec 32 := 16#32
  let v22 : BitVec 32 := Scalar.addi c0_i32_17 c16_i32
  let c1_i32 : BitVec 32 := 1#32
  ⟨c0_i32_17, v22, c1_i32⟩
def k0_mult1 (k0_t1 : Fin k0_t1_loop.trips) : BitVec 32 :=
  let c0_i32_17 : BitVec 32 := 0#32
  let c1_i32 : BitVec 32 := 1#32
  let arg11 : BitVec 32 := Scf.iv c0_i32_17 c1_i32 k0_t1
  let c64_i32 : BitVec 32 := 64#32
  let v23 : BitVec 32 := Scalar.muli arg11 c64_i32
  v23
def k0_off1 (k0_t1 : Fin k0_t1_loop.trips) : Fin 2 → Nat :=
  let c0_i32_17 : BitVec 32 := 0#32
  let c1_i32 : BitVec 32 := 1#32
  let arg11 : BitVec 32 := Scf.iv c0_i32_17 c1_i32 k0_t1
  let c64_i32 : BitVec 32 := 64#32
  let v23 : BitVec 32 := Scalar.muli arg11 c64_i32
  let v24 : BitVec 32 := v23
  let v25 : Index := Scalar.indexCast v24
  let c0_19 : Index := 0#32
  ![v25.toNat, 0]
def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let arg0 : BitVec 32 := BitVec.ofNat 32 (i 0).val
  let c10_i32_9 : BitVec 32 := 10#32
  let v14 : BitVec 1 := Scalar.cmpi .sge arg0 c10_i32_9
  let v15 : BitVec 1 := Scalar.andi v13 v14
  let v16 : BitVec 32 := Scalar.extui v15
  let c0_i32_10 : BitVec 32 := 0#32
  let v17 : BitVec 1 := Scalar.cmpi .ne v16 c0_i32_10
  v17

@[reducible] def k0_t2_loop : Scf.Loop 32 :=
  let c0_i32_17 : BitVec 32 := 0#32
  let c15_i32 : BitVec 32 := 15#32
  let v22 : BitVec 32 := Scalar.addi c0_i32_17 c15_i32
  let c1_i32 : BitVec 32 := 1#32
  ⟨c0_i32_17, v22, c1_i32⟩
def k0_mult2 (k0_t2 : Fin k0_t2_loop.trips) : BitVec 32 :=
  let c0_i32_17 : BitVec 32 := 0#32
  let c1_i32 : BitVec 32 := 1#32
  let arg11 : BitVec 32 := Scf.iv c0_i32_17 c1_i32 k0_t2
  let c64_i32 : BitVec 32 := 64#32
  let v29 : BitVec 32 := Scalar.muli arg11 c64_i32
  v29
def k0_mult3 (k0_t2 : Fin k0_t2_loop.trips) : BitVec 32 :=
  let c0_i32_17 : BitVec 32 := 0#32
  let c1_i32 : BitVec 32 := 1#32
  let arg11 : BitVec 32 := Scf.iv c0_i32_17 c1_i32 k0_t2
  let c64_i32_22 : BitVec 32 := 64#32
  let v31 : BitVec 32 := Scalar.muli arg11 c64_i32_22
  let c64_i32_23 : BitVec 32 := 64#32
  let v32 : BitVec 32 := Scalar.addi v31 c64_i32_23
  v32
def k0_off2 (k0_t2 : Fin k0_t2_loop.trips) : Fin 2 → Nat :=
  let c0_i32_17 : BitVec 32 := 0#32
  let c1_i32 : BitVec 32 := 1#32
  let arg11 : BitVec 32 := Scf.iv c0_i32_17 c1_i32 k0_t2
  let c64_i32_22 : BitVec 32 := 64#32
  let v31 : BitVec 32 := Scalar.muli arg11 c64_i32_22
  let c64_i32_23 : BitVec 32 := 64#32
  let v32 : BitVec 32 := Scalar.addi v31 c64_i32_23
  let v33 : BitVec 32 := v32
  let v34 : Index := Scalar.indexCast v33
  let c0_24 : Index := 0#32
  ![v34.toNat, 0]
def k0_off3 (k0_t2 : Fin k0_t2_loop.trips) : Fin 2 → Nat :=
  let c0_i32_17 : BitVec 32 := 0#32
  let c1_i32 : BitVec 32 := 1#32
  let arg11 : BitVec 32 := Scf.iv c0_i32_17 c1_i32 k0_t2
  let c64_i32 : BitVec 32 := 64#32
  let v29 : BitVec 32 := Scalar.muli arg11 c64_i32
  let v30 : BitVec 32 := v29
  let v38 : Index := Scalar.indexCast v30
  let c0_25 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli c16_i32 v0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c511_i32 : BitVec 32 := 511#32
  let v2 : BitVec 32 := Scalar.minsi v1 c511_i32
  let c0_i32 : BitVec 32 := 0#32
  let c0_i32_0 : BitVec 32 := 0#32
  ![v2.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8704x4096 : Shape := ⟨2, ![8704, 4096]⟩
abbrev S1x4096x34880 : Shape := ⟨3, ![1, 4096, 34880]⟩
abbrev S1x16384x4096 : Shape := ⟨3, ![1, 16384, 4096]⟩
abbrev S4096x34880 : Shape := ⟨2, ![4096, 34880]⟩
abbrev S8704x34880 : Shape := ⟨2, ![8704, 34880]⟩
abbrev S8704x10240 : Shape := ⟨2, ![8704, 10240]⟩
abbrev S8704x24576 : Shape := ⟨2, ![8704, 24576]⟩
abbrev S8704x34816 : Shape := ⟨2, ![8704, 34816]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x34880, .f32⟩
  | .hbm, ⟨2, _⟩ => ⟨S1x16384x4096, .f32⟩
  | .hbm, ⟨3, _⟩ => ⟨S1x16384x4096, .f32⟩
  | .hbm, ⟨4, _⟩ => ⟨S8704x4096, .f32⟩
  | .hbm, ⟨5, _⟩ => ⟨S4096x34880, .f32⟩
  | .hbm, ⟨6, _⟩ => ⟨S8704x34880, .f32⟩
  | .hbm, ⟨7, _⟩ => ⟨S8704x10240, .f32⟩
  | .hbm, ⟨8, _⟩ => ⟨S8704x24576, .f32⟩
  | .hbm, ⟨9, _⟩ => ⟨S8704x34816, .f32⟩
  | .hbm, ⟨10, _⟩ => ⟨S16384x4096, .f32⟩
  | .hbm, ⟨11, _⟩ => ⟨S16384x4096, .bf16⟩
  | .hbm, ⟨12, _⟩ => ⟨S16384x4096, .f32⟩
  | .hbm, ⟨13, _⟩ => ⟨S16384x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel3.lean ====
abbrev S8192x4096 : Shape := ⟨2, ![8192, 4096]⟩
abbrev S512x4096 : Shape := ⟨2, ![512, 4096]⟩
abbrev S1x4096x4096 : Shape := ⟨3, ![1, 4096, 4096]⟩
abbrev S8704x34816 : Shape := ⟨2, ![8704, 34816]⟩
abbrev S4096x4096 : Shape := ⟨2, ![4096, 4096]⟩
abbrev S8704x4096 : Shape := ⟨2, ![8704, 4096]⟩
abbrev S4096x512 : Shape := ⟨2, ![4096, 512]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S8192x4096, .bf16⟩
  | .hbm, ⟨3, _⟩ => ⟨S512x4096, .bf16⟩
  | .hbm, ⟨4, _⟩ => ⟨S1x4096x4096, .f32⟩
  | .hbm, ⟨5, _⟩ => ⟨S1x4096x4096, .f32⟩
  | .hbm, ⟨6, _⟩ => ⟨S8704x34816, .f32⟩
  | .hbm, ⟨7, _⟩ => ⟨S4096x4096, .f32⟩
  | .hbm, ⟨8, _⟩ => ⟨S4096x4096, .bf16⟩
  | .hbm, ⟨9, _⟩ => ⟨S4096x4096, .f32⟩
  | .hbm, ⟨10, _⟩ => ⟨S4096x4096, .bf16⟩
  | .hbm, ⟨11, _⟩ => ⟨S8704x4096, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S4096x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x4096 : Shape := ⟨2, ![8192, 4096]⟩
abbrev S512x4096 : Shape := ⟨2, ![512, 4096]⟩
abbrev S1x4096x4096 : Shape := ⟨3, ![1, 4096, 4096]⟩
abbrev S8704x34816 : Shape := ⟨2, ![8704, 34816]⟩
abbrev S8704x4096 : Shape := ⟨2, ![8704, 4096]⟩
abbrev S8704x8192 : Shape := ⟨2, ![8704, 8192]⟩
abbrev S_ : Shape := ⟨0, ![]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S8192x4096, .bf16⟩
  | .hbm, ⟨3, _⟩ => ⟨S512x4096, .bf16⟩
  | .hbm, ⟨4, _⟩ => ⟨S1x4096x4096, .f32⟩
  | .hbm, ⟨5, _⟩ => ⟨S1x4096x4096, .f32⟩
  | .hbm, ⟨6, _⟩ => ⟨S8704x34816, .f32⟩
  | .hbm, ⟨7, _⟩ => ⟨S8704x4096, .bf16⟩
  | .hbm, ⟨8, _⟩ => ⟨S8704x4096, .f32⟩
  | .hbm, ⟨9, _⟩ => ⟨S8704x4096, .bf16⟩
  | .hbm, ⟨10, _⟩ => ⟨S8704x4096, .f32⟩
  | .hbm, ⟨11, _⟩ => ⟨S8704x8192, .f32⟩
  | .hbm, ⟨12, _⟩ => ⟨S8704x8192, .f32⟩
  | .hbm, ⟨13, _⟩ => ⟨S8704x8192, .f32⟩
  | .hbm, ⟨14, _⟩ => ⟨S_, .f32⟩
  | .hbm, ⟨15, _⟩ => ⟨S8704x8192, .f32⟩
  | .hbm, ⟨16, _⟩ => ⟨S8704x8192, .f32⟩
  | .hbm, ⟨17, _⟩ => ⟨S_, .f32⟩
  | .hbm, ⟨18, _⟩ => ⟨S8704x8192, .f32⟩
  | .hbm, ⟨19, _⟩ => ⟨S8704x8192, .f32⟩
  | .hbm, ⟨20, _⟩ => ⟨S8704x4096, .f32⟩
  | .hbm, ⟨21, _⟩ => ⟨S8704x4096, .f32⟩
  | .hbm, ⟨22, _⟩ => ⟨S4096x4096, .f32⟩
  | .hbm, ⟨23, _⟩ => ⟨S8704x4096, .f32⟩
  | .hbm, ⟨24, _⟩ => ⟨S8704x4096, .f32⟩
  | .hbm, ⟨25, _⟩ => ⟨S4096x4096, .f32⟩
  | .hbm, ⟨26, _⟩ => ⟨S8704x4096, .f32⟩
  | .hbm, ⟨27, _⟩ => ⟨S8704x4096, .f32⟩
  | .hbm, ⟨28, _⟩ => ⟨S8704x4096, .f32⟩
  | .hbm, ⟨29, _⟩ => ⟨S8704x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel4.lean ====
abbrev S8704x4096 : Shape := ⟨2, ![8704, 4096]⟩
abbrev S1x4096x4096 : Shape := ⟨3, ![1, 4096, 4096]⟩
abbrev S1x8192x4096 : Shape := ⟨3, ![1, 8192, 4096]⟩
abbrev S16x32x4096 : Shape := ⟨3, ![16, 32, 4096]⟩
abbrev S4096x4096 : Shape := ⟨2, ![4096, 4096]⟩
abbrev S8192x4096 : Shape := ⟨2, ![8192, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S1x8192x4096, .f32⟩
  | .hbm, ⟨3, _⟩ => ⟨S16x32x4096, .f32⟩
  | .hbm, ⟨4, _⟩ => ⟨S4096x4096, .f32⟩
  | .hbm, ⟨5, _⟩ => ⟨S4096x4096, .bf16⟩
  | .hbm, ⟨6, _⟩ => ⟨S8192x4096, .f32⟩
  | .hbm, ⟨7, _⟩ => ⟨S512x4096, .f32⟩
  | .hbm, ⟨8, _⟩ => ⟨S8704x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8704x4096 : Shape := ⟨2, ![8704, 4096]⟩
abbrev S1x4096x4096 : Shape := ⟨3, ![1, 4096, 4096]⟩
abbrev S1x8192x4096 : Shape := ⟨3, ![1, 8192, 4096]⟩
abbrev S16x32x4096 : Shape := ⟨3, ![16, 32, 4096]⟩
abbrev S8192x4096 : Shape := ⟨2, ![8192, 4096]⟩
abbrev S512x4096 : Shape := ⟨2, ![512, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S1x4096x4096, .f32⟩
  | .hbm, ⟨2, _⟩ => ⟨S1x8192x4096, .f32⟩
  | .hbm, ⟨3, _⟩ => ⟨S16x32x4096, .f32⟩
  | .hbm, ⟨4, _⟩ => ⟨S8192x4096, .f32⟩
  | .hbm, ⟨5, _⟩ => ⟨S512x4096, .f32⟩
  | .hbm, ⟨6, _⟩ => ⟨S8704x4096, .f32⟩
  | .hbm, ⟨7, _⟩ => ⟨S8704x4096, .f32⟩
  | .hbm, ⟨8, _⟩ => ⟨S4096x4096, .f32⟩
  | .hbm, ⟨9, _⟩ => ⟨S8704x4096, .f32⟩
  | .hbm, ⟨10, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S8704x4096 : Shape := ⟨2, ![8704, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8704x4096 : Shape := ⟨2, ![8704, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S4096, .f32⟩
  | .hbm, ⟨3, _⟩ => ⟨S1x4096, .f32⟩
  | .hbm, ⟨4, _⟩ => ⟨S512x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8704x4096 : Shape := ⟨2, ![8704, 4096]⟩
abbrev S4096 : Shape := ⟨1, ![4096]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x4096, .f32⟩
  | .hbm, ⟨18, _⟩ => ⟨S512x4096, .f32⟩
  | .hbm, ⟨19, _⟩ => ⟨S1x4096, .f32⟩
  | .hbm, ⟨20, _⟩ => ⟨S512x4096, .f32⟩
  | .hbm, ⟨21, _⟩ => ⟨S512x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S8704x34816 : Shape := ⟨2, ![8704, 34816]⟩
abbrev S1x3x6144 : Shape := ⟨3, ![1, 3, 6144]⟩
abbrev S1x4x6144 : Shape := ⟨3, ![1, 4, 6144]⟩
abbrev S1x6144 : Shape := ⟨2, ![1, 6144]⟩
abbrev S4x6144 : Shape := ⟨2, ![4, 6144]⟩
abbrev S6144 : Shape := ⟨1, ![6144]⟩
abbrev S8192x6144 : Shape := ⟨2, ![8192, 6144]⟩
abbrev S512x2048 : Shape := ⟨2, ![512, 2048]⟩
abbrev S1x3x2048 : Shape := ⟨3, ![1, 3, 2048]⟩
abbrev S4x2048 : Shape := ⟨2, ![4, 2048]⟩
abbrev S1x2048 : Shape := ⟨2, ![1, 2048]⟩
abbrev S8x2048 : Shape := ⟨2, ![8, 2048]⟩
abbrev S3x2048 : Shape := ⟨2, ![3, 2048]⟩
abbrev S504x2048 : Shape := ⟨2, ![504, 2048]⟩

abbrev nBuf : Space → Nat
  | .hbm => 9
  | .vmem => 13
  | .smem => 0
  | _ => 0

abbrev bufTy : (tb : Table) → Fin (tcTables nBuf tb) → BufTy
  | .hbm, ⟨0, _⟩ => ⟨S8704x34816, .f32⟩
  | .hbm, ⟨1, _⟩ => ⟨S1x3x6144, .f32⟩
  | .hbm, ⟨2, _⟩ => ⟨S1x4x6144, .f32⟩
  | .hbm, ⟨3, _⟩ => ⟨S1x6144, .f32⟩
  | .hbm, ⟨4, _⟩ => ⟨S4x6144, .f32⟩
  | .hbm, ⟨5, _⟩ => ⟨S6144, .f32⟩
  | .hbm, ⟨6, _⟩ => ⟨S1x6144, .f32⟩
  | .hbm, ⟨7, _⟩ => ⟨S8192x6144, .f32⟩
  | .hbm, ⟨8, _⟩ => ⟨S1x3x6144, .f32⟩
  | .local _ .vmem, ⟨0, _⟩ => ⟨S512x2048, .f32⟩
  | .local _ .vmem, ⟨1, _⟩ => ⟨S512x2048, .f32⟩
  | .local _ .vmem, ⟨2, _⟩ => ⟨S1x3x2048, .f32⟩
  | .local _ .vmem, ⟨3, _⟩ => ⟨S1x3x2048, .f32⟩
  | .local _ .vmem, ⟨4, _⟩ => ⟨S4x2048, .f32⟩
  | .local _ .vmem, ⟨5, _⟩ => ⟨S4x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x3x2048, .f32⟩
  | .local _ .vmem, ⟨11, _⟩ => ⟨S1x3x2048, .f32⟩
  | .local _ .vmem, ⟨12, _⟩ => ⟨S8x2048, .f32⟩
  | _, _ => ⟨S8704x34816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 1, 16], ![false, false, false]⟩

def k0_cond2 (i : grid0.Coords) : BitVec 1 :=
  let arg2 : BitVec 32 := BitVec.ofNat 32 (i 2).val
  let c15_i32 : BitVec 32 := 15#32
  let v67 : BitVec 1 := Scalar.cmpi .eq arg2 c15_i32
  let v68 : BitVec 32 := Scalar.extui v67
  let c0_i32_21 : BitVec 32 := 0#32
  let v69 : BitVec 1 := Scalar.cmpi .ne v68 c0_i32_21
  v69

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c0_i32 : BitVec 32 := 0#32
  let v1 : BitVec 32 := Scalar.addi c0_i32 v0
  let v2 : BitVec 32 := Scalar.addi v1 arg2
  let c2_i32 : BitVec 32 := 2#32
  let v3 : BitVec 32 := Scalar.addi c2_i32 arg0
  let c0_i32_0 : BitVec 32 := 0#32
  ![v2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x3x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S8704x34816 : Shape := ⟨2, ![8704, 34816]⟩
abbrev S1x3x6144 : Shape := ⟨3, ![1, 3, 6144]⟩
abbrev S1x4x6144 : Shape := ⟨3, ![1, 4, 6144]⟩
abbrev S1x6144 : Shape := ⟨2, ![1, 6144]⟩
abbrev S8192x6144 : Shape := ⟨2, ![8192, 6144]⟩
abbrev S1x8192x6144 : Shape := ⟨3, ![1, 8192, 6144]⟩
abbrev S4x6144 : Shape := ⟨2, ![4, 6144]⟩
abbrev S6144 : Shape := ⟨1, ![6144]⟩
abbrev S1x8195x6144 : Shape := ⟨3, ![1, 8195, 6144]⟩
abbrev S1x1x6144 : Shape := ⟨3, ![1, 1, 6144]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8704x34816, .f32⟩
  | .hbm, ⟨1, _⟩ => ⟨S1x3x6144, .f32⟩
  | .hbm, ⟨2, _⟩ => ⟨S1x4x6144, .f32⟩
  | .hbm, ⟨3, _⟩ => ⟨S1x6144, .f32⟩
  | .hbm, ⟨4, _⟩ => ⟨S8192x6144, .f32⟩
  | .hbm, ⟨5, _⟩ => ⟨S1x8192x6144, .f32⟩
  | .hbm, ⟨6, _⟩ => ⟨S4x6144, .f32⟩
  | .hbm, ⟨7, _⟩ => ⟨S6144, .f32⟩
  | .hbm, ⟨8, _⟩ => ⟨S1x8195x6144, .f32⟩
  | .hbm, ⟨9, _⟩ => ⟨S1x8192x6144, .f32⟩
  | .hbm, ⟨10, _⟩ => ⟨S1x6144, .f32⟩
  | .hbm, ⟨11, _⟩ => ⟨S6144, .f32⟩
  | .hbm, ⟨12, _⟩ => ⟨S1x1x6144, .f32⟩
  | .hbm, ⟨13, _⟩ => ⟨S1x8192x6144, .f32⟩
  | .hbm, ⟨14, _⟩ => ⟨S1x8192x6144, .f32⟩
  | .hbm, ⟨15, _⟩ => ⟨S1x1x6144, .f32⟩
  | .hbm, ⟨16, _⟩ => ⟨S1x8192x6144, .f32⟩
  | .hbm, ⟨17, _⟩ => ⟨S1x8192x6144, .f32⟩
  | .hbm, ⟨18, _⟩ => ⟨S1x8192x6144, .f32⟩
  | .hbm, ⟨19, _⟩ => ⟨S1x6144, .f32⟩
  | .hbm, ⟨20, _⟩ => ⟨S6144, .f32⟩
  | .hbm, ⟨21, _⟩ => ⟨S1x1x6144, .f32⟩
  | .hbm, ⟨22, _⟩ => ⟨S1x8192x6144, .f32⟩
  | .hbm, ⟨23, _⟩ => ⟨S1x8192x6144, .f32⟩
  | .hbm, ⟨24, _⟩ => ⟨S1x8192x6144, .f32⟩
  | .hbm, ⟨25, _⟩ => ⟨S1x8192x6144, .f32⟩
  | .hbm, ⟨26, _⟩ => ⟨S1x6144, .f32⟩
  | .hbm, ⟨27, _⟩ => ⟨S6144, .f32⟩
  | .hbm, ⟨28, _⟩ => ⟨S1x1x6144, .f32⟩
  | .hbm, ⟨29, _⟩ => ⟨S1x8192x6144, .f32⟩
  | .hbm, ⟨30, _⟩ => ⟨S1x8192x6144, .f32⟩
  | .hbm, ⟨31, _⟩ => ⟨S1x8192x6144, .f32⟩
  | .hbm, ⟨32, _⟩ => ⟨S1x8192x6144, .f32⟩
  | .hbm, ⟨33, _⟩ => ⟨S1x6144, .f32⟩
  | .hbm, ⟨34, _⟩ => ⟨S6144, .f32⟩
  | .hbm, ⟨35, _⟩ => ⟨S1x1x6144, .f32⟩
  | .hbm, ⟨36, _⟩ => ⟨S1x8192x6144, .f32⟩
  | .hbm, ⟨37, _⟩ => ⟨S1x8192x6144, .f32⟩
  | .hbm, ⟨38, _⟩ => ⟨S1x8192x6144, .f32⟩
  | .hbm, ⟨39, _⟩ => ⟨S1x3x6144, .f32⟩
  | .hbm, ⟨40, _⟩ => ⟨S1x8192x6144, .f32⟩
  | .hbm, ⟨41, _⟩ => ⟨S1x8192x6144, .f32⟩
  | .hbm, ⟨42, _⟩ => ⟨S_, .f32⟩
  | .hbm, ⟨43, _⟩ => ⟨S1x8192x6144, .f32⟩
  | .hbm, ⟨44, _⟩ => ⟨S1x8192x6144, .f32⟩
  | .hbm, ⟨45, _⟩ => ⟨S_, .f32⟩
  | .hbm, ⟨46, _⟩ => ⟨S1x8192x6144, .f32⟩
  | .hbm, ⟨47, _⟩ => ⟨S1x8192x6144, .f32⟩
  | .hbm, ⟨48, _⟩ => ⟨S1x8192x6144, .f32⟩
  | .hbm, ⟨49, _⟩ => ⟨S8192x6144, .f32⟩
  | _, _ => ⟨S8704x34816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel8.lean ====
abbrev S8704x34816 : Shape := ⟨2, ![8704, 34816]⟩
abbrev S1x16x3x6144 : Shape := ⟨4, ![1, 16, 3, 6144]⟩
abbrev S1x4x6144 : Shape := ⟨3, ![1, 4, 6144]⟩
abbrev S1x6144 : Shape := ⟨2, ![1, 6144]⟩
abbrev S16x3x6144 : Shape := ⟨3, ![16, 3, 6144]⟩
abbrev S4x6144 : Shape := ⟨2, ![4, 6144]⟩
abbrev S6144 : Shape := ⟨1, ![6144]⟩
abbrev S512x6144 : Shape := ⟨2, ![512, 6144]⟩
abbrev S32x2048 : Shape := ⟨2, ![32, 2048]⟩
abbrev S1x3x2048 : Shape := ⟨3, ![1, 3, 2048]⟩
abbrev S4x2048 : Shape := ⟨2, ![4, 2048]⟩
abbrev S1x2048 : Shape := ⟨2, ![1, 2048]⟩
abbrev S8x2048 : Shape := ⟨2, ![8, 2048]⟩
abbrev S3x2048 : Shape := ⟨2, ![3, 2048]⟩
abbrev S24x2048 : Shape := ⟨2, ![24, 2048]⟩

abbrev nBuf : Space → Nat
  | .hbm => 10
  | .vmem => 13
  | .smem => 0
  | _ => 0

abbrev bufTy : (tb : Table) → Fin (tcTables nBuf tb) → BufTy
  | .hbm, ⟨0, _⟩ => ⟨S8704x34816, .f32⟩
  | .hbm, ⟨1, _⟩ => ⟨S1x16x3x6144, .f32⟩
  | .hbm, ⟨2, _⟩ => ⟨S1x4x6144, .f32⟩
  | .hbm, ⟨3, _⟩ => ⟨S1x6144, .f32⟩
  | .hbm, ⟨4, _⟩ => ⟨S16x3x6144, .f32⟩
  | .hbm, ⟨5, _⟩ => ⟨S4x6144, .f32⟩
  | .hbm, ⟨6, _⟩ => ⟨S6144, .f32⟩
  | .hbm, ⟨7, _⟩ => ⟨S1x6144, .f32⟩
  | .hbm, ⟨8, _⟩ => ⟨S512x6144, .f32⟩
  | .hbm, ⟨9, _⟩ => ⟨S16x3x6144, .f32⟩
  | .local _ .vmem, ⟨0, _⟩ => ⟨S32x2048, .f32⟩
  | .local _ .vmem, ⟨1, _⟩ => ⟨S32x2048, .f32⟩
  | .local _ .vmem, ⟨2, _⟩ => ⟨S1x3x2048, .f32⟩
  | .local _ .vmem, ⟨3, _⟩ => ⟨S1x3x2048, .f32⟩
  | .local _ .vmem, ⟨4, _⟩ => ⟨S4x2048, .f32⟩
  | .local _ .vmem, ⟨5, _⟩ => ⟨S4x2048, .f32⟩
  | .local _ .vmem, ⟨6, _⟩ => ⟨S1x2048, .f32⟩
  | .local _ .vmem, ⟨7, _⟩ => ⟨S1x2048, .f32⟩
  | .local _ .vmem, ⟨8, _⟩ => ⟨S32x2048, .f32⟩
  | .local _ .vmem, ⟨9, _⟩ => ⟨S32x2048, .f32⟩
  | .local _ .vmem, ⟨10, _⟩ => ⟨S1x3x2048, .f32⟩
  | .local _ .vmem, ⟨11, _⟩ => ⟨S1x3x2048, .f32⟩
  | .local _ .vmem, ⟨12, _⟩ => ⟨S8x2048, .f32⟩
  | _, _ => ⟨S8704x34816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 16, 1], ![false, false, false]⟩

def k0_cond2 (i : grid0.Coords) : BitVec 1 :=
  let arg2 : BitVec 32 := BitVec.ofNat 32 (i 2).val
  let c0_i32_21 : BitVec 32 := 0#32
  let v67 : BitVec 1 := Scalar.cmpi .eq arg2 c0_i32_21
  let v68 : BitVec 32 := Scalar.extui v67
  let c0_i32_22 : BitVec 32 := 0#32
  let v69 : BitVec 1 := Scalar.cmpi .ne v68 c0_i32_22
  v69

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c256_i32 : BitVec 32 := 256#32
  let v1 : BitVec 32 := Scalar.addi c256_i32 v0
  let v2 : BitVec 32 := Scalar.addi v1 arg2
  let c2_i32 : BitVec 32 := 2#32
  let v3 : BitVec 32 := Scalar.addi c2_i32 arg0
  let c0_i32 : BitVec 32 := 0#32
  ![v2.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![v1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x3x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S8704x34816 : Shape := ⟨2, ![8704, 34816]⟩
abbrev S1x16x3x6144 : Shape := ⟨4, ![1, 16, 3, 6144]⟩
abbrev S1x4x6144 : Shape := ⟨3, ![1, 4, 6144]⟩
abbrev S1x6144 : Shape := ⟨2, ![1, 6144]⟩
abbrev S512x6144 : Shape := ⟨2, ![512, 6144]⟩
abbrev S16x32x6144 : Shape := ⟨3, ![16, 32, 6144]⟩
abbrev S16x3x6144 : Shape := ⟨3, ![16, 3, 6144]⟩
abbrev S4x6144 : Shape := ⟨2, ![4, 6144]⟩
abbrev S6144 : Shape := ⟨1, ![6144]⟩
abbrev S16x35x6144 : Shape := ⟨3, ![16, 35, 6144]⟩
abbrev S1x1x6144 : Shape := ⟨3, ![1, 1, 6144]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8704x34816, .f32⟩
  | .hbm, ⟨1, _⟩ => ⟨S1x16x3x6144, .f32⟩
  | .hbm, ⟨2, _⟩ => ⟨S1x4x6144, .f32⟩
  | .hbm, ⟨3, _⟩ => ⟨S1x6144, .f32⟩
  | .hbm, ⟨4, _⟩ => ⟨S512x6144, .f32⟩
  | .hbm, ⟨5, _⟩ => ⟨S16x32x6144, .f32⟩
  | .hbm, ⟨6, _⟩ => ⟨S16x3x6144, .f32⟩
  | .hbm, ⟨7, _⟩ => ⟨S4x6144, .f32⟩
  | .hbm, ⟨8, _⟩ => ⟨S6144, .f32⟩
  | .hbm, ⟨9, _⟩ => ⟨S16x35x6144, .f32⟩
  | .hbm, ⟨10, _⟩ => ⟨S16x32x6144, .f32⟩
  | .hbm, ⟨11, _⟩ => ⟨S1x6144, .f32⟩
  | .hbm, ⟨12, _⟩ => ⟨S6144, .f32⟩
  | .hbm, ⟨13, _⟩ => ⟨S1x1x6144, .f32⟩
  | .hbm, ⟨14, _⟩ => ⟨S16x32x6144, .f32⟩
  | .hbm, ⟨15, _⟩ => ⟨S16x32x6144, .f32⟩
  | .hbm, ⟨16, _⟩ => ⟨S1x1x6144, .f32⟩
  | .hbm, ⟨17, _⟩ => ⟨S16x32x6144, .f32⟩
  | .hbm, ⟨18, _⟩ => ⟨S16x32x6144, .f32⟩
  | .hbm, ⟨19, _⟩ => ⟨S16x32x6144, .f32⟩
  | .hbm, ⟨20, _⟩ => ⟨S1x6144, .f32⟩
  | .hbm, ⟨21, _⟩ => ⟨S6144, .f32⟩
  | .hbm, ⟨22, _⟩ => ⟨S1x1x6144, .f32⟩
  | .hbm, ⟨23, _⟩ => ⟨S16x32x6144, .f32⟩
  | .hbm, ⟨24, _⟩ => ⟨S16x32x6144, .f32⟩
  | .hbm, ⟨25, _⟩ => ⟨S16x32x6144, .f32⟩
  | .hbm, ⟨26, _⟩ => ⟨S16x32x6144, .f32⟩
  | .hbm, ⟨27, _⟩ => ⟨S1x6144, .f32⟩
  | .hbm, ⟨28, _⟩ => ⟨S6144, .f32⟩
  | .hbm, ⟨29, _⟩ => ⟨S1x1x6144, .f32⟩
  | .hbm, ⟨30, _⟩ => ⟨S16x32x6144, .f32⟩
  | .hbm, ⟨31, _⟩ => ⟨S16x32x6144, .f32⟩
  | .hbm, ⟨32, _⟩ => ⟨S16x32x6144, .f32⟩
  | .hbm, ⟨33, _⟩ => ⟨S16x32x6144, .f32⟩
  | .hbm, ⟨34, _⟩ => ⟨S1x6144, .f32⟩
  | .hbm, ⟨35, _⟩ => ⟨S6144, .f32⟩
  | .hbm, ⟨36, _⟩ => ⟨S1x1x6144, .f32⟩
  | .hbm, ⟨37, _⟩ => ⟨S16x32x6144, .f32⟩
  | .hbm, ⟨38, _⟩ => ⟨S16x32x6144, .f32⟩
  | .hbm, ⟨39, _⟩ => ⟨S16x32x6144, .f32⟩
  | .hbm, ⟨40, _⟩ => ⟨S16x3x6144, .f32⟩
  | .hbm, ⟨41, _⟩ => ⟨S16x32x6144, .f32⟩
  | .hbm, ⟨42, _⟩ => ⟨S16x32x6144, .f32⟩
  | .hbm, ⟨43, _⟩ => ⟨S_, .f32⟩
  | .hbm, ⟨44, _⟩ => ⟨S16x32x6144, .f32⟩
  | .hbm, ⟨45, _⟩ => ⟨S16x32x6144, .f32⟩
  | .hbm, ⟨46, _⟩ => ⟨S_, .f32⟩
  | .hbm, ⟨47, _⟩ => ⟨S16x32x6144, .f32⟩
  | .hbm, ⟨48, _⟩ => ⟨S16x32x6144, .f32⟩
  | .hbm, ⟨49, _⟩ => ⟨S16x32x6144, .f32⟩
  | .hbm, ⟨50, _⟩ => ⟨S512x6144, .f32⟩
  | _, _ => ⟨S8704x34816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel9.lean ====
abbrev S512x6144 : Shape := ⟨2, ![512, 6144]⟩
abbrev S8704x34816 : Shape := ⟨2, ![8704, 34816]⟩
abbrev S8704x128 : Shape := ⟨2, ![8704, 128]⟩
abbrev S64 : Shape := ⟨1, ![64]⟩
abbrev S4096 : Shape := ⟨1, ![4096]⟩
abbrev S1x16x64x64x128 : Shape := ⟨5, ![1, 16, 64, 64, 128]⟩
abbrev S8704x64 : Shape := ⟨2, ![8704, 64]⟩
abbrev S8704x64x64 : Shape := ⟨3, ![8704, 64, 64]⟩
abbrev S8704x4096 : Shape := ⟨2, ![8704, 4096]⟩
abbrev S16x64x64x128 : Shape := ⟨4, ![16, 64, 64, 128]⟩
abbrev S512x64 : Shape := ⟨2, ![512, 64]⟩
abbrev S16x32x8x8 : Shape := ⟨4, ![16, 32, 8, 8]⟩
abbrev S8x16x8x32 : Shape := ⟨4, ![8, 16, 8, 32]⟩
abbrev S64x64 : Shape := ⟨2, ![64, 64]⟩
abbrev S1x4096 : Shape := ⟨2, ![1, 4096]⟩
abbrev S8x8x1 : Shape := ⟨3, ![8, 8, 1]⟩
abbrev S16x8x8x64x128 : Shape := ⟨5, ![16, 8, 8, 64, 128]⟩
abbrev S16x8x128x8x64 : Shape := ⟨5, ![16, 8, 128, 8, 64]⟩
abbrev S16x8x128x512 : Shape := ⟨4, ![16, 8, 128, 512]⟩
abbrev S512x4096 : Shape := ⟨2, ![512, 4096]⟩
abbrev S32x4096 : Shape := ⟨2, ![32, 4096]⟩
abbrev S32x1024 : Shape := ⟨2, ![32, 1024]⟩
abbrev S8x1x8x32 : Shape := ⟨4, ![8, 1, 8, 32]⟩
abbrev S1x8x128x512 : Shape := ⟨4, ![1, 8, 128, 512]⟩
abbrev S8x128x512 : Shape := ⟨3, ![8, 128, 512]⟩
abbrev S32x32 : Shape := ⟨2, ![32, 32]⟩
abbrev S32x96 : Shape := ⟨2, ![32, 96]⟩
abbrev S64x1 : Shape := ⟨2, ![64, 1]⟩
abbrev S96x4096 : Shape := ⟨2, ![96, 4096]⟩
abbrev S8x8x32 : Shape := ⟨3, ![8, 8, 32]⟩
abbrev S64x32 : Shape := ⟨2, ![64, 32]⟩
abbrev S32x128 : Shape := ⟨2, ![32, 128]⟩
abbrev S1x128x512 : Shape := ⟨3, ![1, 128, 512]⟩
abbrev S128x512 : Shape := ⟨2, ![128, 512]⟩
abbrev S32x512 : Shape := ⟨2, ![32, 512]⟩
abbrev S1x32 : Shape := ⟨2, ![1, 32]⟩
abbrev S32x64 : Shape := ⟨2, ![32, 64]⟩
abbrev S32 : Shape := ⟨1, ![32]⟩
abbrev S32x1 : Shape := ⟨2, ![32, 1]⟩
abbrev S1x512 : Shape := ⟨2, ![1, 512]⟩

abbrev nBuf : Space → Nat
  | .hbm => 27
  | .vmem => 23
  | .smem => 0
  | _ => 0

abbrev bufTy : (tb : Table) → Fin (tcTables nBuf tb) → BufTy
  | .hbm, ⟨0, _⟩ => ⟨S512x6144, .f32⟩
  | .hbm, ⟨1, _⟩ => ⟨S8704x34816, .f32⟩
  | .hbm, ⟨2, _⟩ => ⟨S8704x128, .f32⟩
  | .hbm, ⟨3, _⟩ => ⟨S64, .f32⟩
  | .hbm, ⟨4, _⟩ => ⟨S64, .f32⟩
  | .hbm, ⟨5, _⟩ => ⟨S4096, .f32⟩
  | .hbm, ⟨6, _⟩ => ⟨S1x16x64x64x128, .f32⟩
  | .hbm, ⟨7, _⟩ => ⟨S8704x64, .f32⟩
  | .hbm, ⟨8, _⟩ => ⟨S8704x64x64, .f32⟩
  | .hbm, ⟨9, _⟩ => ⟨S8704x4096, .f32⟩
  | .hbm, ⟨10, _⟩ => ⟨S16x64x64x128, .f32⟩
  | .hbm, ⟨11, _⟩ => ⟨S512x64, .f32⟩
  | .hbm, ⟨12, _⟩ => ⟨S16x32x8x8, .f32⟩
  | .hbm, ⟨13, _⟩ => ⟨S8x16x8x32, .f32⟩
  | .hbm, ⟨14, _⟩ => ⟨S64x64, .f32⟩
  | .hbm, ⟨15, _⟩ => ⟨S4096, .f32⟩
  | .hbm, ⟨16, _⟩ => ⟨S1x4096, .f32⟩
  | .hbm, ⟨17, _⟩ => ⟨S8x8x1, .f32⟩
  | .hbm, ⟨18, _⟩ => ⟨S64x64, .f32⟩
  | .hbm, ⟨19, _⟩ => ⟨S4096, .f32⟩
  | .hbm, ⟨20, _⟩ => ⟨S1x4096, .f32⟩
  | .hbm, ⟨21, _⟩ => ⟨S16x8x8x64x128, .f32⟩
  | .hbm, ⟨22, _⟩ => ⟨S16x8x128x8x64, .f32⟩
  | .hbm, ⟨23, _⟩ => ⟨S16x8x128x512, .f32⟩
  | .hbm, ⟨24, _⟩ => ⟨S1x4096, .f32⟩
  | .hbm, ⟨25, _⟩ => ⟨S512x4096, .bf16⟩
  | .hbm, ⟨26, _⟩ => ⟨S16x8x128x512, .f32⟩
  | .local _ .vmem, ⟨0, _⟩ => ⟨S32x4096, .f32⟩
  | .local _ .vmem, ⟨1, _⟩ => ⟨S32x4096, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S8x1x8x32, .f32⟩
  | .local _ .vmem, ⟨11, _⟩ => ⟨S8x1x8x32, .f32⟩
  | .local _ .vmem, ⟨12, _⟩ => ⟨S1x4096, .f32⟩
  | .local _ .vmem, ⟨13, _⟩ => ⟨S8x8x1, .f32⟩
  | .local _ .vmem, ⟨14, _⟩ => ⟨S1x4096, .f32⟩
  | .local _ .vmem, ⟨15, _⟩ => ⟨S1x4096, .f32⟩
  | .local _ .vmem, ⟨16, _⟩ => ⟨S1x8x128x512, .f32⟩
  | .local _ .vmem, ⟨17, _⟩ => ⟨S1x8x128x512, .f32⟩
  | .local _ .vmem, ⟨18, _⟩ => ⟨S32x4096, .bf16⟩
  | .local _ .vmem, ⟨19, _⟩ => ⟨S32x4096, .bf16⟩
  | .local _ .vmem, ⟨20, _⟩ => ⟨S1x8x128x512, .f32⟩
  | .local _ .vmem, ⟨21, _⟩ => ⟨S1x8x128x512, .f32⟩
  | .local _ .vmem, ⟨22, _⟩ => ⟨S8x128x512, .f32⟩
  | _, _ => ⟨S512x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![16, 1, 1], ![false, false, false]⟩

def k0_mult1 : BitVec 32 :=
  let c0_i32_12 : BitVec 32 := 0#32
  let c32_i32_13 : BitVec 32 := 32#32
  let v41 : BitVec 32 := Scalar.muli c0_i32_12 c32_i32_13
  v41
def k0_off1 : Fin 2 → Nat :=
  let c0_i32_12 : BitVec 32 := 0#32
  let c32_i32_13 : BitVec 32 := 32#32
  let v41 : BitVec 32 := Scalar.muli c0_i32_12 c32_i32_13
  let v42 : BitVec 32 := v41
  let v43 : Index := Scalar.indexCast v42
  let c0_14 : Index := 0#32
  ![v43.toNat, 0]
def k0_off2 : Fin 2 → Nat :=
  let c0_i32_12 : BitVec 32 := 0#32
  let c32_i32_13 : BitVec 32 := 32#32
  let v41 : BitVec 32 := Scalar.muli c0_i32_12 c32_i32_13
  let v42 : BitVec 32 := v41
  let v100 : Index := Scalar.indexCast v42
  let c0_27 : Index := 0#32
  ![v100.toNat, 0]
def k0_off3 : Fin 2 → Nat :=
  let c0_i32_12 : BitVec 32 := 0#32
  let c32_i32_13 : BitVec 32 := 32#32
  let v41 : BitVec 32 := Scalar.muli c0_i32_12 c32_i32_13
  let v42 : BitVec 32 := v41
  let v221 : Index := Scalar.indexCast v42
  let c0_53 : Index := 0#32
  ![v221.toNat, 0]
def k0_off4 : Fin 2 → Nat :=
  let c0_i32_12 : BitVec 32 := 0#32
  let c32_i32_13 : BitVec 32 := 32#32
  let v41 : BitVec 32 := Scalar.muli c0_i32_12 c32_i32_13
  let v42 : BitVec 32 := v41
  let v232 : Index := Scalar.indexCast v42
  let c128 : Index := 128#32
  ![v232.toNat, 128]
def k0_off5 : Fin 2 → Nat :=
  let c0_i32_12 : BitVec 32 := 0#32
  let c32_i32_13 : BitVec 32 := 32#32
  let v41 : BitVec 32 := Scalar.muli c0_i32_12 c32_i32_13
  let v42 : BitVec 32 := v41
  let v353 : Index := Scalar.indexCast v42
  let c512 : Index := 512#32
  ![v353.toNat, 512]
def k0_off6 : Fin 2 → Nat :=
  let c0_i32_12 : BitVec 32 := 0#32
  let c32_i32_13 : BitVec 32 := 32#32
  let v41 : BitVec 32 := Scalar.muli c0_i32_12 c32_i32_13
  let v42 : BitVec 32 := v41
  let v364 : Index := Scalar.indexCast v42
  let c256 : Index := 256#32
  ![v364.toNat, 256]
def k0_off7 : Fin 2 → Nat :=
  let c0_i32_12 : BitVec 32 := 0#32
  let c32_i32_13 : BitVec 32 := 32#32
  let v41 : BitVec 32 := Scalar.muli c0_i32_12 c32_i32_13
  let v42 : BitVec 32 := v41
  let v485 : Index := Scalar.indexCast v42
  let c1024 : Index := 1024#32
  ![v485.toNat, 1024]
def k0_off8 : Fin 2 → Nat :=
  let c0_i32_12 : BitVec 32 := 0#32
  let c32_i32_13 : BitVec 32 := 32#32
  let v41 : BitVec 32 := Scalar.muli c0_i32_12 c32_i32_13
  let v42 : BitVec 32 := v41
  let v496 : Index := Scalar.indexCast v42
  let c384 : Index := 384#32
  ![v496.toNat, 384]
def k0_off9 : Fin 2 → Nat :=
  let c0_i32_12 : BitVec 32 := 0#32
  let c32_i32_13 : BitVec 32 := 32#32
  let v41 : BitVec 32 := Scalar.muli c0_i32_12 c32_i32_13
  let v42 : BitVec 32 := v41
  let v617 : Index := Scalar.indexCast v42
  let c1536 : Index := 1536#32
  ![v617.toNat, 1536]
def k0_off10 : Fin 2 → Nat :=
  let c0_i32_12 : BitVec 32 := 0#32
  let c32_i32_13 : BitVec 32 := 32#32
  let v41 : BitVec 32 := Scalar.muli c0_i32_12 c32_i32_13
  let v42 : BitVec 32 := v41
  let v628 : Index := Scalar.indexCast v42
  let c512_142 : Index := 512#32
  ![v628.toNat, 512]
def k0_off11 : Fin 2 → Nat :=
  let c0_i32_12 : BitVec 32 := 0#32
  let c32_i32_13 : BitVec 32 := 32#32
  let v41 : BitVec 32 := Scalar.muli c0_i32_12 c32_i32_13
  let v42 : BitVec 32 := v41
  let v749 : Index := Scalar.indexCast v42
  let c2048 : Index := 2048#32
  ![v749.toNat, 2048]
def k0_off12 : Fin 2 → Nat :=
  let c0_i32_12 : BitVec 32 := 0#32
  let c32_i32_13 : BitVec 32 := 32#32
  let v41 : BitVec 32 := Scalar.muli c0_i32_12 c32_i32_13
  let v42 : BitVec 32 := v41
  let v760 : Index := Scalar.indexCast v42
  let c640 : Index := 640#32
  ![v760.toNat, 640]
def k0_off13 : Fin 2 → Nat :=
  let c0_i32_12 : BitVec 32 := 0#32
  let c32_i32_13 : BitVec 32 := 32#32
  let v41 : BitVec 32 := Scalar.muli c0_i32_12 c32_i32_13
  let v42 : BitVec 32 := v41
  let v881 : Index := Scalar.indexCast v42
  let c2560 : Index := 2560#32
  ![v881.toNat, 2560]
def k0_off14 : Fin 2 → Nat :=
  let c0_i32_12 : BitVec 32 := 0#32
  let c32_i32_13 : BitVec 32 := 32#32
  let v41 : BitVec 32 := Scalar.muli c0_i32_12 c32_i32_13
  let v42 : BitVec 32 := v41
  let v892 : Index := Scalar.indexCast v42
  let c768 : Index := 768#32
  ![v892.toNat, 768]
def k0_off15 : Fin 2 → Nat :=
  let c0_i32_12 : BitVec 32 := 0#32
  let c32_i32_13 : BitVec 32 := 32#32
  let v41 : BitVec 32 := Scalar.muli c0_i32_12 c32_i32_13
  let v42 : BitVec 32 := v41
  let v1013 : Index := Scalar.indexCast v42
  let c3072 : Index := 3072#32
  ![v1013.toNat, 3072]
def k0_off16 : Fin 2 → Nat :=
  let c0_i32_12 : BitVec 32 := 0#32
  let c32_i32_13 : BitVec 32 := 32#32
  let v41 : BitVec 32 := Scalar.muli c0_i32_12 c32_i32_13
  let v42 : BitVec 32 := v41
  let v1024 : Index := Scalar.indexCast v42
  let c896 : Index := 896#32
  ![v1024.toNat, 896]
def k0_off17 : Fin 2 → Nat :=
  let c0_i32_12 : BitVec 32 := 0#32
  let c32_i32_13 : BitVec 32 := 32#32
  let v41 : BitVec 32 := Scalar.muli c0_i32_12 c32_i32_13
  let v42 : BitVec 32 := v41
  let v1145 : Index := Scalar.indexCast v42
  let c3584 : Index := 3584#32
  ![v1145.toNat, 3584]
def k0_cond2 (i : grid0.Coords) : BitVec 1 :=
  let arg2 : BitVec 32 := BitVec.ofNat 32 (i 2).val
  let c0_i32_255 : BitVec 32 := 0#32
  let v1156 : BitVec 1 := Scalar.cmpi .eq arg2 c0_i32_255
  let v1157 : BitVec 32 := Scalar.extui v1156
  let c0_i32_256 : BitVec 32 := 0#32
  let v1158 : BitVec 1 := Scalar.cmpi .ne v1157 c0_i32_256
  v1158

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c5_i32 : BitVec 32 := 5#32
  let v2 : BitVec 32 := Scalar.addi c5_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c0_i32 : BitVec 32 := 0#32
  ![v2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x1x8x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 1 → Memref sig .tc .vmem S8x8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true, false]

abbrev stage0_10 : Fin 2 → Memref sig .tc .vmem S1x8x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S32x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x8x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference9Ideal.lean ====
abbrev S512x6144 : Shape := ⟨2, ![512, 6144]⟩
abbrev S8704x34816 : Shape := ⟨2, ![8704, 34816]⟩
abbrev S8704x128 : Shape := ⟨2, ![8704, 128]⟩
abbrev S64 : Shape := ⟨1, ![64]⟩
abbrev S4096 : Shape := ⟨1, ![4096]⟩
abbrev S1x16x64x64x128 : Shape := ⟨5, ![1, 16, 64, 64, 128]⟩
abbrev S512x4096 : Shape := ⟨2, ![512, 4096]⟩
abbrev S16x32x8x8x64 : Shape := ⟨5, ![16, 32, 8, 8, 64]⟩
abbrev S512x1024 : Shape := ⟨2, ![512, 1024]⟩
abbrev S16x32x8x128 : Shape := ⟨4, ![16, 32, 8, 128]⟩
abbrev S512x64 : Shape := ⟨2, ![512, 64]⟩
abbrev S16x32x8x8 : Shape := ⟨4, ![16, 32, 8, 8]⟩
abbrev S8x8 : Shape := ⟨2, ![8, 8]⟩
abbrev S16x64x64x128 : Shape := ⟨4, ![16, 64, 64, 128]⟩
abbrev S16x8x8x64x128 : Shape := ⟨5, ![16, 8, 8, 64, 128]⟩
abbrev S_ : Shape := ⟨0, ![]⟩
abbrev S32x32 : Shape := ⟨2, ![32, 32]⟩
abbrev S1x32x32x1x1 : Shape := ⟨5, ![1, 32, 32, 1, 1]⟩
abbrev S16x1x32x8x8x64 : Shape := ⟨6, ![16, 1, 32, 8, 8, 64]⟩
abbrev S1x16x32x8x8x64 : Shape := ⟨6, ![1, 16, 32, 8, 8, 64]⟩
abbrev S16x1x32x8x8 : Shape := ⟨5, ![16, 1, 32, 8, 8]⟩
abbrev S1x16x32x8x8 : Shape := ⟨5, ![1, 16, 32, 8, 8]⟩
abbrev S16x1x32x8x128 : Shape := ⟨5, ![16, 1, 32, 8, 128]⟩
abbrev S1x16x32x8x128 : Shape := ⟨5, ![1, 16, 32, 8, 128]⟩
abbrev S1x1x8x8 : Shape := ⟨4, ![1, 1, 8, 8]⟩
abbrev S16x32x1x8x8 : Shape := ⟨5, ![16, 32, 1, 8, 8]⟩
abbrev S16x32x32x8x8 : Shape := ⟨5, ![16, 32, 32, 8, 8]⟩
abbrev S16x8x32x32 : Shape := ⟨4, ![16, 8, 32, 32]⟩
abbrev S16x32x32x8 : Shape := ⟨4, ![16, 32, 32, 8]⟩
abbrev S16x32x32x8x1 : Shape := ⟨5, ![16, 32, 32, 8, 1]⟩
abbrev S16x32x8x8x1 : Shape := ⟨5, ![16, 32, 8, 8, 1]⟩
abbrev S16x8x8x64x32 : Shape := ⟨5, ![16, 8, 8, 64, 32]⟩
abbrev S16x1x8x8 : Shape := ⟨4, ![16, 1, 8, 8]⟩
abbrev S16x8x8 : Shape := ⟨3, ![16, 8, 8]⟩
abbrev S16x8x8x1x1 : Shape := ⟨5, ![16, 8, 8, 1, 1]⟩
abbrev S8x8x1 : Shape := ⟨3, ![8, 8, 1]⟩
abbrev S1x1x8x8x1 : Shape := ⟨5, ![1, 1, 8, 8, 1]⟩
abbrev S16x32x4096 : Shape := ⟨3, ![16, 32, 4096]⟩
abbrev S16x32x8x512 : Shape := ⟨4, ![16, 32, 8, 512]⟩
abbrev S8x512 : Shape := ⟨2, ![8, 512]⟩
abbrev S16x32x8 : Shape := ⟨3, ![16, 32, 8]⟩
abbrev S16x32x8x1 : Shape := ⟨4, ![16, 32, 8, 1]⟩
abbrev S1x1x8x512 : Shape := ⟨4, ![1, 1, 8, 512]⟩
abbrev S16x8x128x8x64 : Shape := ⟨5, ![16, 8, 128, 8, 64]⟩
abbrev S16x8x128x512 : Shape := ⟨4, ![16, 8, 128, 512]⟩

abbrev nBuf : Space → Nat
  | .hbm => 182
  | .vmem => 0
  | .smem => 0
  | _ => 0

abbrev hbmTy0_0 (i : Nat) : BufTy := match i % 128 with
  | 0 => ⟨S512x6144, .f32⟩
  | 1 => ⟨S8704x34816, .f32⟩
  | 2 => ⟨S8704x128, .f32⟩
  | 3 => ⟨S64, .f32⟩
  | 4 => ⟨S64, .f32⟩
  | 5 => ⟨S4096, .f32⟩
  | 6 => ⟨S1x16x64x64x128, .f32⟩
  | 7 => ⟨S512x4096, .f32⟩
  | 8 => ⟨S16x32x8x8x64, .f32⟩
  | 9 => ⟨S512x1024, .f32⟩
  | 10 => ⟨S16x32x8x128, .f32⟩
  | 11 => ⟨S512x1024, .f32⟩
  | 12 => ⟨S16x32x8x128, .f32⟩
  | 13 => ⟨S512x64, .f32⟩
  | 14 => ⟨S16x32x8x8, .f32⟩
  | 15 => ⟨S64, .f32⟩
  | 16 => ⟨S8x8, .f32⟩
  | 17 => ⟨S8x8, .f32⟩
  | 18 => ⟨S16x64x64x128, .f32⟩
  | 19 => ⟨S16x8x8x64x128, .f32⟩
  | 20 => ⟨S_, .i1⟩
  | 21 => ⟨S32x32, .i1⟩
  | 22 => ⟨S32x32, .i32⟩
  | 23 => ⟨S_, .i32⟩
  | 24 => ⟨S32x32, .i32⟩
  | 25 => ⟨S32x32, .i32⟩
  | 26 => ⟨S32x32, .i32⟩
  | 27 => ⟨S32x32, .i1⟩
  | 28 => ⟨S_, .i1⟩
  | 29 => ⟨S32x32, .i1⟩
  | 30 => ⟨S32x32, .i1⟩
  | 31 => ⟨S1x32x32x1x1, .i1⟩
  | 32 => ⟨S16x1x32x8x8x64, .f32⟩
  | 33 => ⟨S1x16x32x8x8x64, .f32⟩
  | 34 => ⟨S16x1x32x8x8, .f32⟩
  | 35 => ⟨S1x16x32x8x8, .f32⟩
  | 36 => ⟨S16x1x32x8x128, .f32⟩
  | 37 => ⟨S1x16x32x8x128, .f32⟩
  | 38 => ⟨S16x1x32x8x128, .f32⟩
  | 39 => ⟨S1x16x32x8x128, .f32⟩
  | 40 => ⟨S_, .f32⟩
  | 41 => ⟨S1x16x32x8x8x64, .f32⟩
  | 42 => ⟨S_, .i32⟩
  | 43 => ⟨S1x16x32x8x8x64, .f32⟩
  | 44 => ⟨S1x16x32x8x8, .f32⟩
  | 45 => ⟨S1x16x32x8x128, .f32⟩
  | 46 => ⟨S1x16x32x8x128, .f32⟩
  | 47 => ⟨S8x8, .f32⟩
  | 48 => ⟨S1x32x32x1x1, .i1⟩
  | 49 => ⟨S_, .i32⟩
  | 50 => ⟨S16x8x8x64x128, .f32⟩
  | 51 => ⟨S1x16x32x8x8x64, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S1x16x32x8x8x64, .f32⟩
  | 60 => ⟨S16x32x8x8x64, .f32⟩
  | 61 => ⟨S_, .i32⟩
  | 62 => ⟨S_, .i32⟩
  | 63 => ⟨S_, .i32⟩
  | 64 => ⟨S_, .i32⟩
  | 65 => ⟨S1x16x32x8x8, .f32⟩
  | 66 => ⟨S16x32x8x8, .f32⟩
  | 67 => ⟨S_, .i32⟩
  | 68 => ⟨S_, .i32⟩
  | 69 => ⟨S_, .i32⟩
  | 70 => ⟨S_, .i32⟩
  | 71 => ⟨S1x16x32x8x128, .f32⟩
  | 72 => ⟨S16x32x8x128, .f32⟩
  | 73 => ⟨S_, .i32⟩
  | 74 => ⟨S_, .i32⟩
  | 75 => ⟨S_, .i32⟩
  | 76 => ⟨S_, .i32⟩
  | 77 => ⟨S1x16x32x8x128, .f32⟩
  | 78 => ⟨S16x32x8x128, .f32⟩
  | 79 => ⟨S1x1x8x8, .f32⟩
  | 80 => ⟨S16x32x8x8, .f32⟩
  | 81 => ⟨S16x32x8x8, .f32⟩
  | 82 => ⟨S_, .f32⟩
  | 83 => ⟨S_, .f32⟩
  | 84 => ⟨S16x32x8x8, .f32⟩
  | 85 => ⟨S16x32x1x8x8, .f32⟩
  | 86 => ⟨S16x1x32x8x8, .f32⟩
  | 87 => ⟨S16x32x32x8x8, .f32⟩
  | 88 => ⟨S16x32x32x8x8, .f32⟩
  | 89 => ⟨S16x32x32x8x8, .f32⟩
  | 90 => ⟨S_, .f32⟩
  | 91 => ⟨S_, .f32⟩
  | 92 => ⟨S16x32x32x8x8, .i1⟩
  | 93 => ⟨S16x32x32x8x8, .f32⟩
  | 94 => ⟨S16x32x32x8x8, .f32⟩
  | 95 => ⟨S16x32x32x8x8, .f32⟩
  | 96 => ⟨S16x8x32x32, .f32⟩
  | 97 => ⟨S16x32x32x8, .f32⟩
  | 98 => ⟨S16x32x32x8x1, .f32⟩
  | 99 => ⟨S16x32x32x8x8, .f32⟩
  | 100 => ⟨S16x32x32x8x8, .f32⟩
  | 101 => ⟨S16x32x8x8x1, .f32⟩
  | 102 => ⟨S16x32x8x8x64, .f32⟩
  | 103 => ⟨S16x32x8x8x64, .f32⟩
  | 104 => ⟨S16x8x8x64x32, .f32⟩
  | 105 => ⟨S16x32x8x8x64, .f32⟩
  | 106 => ⟨S16x8x8x64x32, .f32⟩
  | 107 => ⟨S16x32x8x8x64, .f32⟩
  | 108 => ⟨S16x32x8x8, .f32⟩
  | 109 => ⟨S16x32x8x8x1, .f32⟩
  | 110 => ⟨S16x32x8x8x64, .f32⟩
  | 111 => ⟨S16x32x8x8x64, .f32⟩
  | 112 => ⟨S16x32x8x8x64, .f32⟩
  | 113 => ⟨S16x1x8x8, .f32⟩
  | 114 => ⟨S16x32x8x8, .f32⟩
  | 115 => ⟨S16x32x8x8, .f32⟩
  | 116 => ⟨S16x32x8x8, .f32⟩
  | 117 => ⟨S16x32x8x8, .f32⟩
  | 118 => ⟨S16x1x8x8, .f32⟩
  | 119 => ⟨S16x8x8, .f32⟩
  | 120 => ⟨S16x8x8, .f32⟩
  | 121 => ⟨S16x8x8x1x1, .f32⟩
  | 122 => ⟨S16x8x8x64x128, .f32⟩
  | 123 => ⟨S16x8x8x64x128, .f32⟩
  | 124 => ⟨S16x32x8x8x1, .f32⟩
  | 125 => ⟨S16x32x8x8x64, .f32⟩
  | 126 => ⟨S16x32x8x8x64, .f32⟩
  | 127 => ⟨S16x8x8x64x128, .f32⟩
  | _ => ⟨S512x6144, .f32⟩

abbrev hbmTy0_1 (i : Nat) : BufTy := match i % 128 with
  | 0 => ⟨S16x8x8x64x128, .f32⟩
  | 1 => ⟨S1x16x32x8x8x64, .f32⟩
  | 2 => ⟨S_, .i32⟩
  | 3 => ⟨S_, .i32⟩
  | 4 => ⟨S_, .i32⟩
  | 5 => ⟨S_, .i32⟩
  | 6 => ⟨S_, .i32⟩
  | 7 => ⟨S1x16x32x8x8x64, .f32⟩
  | 8 => ⟨S_, .i32⟩
  | 9 => ⟨S_, .i32⟩
  | 10 => ⟨S16x1x32x8x8x64, .f32⟩
  | 11 => ⟨S16x32x8x8x64, .f32⟩
  | 12 => ⟨S8x8x1, .f32⟩
  | 13 => ⟨S512x4096, .f32⟩
  | 14 => ⟨S16x32x8x8x64, .f32⟩
  | 15 => ⟨S1x1x8x8x1, .f32⟩
  | 16 => ⟨S16x32x8x8x64, .f32⟩
  | 17 => ⟨S16x32x8x8x64, .f32⟩
  | 18 => ⟨S16x32x8x8x64, .f32⟩
  | 19 => ⟨S16x32x4096, .f32⟩
  | 20 => ⟨S512x4096, .f32⟩
  | 21 => ⟨S16x32x4096, .f32⟩
  | 22 => ⟨S16x32x4096, .f32⟩
  | 23 => ⟨S16x32x4096, .f32⟩
  | 24 => ⟨S_, .f32⟩
  | 25 => ⟨S16x32x4096, .f32⟩
  | 26 => ⟨S16x32x4096, .f32⟩
  | 27 => ⟨S_, .f32⟩
  | 28 => ⟨S16x32x4096, .f32⟩
  | 29 => ⟨S16x32x4096, .f32⟩
  | 30 => ⟨S16x32x4096, .f32⟩
  | 31 => ⟨S16x32x4096, .f32⟩
  | 32 => ⟨S16x32x8x512, .f32⟩
  | 33 => ⟨S8x512, .f32⟩
  | 34 => ⟨S16x32x8x512, .f32⟩
  | 35 => ⟨S_, .f32⟩
  | 36 => ⟨S16x32x8, .f32⟩
  | 37 => ⟨S16x32x8x1, .f32⟩
  | 38 => ⟨S_, .f32⟩
  | 39 => ⟨S16x32x8x1, .f32⟩
  | 40 => ⟨S16x32x8x1, .f32⟩
  | 41 => ⟨S_, .f32⟩
  | 42 => ⟨S16x32x8x1, .f32⟩
  | 43 => ⟨S16x32x8x1, .f32⟩
  | 44 => ⟨S16x32x8x1, .f32⟩
  | 45 => ⟨S16x32x8x512, .f32⟩
  | 46 => ⟨S16x32x8x512, .f32⟩
  | 47 => ⟨S1x1x8x512, .f32⟩
  | 48 => ⟨S16x32x8x512, .f32⟩
  | 49 => ⟨S16x32x8x512, .f32⟩
  | 50 => ⟨S512x4096, .f32⟩
  | 51 => ⟨S512x4096, .bf16⟩
  | 52 => ⟨S16x8x128x8x64, .f32⟩
  | 53 => ⟨S16x8x128x512, .f32⟩
  | _ => ⟨S512x6144, .f32⟩

abbrev hbmTy (i : Nat) : BufTy := match i / 128 with
  | 0 => hbmTy0_0 i
  | 1 => hbmTy0_1 i
  | _ => ⟨S512x6144, .f32⟩

abbrev bufTy : (tb : Table) → Fin (tcTables nBuf tb) → BufTy
  | .hbm, ⟨i, _⟩ => hbmTy i
  | _, _ => ⟨S512x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_c_0 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_v25_3 : Ref sig .tc := ⟨.hbm, 46, rfl⟩
abbrev main_v25_4 : Ref sig .tc := ⟨.hbm, 47, rfl⟩
abbrev main_v25_5 : Ref sig .tc := ⟨.hbm, 48, rfl⟩
abbrev main_v25_6 : Ref sig .tc := ⟨.hbm, 49, rfl⟩
abbrev main_v25_7 : Ref sig .tc := ⟨.hbm, 50, rfl⟩
abbrev main_v25_8 : Ref sig .tc := ⟨.hbm, 51, rfl⟩
abbrev main_while0c_c_12 : Ref sig .tc := ⟨.hbm, 52, rfl⟩
abbrev main_while0c_v59 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_c_2 : Ref sig .tc := ⟨.hbm, 57, rfl⟩
abbrev main_while0b_call1_c_3 : Ref sig .tc := ⟨.hbm, 58, rfl⟩
abbrev main_while0b_call1_v0 : Ref sig .tc := ⟨.hbm, 59, rfl⟩
abbrev main_while0b_v59 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_c_2 : Ref sig .tc := ⟨.hbm, 64, rfl⟩
abbrev main_while0b_call2_v0 : Ref sig .tc := ⟨.hbm, 65, rfl⟩
abbrev main_while0b_v60 : Ref sig .tc := ⟨.hbm, 66, rfl⟩
abbrev main_while0b_call3_c : Ref sig .tc := ⟨.hbm, 67, rfl⟩
abbrev main_while0b_call3_c_0 : Ref sig .tc := ⟨.hbm, 68, rfl⟩
abbrev main_while0b_call3_c_1 : Ref sig .tc := ⟨.hbm, 69, rfl⟩
abbrev main_while0b_call3_c_2 : Ref sig .tc := ⟨.hbm, 70, rfl⟩
abbrev main_while0b_call3_v0 : Ref sig .tc := ⟨.hbm, 71, rfl⟩
abbrev main_while0b_v61 : Ref sig .tc := ⟨.hbm, 72, rfl⟩
abbrev main_while0b_call4_c : Ref sig .tc := ⟨.hbm, 73, rfl⟩
abbrev main_while0b_call4_c_0 : Ref sig .tc := ⟨.hbm, 74, rfl⟩
abbrev main_while0b_call4_c_1 : Ref sig .tc := ⟨.hbm, 75, rfl⟩
abbrev main_while0b_call4_c_2 : Ref sig .tc := ⟨.hbm, 76, rfl⟩
abbrev main_while0b_call4_v0 : Ref sig .tc := ⟨.hbm, 77, rfl⟩
abbrev main_while0b_v62 : Ref sig .tc := ⟨.hbm, 78, rfl⟩
abbrev main_while0b_v63 : Ref sig .tc := ⟨.hbm, 79, rfl⟩
abbrev main_while0b_v64 : Ref sig .tc := ⟨.hbm, 80, rfl⟩
abbrev main_while0b_v65 : Ref sig .tc := ⟨.hbm, 81, rfl⟩
abbrev main_while0b_call5_call0_cst : Ref sig .tc := ⟨.hbm, 82, rfl⟩
abbrev main_while0b_call5_call0_v0 : Ref sig .tc := ⟨.hbm, 83, rfl⟩
abbrev main_while0b_v66 : Ref sig .tc := ⟨.hbm, 84, rfl⟩
abbrev main_while0b_v67 : Ref sig .tc := ⟨.hbm, 85, rfl⟩
abbrev main_while0b_v68 : Ref sig .tc := ⟨.hbm, 86, rfl⟩
abbrev main_while0b_v69 : Ref sig .tc := ⟨.hbm, 87, rfl⟩
abbrev main_while0b_v70 : Ref sig .tc := ⟨.hbm, 88, rfl⟩
abbrev main_while0b_v71 : Ref sig .tc := ⟨.hbm, 89, rfl⟩
abbrev main_while0b_cst_12 : Ref sig .tc := ⟨.hbm, 90, rfl⟩
abbrev main_while0b_call6_v0 : Ref sig .tc := ⟨.hbm, 91, rfl⟩
abbrev main_while0b_call6_v1 : Ref sig .tc := ⟨.hbm, 92, rfl⟩
abbrev main_while0b_call6_v2 : Ref sig .tc := ⟨.hbm, 93, rfl⟩
abbrev main_while0b_v72 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_v77 : Ref sig .tc := ⟨.hbm, 99, rfl⟩
abbrev main_while0b_v78 : Ref sig .tc := ⟨.hbm, 100, rfl⟩
abbrev main_while0b_v79 : Ref sig .tc := ⟨.hbm, 101, rfl⟩
abbrev main_while0b_v80 : Ref sig .tc := ⟨.hbm, 102, rfl⟩
abbrev main_while0b_v81 : Ref sig .tc := ⟨.hbm, 103, rfl⟩
abbrev main_while0b_v82 : Ref sig .tc := ⟨.hbm, 104, rfl⟩
abbrev main_while0b_v83 : Ref sig .tc := ⟨.hbm, 105, rfl⟩
abbrev main_while0b_v84 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_v88 : Ref sig .tc := ⟨.hbm, 110, rfl⟩
abbrev main_while0b_v89 : Ref sig .tc := ⟨.hbm, 111, rfl⟩
abbrev main_while0b_v90 : Ref sig .tc := ⟨.hbm, 112, rfl⟩
abbrev main_while0b_v91 : Ref sig .tc := ⟨.hbm, 113, rfl⟩
abbrev main_while0b_v92 : Ref sig .tc := ⟨.hbm, 114, rfl⟩
abbrev main_while0b_v93 : Ref sig .tc := ⟨.hbm, 115, rfl⟩
abbrev main_while0b_v94 : Ref sig .tc := ⟨.hbm, 116, rfl⟩
abbrev main_while0b_v95 : Ref sig .tc := ⟨.hbm, 117, rfl⟩
abbrev main_while0b_v96 : Ref sig .tc := ⟨.hbm, 118, rfl⟩
abbrev main_while0b_v97 : Ref sig .tc := ⟨.hbm, 119, rfl⟩
abbrev main_while0b_v98 : Ref sig .tc := ⟨.hbm, 120, rfl⟩
abbrev main_while0b_v99 : Ref sig .tc := ⟨.hbm, 121, rfl⟩
abbrev main_while0b_v100 : Ref sig .tc := ⟨.hbm, 122, rfl⟩
abbrev main_while0b_v101 : Ref sig .tc := ⟨.hbm, 123, rfl⟩
abbrev main_while0b_v102 : Ref sig .tc := ⟨.hbm, 124, rfl⟩
abbrev main_while0b_v103 : Ref sig .tc := ⟨.hbm, 125, rfl⟩
abbrev main_while0b_v104 : Ref sig .tc := ⟨.hbm, 126, rfl⟩
abbrev main_while0b_v105 : Ref sig .tc := ⟨.hbm, 127, rfl⟩
abbrev main_while0b_v106 : Ref sig .tc := ⟨.hbm, 128, rfl⟩
abbrev main_while0b_call7_v0 : Ref sig .tc := ⟨.hbm, 129, rfl⟩
abbrev main_while0b_call7_c : Ref sig .tc := ⟨.hbm, 130, rfl⟩
abbrev main_while0b_call7_c_0 : Ref sig .tc := ⟨.hbm, 131, rfl⟩
abbrev main_while0b_call7_c_1 : Ref sig .tc := ⟨.hbm, 132, rfl⟩
abbrev main_while0b_call7_c_2 : Ref sig .tc := ⟨.hbm, 133, rfl⟩
abbrev main_while0b_call7_c_3 : Ref sig .tc := ⟨.hbm, 134, rfl⟩
abbrev main_while0b_v107 : Ref sig .tc := ⟨.hbm, 135, rfl⟩
abbrev main_while0b_c_13 : Ref sig .tc := ⟨.hbm, 136, rfl⟩
abbrev main_while0b_v108 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_call8_v0 : Ref sig .tc := ⟨.hbm, 150, rfl⟩
abbrev main_call8_v1 : Ref sig .tc := ⟨.hbm, 151, rfl⟩
abbrev main_call8_cst : Ref sig .tc := ⟨.hbm, 152, rfl⟩
abbrev main_call8_v2 : Ref sig .tc := ⟨.hbm, 153, rfl⟩
abbrev main_call8_v3 : Ref sig .tc := ⟨.hbm, 154, rfl⟩
abbrev main_call8_cst_0 : Ref sig .tc := ⟨.hbm, 155, rfl⟩
abbrev main_call8_v4 : Ref sig .tc := ⟨.hbm, 156, rfl⟩
abbrev main_call8_v5 : Ref sig .tc := ⟨.hbm, 157, rfl⟩
abbrev main_v38 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_cst_1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_cst_3 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_v58 : Ref sig .tc := ⟨.hbm, 181, rfl⟩

abbrev nD : Nat := 1
abbrev τ : Topo := Topo.v7x

variable {F : FTy → Type} [FloatOps F]

abbrev main_while0_count : Scf.Loop 32 := ⟨0#32, 1#32, 1#32⟩
-- ==== Proof.Ssd.Indep.lean ====
module

public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

/-- The pieces of one trip do not depend on what the output block held before it. -/
theorem tripL_indep (𝒱 : Variants) (c : Dev nD) (bd : Option 𝒱.V) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (v5 : IVec S64x64 1) (v21 : FVec F S64x192 .bf16) (v25 : FVec F S64x64 .bf16) (v30 : FVec F S1x2048 .f32) (v36 : FVec F S32x1 .f32) (v38 : FVec F S1x2048 .f32) (v39 : Vec F S1x2048 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (k : Fin k0_t1_loop.trips) (f g : BufTy.Contents (Elt F) arg14.view.ty) (s : BufTy.Contents (Elt F) arg16.view.ty) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v5 v21 v25 v30 v36 v38 v39 X_arg3 X_arg4 X_arg5 X_arg6 X_arg7 X_arg8 k f s = tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v5 v21 v25 v30 v36 v38 v39 X_arg3 X_arg4 X_arg5 X_arg6 X_arg7 X_arg8 k g s := by
  unfold tripL_k0_t1 trip_k0_t1
  rfl

/-- Neither do the pieces of all trips. -/
theorem pb_indep (𝒱 : Variants) (c : Dev nD) (bd : Option 𝒱.V) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (v5 : IVec S64x64 1) (v21 : FVec F S64x192 .bf16) (v25 : FVec F S64x64 .bf16) (v30 : FVec F S1x2048 .f32) (v36 : FVec F S32x1 .f32) (v38 : FVec F S1x2048 .f32) (v39 : Vec F S1x2048 .f32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (f g : BufTy.Contents (Elt F) arg14.view.ty) (s : BufTy.Contents (Elt F) arg16.view.ty) (k : ℕ) :
    pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v5 v21 v25 v30 v36 v38 v39 X_arg3 X_arg4 X_arg5 X_arg6 X_arg7 X_arg8 f s k = pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 v5 v21 v25 v30 v36 v38 v39 X_arg3 X_arg4 X_arg5 X_arg6 X_arg7 X_arg8 g s k := by
  induction k with
  | zero => rfl
  | succ k ih =>
    rw [pb_k0_t1.eq_2, pb_k0_t1.eq_2, ih]
    unfold pb_k0_t1Step
    by_cases h : k < k0_t1_loop.trips
    · rw [dif_pos h, dif_pos h, tripL_indep]
    · rw [dif_neg h, dif_neg h]

end Cert.KernelIdeal.Gen

end
-- ==== Proof.Ssd.RunA.lean ====
module

public import proofs.«01_k».proof.Proof.Gen.KernelIdeal.Frame.Runs
public import proofs.«01_k».proof.Proof.Ssd.Indep

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) :
    Σ' (L11 : List (View.Piece (Elt F) S512x2048 .bf16)), Σ' (L12 : List (View.Piece (Elt F) S1x4x128x512 .f32)), { LS0 : List (View.Piece (Elt F) S4x128x512 .f32) //
      ∀ (xi12 : Vec F S1x4x128x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ owns (c : Thread nD τ) arg15 fullShare xi12 ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f LS0)) -∗ K ⟨⟩))
          ⊢ wp frame (wpE (defs₀ (F := F)) Variants.none c none) E (cc0_ssd_scan i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, fun xi12 E K => ?run⟩
  case run =>
    simp only [cc0_ssd_scan_eq_skeleton]; unfold cc0_ssd_scan_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hf12
    sl_exec (disch := first | sl_exact hc0 | sl_exact hc1)
    sl_step
    rw [pb_indep (f := f11) (g := arg14.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]
    · iexists _; isplitr; · ipureintro; exact harg15.read_unread _
      iexact H12
    iexists _; iexact HS0

end Cert.KernelIdeal.Gen

end
-- ==== Proof.Ssd.RunB.lean ====
module

public import proofs.«01_k».proof.Proof.Ssd.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 30: 28 of 32), WITH the
    proof that on whole staging memrefs — the inputs' at their contents, the outputs it leaves idle (12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) :
    Σ' (L11 : List (View.Piece (Elt F) S512x2048 .bf16)), Σ' (L12 : List (View.Piece (Elt F) S1x4x128x512 .f32)), { LS0 : List (View.Piece (Elt F) S4x128x512 .f32) //
      ∀ (xi12 : Vec F S1x4x128x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ owns (c : Thread nD τ) arg15 fullShare xi12 ∗ owns (c : Thread nD τ) arg16 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ owns (c : Thread nD τ) arg15 fullShare xi12 ∗ (∃ f, arg16.view.loc (c : Thread nD τ) ↦[arg16.view.set]{fullShare} arg16.view.writes (Elt F) f LS0)) -∗ K ⟨⟩))
          ⊢ wp frame (wpE (defs₀ (F := F)) Variants.none c none) E (cc0_ssd_scan i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], ?_, fun xi12 E K => ?run⟩
  case run =>
    simp only [cc0_ssd_scan_eq_skeleton]; unfold cc0_ssd_scan_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg15.eq_unread hf12; obtain rfl := harg16.eq_unread hfs0
    sl_exec (disch := first | sl_exact hc0 | sl_exact hc1)
    sl_step
    rw [pb_indep (f := f11) (g := arg14.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]
    · iexists _; isplitr; · ipureintro; exact harg15.read_unread _
      iexact H12
    iexists _; iexact HS0

end Cert.KernelIdeal.Gen

end
-- ==== Proof.Ssd.RunC.lean ====
module

public import proofs.«01_k».proof.Proof.Ssd.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) :
    Σ' (L11 : List (View.Piece (Elt F) S512x2048 .bf16)), Σ' (L12 : List (View.Piece (Elt F) S1x4x128x512 .f32)), { LS0 : List (View.Piece (Elt F) S4x128x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ owns (c : Thread nD τ) arg16 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f LS0)) -∗ K ⟨⟩))
          ⊢ wp frame (wpE (defs₀ (F := F)) Variants.none c none) E (cc0_ssd_scan i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_ssd_scan_eq_skeleton]; unfold cc0_ssd_scan_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg16.eq_unread hfs0
    sl_exec (disch := first | sl_exact hc0 | sl_exact hc1)
    sl_step
    unfold kernelRun0_C.sl.v45
    rw [pb_indep (f := f11) (g := arg14.view.junk)]
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [H12]; · iexists _; iexact H12
    iexists _; iexact HS0

end Cert.KernelIdeal.Gen

end
-- ==== Proof.Ssd.Frame.lean ====
module

public import proofs.«01_k».proof.Proof.Ssd.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 11 tile its block (32 stores of `S64x512`, checked by the kernel's evaluation: Lib/Ring.lean `Piece.tiledL`, linear in the pieces, through a loop's `@[irreducible]` trip theorem too), so they cover it. -/
theorem cover0_A_11 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (y : S512x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1 S64x512.size (by sl_kernel_rfl) y

/-- What case A leaves in output 11's staging buffer: its pieces read back over junk. -/
def out0_A_11 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) : Vec F S512x2048 .bf16 :=
  VO0_11.read (Elt F) (VO0_11.writes (Elt F) VO0_11.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).1)

/-- Case A stores nothing into output 12 (the window is idle at its points and not written back there):
    no pieces — a placeholder (junk read back) that nothing consults, since at these points the window is neither
    written back nor read at the next point (Lib/Pipeline.lean "Idle points"). -/
def out0_A_12 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) : Vec F S1x4x128x512 .f32 :=
  VO0_12.read (Elt F) (VO0_12.writes (Elt F) VO0_12.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.1)

/-- Case A's pieces for scratch `arg16`, which the kernel carries between points, cover it: one of them a store of the WHOLE buffer (Lib/Ring.lean `sl_whole_mem`). -/
theorem scover0_A_0 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (y : S4x128x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1 (by sl_whole_mem) y

/-- What case A leaves in scratch `arg16`: its pieces read back over junk. -/
def sout0_A_0 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) : Vec F S4x128x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10).2.2.1)

/-- Case B's pieces for output 11 tile its block (32 stores of `S64x512`, checked by the kernel's evaluation: Lib/Ring.lean `Piece.tiledL`, linear in the pieces, through a loop's `@[irreducible]` trip theorem too), so they cover it. -/
theorem cover0_B_11 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) (y : S512x2048.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1 S64x512.size (by sl_kernel_rfl) y

/-- What case B leaves in output 11's staging buffer: its pieces read back over junk. -/
def out0_B_11 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) : Vec F S512x2048 .bf16 :=
  VO0_11.read (Elt F) (VO0_11.writes (Elt F) VO0_11.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1)

/-- Case B stores nothing into output 12 (the window is idle at its points and not written back there):
    no pieces — a placeholder (junk read back) that nothing consults, since at these points the window is neither
    written back nor read at the next point (Lib/Pipeline.lean "Idle points"). -/
def out0_B_12 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) : Vec F S1x4x128x512 .f32 :=
  VO0_12.read (Elt F) (VO0_12.writes (Elt F) VO0_12.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1)

/-- Case B's pieces for scratch `arg16`, which the kernel carries between points, cover it: 32 pieces of `S1x128x512` tiling it (Lib/Ring.lean `Piece.tiledL`). -/
theorem scover0_B_0 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) (y : S4x128x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1 S1x128x512.size (by sl_kernel_rfl) y

/-- What case B leaves in scratch `arg16`: its pieces read back over junk. -/
def sout0_B_0 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : ¬cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) : Vec F S4x128x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1)

/-- Case C's pieces for output 11 tile its block (32 stores of `S64x512`, checked by the kernel's evaluation: Lib/Ring.lean `Piece.tiledL`, linear in the pieces, through a loop's `@[irreducible]` trip theorem too), so they cover it. -/
theorem cover0_C_11 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) (y : S512x2048.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1 S64x512.size (by sl_kernel_rfl) y

/-- What case C leaves in output 11's staging buffer: its pieces read back over junk. -/
def out0_C_11 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) : Vec F S512x2048 .bf16 :=
  VO0_11.read (Elt F) (VO0_11.writes (Elt F) VO0_11.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).1)

/-- Case C's pieces for output 12 tile its block (1 store of `S1x4x128x512`, checked by the kernel's evaluation: Lib/Ring.lean `Piece.tiledL`, linear in the pieces, through a loop's `@[irreducible]` trip theorem too), so they cover it. -/
theorem cover0_C_12 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) (y : S1x4x128x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1 S1x4x128x512.size (by sl_kernel_rfl) y

/-- What case C leaves in output 12's staging buffer: its pieces read back over junk. -/
def out0_C_12 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) : Vec F S1x4x128x512 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.1)

/-- Case C's pieces for scratch `arg16`, which the kernel carries between points, cover it: 32 pieces of `S1x128x512` tiling it (Lib/Ring.lean `Piece.tiledL`). -/
theorem scover0_C_0 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) (y : S4x128x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1 S1x128x512.size (by sl_kernel_rfl) y

/-- What case C leaves in scratch `arg16`: its pieces read back over junk. -/
def sout0_C_0 (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : cond0_1 i)
    (x0 : Vec F S512x2048 .f32) (x1 : Vec F S512x512 .f32) (x2 : Vec F S512x512 .f32) (x3 : Vec F S512x2048 .f32) (x4 : Vec F S512x2048 .f32) (x5 : Vec F S4x8x8x64 .f32) (x6 : Vec F S1x2048 .f32) (x7 : Vec F S4x8x1 .f32) (x8 : Vec F S1x2048 .f32) (x9 : Vec F S1x2048 .f32) (x10 : Vec F S1x4x128x512 .f32) (xs0 : Vec F S4x128x512 .f32) : Vec F S4x128x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x2048 .bf16 × Vec F S1x4x128x512 .f32 × Vec F S4x128x512 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 16 = 0 then
      if h1 : (n + 1) % 16 = 15 then
        False.elim (by have hN : n + 1 < 32 := lt_of_lt_of_eq hn (show cfg0.N = 32 from N_0); omega)
      else
        (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : (n + 1) % 16 = 15 then
        (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2)
      else
        (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2)

/-- `outsAt0` at a point of case A: that case's contents. -/
theorem outsAt0_A (c : Dev nD) (t : Fin cfg0.N) (h0 : t.val % 16 = 0) (h1 : ¬t.val % 16 = 15) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_11 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
        iexists _; iexact H12
      · rw [PhiS_castSucc m c t, PhiS_pos m c _ _ hz]
        rw [outsAt0_A m c t h0 h1]
        unfold out0_A_11 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexists _; iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _)
        iexists _; iexact H12
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1)], after0_12]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_11 out0_C_12 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [HS0]; · iexact HS0
        iintro ⟨H0, H1, H2, H3, H4, H5, H6, H7, H8, H9, H10, ⟨%e11, H11⟩, ⟨%e12, H12⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_11 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexact H12
        isplitl [HS0]; · iexact HS0
        iintro ⟨H0, H1, H2, H3, H4, H5, H6, H7, H8, H9, H10, ⟨%e11, H11⟩, H12, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _)
        iexists _; iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Ssd.KernelFrame.lean ====
module

public import proofs.«01_k».proof.Proof.Gen.Kernel
public import proofs.«01_k».proof.Proof.Ssd.Frame
public import proofs.«01_k».proof.Defs

@[expose] public section

set_option maxRecDepth 16384

noncomputable section

namespace Cert.Ssd

open Idealize.ShloMosaic Idealize.ShloMosaic.TcCoe Idealize.SL.Sem

/-- The kernel as traced and its idealization print the same text, so the one's run is the other's. -/
theorem main_eq {F : FTy → Type} [FloatOps F] : Cert.Kernel.main (F := F) = Cert.KernelIdeal.main (F := F) := by
  rfl

theorem body_eq {F : FTy → Type} [FloatOps F] : @Cert.Kernel.cc0_ssd_scan F _ _ = @Cert.KernelIdeal.cc0_ssd_scan F _ _ := by
  rfl

theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) := by
  unfold Cert.Kernel.defs Cert.KernelIdeal.defs
  rw [defs₀_eq]
  rfl

theorem kernel_frame : Cert.quiescent_Kernel (hKernel := Cert.Kernel.Gen.facts) := by
  intro m g _
  have h := Cert.KernelIdeal.Gen.frame (F := Bits) m g
  rw [← main_eq, ← defs_eq] at h
  exact h

end Cert.Ssd

end
-- ==== Proof.Ssd.Assemble.lean ====
module

public import proofs.«01_k».proof.Defs
public import proofs.«01_k».proof.Proof.Ssd.KernelFrame
public import proofs.«01_k».proof.Proof.Gen.ReferenceIdeal.Run

@[expose] public section

noncomputable section

namespace Cert.Ssd

open Idealize.ShloMosaic Idealize.SL.Sem

theorem pre_facts : Cert.Pre_dt_nonneg.Facts where
  bcast_S_S8704x128 := by decide
  reducesTo_S8704x128_S_d0_1 := by decide
  h_S_ := by decide

theorem kernelIdeal_frame : Cert.quiescent_KernelIdeal (hKernelIdeal := Cert.KernelIdeal.Gen.facts) :=
  fun m g _ => Cert.KernelIdeal.Gen.frame (F := Ideal) m g

theorem kernelIdeal_frame_pre :
    Cert.quiescent_KernelIdeal_pre_dt_nonneg (hKernelIdeal := Cert.KernelIdeal.Gen.facts) (hPre_dt_nonneg := pre_facts) :=
  fun m g _ => Cert.KernelIdeal.Gen.frame (F := Ideal) m g

theorem reference_frame : Cert.quiescent_ReferenceIdeal (hReferenceIdeal := Cert.ReferenceIdeal.Gen.facts) := by
  intro m g _
  exact (θ_run Cert.ReferenceIdeal.defs _ _).mono (fun r h => ⟨fun c => (h c).2.2,
    Idealize.ShloMosaic.sem_eq_zero_of_no_sems (by decide) r.2⟩) (Cert.ReferenceIdeal.Value.run (F := Ideal) m g)

theorem reference_frame_pre :
    Cert.quiescent_ReferenceIdeal_pre_dt_nonneg (hReferenceIdeal := Cert.ReferenceIdeal.Gen.facts) (hPre_dt_nonneg := pre_facts) := by
  intro m g _
  exact (θ_run Cert.ReferenceIdeal.defs _ _).mono (fun r h => ⟨fun c => (h c).2.2,
    Idealize.ShloMosaic.sem_eq_zero_of_no_sems (by decide) r.2⟩) (Cert.ReferenceIdeal.Value.run (F := Ideal) m g)

end Cert.Ssd

end
-- ==== Proof.Ssd.Spec.lean ====
module

public import Idealize.ShloMosaic.Lib.Pointwise

@[expose] public section

noncomputable section

namespace Cert.Ssd

open Idealize.ShloMosaic

/-! One chunk of 64 steps of one group of 8 heads, in extended reals. `D` is the step size, `a` the decay rate of a
head, `X` the input, `B` and `C` the group's projections, `S` the state at the start of the chunk. -/

/-- The log decay of head `r` summed through step `t`. -/
def cum (D : Fin 64 → Fin 8 → EReal) (a : Fin 8 → EReal) (t : Fin 64) (r : Fin 8) : EReal :=
  ∑ s : Fin 64, if s ≤ t then D s r * a r else 0

/-- The state after the chunk. -/
def nextS (D : Fin 64 → Fin 8 → EReal) (a : Fin 8 → EReal) (X : Fin 64 → Fin 8 → Fin 64 → EReal)
    (B : Fin 64 → Fin 128 → EReal) (S : Fin 8 → Fin 64 → Fin 128 → EReal) (r : Fin 8) (p : Fin 64) (n : Fin 128) :
    EReal :=
  S r p n * Ideal.exp (cum D a 63 r)
    + ∑ s : Fin 64, B s n * (X s r p * (Ideal.exp (cum D a 63 r - cum D a s r) * D s r))

/-- The product of the projections of steps `t` and `s`. -/
def att (B C : Fin 64 → Fin 128 → EReal) (t s : Fin 64) : EReal := ∑ n : Fin 128, C t n * B s n

/-- The contribution of the steps of the chunk itself. -/
def inner (D : Fin 64 → Fin 8 → EReal) (a : Fin 8 → EReal) (X : Fin 64 → Fin 8 → Fin 64 → EReal)
    (B C : Fin 64 → Fin 128 → EReal) (t : Fin 64) (r : Fin 8) (p : Fin 64) : EReal :=
  ∑ s : Fin 64, (att B C t s * (if s ≤ t then Ideal.exp (cum D a t r - cum D a s r) else 0)) * (X s r p * D s r)

/-- The output before the skip connection, the gate and the norm. -/
def raw (D : Fin 64 → Fin 8 → EReal) (a : Fin 8 → EReal) (X : Fin 64 → Fin 8 → Fin 64 → EReal)
    (B C : Fin 64 → Fin 128 → EReal) (S : Fin 8 → Fin 64 → Fin 128 → EReal) (t : Fin 64) (r : Fin 8) (p : Fin 64) :
    EReal :=
  (∑ n : Fin 128, C t n * S r p n) * Ideal.exp (cum D a t r) + inner D a X B C t r p

/-- The gate of one element. -/
def gate (z : EReal) : EReal := z * Ideal.div 1 (1 + Ideal.exp (0 - z))

/-- The head of column `q` of a group. -/
def hd (q : Fin 512) : Fin 8 := ⟨(q : ℕ) / 64, by omega⟩

/-- The place of column `q` within its head. -/
def pl (q : Fin 512) : Fin 64 := ⟨(q : ℕ) % 64, by omega⟩

/-- The output with skip connection and gate. -/
def gated (D : Fin 64 → Fin 8 → EReal) (a : Fin 8 → EReal) (X : Fin 64 → Fin 8 → Fin 64 → EReal)
    (B C : Fin 64 → Fin 128 → EReal) (S : Fin 8 → Fin 64 → Fin 128 → EReal) (dsk : Fin 8 → EReal)
    (Z : Fin 64 → Fin 512 → EReal) (t : Fin 64) (q : Fin 512) : EReal :=
  (raw D a X B C S t (hd q) (pl q) + dsk (hd q) * X t (hd q) (pl q)) * gate (Z t q)

/-- The root mean square norm over a group's 512 columns, with weights. -/
def normed (G : Fin 64 → Fin 512 → EReal) (w : Fin 512 → EReal) (t : Fin 64) (q : Fin 512) : EReal :=
  G t q * Ideal.rsqrt (Ideal.div (∑ k : Fin 512, G t k * G t k) (Ideal.ofBits .f32 0x44000000#32)
    + Ideal.ofBits .f32 0x358637BD#32) * w q

end Cert.Ssd

end
-- ==== Proof.Ssd.Chunk.lean ====
module

public import proofs.«01_k».proof.Proof.Gen.KernelIdeal.Skeleton
public import proofs.«01_k».proof.Proof.Ssd.Spec

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

/-- The normalized group. -/
def normV (v205 : FVec Ideal S64x512 .f32) (w : FVec Ideal S1x512 .f32) : FVec Ideal S64x512 .bf16 :=
  truncf .bf16 (mulf (mulf v205 (broadcastTo S64x512 (rsqrt (addf (divf (shapeCast S64x1
    (multiReduction .add [1] S64 (mulf v205 v205) 0x00000000#32 reduces_S64x512_S64 (.inl rfl) rfl) shapeCasts_S64_S64x1)
    (broadcast S64x1 (Scalar.ofBits .f32 0x44000000#32))) (broadcast S64x1 (Scalar.ofBits .f32 0x358637BD#32))))
    broadcasts_S64x1_S64x512)) (broadcastTo S64x512 w broadcasts_S1x512_S64x512)) bitsLt_bf16_f32

theorem normV_at (v : FVec Ideal S64x512 .f32) (w : FVec Ideal S1x512 .f32) (t : Fin 64) (q : Fin 512) :
    normV v w (ix2 t q) = normed (fun t q => v (ix2 t q)) (fun q => w (ix2 0 q)) t q := by
  pointwise [normV, normed]

/-- One head's contribution within the chunk, as the kernel computes it: `off` is its first column, `row` its row among
the transposed sums. -/
def headV (off row : ℕ) (h1 : S64x2048.Slices ![0, off] S64x64) (h2 : S32x64.Slices ![row, 0] S1x64)
    (v5 : IVec S64x64 1) (v62 : FVec Ideal S64x2048 .f32) (v80 : FVec Ideal S32x64 .f32)
    (v84 : FVec Ideal S64x2048 .bf16) (cb : FVec Ideal S64x64 .f32) : FVec Ideal S64x64 .f32 :=
  matmul dot_S64x64_S64x64_S64x64_1_0_0_1_n_n none (truncf .bf16 (mulf cb (select v5
    (exp (subf (extractStridedSlice S64x64 ![0, off] v62 h1)
      (broadcastTo S64x64 (extractStridedSlice S1x64 ![row, 0] v80 h2) broadcasts_S1x64_S64x64)))
    (broadcast S64x64 (Scalar.ofBits .f32 0x00000000#32)))) bitsLt_bf16_f32)
    (extractStridedSlice S64x64 ![0, off] v84 h1) (constant S64x64 .f32 0x00000000#32)

theorem headV_at (off row : ℕ) (h1 : S64x2048.Slices ![0, off] S64x64) (h2 : S32x64.Slices ![row, 0] S1x64)
    (hoff : off + 64 ≤ 2048) (hrow : row < 32)
    (v5 : IVec S64x64 1) (v62 : FVec Ideal S64x2048 .f32) (v80 : FVec Ideal S32x64 .f32)
    (v84 : FVec Ideal S64x2048 .bf16) (cb : FVec Ideal S64x64 .f32) (t p : Fin 64) :
    headV off row h1 h2 v5 v62 v80 v84 cb (ix2 t p) = ∑ s : Fin 64, (cb (ix2 t s) * (Scalar.select (v5 (ix2 t s))
      (Ideal.exp (v62 (ix2 t ⟨off + (s : ℕ), by omega⟩) - v80 (ix2 ⟨row, hrow⟩ s))) 0 : EReal))
      * v84 (ix2 s ⟨off + (p : ℕ), by omega⟩) := by
  pointwise [headV]

/-- The eight heads side by side, with what the earlier chunks contribute, the skip connection and the gate. -/
def rawV (v116 : FVec Ideal S64x512 .f32) (h : Fin 8 → FVec Ideal S64x64 .f32) (a b : FVec Ideal S64x512 .f32) :
    FVec Ideal S64x512 .f32 :=
  mulf (addf (addf v116 (concatenate S64x512 1 [⟨S64x64, h 0⟩, ⟨S64x64, h 1⟩, ⟨S64x64, h 2⟩, ⟨S64x64, h 3⟩,
    ⟨S64x64, h 4⟩, ⟨S64x64, h 5⟩, ⟨S64x64, h 6⟩, ⟨S64x64, h 7⟩]
    concatenates_S64x64_S64x64_S64x64_S64x64_S64x64_S64x64_S64x64_S64x64_S64x512_d1)) a) b

theorem rawV_at (v116 : FVec Ideal S64x512 .f32) (h : Fin 8 → FVec Ideal S64x64 .f32) (a b : FVec Ideal S64x512 .f32)
    (t : Fin 64) (q : Fin 512) :
    rawV v116 h a b (ix2 t q) = (v116 (ix2 t q) + h (hd q) (ix2 t (pl q)) + a (ix2 t q)) * b (ix2 t q) := by
  obtain ⟨r, p, hr⟩ : ∃ (r : Fin 8) (p : Fin 64), q = ⟨64 * (r : ℕ) + (p : ℕ), by omega⟩ :=
    ⟨hd q, pl q, Fin.ext (Nat.div_add_mod (q : ℕ) 64).symm⟩
  subst hr
  have e1 : hd ⟨64 * (r : ℕ) + (p : ℕ), by omega⟩ = r := Fin.ext (by show (64 * (r : ℕ) + (p : ℕ)) / 64 = r; omega)
  have e2 : pl ⟨64 * (r : ℕ) + (p : ℕ), by omega⟩ = p := Fin.ext (by show (64 * (r : ℕ) + (p : ℕ)) % 64 = p; omega)
  rw [e1, e2]
  clear e1 e2
  obtain ⟨r, hr⟩ := r
  interval_cases r
  all_goals
    pointwise [rawV]
    all_goals try refine congrArg₂ (· * ·) (congrArg₂ (· + ·) (congrArg₂ (· + ·) rfl ?_) rfl) rfl
    all_goals repeat' split
    all_goals first
      | (exfalso; omega)
      | exact congrArg (fun x => h _ (ix2 t x)) (Fin.ext (by dsimp only; omega))

/-- What the chunks before contribute to a group. -/
def carryV (off : ℕ) (h : S64x2048.Slices ![0, off] S64x512) (v82 : FVec Ideal S64x2048 .f32) (vc : FVec Ideal S64x128 .f32)
    (vs : FVec Ideal S1x128x512 .f32) : FVec Ideal S64x512 .f32 :=
  mulf (matmul dot_S64x128_S128x512_S64x512_1_0_0_1_n_n none (truncf .bf16 vc bitsLt_bf16_f32)
    (truncf .bf16 (shapeCast S128x512 vs shapeCasts_S1x128x512_S128x512) bitsLt_bf16_f32)
    (constant S64x512 .f32 0x00000000#32)) (extractStridedSlice S64x512 ![0, off] v82 h)

theorem carryV_at (off : ℕ) (h : S64x2048.Slices ![0, off] S64x512) (hoff : off + 512 ≤ 2048)
    (v82 : FVec Ideal S64x2048 .f32) (vc : FVec Ideal S64x128 .f32) (vs : FVec Ideal S1x128x512 .f32) (t : Fin 64)
    (q : Fin 512) : carryV off h v82 vc vs (ix2 t q)
      = (∑ n : Fin 128, vc (ix2 t n) * vs (ix3 0 n q)) * v82 (ix2 t ⟨off + (q : ℕ), by omega⟩) := by
  pointwise [carryV]

theorem slices_head (g : Fin 4) (r : Fin 8) : S64x2048.Slices ![0, 512 * (g : ℕ) + 64 * (r : ℕ)] S64x64 := by
  revert g r; decide

theorem slices_row (g : Fin 4) (r : Fin 8) : S32x64.Slices ![8 * (g : ℕ) + (r : ℕ), 0] S1x64 := by revert g r; decide

theorem slices_group (g : Fin 4) : S64x2048.Slices ![0, 512 * (g : ℕ)] S64x512 := by revert g; decide

theorem slices_group1 (g : Fin 4) : S1x2048.Slices ![0, 512 * (g : ℕ)] S1x512 := by revert g; decide

/-- The products of the projections within a chunk. -/
def cbV (vb vc : FVec Ideal S64x128 .f32) : FVec Ideal S64x64 .f32 :=
  matmul dot_S64x128_S64x128_S64x64_1_1_0_0_n_n none (truncf .bf16 vc bitsLt_bf16_f32) (truncf .bf16 vb bitsLt_bf16_f32)
    (constant S64x64 .f32 0x00000000#32)

theorem cbV_at (vb vc : FVec Ideal S64x128 .f32) (t s : Fin 64) :
    cbV vb vc (ix2 t s) = ∑ n : Fin 128, vc (ix2 t n) * vb (ix2 s n) := by
  pointwise [cbV]

/-- A group's output in a chunk. -/
def yVec (g : Fin 4) (v5 : IVec S64x64 1) (v40 : FVec Ideal S1x2048 .f32) (v62 : FVec Ideal S64x2048 .f32)
    (v80 : FVec Ideal S32x64 .f32) (v82 : FVec Ideal S64x2048 .f32) (v84 : FVec Ideal S64x2048 .bf16)
    (v101 v103 : FVec Ideal S64x2048 .f32) (vb vc : FVec Ideal S64x128 .f32) (vs : FVec Ideal S1x128x512 .f32) :
    FVec Ideal S64x512 .bf16 :=
  normV (rawV (carryV (512 * (g : ℕ)) (slices_group g) v82 vc vs)
      (fun r => headV (512 * (g : ℕ) + 64 * (r : ℕ)) (8 * (g : ℕ) + (r : ℕ)) (slices_head g r) (slices_row g r)
        v5 v62 v80 v84 (cbV vb vc))
      (extractStridedSlice S64x512 ![0, 512 * (g : ℕ)] v103 (slices_group g))
      (extractStridedSlice S64x512 ![0, 512 * (g : ℕ)] v101 (slices_group g)))
    (extractStridedSlice S1x512 ![0, 512 * (g : ℕ)] v40 (slices_group1 g))

/-- A group's state after a chunk. -/
def sVec (g : Fin 4) (v90 : FVec Ideal S64x2048 .bf16) (v91 : FVec Ideal S1x2048 .f32) (vb : FVec Ideal S64x128 .f32)
    (vs : FVec Ideal S1x128x512 .f32) : FVec Ideal S1x128x512 .f32 :=
  shapeCast S1x128x512 (addf (mulf (shapeCast S128x512 vs shapeCasts_S1x128x512_S128x512)
      (broadcastTo S128x512 (extractStridedSlice S1x512 ![0, 512 * (g : ℕ)] v91 (slices_group1 g)) broadcasts_S1x512_S128x512))
    (matmul dot_S64x128_S64x512_S128x512_0_0_1_1_n_n none (truncf .bf16 vb bitsLt_bf16_f32)
      (extractStridedSlice S64x512 ![0, 512 * (g : ℕ)] v90 (slices_group g)) (constant S128x512 .f32 0x00000000#32)))
    shapeCasts_S128x512_S1x128x512

theorem sVec_at (g : Fin 4) (v90 : FVec Ideal S64x2048 .bf16) (v91 : FVec Ideal S1x2048 .f32) (vb : FVec Ideal S64x128 .f32)
    (vs : FVec Ideal S1x128x512 .f32) (n : Fin 128) (q : Fin 512) : sVec g v90 v91 vb vs (ix3 0 n q)
      = vs (ix3 0 n q) * v91 (ix2 0 ⟨512 * (g : ℕ) + (q : ℕ), by omega⟩)
        + ∑ s : Fin 64, vb (ix2 s n) * v90 (ix2 s ⟨512 * (g : ℕ) + (q : ℕ), by omega⟩) := by
  pointwise [sVec]

end Cert.KernelIdeal.Value

end
-- ==== Proof.Ssd.Groups.lean ====
module

public import proofs.«01_k».proof.Proof.Ssd.Chunk

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

/-- Group 0 of a chunk: its output. -/
def yPay0 (v5 : IVec S64x64 1) (v40 : FVec Ideal S1x2048 .f32) (v62 : FVec Ideal S64x2048 .f32) (v80 : FVec Ideal S32x64 .f32)
    (v82 : FVec Ideal S64x2048 .f32) (v84 : FVec Ideal S64x2048 .bf16) (v101 v103 : FVec Ideal S64x2048 .f32)
    (vb vc : FVec Ideal S64x128 .f32) (vs : FVec Ideal S1x128x512 .f32) : FVec Ideal S64x512 .bf16 :=
  k0_pay26 (F := Ideal) v5 v40 v62 v80 v84 v101 v103 (k0_pay16 (F := Ideal) vb vc) (k0_pay18 (F := Ideal) v82 vc vs) (k0_pay19 (F := Ideal) v5 v62 v80 v84 vb vc) (k0_pay20 (F := Ideal) v5 v62 v80 v84 vb vc) (k0_pay21 (F := Ideal) v5 v62 v80 v84 (k0_pay16 (F := Ideal) vb vc)) (k0_pay22 (F := Ideal) v5 v62 v80 v84 (k0_pay16 (F := Ideal) vb vc)) (k0_pay23 (F := Ideal) v5 v62 v80 v84 (k0_pay16 (F := Ideal) vb vc)) (k0_pay24 (F := Ideal) v5 v62 v80 v84 (k0_pay16 (F := Ideal) vb vc)) (k0_pay25 (F := Ideal) v5 v62 v80)

theorem yPay0_eq (v5 : IVec S64x64 1) (v40 : FVec Ideal S1x2048 .f32) (v62 : FVec Ideal S64x2048 .f32) (v80 : FVec Ideal S32x64 .f32)
    (v82 : FVec Ideal S64x2048 .f32) (v84 : FVec Ideal S64x2048 .bf16) (v101 v103 : FVec Ideal S64x2048 .f32)
    (vb vc : FVec Ideal S64x128 .f32) (vs : FVec Ideal S1x128x512 .f32) :
    yPay0 v5 v40 v62 v80 v82 v84 v101 v103 vb vc vs = yVec 0 v5 v40 v62 v80 v82 v84 v101 v103 vb vc vs := by
  unfold yPay0 k0_pay16 k0_pay18 k0_pay19 k0_pay20 k0_pay21 k0_pay22 k0_pay23 k0_pay24 k0_pay25 k0_pay26
  rfl

/-- Group 0 of a chunk: its state afterwards. -/
def sPay0 (v90 : FVec Ideal S64x2048 .bf16) (v91 : FVec Ideal S1x2048 .f32) (vb : FVec Ideal S64x128 .f32)
    (vs : FVec Ideal S1x128x512 .f32) : FVec Ideal S1x128x512 .f32 :=
  k0_pay27 (F := Ideal) v90 v91 (k0_pay14 (F := Ideal) vb) (k0_pay17 (F := Ideal) vs)

theorem sPay0_eq (v90 : FVec Ideal S64x2048 .bf16) (v91 : FVec Ideal S1x2048 .f32) (vb : FVec Ideal S64x128 .f32)
    (vs : FVec Ideal S1x128x512 .f32) : sPay0 v90 v91 vb vs = sVec 0 v90 v91 vb vs := by
  unfold sPay0 k0_pay14 k0_pay17 k0_pay27
  rfl

/-- Group 1 of a chunk: its output. -/
def yPay1 (v5 : IVec S64x64 1) (v40 : FVec Ideal S1x2048 .f32) (v62 : FVec Ideal S64x2048 .f32) (v80 : FVec Ideal S32x64 .f32)
    (v82 : FVec Ideal S64x2048 .f32) (v84 : FVec Ideal S64x2048 .bf16) (v101 v103 : FVec Ideal S64x2048 .f32)
    (vb vc : FVec Ideal S64x128 .f32) (vs : FVec Ideal S1x128x512 .f32) : FVec Ideal S64x512 .bf16 :=
  k0_pay43 (F := Ideal) v40 v84 v101 v103 (k0_pay32 (F := Ideal) v82 vc vs) (k0_pay33 (F := Ideal) v5 v62 v80 v84 vb vc) (k0_pay34 (F := Ideal) v5 v62 v80 v84 vb vc) (k0_pay35 (F := Ideal) v5 v62 v80 v84 vb vc) (k0_pay38 (F := Ideal) v5 v84 (k0_pay30 (F := Ideal) vb vc) (k0_pay36 (F := Ideal) v62) (k0_pay37 (F := Ideal) v80)) (k0_pay39 (F := Ideal) v5 v62 v80 v84 (k0_pay30 (F := Ideal) vb vc)) (k0_pay40 (F := Ideal) v5 v62 v80 v84 (k0_pay30 (F := Ideal) vb vc)) (k0_pay41 (F := Ideal) v5 v62 v80 v84 (k0_pay30 (F := Ideal) vb vc)) (k0_pay42 (F := Ideal) v5 v62 v80 (k0_pay30 (F := Ideal) vb vc))

theorem yPay1_eq (v5 : IVec S64x64 1) (v40 : FVec Ideal S1x2048 .f32) (v62 : FVec Ideal S64x2048 .f32) (v80 : FVec Ideal S32x64 .f32)
    (v82 : FVec Ideal S64x2048 .f32) (v84 : FVec Ideal S64x2048 .bf16) (v101 v103 : FVec Ideal S64x2048 .f32)
    (vb vc : FVec Ideal S64x128 .f32) (vs : FVec Ideal S1x128x512 .f32) :
    yPay1 v5 v40 v62 v80 v82 v84 v101 v103 vb vc vs = yVec 1 v5 v40 v62 v80 v82 v84 v101 v103 vb vc vs := by
  unfold yPay1 k0_pay30 k0_pay32 k0_pay33 k0_pay34 k0_pay35 k0_pay36 k0_pay37 k0_pay38 k0_pay39 k0_pay40 k0_pay41 k0_pay42 k0_pay43
  rfl

/-- Group 1 of a chunk: its state afterwards. -/
def sPay1 (v90 : FVec Ideal S64x2048 .bf16) (v91 : FVec Ideal S1x2048 .f32) (vb : FVec Ideal S64x128 .f32)
    (vs : FVec Ideal S1x128x512 .f32) : FVec Ideal S1x128x512 .f32 :=
  k0_pay44 (F := Ideal) v90 v91 (k0_pay28 (F := Ideal) vb) (k0_pay31 (F := Ideal) vs)

theorem sPay1_eq (v90 : FVec Ideal S64x2048 .bf16) (v91 : FVec Ideal S1x2048 .f32) (vb : FVec Ideal S64x128 .f32)
    (vs : FVec Ideal S1x128x512 .f32) : sPay1 v90 v91 vb vs = sVec 1 v90 v91 vb vs := by
  unfold sPay1 k0_pay28 k0_pay31 k0_pay44
  rfl

/-- Group 2 of a chunk: its output. -/
def yPay2 (v5 : IVec S64x64 1) (v40 : FVec Ideal S1x2048 .f32) (v62 : FVec Ideal S64x2048 .f32) (v80 : FVec Ideal S32x64 .f32)
    (v82 : FVec Ideal S64x2048 .f32) (v84 : FVec Ideal S64x2048 .bf16) (v101 v103 : FVec Ideal S64x2048 .f32)
    (vb vc : FVec Ideal S64x128 .f32) (vs : FVec Ideal S1x128x512 .f32) : FVec Ideal S64x512 .bf16 :=
  k0_pay59 (F := Ideal) v40 (k0_pay56 (F := Ideal) v5 v62 v80 v84 v101 v103 (k0_pay47 (F := Ideal) vb vc) (k0_pay50 (F := Ideal) v82 (k0_pay46 (F := Ideal) vc) (k0_pay49 (F := Ideal) vs)) (k0_pay51 (F := Ideal) v5 v62 v80 v84 (k0_pay47 (F := Ideal) vb vc)) (k0_pay52 (F := Ideal) v5 v62 v80 v84 (k0_pay47 (F := Ideal) vb vc)) (k0_pay53 (F := Ideal) v5 v62 v80 v84 (k0_pay47 (F := Ideal) vb vc)) (k0_pay54 (F := Ideal) v5 v62 v80 v84 (k0_pay47 (F := Ideal) vb vc)) (k0_pay55 (F := Ideal) v62 v80)) (k0_pay57 (F := Ideal) v5 v62 v80 v84 v101 v103 (k0_pay47 (F := Ideal) vb vc) (k0_pay50 (F := Ideal) v82 (k0_pay46 (F := Ideal) vc) (k0_pay49 (F := Ideal) vs)) (k0_pay51 (F := Ideal) v5 v62 v80 v84 (k0_pay47 (F := Ideal) vb vc)) (k0_pay52 (F := Ideal) v5 v62 v80 v84 (k0_pay47 (F := Ideal) vb vc)) (k0_pay53 (F := Ideal) v5 v62 v80 v84 (k0_pay47 (F := Ideal) vb vc)) (k0_pay54 (F := Ideal) v5 v62 v80 v84 (k0_pay47 (F := Ideal) vb vc)) (k0_pay55 (F := Ideal) v62 v80)) (k0_pay58 (F := Ideal) )

theorem yPay2_eq (v5 : IVec S64x64 1) (v40 : FVec Ideal S1x2048 .f32) (v62 : FVec Ideal S64x2048 .f32) (v80 : FVec Ideal S32x64 .f32)
    (v82 : FVec Ideal S64x2048 .f32) (v84 : FVec Ideal S64x2048 .bf16) (v101 v103 : FVec Ideal S64x2048 .f32)
    (vb vc : FVec Ideal S64x128 .f32) (vs : FVec Ideal S1x128x512 .f32) :
    yPay2 v5 v40 v62 v80 v82 v84 v101 v103 vb vc vs = yVec 2 v5 v40 v62 v80 v82 v84 v101 v103 vb vc vs := by
  unfold yPay2 k0_pay46 k0_pay47 k0_pay49 k0_pay50 k0_pay51 k0_pay52 k0_pay53 k0_pay54 k0_pay55 k0_pay56 k0_pay57 k0_pay58 k0_pay59
  rfl

/-- Group 2 of a chunk: its state afterwards. -/
def sPay2 (v90 : FVec Ideal S64x2048 .bf16) (v91 : FVec Ideal S1x2048 .f32) (vb : FVec Ideal S64x128 .f32)
    (vs : FVec Ideal S1x128x512 .f32) : FVec Ideal S1x128x512 .f32 :=
  k0_pay60 (F := Ideal) v90 v91 (k0_pay45 (F := Ideal) vb) (k0_pay48 (F := Ideal) vs)

theorem sPay2_eq (v90 : FVec Ideal S64x2048 .bf16) (v91 : FVec Ideal S1x2048 .f32) (vb : FVec Ideal S64x128 .f32)
    (vs : FVec Ideal S1x128x512 .f32) : sPay2 v90 v91 vb vs = sVec 2 v90 v91 vb vs := by
  unfold sPay2 k0_pay45 k0_pay48 k0_pay60
  rfl

/-- Group 3 of a chunk: its output. -/
def yPay3 (v5 : IVec S64x64 1) (v40 : FVec Ideal S1x2048 .f32) (v62 : FVec Ideal S64x2048 .f32) (v80 : FVec Ideal S32x64 .f32)
    (v82 : FVec Ideal S64x2048 .f32) (v84 : FVec Ideal S64x2048 .bf16) (v101 v103 : FVec Ideal S64x2048 .f32)
    (vb vc : FVec Ideal S64x128 .f32) (vs : FVec Ideal S1x128x512 .f32) : FVec Ideal S64x512 .bf16 :=
  k0_pay74 (F := Ideal) v5 v40 v62 v80 v84 v101 v103 (k0_pay63 (F := Ideal) vb vc) (k0_pay65 (F := Ideal) v82 vc vs) (k0_pay68 (F := Ideal) (k0_pay66 (F := Ideal) v5 v62 v80 vb vc) (k0_pay67 (F := Ideal) v84)) (k0_pay69 (F := Ideal) v5 v62 v80 v84 (k0_pay63 (F := Ideal) vb vc)) (k0_pay70 (F := Ideal) v5 v62 v80 v84 (k0_pay63 (F := Ideal) vb vc)) (k0_pay71 (F := Ideal) v5 v62 v80 v84 (k0_pay63 (F := Ideal) vb vc)) (k0_pay72 (F := Ideal) v5 v62 v80 v84 (k0_pay63 (F := Ideal) vb vc)) (k0_pay73 (F := Ideal) v62 v80) (Scalar.ofBits .f32 0x00000000#32)

theorem yPay3_eq (v5 : IVec S64x64 1) (v40 : FVec Ideal S1x2048 .f32) (v62 : FVec Ideal S64x2048 .f32) (v80 : FVec Ideal S32x64 .f32)
    (v82 : FVec Ideal S64x2048 .f32) (v84 : FVec Ideal S64x2048 .bf16) (v101 v103 : FVec Ideal S64x2048 .f32)
    (vb vc : FVec Ideal S64x128 .f32) (vs : FVec Ideal S1x128x512 .f32) :
    yPay3 v5 v40 v62 v80 v82 v84 v101 v103 vb vc vs = yVec 3 v5 v40 v62 v80 v82 v84 v101 v103 vb vc vs := by
  unfold yPay3 k0_pay63 k0_pay65 k0_pay66 k0_pay67 k0_pay68 k0_pay69 k0_pay70 k0_pay71 k0_pay72 k0_pay73 k0_pay74
  rfl

/-- Group 3 of a chunk: its state afterwards. -/
def sPay3 (v90 : FVec Ideal S64x2048 .bf16) (v91 : FVec Ideal S1x2048 .f32) (vb : FVec Ideal S64x128 .f32)
    (vs : FVec Ideal S1x128x512 .f32) : FVec Ideal S1x128x512 .f32 :=
  k0_pay2 (F := Ideal) v90 v91 (k0_pay61 (F := Ideal) vb) (k0_pay64 (F := Ideal) vs)

theorem sPay3_eq (v90 : FVec Ideal S64x2048 .bf16) (v91 : FVec Ideal S1x2048 .f32) (vb : FVec Ideal S64x128 .f32)
    (vs : FVec Ideal S1x128x512 .f32) : sPay3 v90 v91 vb vs = sVec 3 v90 v91 vb vs := by
  unfold sPay3 k0_pay2 k0_pay61 k0_pay64
  rfl

end Cert.KernelIdeal.Value

end
-- ==== Proof.Ssd.Sums.lean ====
module

public import proofs.«01_k».proof.Proof.Ssd.Groups

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

/-- A word of one bit as a float is one or zero. -/
theorem sitofp_bit (p : Prop) [Decidable p] :
    (FloatOps.sitofp FTy.f32 (BitVec.setWidth 32 (if p then 1#1 else 0#1)) : Ideal .f32) = if p then (1 : EReal) else 0 := by
  split
  · show (((1#32 : BitVec 32).toInt : ℝ) : EReal) = 1
    norm_num
  · show (((0#32 : BitVec 32).toInt : ℝ) : EReal) = 0
    norm_num

theorem pay76_at (t s : Fin 64) : k0_pay76 (ix2 t s) = if s ≤ t then 1#1 else 0#1 := by
  pointwise [k0_pay76]
  revert t s
  decide +kernel

theorem pay78_at (s t : Fin 64) : k0_pay78 (F := Ideal) (ix2 s t) = if s ≤ t then (1 : EReal) else 0 := by
  pointwise [k0_pay78]
  rw [show IntOp.cmpi CmpIPredicate.sle (BitVec.ofNat 32 (s : ℕ)) (BitVec.ofNat 32 (t : ℕ)) = if s ≤ t then 1#1 else 0#1 from by
    revert s t; decide +kernel]
  exact sitofp_bit _

theorem pay77_at (t : Fin 64) (k : Fin 192) :
    k0_pay77 (F := Ideal) (ix2 t k) = if (k : ℕ) % 64 ≤ (t : ℕ) then (1 : EReal) else 0 := by
  pointwise [k0_pay77]
  rw [show (IntOp.cmpi CmpIPredicate.sge (BitVec.ofNat 32 (t : ℕ))
          (Scalar.select (IntOp.cmpi CmpIPredicate.sge (BitVec.ofNat 32 (k : ℕ)) 128#32)
            (IntOp.subi (BitVec.ofNat 32 (k : ℕ)) 128#32)
            (Scalar.select (IntOp.cmpi CmpIPredicate.sge (BitVec.ofNat 32 (k : ℕ)) 64#32)
              (IntOp.subi (BitVec.ofNat 32 (k : ℕ)) 64#32) (BitVec.ofNat 32 (k : ℕ))))) = if (k : ℕ) % 64 ≤ (t : ℕ) then 1#1 else 0#1 from by
    revert t k; decide +kernel]
  exact sitofp_bit _

/-- The second and third parts of a sum add nothing to a first part below `⊤`. -/
theorem parts (p : Prop) [Decidable p] (y : EReal) (hy : y ≠ ⊤) :
    (if p then (1 : EReal) else 0) * y + (if p then (1 : EReal) else 0) * (y - y)
      + (if p then (1 : EReal) else 0) * ((y - y) - (y - y)) = if p then y else 0 := by
  split
  · rw [one_mul, one_mul, one_mul]
    induction y with
    | bot => simp [sub_eq_add_neg]
    | top => exact absurd rfl hy
    | coe y =>
      have h : (y : EReal) - (y : EReal) = 0 := by rw [← EReal.coe_sub, sub_self, EReal.coe_zero]
      rw [h, sub_zero, add_zero, add_zero]
  · simp

theorem sum192 (f : Fin 192 → EReal) : ∑ k : Fin 192, f k
    = ∑ s : Fin 64, f ⟨(s : ℕ), by omega⟩ + ∑ s : Fin 64, f ⟨64 + (s : ℕ), by omega⟩
      + ∑ s : Fin 64, f ⟨128 + (s : ℕ), by omega⟩ := by
  rw [Fin.sum_univ_tiles 3 64 rfl f, Fin.sum_univ_three]
  refine congrArg₂ (· + ·) (congrArg₂ (· + ·) ?_ ?_) ?_
  all_goals refine Finset.sum_congr rfl fun s _ => congrArg f (Fin.ext ?_)
  · show 0 * 64 + (s : ℕ) = s; omega
  · show 1 * 64 + (s : ℕ) = 64 + s; omega
  · show 2 * 64 + (s : ℕ) = 128 + s; omega

/-- The kernel's log decay per column. -/
theorem pay5_at (v30 : FVec Ideal S1x2048 .f32) (v50 : FVec Ideal S64x2048 .f32) (t : Fin 64) (j : Fin 2048)
    (hy : ∀ s : Fin 64, v50 (ix2 s j) * v30 (ix2 0 j) ≠ ⊤) :
    k0_pay5 (F := Ideal) (k0_pay77 (F := Ideal)) v30 v50 (ix2 t j) = ∑ s : Fin 64, if s ≤ t then v50 (ix2 s j) * v30 (ix2 0 j) else 0 := by
  pointwise [k0_pay5, k0_pay4]
  rw [sum192, ← Finset.sum_add_distrib, ← Finset.sum_add_distrib]
  refine Finset.sum_congr rfl fun s _ => ?_
  rw [pay77_at, pay77_at, pay77_at, dif_pos s.isLt, dif_neg (by simp), dif_pos (by simp), dif_neg (by show ¬ (128 + (s : ℕ) < 64); omega), dif_neg (by show ¬ (128 + (s : ℕ) - 64 < 64); omega)]
  have e1 : (s : ℕ) % 64 = s := Nat.mod_eq_of_lt s.isLt
  have e2 : (64 + (s : ℕ)) % 64 = s := by omega
  have e3 : (128 + (s : ℕ)) % 64 = s := by omega
  have e4 : (⟨64 + (s : ℕ) - 64, by omega⟩ : Fin 64) = s := Fin.ext (by simp)
  have e5 : (⟨128 + (s : ℕ) - 64 - 64, by omega⟩ : Fin 64) = s := Fin.ext (by simp; omega)
  simp only [e1, e2, e3, e4, e5]
  exact parts ((s : ℕ) ≤ t) _ (hy s)

/-- The kernel's log decay per head. -/
theorem pay6_at (v36 : FVec Ideal S32x1 .f32) (v64 : FVec Ideal S4x1x8x64 .f32) (g : Fin 4) (r : Fin 8) (t : Fin 64)
    (hy : ∀ s : Fin 64, v64 (ix4 g 0 r s) * v36 (ix2 ⟨8 * (g : ℕ) + (r : ℕ), by omega⟩ 0) ≠ ⊤) :
    k0_pay6 (F := Ideal) (k0_pay78 (F := Ideal)) v36 v64 (ix2 ⟨8 * (g : ℕ) + (r : ℕ), by omega⟩ t)
      = ∑ s : Fin 64, if s ≤ t then v64 (ix4 g 0 r s) * v36 (ix2 ⟨8 * (g : ℕ) + (r : ℕ), by omega⟩ 0) else 0 := by
  pointwise [k0_pay6]
  rw [← Finset.sum_add_distrib, ← Finset.sum_add_distrib]
  refine Finset.sum_congr rfl fun s _ => ?_
  have e1 : (⟨(8 * (g : ℕ) + (r : ℕ)) / 8, by omega⟩ : Fin 4) = g := Fin.ext (by dsimp only; omega)
  have e2 : (⟨(8 * (g : ℕ) + (r : ℕ)) % 8, by omega⟩ : Fin 8) = r := Fin.ext (by dsimp only; omega)
  simp only [e1, e2, pay78_at]
  rw [← parts (s ≤ t) _ (hy s)]
  simp only [mul_comm]

theorem nonpos_rate (x : EReal) : 0 - Ideal.exp x ≤ 0 := by
  have h : 0 ≤ Ideal.exp x := by
    induction x with
    | bot => rw [Ideal.exp_bot]
    | top => rw [Ideal.exp_top]; exact le_top
    | coe x => rw [Ideal.exp_coe]; exact_mod_cast (Real.exp_pos x).le
  rw [zero_sub]
  rw [EReal.neg_le, neg_zero]; exact h

theorem mul_ne_top (d a : EReal) (hd : 0 ≤ d) (ha : a ≤ 0) : d * a ≠ ⊤ := by
  have h : d * a ≤ 0 := by
    rw [EReal.mul_nonpos_iff]
    exact Or.inl ⟨hd, ha⟩
  exact ne_top_of_le_ne_top EReal.zero_ne_top h

end Cert.KernelIdeal.Value

end
-- ==== Proof.Ssd.Group.lean ====
module

public import proofs.«01_k».proof.Proof.Ssd.Sums

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

/-- Column `q` of group `g` among the columns of a block. -/
def col (g : Fin 4) (q : Fin 512) : Fin 2048 := ⟨512 * (g : ℕ) + (q : ℕ), by omega⟩

/-- Column `p` of head `r`. -/
def hp (r : Fin 8) (p : Fin 64) : Fin 512 := ⟨64 * (r : ℕ) + (p : ℕ), by omega⟩

/-- Row of head `r` of group `g` among the heads of a block. -/
def hr (g : Fin 4) (r : Fin 8) : Fin 32 := ⟨8 * (g : ℕ) + (r : ℕ), by omega⟩

theorem hd_hp (r : Fin 8) (p : Fin 64) : hd (hp r p) = r := Fin.ext (by show (64 * (r : ℕ) + (p : ℕ)) / 64 = r; omega)
theorem pl_hp (r : Fin 8) (p : Fin 64) : pl (hp r p) = p := Fin.ext (by show (64 * (r : ℕ) + (p : ℕ)) % 64 = p; omega)
theorem hp_hd (q : Fin 512) : hp (hd q) (pl q) = q := Fin.ext (Nat.div_add_mod (q : ℕ) 64)

section
variable (g : Fin 4) (v48 v50 v93 : FVec Ideal S64x2048 .f32) (v64 : FVec Ideal S4x1x8x64 .f32)
  (v30 v38 v39 : FVec Ideal S1x2048 .f32) (v36 : FVec Ideal S32x1 .f32)
  (vb vc : FVec Ideal S64x128 .f32) (vs : FVec Ideal S1x128x512 .f32)
  (D : Fin 64 → Fin 8 → EReal) (a dsk : Fin 8 → EReal)
  (hD : ∀ s q, v50 (ix2 s (col g q)) = D s (hd q)) (ha : ∀ q, v30 (ix2 0 (col g q)) = a (hd q))
  (hDt : ∀ r s, v64 (ix4 g 0 r s) = D s r) (hat : ∀ r : Fin 8, v36 (ix2 (hr g r) 0) = a r)
  (hdsk : ∀ q, v38 (ix2 0 (col g q)) = dsk (hd q))
  (hD0 : ∀ s r, 0 ≤ D s r) (ha0 : ∀ r, a r ≤ 0)
include hD ha hD0 ha0

theorem pay5_cum (t : Fin 64) (q : Fin 512) :
    k0_pay5 (F := Ideal) (k0_pay77 (F := Ideal)) v30 v50 (ix2 t (col g q)) = cum D a t (hd q) := by
  rw [pay5_at]
  · simp only [hD, ha]; rfl
  · intro s; rw [hD, ha]; exact mul_ne_top _ _ (hD0 _ _) (ha0 _)

omit hD ha in
include hDt hat in
theorem pay6_cum (t : Fin 64) (r : Fin 8) :
    k0_pay6 (F := Ideal) (k0_pay78 (F := Ideal)) v36 v64 (ix2 (hr g r) t) = cum D a t r := by
  unfold hr at *
  rw [pay6_at]
  · simp only [hDt, hat]; rfl
  · intro s; rw [hDt, hat]; exact mul_ne_top _ _ (hD0 _ _) (ha0 _)

/-- A group's state after the chunk. -/
theorem state_eq (n : Fin 128) (q : Fin 512) :
    sVec g (k0_pay10 (F := Ideal) (k0_pay77 (F := Ideal)) v30 v48 v50) (k0_pay11 (F := Ideal) (k0_pay77 (F := Ideal)) v30 v50) vb vs (ix3 0 n q)
      = nextS D a (fun s r p => v48 (ix2 s (col g (hp r p)))) (fun s n => vb (ix2 s n))
          (fun r p n => vs (ix3 0 n (hp r p))) (hd q) (pl q) n := by
  have h5 := pay5_cum g v50 v30 D a hD ha hD0 ha0
  rw [sVec_at]
  change vs (ix3 0 n q) * k0_pay11 (F := Ideal) (k0_pay77 (F := Ideal)) v30 v50 (ix2 0 (col g q))
        + ∑ s : Fin 64, vb (ix2 s n) * k0_pay10 (F := Ideal) (k0_pay77 (F := Ideal)) v30 v48 v50 (ix2 s (col g q)) = _
  have e11 : k0_pay11 (F := Ideal) (k0_pay77 (F := Ideal)) v30 v50 (ix2 0 (col g q))
      = Ideal.exp (k0_pay5 (F := Ideal) (k0_pay77 (F := Ideal)) v30 v50 (ix2 63 (col g q))) := by
    pointwise [k0_pay11, k0_pay7]
  have e10 : ∀ s : Fin 64, k0_pay10 (F := Ideal) (k0_pay77 (F := Ideal)) v30 v48 v50 (ix2 s (col g q))
      = v48 (ix2 s (col g q)) * (Ideal.exp (k0_pay5 (F := Ideal) (k0_pay77 (F := Ideal)) v30 v50 (ix2 63 (col g q))
        - k0_pay5 (F := Ideal) (k0_pay77 (F := Ideal)) v30 v50 (ix2 s (col g q))) * v50 (ix2 s (col g q))) := by
    intro s
    pointwise [k0_pay10, k0_pay7, k0_pay4]
  simp only [e11, e10, h5, hD, nextS, hp_hd]

include hDt hat hdsk in
/-- A group's output in the chunk. -/
theorem out_eq (t : Fin 64) (q : Fin 512) :
    yVec g k0_pay76 (k0_pay1 (F := Ideal) v39) (k0_pay5 (F := Ideal) (k0_pay77 (F := Ideal)) v30 v50)
        (k0_pay6 (F := Ideal) (k0_pay78 (F := Ideal)) v36 v64) (k0_pay8 (F := Ideal) (k0_pay77 (F := Ideal)) v30 v50)
        (k0_pay9 (F := Ideal) v48 v50) (k0_pay12 (F := Ideal) v93) (k0_pay13 (F := Ideal) v38 v48) vb vc vs (ix2 t q)
      = normed (gated D a (fun s r p => v48 (ix2 s (col g (hp r p)))) (fun s n => vb (ix2 s n)) (fun s n => vc (ix2 s n))
          (fun r p n => vs (ix3 0 n (hp r p))) dsk (fun t q => v93 (ix2 t (col g q))))
          (fun q => v39 (ix2 0 (col g q))) t q := by
  have h5 := pay5_cum g v50 v30 D a hD ha hD0 ha0
  have h6 := pay6_cum g v64 v36 D a hDt hat hD0 ha0
  unfold yVec
  rw [normV_at]
  refine congrArg₂ (fun G w => normed G w t q) ?_ ?_
  · funext t q
    rw [rawV_at, carryV_at _ _ (by omega)]
    rw [headV_at _ _ _ _ (by have := (hd q).isLt; omega) (by have := (hd q).isLt; omega)]
    have e8 : ∀ (t : Fin 64) (j : Fin 2048), k0_pay8 (F := Ideal) (k0_pay77 (F := Ideal)) v30 v50 (ix2 t j)
        = Ideal.exp (k0_pay5 (F := Ideal) (k0_pay77 (F := Ideal)) v30 v50 (ix2 t j)) := fun _ _ => rfl
    have e9 : ∀ (t : Fin 64) (j : Fin 2048), k0_pay9 (F := Ideal) v48 v50 (ix2 t j)
        = v48 (ix2 t j) * v50 (ix2 t j) := fun t j => by pointwise [k0_pay9, k0_pay4]
    have e12 : ∀ (t : Fin 64) (j : Fin 2048), k0_pay12 (F := Ideal) v93 (ix2 t j)
        = gate (v93 (ix2 t j)) := fun t j => by pointwise [k0_pay12, gate]
    have e13 : ∀ (t : Fin 64) (j : Fin 2048), k0_pay13 (F := Ideal) v38 v48 (ix2 t j)
        = v38 (ix2 0 j) * v48 (ix2 t j) := fun t j => by pointwise [k0_pay13]
    have ec : ∀ (v : FVec Ideal S64x2048 .f32), extractStridedSlice S64x512 ![0, 512 * (g : ℕ)] v (slices_group g) (ix2 t q)
        = v (ix2 t (col g q)) := fun v => by pointwise; rfl
    have eh : ∀ p : Fin 64, (⟨512 * (g : ℕ) + 64 * (hd q : ℕ) + (p : ℕ), by have := (hd q).isLt; omega⟩ : Fin 2048)
        = col g (hp (hd q) p) := fun p => Fin.ext (by show _ = 512 * (g : ℕ) + (64 * (hd q : ℕ) + (p : ℕ)); dsimp only; omega)
    have er : (⟨8 * (g : ℕ) + (hd q : ℕ), by have := (hd q).isLt; omega⟩ : Fin 32) = hr g (hd q) := rfl
    have es : ∀ (s : Fin 64) (x : EReal), (Scalar.select (k0_pay76 (ix2 t s)) x 0 : EReal) = if s ≤ t then x else 0 := by
      intro s x
      rw [pay76_at]
      split <;> rfl
    have eq' : (⟨512 * (g : ℕ) + (q : ℕ), by omega⟩ : Fin 2048) = col g q := rfl
    simp only [ec, eh, es, er, eq', e8, e9, e12, e13, h5, h6, hD, hdsk, cbV_at, hd_hp, hp_hd, gated, raw, Ssd.inner, att]
  · funext q
    pointwise [k0_pay1]
    rfl

end

end Cert.KernelIdeal.Value

end
-- ==== Proof.Ssd.Trip.lean ====
module

public import proofs.«01_k».proof.Proof.Ssd.Group
public import proofs.«01_k».proof.Proof.Gen.KernelIdeal.Loops

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

theorem off1_eq (k : Fin k0_t1_loop.trips) : k0_off1 k = ![64 * (k : ℕ), 0] := by revert k; decide +kernel
theorem off2_eq (k : Fin k0_t1_loop.trips) : k0_off2 k = ![0, (k : ℕ), 0, 0] := by revert k; decide +kernel
theorem off3_eq (k : Fin k0_t1_loop.trips) : k0_off3 k = ![64 * (k : ℕ), 0] := by revert k; decide +kernel
theorem off4_eq (k : Fin k0_t1_loop.trips) : k0_off4 k = ![64 * (k : ℕ), 0] := by revert k; decide +kernel
theorem off5_eq (k : Fin k0_t1_loop.trips) : k0_off5 k = ![64 * (k : ℕ), 128] := by revert k; decide +kernel
theorem off6_eq (k : Fin k0_t1_loop.trips) : k0_off6 k = ![64 * (k : ℕ), 512] := by revert k; decide +kernel
theorem off7_eq (k : Fin k0_t1_loop.trips) : k0_off7 k = ![64 * (k : ℕ), 256] := by revert k; decide +kernel
theorem off8_eq (k : Fin k0_t1_loop.trips) : k0_off8 k = ![64 * (k : ℕ), 1024] := by revert k; decide +kernel
theorem off9_eq (k : Fin k0_t1_loop.trips) : k0_off9 k = ![64 * (k : ℕ), 384] := by revert k; decide +kernel
theorem off10_eq (k : Fin k0_t1_loop.trips) : k0_off10 k = ![64 * (k : ℕ), 1536] := by revert k; decide +kernel

theorem trip_state (𝒱 : Variants) (c : Dev nD) (bd : Option 𝒱.V) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (v5 : IVec S64x64 1) (v21 : FVec Ideal S64x192 .bf16) (v25 : FVec Ideal S64x64 .bf16) (v30 : FVec Ideal S1x2048 .f32) (v36 : FVec Ideal S32x1 .f32) (v38 : FVec Ideal S1x2048 .f32) (v39 : Vec Ideal S1x2048 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f14 : BufTy.Contents (Elt Ideal) arg14.view.ty) (f16 : BufTy.Contents (Elt Ideal) arg16.view.ty) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v5 v21 v25 v30 v36 v38 v39 X_arg3 X_arg4 X_arg5 X_arg6 X_arg7 X_arg8 k).2.1 f14 f16 = [
      ⟨Rect.unit (s := S4x128x512) ![3, 0, 0] S1x128x512.size (by decide), sPay3 (k0_pay10 (F := Ideal) v21 v30 (arg3.view.readAt (Elt Ideal) (Rect.unit (s := S512x2048) (k0_off1 k) S64x2048.size (k0_off1_inb k)).toLoadRect X_arg3) (arg7.view.readAt (Elt Ideal) (Rect.unit (s := S512x2048) (k0_off1 k) S64x2048.size (k0_off1_inb k)).toLoadRect X_arg7)) (k0_pay11 (F := Ideal) v21 v30 (arg7.view.readAt (Elt Ideal) (Rect.unit (s := S512x2048) (k0_off1 k) S64x2048.size (k0_off1_inb k)).toLoadRect X_arg7)) (arg4.view.readAt (Elt Ideal) (Rect.unit (s := S512x512) (k0_off9 k) S64x128.size (k0_off9_inb k)).toLoadRect X_arg4) (arg16.view.readAt (Elt Ideal) (Rect.unit (s := S4x128x512) ![3, 0, 0] S1x128x512.size (by decide)).toLoadRect f16)⟩,
      ⟨Rect.unit (s := S4x128x512) ![2, 0, 0] S1x128x512.size (by decide), sPay2 (k0_pay10 (F := Ideal) v21 v30 (arg3.view.readAt (Elt Ideal) (Rect.unit (s := S512x2048) (k0_off1 k) S64x2048.size (k0_off1_inb k)).toLoadRect X_arg3) (arg7.view.readAt (Elt Ideal) (Rect.unit (s := S512x2048) (k0_off1 k) S64x2048.size (k0_off1_inb k)).toLoadRect X_arg7)) (k0_pay11 (F := Ideal) v21 v30 (arg7.view.readAt (Elt Ideal) (Rect.unit (s := S512x2048) (k0_off1 k) S64x2048.size (k0_off1_inb k)).toLoadRect X_arg7)) (arg4.view.readAt (Elt Ideal) (Rect.unit (s := S512x512) (k0_off7 k) S64x128.size (k0_off7_inb k)).toLoadRect X_arg4) (arg16.view.readAt (Elt Ideal) (Rect.unit (s := S4x128x512) ![2, 0, 0] S1x128x512.size (by decide)).toLoadRect f16)⟩,
      ⟨Rect.unit (s := S4x128x512) ![1, 0, 0] S1x128x512.size (by decide), sPay1 (k0_pay10 (F := Ideal) v21 v30 (arg3.view.readAt (Elt Ideal) (Rect.unit (s := S512x2048) (k0_off1 k) S64x2048.size (k0_off1_inb k)).toLoadRect X_arg3) (arg7.view.readAt (Elt Ideal) (Rect.unit (s := S512x2048) (k0_off1 k) S64x2048.size (k0_off1_inb k)).toLoadRect X_arg7)) (k0_pay11 (F := Ideal) v21 v30 (arg7.view.readAt (Elt Ideal) (Rect.unit (s := S512x2048) (k0_off1 k) S64x2048.size (k0_off1_inb k)).toLoadRect X_arg7)) (arg4.view.readAt (Elt Ideal) (Rect.unit (s := S512x512) (k0_off5 k) S64x128.size (k0_off5_inb k)).toLoadRect X_arg4) (arg16.view.readAt (Elt Ideal) (Rect.unit (s := S4x128x512) ![1, 0, 0] S1x128x512.size (by decide)).toLoadRect f16)⟩,
      ⟨Rect.unit (s := S4x128x512) ![0, 0, 0] S1x128x512.size (by decide), sPay0 (k0_pay10 (F := Ideal) v21 v30 (arg3.view.readAt (Elt Ideal) (Rect.unit (s := S512x2048) (k0_off1 k) S64x2048.size (k0_off1_inb k)).toLoadRect X_arg3) (arg7.view.readAt (Elt Ideal) (Rect.unit (s := S512x2048) (k0_off1 k) S64x2048.size (k0_off1_inb k)).toLoadRect X_arg7)) (k0_pay11 (F := Ideal) v21 v30 (arg7.view.readAt (Elt Ideal) (Rect.unit (s := S512x2048) (k0_off1 k) S64x2048.size (k0_off1_inb k)).toLoadRect X_arg7)) (arg4.view.readAt (Elt Ideal) (Rect.unit (s := S512x512) (k0_off3 k) S64x128.size (k0_off3_inb k)).toLoadRect X_arg4) (arg16.view.readAt (Elt Ideal) (Rect.unit (s := S4x128x512) ![0, 0, 0] S1x128x512.size (by decide)).toLoadRect f16)⟩] := by
  unfold trip_k0_t1
  rfl

theorem trip_out (𝒱 : Variants) (c : Dev nD) (bd : Option 𝒱.V) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (v5 : IVec S64x64 1) (v21 : FVec Ideal S64x192 .bf16) (v25 : FVec Ideal S64x64 .bf16) (v30 : FVec Ideal S1x2048 .f32) (v36 : FVec Ideal S32x1 .f32) (v38 : FVec Ideal S1x2048 .f32) (v39 : Vec Ideal S1x2048 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin k0_t1_loop.trips) (f14 : BufTy.Contents (Elt Ideal) arg14.view.ty) (f16 : BufTy.Contents (Elt Ideal) arg16.view.ty) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v5 v21 v25 v30 v36 v38 v39 X_arg3 X_arg4 X_arg5 X_arg6 X_arg7 X_arg8 k).1 f14 f16 = [
      ⟨Rect.unit (s := S512x2048) (k0_off10 k) S64x512.size (k0_off10_inb k), yPay3 v5 (k0_pay1 (F := Ideal) v39) (k0_pay5 (F := Ideal) v21 v30 (arg7.view.readAt (Elt Ideal) (Rect.unit (s := S512x2048) (k0_off1 k) S64x2048.size (k0_off1_inb k)).toLoadRect X_arg7)) (k0_pay6 (F := Ideal) v25 v36 (arg8.view.readAt (Elt Ideal) (Rect.unit (s := S4x8x8x64) (k0_off2 k) S4x1x8x64.size (k0_off2_inb k)).toLoadRect X_arg8)) (k0_pay8 (F := Ideal) v21 v30 (arg7.view.readAt (Elt Ideal) (Rect.unit (s := S512x2048) (k0_off1 k) S64x2048.size (k0_off1_inb k)).toLoadRect X_arg7)) (k0_pay9 (F := Ideal) (arg3.view.readAt (Elt Ideal) (Rect.unit (s := S512x2048) (k0_off1 k) S64x2048.size (k0_off1_inb k)).toLoadRect X_arg3) (arg7.view.readAt (Elt Ideal) (Rect.unit (s := S512x2048) (k0_off1 k) S64x2048.size (k0_off1_inb k)).toLoadRect X_arg7)) (k0_pay12 (F := Ideal) (arg6.view.readAt (Elt Ideal) (Rect.unit (s := S512x2048) (k0_off1 k) S64x2048.size (k0_off1_inb k)).toLoadRect X_arg6)) (k0_pay13 (F := Ideal) v38 (arg3.view.readAt (Elt Ideal) (Rect.unit (s := S512x2048) (k0_off1 k) S64x2048.size (k0_off1_inb k)).toLoadRect X_arg3)) (arg4.view.readAt (Elt Ideal) (Rect.unit (s := S512x512) (k0_off9 k) S64x128.size (k0_off9_inb k)).toLoadRect X_arg4) (arg5.view.readAt (Elt Ideal) (Rect.unit (s := S512x512) (k0_off9 k) S64x128.size (k0_off9_inb k)).toLoadRect X_arg5) (arg16.view.readAt (Elt Ideal) (Rect.unit (s := S4x128x512) ![3, 0, 0] S1x128x512.size (by decide)).toLoadRect f16)⟩,
      ⟨Rect.unit (s := S512x2048) (k0_off8 k) S64x512.size (k0_off8_inb k), yPay2 v5 (k0_pay1 (F := Ideal) v39) (k0_pay5 (F := Ideal) v21 v30 (arg7.view.readAt (Elt Ideal) (Rect.unit (s := S512x2048) (k0_off1 k) S64x2048.size (k0_off1_inb k)).toLoadRect X_arg7)) (k0_pay6 (F := Ideal) v25 v36 (arg8.view.readAt (Elt Ideal) (Rect.unit (s := S4x8x8x64) (k0_off2 k) S4x1x8x64.size (k0_off2_inb k)).toLoadRect X_arg8)) (k0_pay8 (F := Ideal) v21 v30 (arg7.view.readAt (Elt Ideal) (Rect.unit (s := S512x2048) (k0_off1 k) S64x2048.size (k0_off1_inb k)).toLoadRect X_arg7)) (k0_pay9 (F := Ideal) (arg3.view.readAt (Elt Ideal) (Rect.unit (s := S512x2048) (k0_off1 k) S64x2048.size (k0_off1_inb k)).toLoadRect X_arg3) (arg7.view.readAt (Elt Ideal) (Rect.unit (s := S512x2048) (k0_off1 k) S64x2048.size (k0_off1_inb k)).toLoadRect X_arg7)) (k0_pay12 (F := Ideal) (arg6.view.readAt (Elt Ideal) (Rect.unit (s := S512x2048) (k0_off1 k) S64x2048.size (k0_off1_inb k)).toLoadRect X_arg6)) (k0_pay13 (F := Ideal) v38 (arg3.view.readAt (Elt Ideal) (Rect.unit (s := S512x2048) (k0_off1 k) S64x2048.size (k0_off1_inb k)).toLoadRect X_arg3)) (arg4.view.readAt (Elt Ideal) (Rect.unit (s := S512x512) (k0_off7 k) S64x128.size (k0_off7_inb k)).toLoadRect X_arg4) (arg5.view.readAt (Elt Ideal) (Rect.unit (s := S512x512) (k0_off7 k) S64x128.size (k0_off7_inb k)).toLoadRect X_arg5) (arg16.view.readAt (Elt Ideal) (Rect.unit (s := S4x128x512) ![2, 0, 0] S1x128x512.size (by decide)).toLoadRect f16)⟩,
      ⟨Rect.unit (s := S512x2048) (k0_off6 k) S64x512.size (k0_off6_inb k), yPay1 v5 (k0_pay1 (F := Ideal) v39) (k0_pay5 (F := Ideal) v21 v30 (arg7.view.readAt (Elt Ideal) (Rect.unit (s := S512x2048) (k0_off1 k) S64x2048.size (k0_off1_inb k)).toLoadRect X_arg7)) (k0_pay6 (F := Ideal) v25 v36 (arg8.view.readAt (Elt Ideal) (Rect.unit (s := S4x8x8x64) (k0_off2 k) S4x1x8x64.size (k0_off2_inb k)).toLoadRect X_arg8)) (k0_pay8 (F := Ideal) v21 v30 (arg7.view.readAt (Elt Ideal) (Rect.unit (s := S512x2048) (k0_off1 k) S64x2048.size (k0_off1_inb k)).toLoadRect X_arg7)) (k0_pay9 (F := Ideal) (arg3.view.readAt (Elt Ideal) (Rect.unit (s := S512x2048) (k0_off1 k) S64x2048.size (k0_off1_inb k)).toLoadRect X_arg3) (arg7.view.readAt (Elt Ideal) (Rect.unit (s := S512x2048) (k0_off1 k) S64x2048.size (k0_off1_inb k)).toLoadRect X_arg7)) (k0_pay12 (F := Ideal) (arg6.view.readAt (Elt Ideal) (Rect.unit (s := S512x2048) (k0_off1 k) S64x2048.size (k0_off1_inb k)).toLoadRect X_arg6)) (k0_pay13 (F := Ideal) v38 (arg3.view.readAt (Elt Ideal) (Rect.unit (s := S512x2048) (k0_off1 k) S64x2048.size (k0_off1_inb k)).toLoadRect X_arg3)) (arg4.view.readAt (Elt Ideal) (Rect.unit (s := S512x512) (k0_off5 k) S64x128.size (k0_off5_inb k)).toLoadRect X_arg4) (arg5.view.readAt (Elt Ideal) (Rect.unit (s := S512x512) (k0_off5 k) S64x128.size (k0_off5_inb k)).toLoadRect X_arg5) (arg16.view.readAt (Elt Ideal) (Rect.unit (s := S4x128x512) ![1, 0, 0] S1x128x512.size (by decide)).toLoadRect f16)⟩,
      ⟨Rect.unit (s := S512x2048) (k0_off4 k) S64x512.size (k0_off4_inb k), yPay0 v5 (k0_pay1 (F := Ideal) v39) (k0_pay5 (F := Ideal) v21 v30 (arg7.view.readAt (Elt Ideal) (Rect.unit (s := S512x2048) (k0_off1 k) S64x2048.size (k0_off1_inb k)).toLoadRect X_arg7)) (k0_pay6 (F := Ideal) v25 v36 (arg8.view.readAt (Elt Ideal) (Rect.unit (s := S4x8x8x64) (k0_off2 k) S4x1x8x64.size (k0_off2_inb k)).toLoadRect X_arg8)) (k0_pay8 (F := Ideal) v21 v30 (arg7.view.readAt (Elt Ideal) (Rect.unit (s := S512x2048) (k0_off1 k) S64x2048.size (k0_off1_inb k)).toLoadRect X_arg7)) (k0_pay9 (F := Ideal) (arg3.view.readAt (Elt Ideal) (Rect.unit (s := S512x2048) (k0_off1 k) S64x2048.size (k0_off1_inb k)).toLoadRect X_arg3) (arg7.view.readAt (Elt Ideal) (Rect.unit (s := S512x2048) (k0_off1 k) S64x2048.size (k0_off1_inb k)).toLoadRect X_arg7)) (k0_pay12 (F := Ideal) (arg6.view.readAt (Elt Ideal) (Rect.unit (s := S512x2048) (k0_off1 k) S64x2048.size (k0_off1_inb k)).toLoadRect X_arg6)) (k0_pay13 (F := Ideal) v38 (arg3.view.readAt (Elt Ideal) (Rect.unit (s := S512x2048) (k0_off1 k) S64x2048.size (k0_off1_inb k)).toLoadRect X_arg3)) (arg4.view.readAt (Elt Ideal) (Rect.unit (s := S512x512) (k0_off3 k) S64x128.size (k0_off3_inb k)).toLoadRect X_arg4) (arg5.view.readAt (Elt Ideal) (Rect.unit (s := S512x512) (k0_off3 k) S64x128.size (k0_off3_inb k)).toLoadRect X_arg5) (arg16.view.readAt (Elt Ideal) (Rect.unit (s := S4x128x512) ![0, 0, 0] S1x128x512.size (by decide)).toLoadRect f16)⟩] := by
  unfold trip_k0_t1
  rfl

end Cert.KernelIdeal.Value

end
-- ==== Proof.Ssd.Block.lean ====
module

public import proofs.«01_k».proof.Proof.Ssd.Trip
import Idealize.ShloMosaic.Lib.VecWindow

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

/-- Row `s` of chunk `k` of a block. -/
def row (k : Fin 8) (s : Fin 64) : Fin 512 := ⟨64 * (k : ℕ) + (s : ℕ), by omega⟩

/-- Projection column `n` of group `g` of a block. -/
def gn (g : Fin 4) (n : Fin 128) : Fin 512 := ⟨128 * (g : ℕ) + (n : ℕ), by omega⟩

theorem trips_eq : k0_t1_loop.trips = 8 := by decide +kernel

/-- A trip as one of eight. -/
def k8 (k : Fin k0_t1_loop.trips) : Fin 8 := ⟨k, Nat.lt_of_lt_of_eq k.isLt trips_eq⟩

theorem ld7 (k : ℕ) (arg : Memref sig .tc .vmem S512x2048 .f32) (X : BufTy.Contents (Elt Ideal) arg.view.ty) (off : Fin 2 → ℕ)
    (h : off = ![64 * k, 0]) (inb : ∀ a, off a + S64x2048.size a ≤ S512x2048.size a) (s : Fin 64) (j : Fin 2048) :
    arg.view.readAt (Elt Ideal) (Rect.unit (s := S512x2048) off S64x2048.size inb).toLoadRect X (ix2 s j)
      = arg.view.read (Elt Ideal) X (ix2 ⟨64 * k + (s : ℕ), by subst h; have := inb 0; change 64 * k + 64 ≤ 512 at this; omega⟩ j) := by
  subst h
  refine congrArg (arg.view.read (Elt Ideal) X) (funext fun a => Fin.ext ?_)
  fin_cases a
  · show 64 * k + 1 * (s : ℕ) = 64 * k + (s : ℕ); omega
  · show 0 + 1 * (j : ℕ) = (j : ℕ); omega

theorem ldB (k g : ℕ) (arg : Memref sig .tc .vmem S512x512 .f32) (X : BufTy.Contents (Elt Ideal) arg.view.ty) (off : Fin 2 → ℕ)
    (h : off = ![64 * k, 128 * g]) (inb : ∀ a, off a + S64x128.size a ≤ S512x512.size a) (s : Fin 64) (n : Fin 128) :
    arg.view.readAt (Elt Ideal) (Rect.unit (s := S512x512) off S64x128.size inb).toLoadRect X (ix2 s n)
      = arg.view.read (Elt Ideal) X (ix2 ⟨64 * k + (s : ℕ), by subst h; have := inb 0; change 64 * k + 64 ≤ 512 at this; omega⟩
          ⟨128 * g + (n : ℕ), by subst h; have := inb 1; change 128 * g + 128 ≤ 512 at this; omega⟩) := by
  subst h
  refine congrArg (arg.view.read (Elt Ideal) X) (funext fun a => Fin.ext ?_)
  fin_cases a
  · show 64 * k + 1 * (s : ℕ) = 64 * k + (s : ℕ); omega
  · show 128 * g + 1 * (n : ℕ) = 128 * g + (n : ℕ); omega

theorem ld8 (k : ℕ) (arg : Memref sig .tc .vmem S4x8x8x64 .f32) (X : BufTy.Contents (Elt Ideal) arg.view.ty) (off : Fin 4 → ℕ)
    (h : off = ![0, k, 0, 0]) (inb : ∀ a, off a + S4x1x8x64.size a ≤ S4x8x8x64.size a) (g : Fin 4) (r : Fin 8) (s : Fin 64) :
    arg.view.readAt (Elt Ideal) (Rect.unit (s := S4x8x8x64) off S4x1x8x64.size inb).toLoadRect X (ix4 g 0 r s)
      = arg.view.read (Elt Ideal) X (ix4 g ⟨k, by subst h; have := inb 1; change k + 1 ≤ 8 at this; omega⟩ r s) := by
  subst h
  refine congrArg (arg.view.read (Elt Ideal) X) (funext fun a => Fin.ext ?_)
  fin_cases a
  · show 0 + 1 * (g : ℕ) = (g : ℕ); omega
  · show k + 1 * 0 = k; omega
  · show 0 + 1 * (r : ℕ) = (r : ℕ); omega
  · show 0 + 1 * (s : ℕ) = (s : ℕ); omega

theorem ldS (g : Fin 4) (arg : Memref sig .tc .vmem S4x128x512 .f32) (X : BufTy.Contents (Elt Ideal) arg.view.ty)
    (inb : ∀ a, ![(g : ℕ), 0, 0] a + S1x128x512.size a ≤ S4x128x512.size a) (n : Fin 128) (q : Fin 512) :
    arg.view.readAt (Elt Ideal) (Rect.unit (s := S4x128x512) ![(g : ℕ), 0, 0] S1x128x512.size inb).toLoadRect X (ix3 0 n q)
      = arg.view.read (Elt Ideal) X (ix3 g n q) := by
  refine congrArg (arg.view.read (Elt Ideal) X) (funext fun a => Fin.ext ?_)
  fin_cases a
  · show (g : ℕ) + 1 * 0 = (g : ℕ); omega
  · show 0 + 1 * (n : ℕ) = (n : ℕ); omega
  · show 0 + 1 * (q : ℕ) = (q : ℕ); omega

theorem nextS_congr {D : Fin 64 → Fin 8 → EReal} {a : Fin 8 → EReal} {X X' : Fin 64 → Fin 8 → Fin 64 → EReal}
    {B B' : Fin 64 → Fin 128 → EReal} {S S' : Fin 8 → Fin 64 → Fin 128 → EReal} (hX : ∀ s r p, X s r p = X' s r p)
    (hB : ∀ s n, B s n = B' s n) (hS : ∀ r p n, S r p n = S' r p n) (r : Fin 8) (p : Fin 64) (n : Fin 128) :
    nextS D a X B S r p n = nextS D a X' B' S' r p n := by
  rw [show X = X' from by funext s r p; exact hX s r p, show B = B' from by funext s n; exact hB s n,
    show S = S' from by funext r p n; exact hS r p n]

theorem gated_congr {D : Fin 64 → Fin 8 → EReal} {a : Fin 8 → EReal} {X X' : Fin 64 → Fin 8 → Fin 64 → EReal}
    {B B' C C' : Fin 64 → Fin 128 → EReal} {S S' : Fin 8 → Fin 64 → Fin 128 → EReal} {dsk : Fin 8 → EReal}
    {Z Z' : Fin 64 → Fin 512 → EReal} (hX : ∀ s r p, X s r p = X' s r p)
    (hB : ∀ s n, B s n = B' s n) (hC : ∀ s n, C s n = C' s n) (hS : ∀ r p n, S r p n = S' r p n)
    (hZ : ∀ s q, Z s q = Z' s q) : gated D a X B C S dsk Z = gated D a X' B' C' S' dsk Z' := by
  rw [show X = X' from by funext s r p; exact hX s r p, show B = B' from by funext s n; exact hB s n,
    show C = C' from by funext s n; exact hC s n, show S = S' from by funext r p n; exact hS r p n,
    show Z = Z' from by funext s q; exact hZ s q]

theorem normed_congr {G G' : Fin 64 → Fin 512 → EReal} {w w' : Fin 512 → EReal} (hG : G = G') (hw : ∀ q, w q = w' q)
    (t : Fin 64) (q : Fin 512) : normed G w t q = normed G' w' t q := by
  rw [hG, show w = w' from funext hw]

section
variable (𝒱 : Variants) (c : Dev nD) (bd : Option 𝒱.V) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (v30 : FVec Ideal S1x2048 .f32) (v36 : FVec Ideal S32x1 .f32) (v38 : FVec Ideal S1x2048 .f32) (v39 : Vec Ideal S1x2048 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
  (D : ℕ → Fin 4 → Fin 64 → Fin 8 → EReal) (a : Fin 4 → Fin 8 → EReal) (X : ℕ → Fin 4 → Fin 64 → Fin 8 → Fin 64 → EReal)
  (B C : ℕ → Fin 4 → Fin 64 → Fin 128 → EReal) (Z : ℕ → Fin 4 → Fin 64 → Fin 512 → EReal)
  (S : ℕ → Fin 4 → Fin 8 → Fin 64 → Fin 128 → EReal) (dsk : Fin 4 → Fin 8 → EReal) (w : Fin 4 → Fin 512 → EReal)
  (h3 : ∀ (k : Fin 8) (g : Fin 4) (s : Fin 64) (q : Fin 512), arg3.view.read (Elt Ideal) X_arg3 (ix2 (row k s) (col g q)) = X k g s (hd q) (pl q))
  (h4 : ∀ (k : Fin 8) (g : Fin 4) (s : Fin 64) (n : Fin 128), arg4.view.read (Elt Ideal) X_arg4 (ix2 (row k s) (gn g n)) = B k g s n)
  (h5 : ∀ (k : Fin 8) (g : Fin 4) (s : Fin 64) (n : Fin 128), arg5.view.read (Elt Ideal) X_arg5 (ix2 (row k s) (gn g n)) = C k g s n)
  (h6 : ∀ (k : Fin 8) (g : Fin 4) (s : Fin 64) (q : Fin 512), arg6.view.read (Elt Ideal) X_arg6 (ix2 (row k s) (col g q)) = Z k g s q)
  (h7 : ∀ (k : Fin 8) (g : Fin 4) (s : Fin 64) (q : Fin 512), arg7.view.read (Elt Ideal) X_arg7 (ix2 (row k s) (col g q)) = D k g s (hd q))
  (h8 : ∀ (k : Fin 8) (g : Fin 4) (s : Fin 64) (r : Fin 8), arg8.view.read (Elt Ideal) X_arg8 (ix4 g k r s) = D k g s r)
  (h30 : ∀ (g : Fin 4) (q : Fin 512), v30 (ix2 0 (col g q)) = a g (hd q))
  (h36 : ∀ (g : Fin 4) (r : Fin 8), v36 (ix2 (hr g r) 0) = a g r)
  (h38 : ∀ (g : Fin 4) (q : Fin 512), v38 (ix2 0 (col g q)) = dsk g (hd q))
  (h39 : ∀ (g : Fin 4) (q : Fin 512), v39 (ix2 0 (col g q)) = w g q)
  (hD0 : ∀ (k : Fin 8) (g : Fin 4) (s : Fin 64) (r : Fin 8), 0 ≤ D k g s r) (ha0 : ∀ (g : Fin 4) (r : Fin 8), a g r ≤ 0)
  (hS : ∀ (k : Fin 8) (g : Fin 4), S (k + 1) g = nextS (D k g) (a g) (X k g) (B k g) (S k g))

include h3 h4 h5 h6 h7 h8 h30 h36 h38 h39 hD0 ha0 hS

theorem trip_state_at (k : Fin k0_t1_loop.trips) (f14 g14 : BufTy.Contents (Elt Ideal) arg14.view.ty) (f16 : BufTy.Contents (Elt Ideal) arg16.view.ty)
    (hst : ∀ (g : Fin 4) (n : Fin 128) (q : Fin 512), arg16.view.read (Elt Ideal) f16 (ix3 g n q) = S k g (hd q) (pl q) n) (g : Fin 4) (n : Fin 128) (q : Fin 512) :
    arg16.view.read (Elt Ideal) (arg16.view.writes (Elt Ideal) f16 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) v30 v36 v38 v39 X_arg3 X_arg4 X_arg5 X_arg6 X_arg7 X_arg8 k).2.1 f14 f16)) (ix3 g n q)
      = S (k + 1) g (hd q) (pl q) n := by
  rw [trip_state]
  fin_cases g
  · show arg16.view.read (Elt Ideal) _ (ix3 (0 : Fin 4) n q) = S (k + 1) 0 (hd q) (pl q) n
    rw [View.read_writes_cons_miss_of_axis _ _ _ _ _ 0 3 1 rfl rfl rfl (by left; show 0 < 3; omega)]
    rw [View.read_writes_cons_miss_of_axis _ _ _ _ _ 0 2 1 rfl rfl rfl (by left; show 0 < 2; omega)]
    rw [View.read_writes_cons_miss_of_axis _ _ _ _ _ 0 1 1 rfl rfl rfl (by left; show 0 < 1; omega)]
    rw [View.read_writes_cons_hit_of_coords (s := S4x128x512) _ _ _ _ _ (ix3 (0 : Fin 1) n q) _ (by
      intro a; fin_cases a
      · rfl
      · show (n : ℕ) = 0 + 1 * (n : ℕ); omega
      · show (q : ℕ) = 0 + 1 * (q : ℕ); omega)]
    rw [sPay0_eq, state_eq 0 _ _ _ _ _ (D k 0) (a 0) (fun s q => (ld7 k.val _ _ _ (off1_eq k) _ s _).trans (h7 (k8 k) 0 s q)) (h30 0) (hD0 (k8 k) 0) (ha0 0), show S ((k : ℕ) + 1) 0 = _ from hS (k8 k) 0]
    refine nextS_congr ?_ ?_ ?_ _ _ _
    · intro s r p
      exact (ld7 k.val _ _ _ (off1_eq k) _ s _).trans ((h3 (k8 k) 0 s _).trans (by rw [hd_hp, pl_hp] <;> rfl))
    · intro s n
      exact (ldB k.val 0 _ _ _ (off3_eq k) _ s n).trans (h4 (k8 k) 0 s n)
    · intro r p n
      exact (ldS 0 _ _ _ n _).trans ((hst 0 n _).trans (by rw [hd_hp, pl_hp] <;> rfl))
  · show arg16.view.read (Elt Ideal) _ (ix3 (1 : Fin 4) n q) = S (k + 1) 1 (hd q) (pl q) n
    rw [View.read_writes_cons_miss_of_axis _ _ _ _ _ 0 3 1 rfl rfl rfl (by left; show 1 < 3; omega)]
    rw [View.read_writes_cons_miss_of_axis _ _ _ _ _ 0 2 1 rfl rfl rfl (by left; show 1 < 2; omega)]
    rw [View.read_writes_cons_hit_of_coords (s := S4x128x512) _ _ _ _ _ (ix3 (0 : Fin 1) n q) _ (by
      intro a; fin_cases a
      · rfl
      · show (n : ℕ) = 0 + 1 * (n : ℕ); omega
      · show (q : ℕ) = 0 + 1 * (q : ℕ); omega)]
    rw [sPay1_eq, state_eq 1 _ _ _ _ _ (D k 1) (a 1) (fun s q => (ld7 k.val _ _ _ (off1_eq k) _ s _).trans (h7 (k8 k) 1 s q)) (h30 1) (hD0 (k8 k) 1) (ha0 1), show S ((k : ℕ) + 1) 1 = _ from hS (k8 k) 1]
    refine nextS_congr ?_ ?_ ?_ _ _ _
    · intro s r p
      exact (ld7 k.val _ _ _ (off1_eq k) _ s _).trans ((h3 (k8 k) 1 s _).trans (by rw [hd_hp, pl_hp] <;> rfl))
    · intro s n
      exact (ldB k.val 1 _ _ _ (off5_eq k) _ s n).trans (h4 (k8 k) 1 s n)
    · intro r p n
      exact (ldS 1 _ _ _ n _).trans ((hst 1 n _).trans (by rw [hd_hp, pl_hp] <;> rfl))
  · show arg16.view.read (Elt Ideal) _ (ix3 (2 : Fin 4) n q) = S (k + 1) 2 (hd q) (pl q) n
    rw [View.read_writes_cons_miss_of_axis _ _ _ _ _ 0 3 1 rfl rfl rfl (by left; show 2 < 3; omega)]
    rw [View.read_writes_cons_hit_of_coords (s := S4x128x512) _ _ _ _ _ (ix3 (0 : Fin 1) n q) _ (by
      intro a; fin_cases a
      · rfl
      · show (n : ℕ) = 0 + 1 * (n : ℕ); omega
      · show (q : ℕ) = 0 + 1 * (q : ℕ); omega)]
    rw [sPay2_eq, state_eq 2 _ _ _ _ _ (D k 2) (a 2) (fun s q => (ld7 k.val _ _ _ (off1_eq k) _ s _).trans (h7 (k8 k) 2 s q)) (h30 2) (hD0 (k8 k) 2) (ha0 2), show S ((k : ℕ) + 1) 2 = _ from hS (k8 k) 2]
    refine nextS_congr ?_ ?_ ?_ _ _ _
    · intro s r p
      exact (ld7 k.val _ _ _ (off1_eq k) _ s _).trans ((h3 (k8 k) 2 s _).trans (by rw [hd_hp, pl_hp] <;> rfl))
    · intro s n
      exact (ldB k.val 2 _ _ _ (off7_eq k) _ s n).trans (h4 (k8 k) 2 s n)
    · intro r p n
      exact (ldS 2 _ _ _ n _).trans ((hst 2 n _).trans (by rw [hd_hp, pl_hp] <;> rfl))
  · show arg16.view.read (Elt Ideal) _ (ix3 (3 : Fin 4) n q) = S (k + 1) 3 (hd q) (pl q) n
    rw [View.read_writes_cons_hit_of_coords (s := S4x128x512) _ _ _ _ _ (ix3 (0 : Fin 1) n q) _ (by
      intro a; fin_cases a
      · rfl
      · show (n : ℕ) = 0 + 1 * (n : ℕ); omega
      · show (q : ℕ) = 0 + 1 * (q : ℕ); omega)]
    rw [sPay3_eq, state_eq 3 _ _ _ _ _ (D k 3) (a 3) (fun s q => (ld7 k.val _ _ _ (off1_eq k) _ s _).trans (h7 (k8 k) 3 s q)) (h30 3) (hD0 (k8 k) 3) (ha0 3), show S ((k : ℕ) + 1) 3 = _ from hS (k8 k) 3]
    refine nextS_congr ?_ ?_ ?_ _ _ _
    · intro s r p
      exact (ld7 k.val _ _ _ (off1_eq k) _ s _).trans ((h3 (k8 k) 3 s _).trans (by rw [hd_hp, pl_hp] <;> rfl))
    · intro s n
      exact (ldB k.val 3 _ _ _ (off9_eq k) _ s n).trans (h4 (k8 k) 3 s n)
    · intro r p n
      exact (ldS 3 _ _ _ n _).trans ((hst 3 n _).trans (by rw [hd_hp, pl_hp] <;> rfl))

theorem trip_out_at (k : Fin k0_t1_loop.trips) (f14 g14 : BufTy.Contents (Elt Ideal) arg14.view.ty) (f16 : BufTy.Contents (Elt Ideal) arg16.view.ty)
    (hst : ∀ (g : Fin 4) (n : Fin 128) (q : Fin 512), arg16.view.read (Elt Ideal) f16 (ix3 g n q) = S k g (hd q) (pl q) n) (g : Fin 4) (t : Fin 64) (q : Fin 512) :
    arg14.view.read (Elt Ideal) (arg14.view.writes (Elt Ideal) g14 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) v30 v36 v38 v39 X_arg3 X_arg4 X_arg5 X_arg6 X_arg7 X_arg8 k).1 f14 f16)) (ix2 (row (k8 k) t) (col g q))
      = normed (gated (D k g) (a g) (X k g) (B k g) (C k g) (S k g) (dsk g) (Z k g)) (w g) t q := by
  rw [trip_out]
  fin_cases g
  · show arg14.view.read (Elt Ideal) _ (ix2 (row (k8 k) t) (col (0 : Fin 4) q)) = normed (gated (D k 0) (a 0) (X k 0) (B k 0) (C k 0) (S k 0) (dsk 0) (Z k 0)) (w 0) t q
    rw [View.read_writes_cons_miss_of_axis _ _ _ _ _ 1 1536 512 (congrFun (off10_eq k) 1) rfl rfl (by left; show 512 * 0 + (q : ℕ) < 1536; omega)]
    rw [View.read_writes_cons_miss_of_axis _ _ _ _ _ 1 1024 512 (congrFun (off8_eq k) 1) rfl rfl (by left; show 512 * 0 + (q : ℕ) < 1024; omega)]
    rw [View.read_writes_cons_miss_of_axis _ _ _ _ _ 1 512 512 (congrFun (off6_eq k) 1) rfl rfl (by left; show 512 * 0 + (q : ℕ) < 512; omega)]
    rw [View.read_writes_cons_hit_of_coords (s := S512x2048) _ _ _ _ _ (ix2 t q) _ (by
      intro a; fin_cases a
      · show 64 * (k : ℕ) + (t : ℕ) = (k0_off4 k) 0 + 1 * (t : ℕ); rw [off4_eq k]; show _ = 64 * (k : ℕ) + 1 * (t : ℕ); omega
      · show 512 * 0 + (q : ℕ) = (k0_off4 k) 1 + 1 * (q : ℕ); rw [off4_eq k]; show _ = 0 + 1 * (q : ℕ); omega)]
    rw [yPay0_eq, out_eq 0 _ _ _ _ _ _ _ _ _ _ _ (D k 0) (a 0) (dsk 0) (fun s q => (ld7 k.val _ _ _ (off1_eq k) _ s _).trans (h7 (k8 k) 0 s q)) (h30 0)
      (fun r s => (ld8 k.val _ _ _ (off2_eq k) _ 0 r s).trans (h8 (k8 k) 0 s r)) (h36 0) (h38 0) (hD0 (k8 k) 0) (ha0 0)]
    refine normed_congr (gated_congr ?_ ?_ ?_ ?_ ?_) (h39 0) _ _
    · intro s r p
      exact (ld7 k.val _ _ _ (off1_eq k) _ s _).trans ((h3 (k8 k) 0 s _).trans (by rw [hd_hp, pl_hp] <;> rfl))
    · intro s n
      exact (ldB k.val 0 _ _ _ (off3_eq k) _ s n).trans (h4 (k8 k) 0 s n)
    · intro s n
      exact (ldB k.val 0 _ _ _ (off3_eq k) _ s n).trans (h5 (k8 k) 0 s n)
    · intro r p n
      exact (ldS 0 _ _ _ n _).trans ((hst 0 n _).trans (by rw [hd_hp, pl_hp] <;> rfl))
    · intro s q
      exact (ld7 k.val _ _ _ (off1_eq k) _ s _).trans (h6 (k8 k) 0 s q)
  · show arg14.view.read (Elt Ideal) _ (ix2 (row (k8 k) t) (col (1 : Fin 4) q)) = normed (gated (D k 1) (a 1) (X k 1) (B k 1) (C k 1) (S k 1) (dsk 1) (Z k 1)) (w 1) t q
    rw [View.read_writes_cons_miss_of_axis _ _ _ _ _ 1 1536 512 (congrFun (off10_eq k) 1) rfl rfl (by left; show 512 * 1 + (q : ℕ) < 1536; omega)]
    rw [View.read_writes_cons_miss_of_axis _ _ _ _ _ 1 1024 512 (congrFun (off8_eq k) 1) rfl rfl (by left; show 512 * 1 + (q : ℕ) < 1024; omega)]
    rw [View.read_writes_cons_hit_of_coords (s := S512x2048) _ _ _ _ _ (ix2 t q) _ (by
      intro a; fin_cases a
      · show 64 * (k : ℕ) + (t : ℕ) = (k0_off6 k) 0 + 1 * (t : ℕ); rw [off6_eq k]; show _ = 64 * (k : ℕ) + 1 * (t : ℕ); omega
      · show 512 * 1 + (q : ℕ) = (k0_off6 k) 1 + 1 * (q : ℕ); rw [off6_eq k]; show _ = 512 + 1 * (q : ℕ); omega)]
    rw [yPay1_eq, out_eq 1 _ _ _ _ _ _ _ _ _ _ _ (D k 1) (a 1) (dsk 1) (fun s q => (ld7 k.val _ _ _ (off1_eq k) _ s _).trans (h7 (k8 k) 1 s q)) (h30 1)
      (fun r s => (ld8 k.val _ _ _ (off2_eq k) _ 1 r s).trans (h8 (k8 k) 1 s r)) (h36 1) (h38 1) (hD0 (k8 k) 1) (ha0 1)]
    refine normed_congr (gated_congr ?_ ?_ ?_ ?_ ?_) (h39 1) _ _
    · intro s r p
      exact (ld7 k.val _ _ _ (off1_eq k) _ s _).trans ((h3 (k8 k) 1 s _).trans (by rw [hd_hp, pl_hp] <;> rfl))
    · intro s n
      exact (ldB k.val 1 _ _ _ (off5_eq k) _ s n).trans (h4 (k8 k) 1 s n)
    · intro s n
      exact (ldB k.val 1 _ _ _ (off5_eq k) _ s n).trans (h5 (k8 k) 1 s n)
    · intro r p n
      exact (ldS 1 _ _ _ n _).trans ((hst 1 n _).trans (by rw [hd_hp, pl_hp] <;> rfl))
    · intro s q
      exact (ld7 k.val _ _ _ (off1_eq k) _ s _).trans (h6 (k8 k) 1 s q)
  · show arg14.view.read (Elt Ideal) _ (ix2 (row (k8 k) t) (col (2 : Fin 4) q)) = normed (gated (D k 2) (a 2) (X k 2) (B k 2) (C k 2) (S k 2) (dsk 2) (Z k 2)) (w 2) t q
    rw [View.read_writes_cons_miss_of_axis _ _ _ _ _ 1 1536 512 (congrFun (off10_eq k) 1) rfl rfl (by left; show 512 * 2 + (q : ℕ) < 1536; omega)]
    rw [View.read_writes_cons_hit_of_coords (s := S512x2048) _ _ _ _ _ (ix2 t q) _ (by
      intro a; fin_cases a
      · show 64 * (k : ℕ) + (t : ℕ) = (k0_off8 k) 0 + 1 * (t : ℕ); rw [off8_eq k]; show _ = 64 * (k : ℕ) + 1 * (t : ℕ); omega
      · show 512 * 2 + (q : ℕ) = (k0_off8 k) 1 + 1 * (q : ℕ); rw [off8_eq k]; show _ = 1024 + 1 * (q : ℕ); omega)]
    rw [yPay2_eq, out_eq 2 _ _ _ _ _ _ _ _ _ _ _ (D k 2) (a 2) (dsk 2) (fun s q => (ld7 k.val _ _ _ (off1_eq k) _ s _).trans (h7 (k8 k) 2 s q)) (h30 2)
      (fun r s => (ld8 k.val _ _ _ (off2_eq k) _ 2 r s).trans (h8 (k8 k) 2 s r)) (h36 2) (h38 2) (hD0 (k8 k) 2) (ha0 2)]
    refine normed_congr (gated_congr ?_ ?_ ?_ ?_ ?_) (h39 2) _ _
    · intro s r p
      exact (ld7 k.val _ _ _ (off1_eq k) _ s _).trans ((h3 (k8 k) 2 s _).trans (by rw [hd_hp, pl_hp] <;> rfl))
    · intro s n
      exact (ldB k.val 2 _ _ _ (off7_eq k) _ s n).trans (h4 (k8 k) 2 s n)
    · intro s n
      exact (ldB k.val 2 _ _ _ (off7_eq k) _ s n).trans (h5 (k8 k) 2 s n)
    · intro r p n
      exact (ldS 2 _ _ _ n _).trans ((hst 2 n _).trans (by rw [hd_hp, pl_hp] <;> rfl))
    · intro s q
      exact (ld7 k.val _ _ _ (off1_eq k) _ s _).trans (h6 (k8 k) 2 s q)
  · show arg14.view.read (Elt Ideal) _ (ix2 (row (k8 k) t) (col (3 : Fin 4) q)) = normed (gated (D k 3) (a 3) (X k 3) (B k 3) (C k 3) (S k 3) (dsk 3) (Z k 3)) (w 3) t q
    rw [View.read_writes_cons_hit_of_coords (s := S512x2048) _ _ _ _ _ (ix2 t q) _ (by
      intro a; fin_cases a
      · show 64 * (k : ℕ) + (t : ℕ) = (k0_off10 k) 0 + 1 * (t : ℕ); rw [off10_eq k]; show _ = 64 * (k : ℕ) + 1 * (t : ℕ); omega
      · show 512 * 3 + (q : ℕ) = (k0_off10 k) 1 + 1 * (q : ℕ); rw [off10_eq k]; show _ = 1536 + 1 * (q : ℕ); omega)]
    rw [yPay3_eq, out_eq 3 _ _ _ _ _ _ _ _ _ _ _ (D k 3) (a 3) (dsk 3) (fun s q => (ld7 k.val _ _ _ (off1_eq k) _ s _).trans (h7 (k8 k) 3 s q)) (h30 3)
      (fun r s => (ld8 k.val _ _ _ (off2_eq k) _ 3 r s).trans (h8 (k8 k) 3 s r)) (h36 3) (h38 3) (hD0 (k8 k) 3) (ha0 3)]
    refine normed_congr (gated_congr ?_ ?_ ?_ ?_ ?_) (h39 3) _ _
    · intro s r p
      exact (ld7 k.val _ _ _ (off1_eq k) _ s _).trans ((h3 (k8 k) 3 s _).trans (by rw [hd_hp, pl_hp] <;> rfl))
    · intro s n
      exact (ldB k.val 3 _ _ _ (off9_eq k) _ s n).trans (h4 (k8 k) 3 s n)
    · intro s n
      exact (ldB k.val 3 _ _ _ (off9_eq k) _ s n).trans (h5 (k8 k) 3 s n)
    · intro r p n
      exact (ldS 3 _ _ _ n _).trans ((hst 3 n _).trans (by rw [hd_hp, pl_hp] <;> rfl))
    · intro s q
      exact (ld7 k.val _ _ _ (off1_eq k) _ s _).trans (h6 (k8 k) 3 s q)

omit h3 h4 h5 h6 h7 h8 h30 h36 h38 h39 hD0 ha0 hS in
theorem trip_out_miss (k : Fin k0_t1_loop.trips) (f14 g14 : BufTy.Contents (Elt Ideal) arg14.view.ty) (f16 : BufTy.Contents (Elt Ideal) arg16.view.ty) (i' : Fin 512) (j : Fin 2048)
    (hi : (i' : ℕ) < 64 * (k : ℕ) ∨ 64 * (k : ℕ) + 64 ≤ (i' : ℕ)) :
    arg14.view.read (Elt Ideal) (arg14.view.writes (Elt Ideal) g14 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) v30 v36 v38 v39 X_arg3 X_arg4 X_arg5 X_arg6 X_arg7 X_arg8 k).1 f14 f16)) (ix2 i' j)
      = arg14.view.read (Elt Ideal) g14 (ix2 i' j) := by
  rw [trip_out]
  rw [View.read_writes_cons_miss_of_axis _ _ _ _ _ 0 (64 * (k : ℕ)) 64 (congrFun (off10_eq k) 0) rfl rfl (by
    change (i' : ℕ) < 64 * (k : ℕ) ∨ 64 * (k : ℕ) + 64 ≤ (i' : ℕ); omega)]
  rw [View.read_writes_cons_miss_of_axis _ _ _ _ _ 0 (64 * (k : ℕ)) 64 (congrFun (off8_eq k) 0) rfl rfl (by
    change (i' : ℕ) < 64 * (k : ℕ) ∨ 64 * (k : ℕ) + 64 ≤ (i' : ℕ); omega)]
  rw [View.read_writes_cons_miss_of_axis _ _ _ _ _ 0 (64 * (k : ℕ)) 64 (congrFun (off6_eq k) 0) rfl rfl (by
    change (i' : ℕ) < 64 * (k : ℕ) ∨ 64 * (k : ℕ) + 64 ≤ (i' : ℕ); omega)]
  rw [View.read_writes_cons_miss_of_axis _ _ _ _ _ 0 (64 * (k : ℕ)) 64 (congrFun (off4_eq k) 0) rfl rfl (by
    change (i' : ℕ) < 64 * (k : ℕ) ∨ 64 * (k : ℕ) + 64 ≤ (i' : ℕ); omega)]
  rfl

end

end Cert.KernelIdeal.Value

end
-- ==== Proof.Ssd.Loop.lean ====
module

public import proofs.«01_k».proof.Proof.Ssd.Block

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

section
variable (𝒱 : Variants) (c : Dev nD) (bd : Option 𝒱.V) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (v30 : FVec Ideal S1x2048 .f32) (v36 : FVec Ideal S32x1 .f32) (v38 : FVec Ideal S1x2048 .f32) (v39 : Vec Ideal S1x2048 .f32) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
  (D : ℕ → Fin 4 → Fin 64 → Fin 8 → EReal) (a : Fin 4 → Fin 8 → EReal) (X : ℕ → Fin 4 → Fin 64 → Fin 8 → Fin 64 → EReal)
  (B C : ℕ → Fin 4 → Fin 64 → Fin 128 → EReal) (Z : ℕ → Fin 4 → Fin 64 → Fin 512 → EReal)
  (S : ℕ → Fin 4 → Fin 8 → Fin 64 → Fin 128 → EReal) (dsk : Fin 4 → Fin 8 → EReal) (w : Fin 4 → Fin 512 → EReal)
  (h3 : ∀ (k : Fin 8) (g : Fin 4) (s : Fin 64) (q : Fin 512), arg3.view.read (Elt Ideal) X_arg3 (ix2 (row k s) (col g q)) = X k g s (hd q) (pl q))
  (h4 : ∀ (k : Fin 8) (g : Fin 4) (s : Fin 64) (n : Fin 128), arg4.view.read (Elt Ideal) X_arg4 (ix2 (row k s) (gn g n)) = B k g s n)
  (h5 : ∀ (k : Fin 8) (g : Fin 4) (s : Fin 64) (n : Fin 128), arg5.view.read (Elt Ideal) X_arg5 (ix2 (row k s) (gn g n)) = C k g s n)
  (h6 : ∀ (k : Fin 8) (g : Fin 4) (s : Fin 64) (q : Fin 512), arg6.view.read (Elt Ideal) X_arg6 (ix2 (row k s) (col g q)) = Z k g s q)
  (h7 : ∀ (k : Fin 8) (g : Fin 4) (s : Fin 64) (q : Fin 512), arg7.view.read (Elt Ideal) X_arg7 (ix2 (row k s) (col g q)) = D k g s (hd q))
  (h8 : ∀ (k : Fin 8) (g : Fin 4) (s : Fin 64) (r : Fin 8), arg8.view.read (Elt Ideal) X_arg8 (ix4 g k r s) = D k g s r)
  (h30 : ∀ (g : Fin 4) (q : Fin 512), v30 (ix2 0 (col g q)) = a g (hd q))
  (h36 : ∀ (g : Fin 4) (r : Fin 8), v36 (ix2 (hr g r) 0) = a g r)
  (h38 : ∀ (g : Fin 4) (q : Fin 512), v38 (ix2 0 (col g q)) = dsk g (hd q))
  (h39 : ∀ (g : Fin 4) (q : Fin 512), v39 (ix2 0 (col g q)) = w g q)
  (hD0 : ∀ (k : Fin 8) (g : Fin 4) (s : Fin 64) (r : Fin 8), 0 ≤ D k g s r) (ha0 : ∀ (g : Fin 4) (r : Fin 8), a g r ≤ 0)
  (hS : ∀ (k : Fin 8) (g : Fin 4), S (k + 1) g = nextS (D k g) (a g) (X k g) (B k g) (S k g))

include h3 h4 h5 h6 h7 h8 h30 h36 h38 h39 hD0 ha0 hS

/-- What the first `k` trips leave: the state after `k` chunks, and the output rows of those chunks. -/
theorem loop_at (G14 : BufTy.Contents (Elt Ideal) arg14.view.ty) (G16 : BufTy.Contents (Elt Ideal) arg16.view.ty)
    (h0 : ∀ (g : Fin 4) (n : Fin 128) (q : Fin 512), arg16.view.read (Elt Ideal) G16 (ix3 g n q) = S 0 g (hd q) (pl q) n)
    (k : ℕ) (hk : k ≤ 8) :
    (∀ (g : Fin 4) (n : Fin 128) (q : Fin 512), arg16.view.read (Elt Ideal) (arg16.view.writes (Elt Ideal) G16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) v30 v36 v38 v39 X_arg3 X_arg4 X_arg5 X_arg6 X_arg7 X_arg8 G14 G16 k).2) (ix3 g n q) = S k g (hd q) (pl q) n)
    ∧ (∀ (k' : Fin 8), (k' : ℕ) < k → ∀ (g : Fin 4) (t : Fin 64) (q : Fin 512),
        arg14.view.read (Elt Ideal) (arg14.view.writes (Elt Ideal) G14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) v30 v36 v38 v39 X_arg3 X_arg4 X_arg5 X_arg6 X_arg7 X_arg8 G14 G16 k).1) (ix2 (row k' t) (col g q)) = normed (gated (D k' g) (a g) (X k' g) (B k' g) (C k' g) (S k' g) (dsk g) (Z k' g)) (w g) t q) := by
  induction k with
  | zero => exact ⟨h0, fun k' h => absurd h (Nat.not_lt_zero _)⟩
  | succ k ih =>
    obtain ⟨i1, i2⟩ := ih (by omega)
    have hkt : k < k0_t1_loop.trips := Nat.lt_of_lt_of_eq hk trips_eq.symm
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) v30 v36 v38 v39 X_arg3 X_arg4 X_arg5 X_arg6 X_arg7 X_arg8 G14 G16 ⟨k, hkt⟩
    change pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) v30 v36 v38 v39 X_arg3 X_arg4 X_arg5 X_arg6 X_arg7 X_arg8 G14 G16 (k + 1) = _ at e
    rw [e]
    dsimp only
    rw [View.writes_append, View.writes_append]
    refine ⟨?_, ?_⟩
    · intro g n q
      exact trip_state_at 𝒱 c bd i arg3 harg3 arg4 harg4 arg5 harg5 arg6 harg6 arg7 harg7 arg8 harg8 arg9 harg9 arg10 harg10 arg11 harg11 arg12 harg12 arg13 harg13 arg14 harg14 arg15 harg15 arg16 harg16 v30 v36 v38 v39 X_arg3 X_arg4 X_arg5 X_arg6 X_arg7 X_arg8 D a X B C Z S dsk w h3 h4 h5 h6 h7 h8 h30 h36 h38 h39 hD0 ha0 hS ⟨k, hkt⟩ _ G14 _ i1 g n q
    · intro k' hk' g t q
      by_cases he : (k' : ℕ) = k
      · have e' : k' = k8 ⟨k, hkt⟩ := Fin.ext he
        rw [e']
        exact trip_out_at 𝒱 c bd i arg3 harg3 arg4 harg4 arg5 harg5 arg6 harg6 arg7 harg7 arg8 harg8 arg9 harg9 arg10 harg10 arg11 harg11 arg12 harg12 arg13 harg13 arg14 harg14 arg15 harg15 arg16 harg16 v30 v36 v38 v39 X_arg3 X_arg4 X_arg5 X_arg6 X_arg7 X_arg8 D a X B C Z S dsk w h3 h4 h5 h6 h7 h8 h30 h36 h38 h39 hD0 ha0 hS ⟨k, hkt⟩ _ _ _ i1 g t q
      · refine (trip_out_miss 𝒱 c bd i arg3 harg3 arg4 harg4 arg5 harg5 arg6 harg6 arg7 harg7 arg8 harg8 arg9 harg9 arg10 harg10 arg11 harg11 arg12 harg12 arg13 harg13 arg14 harg14 arg15 harg15 arg16 harg16 v30 v36 v38 v39 X_arg3 X_arg4 X_arg5 X_arg6 X_arg7 X_arg8 ⟨k, hkt⟩ _ _ _ (row k' t) (col g q) (Or.inl ?_)).trans (i2 k' (by omega) g t q)
        show 64 * (k' : ℕ) + (t : ℕ) < 64 * k
        omega

end

end Cert.KernelIdeal.Value

end
-- ==== Proof.Ssd.Cases.lean ====
module

public import proofs.«01_k».proof.Proof.Ssd.Loop
public import proofs.«01_k».proof.Proof.Ssd.Frame
import Idealize.ShloMosaic.Lib.VecWindow

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

/-- A block's input windows hold eight chunks of the four groups' data. -/
structure Blk (x0 : Vec Ideal S512x2048 .f32) (x1 : Vec Ideal S512x512 .f32) (x2 : Vec Ideal S512x512 .f32) (x3 : Vec Ideal S512x2048 .f32) (x4 : Vec Ideal S512x2048 .f32) (x5 : Vec Ideal S4x8x8x64 .f32) (x6 : Vec Ideal S1x2048 .f32) (x7 : Vec Ideal S4x8x1 .f32) (x8 : Vec Ideal S1x2048 .f32) (x9 : Vec Ideal S1x2048 .f32)
    (D : ℕ → Fin 4 → Fin 64 → Fin 8 → EReal) (a : Fin 4 → Fin 8 → EReal) (X : ℕ → Fin 4 → Fin 64 → Fin 8 → Fin 64 → EReal)
    (B C : ℕ → Fin 4 → Fin 64 → Fin 128 → EReal) (Z : ℕ → Fin 4 → Fin 64 → Fin 512 → EReal)
    (S : ℕ → Fin 4 → Fin 8 → Fin 64 → Fin 128 → EReal) (dsk : Fin 4 → Fin 8 → EReal) (w : Fin 4 → Fin 512 → EReal) : Prop where
  h0 : ∀ (k : Fin 8) (g : Fin 4) (s : Fin 64) (q : Fin 512), x0 (ix2 (row k s) (col g q)) = X k g s (hd q) (pl q)
  h1 : ∀ (k : Fin 8) (g : Fin 4) (s : Fin 64) (n : Fin 128), x1 (ix2 (row k s) (gn g n)) = B k g s n
  h2 : ∀ (k : Fin 8) (g : Fin 4) (s : Fin 64) (n : Fin 128), x2 (ix2 (row k s) (gn g n)) = C k g s n
  h3 : ∀ (k : Fin 8) (g : Fin 4) (s : Fin 64) (q : Fin 512), x3 (ix2 (row k s) (col g q)) = Z k g s q
  h4 : ∀ (k : Fin 8) (g : Fin 4) (s : Fin 64) (q : Fin 512), x4 (ix2 (row k s) (col g q)) = D k g s (hd q)
  h5 : ∀ (k : Fin 8) (g : Fin 4) (s : Fin 64) (r : Fin 8), x5 (ix4 g k r s) = D k g s r
  h6 : ∀ (g : Fin 4) (q : Fin 512), (0 : EReal) - Ideal.exp (x6 (ix2 0 (col g q))) = a g (hd q)
  h7 : ∀ (g : Fin 4) (r : Fin 8), (0 : EReal) - Ideal.exp (x7 (ix3 g r 0)) = a g r
  h8 : ∀ (g : Fin 4) (q : Fin 512), x8 (ix2 0 (col g q)) = dsk g (hd q)
  h9 : ∀ (g : Fin 4) (q : Fin 512), x9 (ix2 0 (col g q)) = w g q
  hD0 : ∀ (k : Fin 8) (g : Fin 4) (s : Fin 64) (r : Fin 8), 0 ≤ D k g s r
  hS : ∀ (k : Fin 8) (g : Fin 4), S (k + 1) g = nextS (D k g) (a g) (X k g) (B k g) (S k g)

theorem pay75_at (x : FVec Ideal S1x4x128x512 .f32) (g : Fin 4) (n : Fin 128) (q : Fin 512) :
    k0_pay75 (F := Ideal) x (ix3 g n q) = x (ix4 0 g n q) := by
  pointwise [k0_pay75]

theorem pay3_at (x : FVec Ideal S4x128x512 .f32) (g : Fin 4) (n : Fin 128) (q : Fin 512) :
    k0_pay3 (F := Ideal) x (ix4 0 g n q) = x (ix3 g n q) := by
  pointwise [k0_pay3]

theorem pay79_at (x : FVec Ideal S1x2048 .f32) (j : Fin 2048) : k0_pay79 (F := Ideal) x (ix2 0 j) = 0 - Ideal.exp (x (ix2 0 j)) := by
  pointwise [k0_pay79]

theorem pay80_at (x : FVec Ideal S4x8x1 .f32) (g : Fin 4) (r : Fin 8) : k0_pay80 (F := Ideal) x (ix2 (hr g r) 0) = 0 - Ideal.exp (x (ix3 g r 0)) := by
  pointwise [k0_pay80]
  have e1 : (⟨(hr g r : ℕ) / 8, by have := (hr g r).isLt; omega⟩ : Fin 4) = g := Fin.ext (by show (8 * (g : ℕ) + (r : ℕ)) / 8 = g; omega)
  have e2 : (⟨(hr g r : ℕ) % 8, by omega⟩ : Fin 8) = r := Fin.ext (by show (8 * (g : ℕ) + (r : ℕ)) % 8 = r; omega)
  first | rw [e1, e2] | (simp only [e1, e2])

theorem pay81_at (x : FVec Ideal S1x2048 .f32) (j : Fin 2048) : k0_pay81 (F := Ideal) x (ix2 0 j) = x (ix2 0 j) := by
  pointwise [k0_pay81]

/-- The loop over a block's eight chunks. -/
theorem loop_blk (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (x0 : Vec Ideal S512x2048 .f32) (x1 : Vec Ideal S512x512 .f32) (x2 : Vec Ideal S512x512 .f32) (x3 : Vec Ideal S512x2048 .f32) (x4 : Vec Ideal S512x2048 .f32) (x5 : Vec Ideal S4x8x8x64 .f32) (x6 : Vec Ideal S1x2048 .f32) (x7 : Vec Ideal S4x8x1 .f32) (x8 : Vec Ideal S1x2048 .f32) (x9 : Vec Ideal S1x2048 .f32)
    (D : ℕ → Fin 4 → Fin 64 → Fin 8 → EReal) (a : Fin 4 → Fin 8 → EReal) (X : ℕ → Fin 4 → Fin 64 → Fin 8 → Fin 64 → EReal)
    (B C : ℕ → Fin 4 → Fin 64 → Fin 128 → EReal) (Z : ℕ → Fin 4 → Fin 64 → Fin 512 → EReal)
    (S : ℕ → Fin 4 → Fin 8 → Fin 64 → Fin 128 → EReal) (dsk : Fin 4 → Fin 8 → EReal) (w : Fin 4 → Fin 512 → EReal)
    (H : Blk x0 x1 x2 x3 x4 x5 x6 x7 x8 x9 D a X B C Z S dsk w) (G14 : BufTy.Contents (Elt Ideal) arg14.view.ty) (G16 : BufTy.Contents (Elt Ideal) arg16.view.ty)
    (h0 : ∀ (g : Fin 4) (n : Fin 128) (q : Fin 512), arg16.view.read (Elt Ideal) G16 (ix3 g n q) = S 0 g (hd q) (pl q) n) :
    (∀ (g : Fin 4) (n : Fin 128) (q : Fin 512), arg16.view.read (Elt Ideal) (arg16.view.writes (Elt Ideal) G16 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) (k0_pay79 (F := Ideal) (arg9.view.readAt (Elt Ideal) (Rect.unit (s := S1x2048) ![0, 0] ![1, 2048] inb_S1x2048_S1x2048_0_0).toLoadRect (harg9.unread x6))) (k0_pay80 (F := Ideal) (arg10.view.readAt (Elt Ideal) (Rect.unit (s := S4x8x1) ![0, 0, 0] ![4, 8, 1] inb_S4x8x1_S4x8x1_0_0_0).toLoadRect (harg10.unread x7))) (k0_pay81 (F := Ideal) (arg11.view.readAt (Elt Ideal) (Rect.unit (s := S1x2048) ![0, 0] ![1, 2048] inb_S1x2048_S1x2048_0_0).toLoadRect (harg11.unread x8))) (arg12.view.readAt (Elt Ideal) (Rect.unit (s := S1x2048) ![0, 0] ![1, 2048] inb_S1x2048_S1x2048_0_0).toLoadRect (harg12.unread x9)) (harg3.unread x0) (harg4.unread x1) (harg5.unread x2) (harg6.unread x3) (harg7.unread x4) (harg8.unread x5) G14 G16 (Scf.trips (0#32) (Scalar.addi 0#32 8#32) 1#32)).2) (ix3 g n q) = S 8 g (hd q) (pl q) n)
    ∧ (∀ (k : Fin 8) (g : Fin 4) (t : Fin 64) (q : Fin 512),
        arg14.view.read (Elt Ideal) (arg14.view.writes (Elt Ideal) G14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 k0_pay76 (k0_pay77 (F := Ideal)) (k0_pay78 (F := Ideal)) (k0_pay79 (F := Ideal) (arg9.view.readAt (Elt Ideal) (Rect.unit (s := S1x2048) ![0, 0] ![1, 2048] inb_S1x2048_S1x2048_0_0).toLoadRect (harg9.unread x6))) (k0_pay80 (F := Ideal) (arg10.view.readAt (Elt Ideal) (Rect.unit (s := S4x8x1) ![0, 0, 0] ![4, 8, 1] inb_S4x8x1_S4x8x1_0_0_0).toLoadRect (harg10.unread x7))) (k0_pay81 (F := Ideal) (arg11.view.readAt (Elt Ideal) (Rect.unit (s := S1x2048) ![0, 0] ![1, 2048] inb_S1x2048_S1x2048_0_0).toLoadRect (harg11.unread x8))) (arg12.view.readAt (Elt Ideal) (Rect.unit (s := S1x2048) ![0, 0] ![1, 2048] inb_S1x2048_S1x2048_0_0).toLoadRect (harg12.unread x9)) (harg3.unread x0) (harg4.unread x1) (harg5.unread x2) (harg6.unread x3) (harg7.unread x4) (harg8.unread x5) G14 G16 (Scf.trips (0#32) (Scalar.addi 0#32 8#32) 1#32)).1) (ix2 (row k t) (col g q)) = normed (gated (D k g) (a g) (X k g) (B k g) (C k g) (S k g) (dsk g) (Z k g)) (w g) t q) := by
  have h := loop_at Variants.none c none i arg3 harg3 arg4 harg4 arg5 harg5 arg6 harg6 arg7 harg7 arg8 harg8 arg9 harg9 arg10 harg10 arg11 harg11 arg12 harg12 arg13 harg13 arg14 harg14 arg15 harg15 arg16 harg16 (k0_pay79 (F := Ideal) (arg9.view.readAt (Elt Ideal) (Rect.unit (s := S1x2048) ![0, 0] ![1, 2048] inb_S1x2048_S1x2048_0_0).toLoadRect (harg9.unread x6))) (k0_pay80 (F := Ideal) (arg10.view.readAt (Elt Ideal) (Rect.unit (s := S4x8x1) ![0, 0, 0] ![4, 8, 1] inb_S4x8x1_S4x8x1_0_0_0).toLoadRect (harg10.unread x7))) (k0_pay81 (F := Ideal) (arg11.view.readAt (Elt Ideal) (Rect.unit (s := S1x2048) ![0, 0] ![1, 2048] inb_S1x2048_S1x2048_0_0).toLoadRect (harg11.unread x8))) (arg12.view.readAt (Elt Ideal) (Rect.unit (s := S1x2048) ![0, 0] ![1, 2048] inb_S1x2048_S1x2048_0_0).toLoadRect (harg12.unread x9)) (harg3.unread x0) (harg4.unread x1) (harg5.unread x2) (harg6.unread x3) (harg7.unread x4) (harg8.unread x5) D a X B C Z S dsk w
    (by rw [harg3.read_unread]; exact H.h0) (by rw [harg4.read_unread]; exact H.h1) (by rw [harg5.read_unread]; exact H.h2)
    (by rw [harg6.read_unread]; exact H.h3) (by rw [harg7.read_unread]; exact H.h4) (by rw [harg8.read_unread]; exact H.h5)
    (by intro g q; rw [pay79_at, View.readAt_full, harg9.read_unread]; exact H.h6 g q)
    (by intro g r; rw [pay80_at, View.readAt_full, harg10.read_unread]; exact H.h7 g r)
    (by intro g q; rw [pay81_at, View.readAt_full, harg11.read_unread]; exact H.h8 g q)
    (by intro g q; rw [View.readAt_full, harg12.read_unread]; exact H.h9 g q)
    H.hD0 (fun g r => by rw [← H.h7 g r]; exact nonpos_rate _) H.hS G14 G16 h0 8 le_rfl
  exact ⟨h.1, fun k g t q => h.2 k k.isLt g t q⟩

theorem case_A (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : cond0_0 i) (hc1 : ¬cond0_1 i) (x0 : Vec Ideal S512x2048 .f32) (x1 : Vec Ideal S512x512 .f32) (x2 : Vec Ideal S512x512 .f32) (x3 : Vec Ideal S512x2048 .f32) (x4 : Vec Ideal S512x2048 .f32) (x5 : Vec Ideal S4x8x8x64 .f32) (x6 : Vec Ideal S1x2048 .f32) (x7 : Vec Ideal S4x8x1 .f32) (x8 : Vec Ideal S1x2048 .f32) (x9 : Vec Ideal S1x2048 .f32) (x10 : Vec Ideal S1x4x128x512 .f32)
    (D : ℕ → Fin 4 → Fin 64 → Fin 8 → EReal) (a : Fin 4 → Fin 8 → EReal) (X : ℕ → Fin 4 → Fin 64 → Fin 8 → Fin 64 → EReal)
    (B C : ℕ → Fin 4 → Fin 64 → Fin 128 → EReal) (Z : ℕ → Fin 4 → Fin 64 → Fin 512 → EReal)
    (S : ℕ → Fin 4 → Fin 8 → Fin 64 → Fin 128 → EReal) (dsk : Fin 4 → Fin 8 → EReal) (w : Fin 4 → Fin 512 → EReal)
    (H : Blk x0 x1 x2 x3 x4 x5 x6 x7 x8 x9 D a X B C Z S dsk w) (h0 : ∀ (g : Fin 4) (n : Fin 128) (q : Fin 512), x10 (ix4 0 g n q) = S 0 g (hd q) (pl q) n) :
    (∀ (k : Fin 8) (g : Fin 4) (t : Fin 64) (q : Fin 512), out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 (ix2 (row k t) (col g q)) = normed (gated (D k g) (a g) (X k g) (B k g) (C k g) (S k g) (dsk g) (Z k g)) (w g) t q)
    ∧ (∀ (g : Fin 4) (n : Fin 128) (q : Fin 512), sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 (ix3 g n q) = S 8 g (hd q) (pl q) n) := by
  have hg : ∀ (g : Fin 4) (n : Fin 128) (q : Fin 512), arg16.view.read (Elt Ideal) (arg16.view.writes (Elt Ideal) arg16.view.junk (kernelRun0_A.sl.HS0_1 (F := Ideal) c arg13 harg13 x10)) (ix3 g n q) = S 0 g (hd q) (pl q) n := by
    intro g n q
    unfold kernelRun0_A.sl.HS0_1
    rw [View.read_writes_cons_hit_of_coords (s := S4x128x512) _ _ _ _ _ (ix3 g n q) _ (by
      intro a; fin_cases a
      · show (g : ℕ) = 0 + 1 * (g : ℕ); omega
      · show (n : ℕ) = 0 + 1 * (n : ℕ); omega
      · show (q : ℕ) = 0 + 1 * (q : ℕ); omega)]
    rw [pay75_at, View.readAt_full, harg13.read_unread]
    exact h0 g n q
  have hl := loop_blk c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 D a X B C Z S dsk w H arg14.view.junk (arg16.view.writes (Elt Ideal) arg16.view.junk (kernelRun0_A.sl.HS0_1 (F := Ideal) c arg13 harg13 x10)) hg
  refine ⟨?_, ?_⟩
  · intro k g t q
    refine Eq.trans ?_ (hl.2 k g t q)
    exact congrFun (View.read_writes_of_cover _ _ _ _ _ (cover0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)) (ix2 (row k t) (col g q))
  · intro g n q
    refine Eq.trans ?_ (hl.1 g n q)
    rw [← View.writes_append]
    refine congrFun (View.read_writes_of_cover _ _ _ _ _ (scover0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)) (ix3 g n q)

theorem case_B (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : ¬cond0_1 i) (x0 : Vec Ideal S512x2048 .f32) (x1 : Vec Ideal S512x512 .f32) (x2 : Vec Ideal S512x512 .f32) (x3 : Vec Ideal S512x2048 .f32) (x4 : Vec Ideal S512x2048 .f32) (x5 : Vec Ideal S4x8x8x64 .f32) (x6 : Vec Ideal S1x2048 .f32) (x7 : Vec Ideal S4x8x1 .f32) (x8 : Vec Ideal S1x2048 .f32) (x9 : Vec Ideal S1x2048 .f32) (x10 : Vec Ideal S1x4x128x512 .f32) (xs0 : Vec Ideal S4x128x512 .f32)
    (D : ℕ → Fin 4 → Fin 64 → Fin 8 → EReal) (a : Fin 4 → Fin 8 → EReal) (X : ℕ → Fin 4 → Fin 64 → Fin 8 → Fin 64 → EReal)
    (B C : ℕ → Fin 4 → Fin 64 → Fin 128 → EReal) (Z : ℕ → Fin 4 → Fin 64 → Fin 512 → EReal)
    (S : ℕ → Fin 4 → Fin 8 → Fin 64 → Fin 128 → EReal) (dsk : Fin 4 → Fin 8 → EReal) (w : Fin 4 → Fin 512 → EReal)
    (H : Blk x0 x1 x2 x3 x4 x5 x6 x7 x8 x9 D a X B C Z S dsk w) (h0 : ∀ (g : Fin 4) (n : Fin 128) (q : Fin 512), xs0 (ix3 g n q) = S 0 g (hd q) (pl q) n) :
    (∀ (k : Fin 8) (g : Fin 4) (t : Fin 64) (q : Fin 512), out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 (ix2 (row k t) (col g q)) = normed (gated (D k g) (a g) (X k g) (B k g) (C k g) (S k g) (dsk g) (Z k g)) (w g) t q)
    ∧ (∀ (g : Fin 4) (n : Fin 128) (q : Fin 512), sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 (ix3 g n q) = S 8 g (hd q) (pl q) n) := by
  have hg : ∀ (g : Fin 4) (n : Fin 128) (q : Fin 512), arg16.view.read (Elt Ideal) (harg16.unread xs0) (ix3 g n q) = S 0 g (hd q) (pl q) n := by
    intro g n q
    rw [harg16.read_unread]
    exact h0 g n q
  have hl := loop_blk c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 D a X B C Z S dsk w H arg14.view.junk (harg16.unread xs0) hg
  refine ⟨?_, ?_⟩
  · intro k g t q
    refine Eq.trans ?_ (hl.2 k g t q)
    exact congrFun (View.read_writes_of_cover _ _ _ _ _ (cover0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0)) (ix2 (row k t) (col g q))
  · intro g n q
    refine Eq.trans ?_ (hl.1 g n q)
    refine congrFun (View.read_writes_of_cover _ _ _ _ _ (scover0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0)) (ix3 g n q)

theorem case_C (c : Dev nD) (i : grid0.Coords) (arg3 : Memref sig .tc .vmem S512x2048 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S4x8x8x64 .f32) (harg8 : arg8.IsWhole) (arg9 : Memref sig .tc .vmem S1x2048 .f32) (harg9 : arg9.IsWhole) (arg10 : Memref sig .tc .vmem S4x8x1 .f32) (harg10 : arg10.IsWhole) (arg11 : Memref sig .tc .vmem S1x2048 .f32) (harg11 : arg11.IsWhole) (arg12 : Memref sig .tc .vmem S1x2048 .f32) (harg12 : arg12.IsWhole) (arg13 : Memref sig .tc .vmem S1x4x128x512 .f32) (harg13 : arg13.IsWhole) (arg14 : Memref sig .tc .vmem S512x2048 .bf16) (harg14 : arg14.IsWhole) (arg15 : Memref sig .tc .vmem S1x4x128x512 .f32) (harg15 : arg15.IsWhole) (arg16 : Memref sig .tc .vmem S4x128x512 .f32) (harg16 : arg16.IsWhole) (hc0 : ¬cond0_0 i) (hc1 : cond0_1 i) (x0 : Vec Ideal S512x2048 .f32) (x1 : Vec Ideal S512x512 .f32) (x2 : Vec Ideal S512x512 .f32) (x3 : Vec Ideal S512x2048 .f32) (x4 : Vec Ideal S512x2048 .f32) (x5 : Vec Ideal S4x8x8x64 .f32) (x6 : Vec Ideal S1x2048 .f32) (x7 : Vec Ideal S4x8x1 .f32) (x8 : Vec Ideal S1x2048 .f32) (x9 : Vec Ideal S1x2048 .f32) (x10 : Vec Ideal S1x4x128x512 .f32) (xs0 : Vec Ideal S4x128x512 .f32)
    (D : ℕ → Fin 4 → Fin 64 → Fin 8 → EReal) (a : Fin 4 → Fin 8 → EReal) (X : ℕ → Fin 4 → Fin 64 → Fin 8 → Fin 64 → EReal)
    (B C : ℕ → Fin 4 → Fin 64 → Fin 128 → EReal) (Z : ℕ → Fin 4 → Fin 64 → Fin 512 → EReal)
    (S : ℕ → Fin 4 → Fin 8 → Fin 64 → Fin 128 → EReal) (dsk : Fin 4 → Fin 8 → EReal) (w : Fin 4 → Fin 512 → EReal)
    (H : Blk x0 x1 x2 x3 x4 x5 x6 x7 x8 x9 D a X B C Z S dsk w) (h0 : ∀ (g : Fin 4) (n : Fin 128) (q : Fin 512), xs0 (ix3 g n q) = S 0 g (hd q) (pl q) n) :
    (∀ (k : Fin 8) (g : Fin 4) (t : Fin 64) (q : Fin 512), out0_C_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 (ix2 (row k t) (col g q)) = normed (gated (D k g) (a g) (X k g) (B k g) (C k g) (S k g) (dsk g) (Z k g)) (w g) t q)
    ∧ (∀ (g : Fin 4) (n : Fin 128) (q : Fin 512), sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 (ix3 g n q) = S 8 g (hd q) (pl q) n)
    ∧ (∀ (g : Fin 4) (n : Fin 128) (q : Fin 512), out0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0 (ix4 0 g n q) = S 8 g (hd q) (pl q) n) := by
  have hg : ∀ (g : Fin 4) (n : Fin 128) (q : Fin 512), arg16.view.read (Elt Ideal) (harg16.unread xs0) (ix3 g n q) = S 0 g (hd q) (pl q) n := by
    intro g n q
    rw [harg16.read_unread]
    exact h0 g n q
  have hl := loop_blk c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 D a X B C Z S dsk w H arg14.view.junk (harg16.unread xs0) hg
  refine ⟨?_, ?_, ?_⟩
  · intro k g t q
    refine Eq.trans ?_ (hl.2 k g t q)
    exact congrFun (View.read_writes_of_cover _ _ _ _ _ (cover0_C_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0)) (ix2 (row k t) (col g q))
  · intro g n q
    refine Eq.trans ?_ (hl.1 g n q)
    refine congrFun (View.read_writes_of_cover _ _ _ _ _ (scover0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xs0)) (ix3 g n q)
  · intro g n q
    refine Eq.trans ?_ (hl.1 g n q)
    unfold out0_C_12
    refine (View.read_writes_cons_hit_of_coords (s := S1x4x128x512) _ _ _ _ _ (ix4 0 g n q) _ (by
      intro a; fin_cases a
      · rfl
      · show (g : ℕ) = 0 + 1 * (g : ℕ); omega
      · show (n : ℕ) = 0 + 1 * (n : ℕ); omega
      · show (q : ℕ) = 0 + 1 * (q : ℕ); omega)).trans ?_
    rw [pay3_at]
    unfold kernelRun0_C.sl.r kernelRun0_C.sl.r_1 kernelRun0_C.sl.r_2
    rw [View.readAt_full]

end Cert.KernelIdeal.Value

end
-- ==== Proof.Ssd.Data.lean ====
module

public import proofs.«01_k».proof.Proof.Ssd.Spec

@[expose] public section

noncomputable section

namespace Cert.Ssd

open Idealize.ShloMosaic

/-! The data of all chunks and all groups, read from the argument arrays; a chunk is a natural number, its rows wrapped
into the array. -/

/-- Row of step `s` of chunk `c`. -/
def tm (c : ℕ) (s : Fin 64) : ℕ := (64 * c + (s : ℕ)) % 8192

theorem tm_lt (c : ℕ) (s : Fin 64) : tm c s < 8192 := Nat.mod_lt _ (by decide)

theorem tm_lt' (c : ℕ) (s : Fin 64) : tm c s < 8704 := Nat.lt_trans (tm_lt c s) (by decide)

theorem tm_of_lt (c : ℕ) (s : Fin 64) (hc : c < 128) : tm c s = 64 * c + (s : ℕ) :=
  Nat.mod_eq_of_lt (by omega)

def gX (xc : Shape.Idx ⟨2, ![8192, 6144]⟩ → EReal) (c : ℕ) (G : Fin 8) (s : Fin 64) (r : Fin 8) (p : Fin 64) : EReal :=
  xc (ix2 ⟨tm c s, tm_lt c s⟩ ⟨512 * (G : ℕ) + 64 * (r : ℕ) + (p : ℕ), by omega⟩)

def gB (xc : Shape.Idx ⟨2, ![8192, 6144]⟩ → EReal) (c : ℕ) (G : Fin 8) (s : Fin 64) (n : Fin 128) : EReal :=
  xc (ix2 ⟨tm c s, tm_lt c s⟩ ⟨4096 + 128 * (G : ℕ) + (n : ℕ), by omega⟩)

def gC (xc : Shape.Idx ⟨2, ![8192, 6144]⟩ → EReal) (c : ℕ) (G : Fin 8) (s : Fin 64) (n : Fin 128) : EReal :=
  xc (ix2 ⟨tm c s, tm_lt c s⟩ ⟨5120 + 128 * (G : ℕ) + (n : ℕ), by omega⟩)

def gZ (pj : Shape.Idx ⟨2, ![8704, 34816]⟩ → EReal) (c : ℕ) (G : Fin 8) (t : Fin 64) (q : Fin 512) : EReal :=
  pj (ix2 ⟨tm c t, tm_lt' c t⟩ ⟨512 * (G : ℕ) + (q : ℕ), by omega⟩)

def gD (dt : Shape.Idx ⟨2, ![8704, 128]⟩ → EReal) (c : ℕ) (G : Fin 8) (s : Fin 64) (r : Fin 8) : EReal :=
  dt (ix2 ⟨tm c s, tm_lt' c s⟩ ⟨8 * (G : ℕ) + (r : ℕ), by omega⟩)

def ga (al : Shape.Idx ⟨1, ![64]⟩ → EReal) (G r : Fin 8) : EReal :=
  0 - Ideal.exp (al (ix1 ⟨8 * (G : ℕ) + (r : ℕ), by omega⟩))

def gk (dk : Shape.Idx ⟨1, ![64]⟩ → EReal) (G r : Fin 8) : EReal := dk (ix1 ⟨8 * (G : ℕ) + (r : ℕ), by omega⟩)

def gw (nw : Shape.Idx ⟨1, ![4096]⟩ → EReal) (G : Fin 8) (q : Fin 512) : EReal :=
  nw (ix1 ⟨512 * (G : ℕ) + (q : ℕ), by omega⟩)

/-- The state at the start of chunk `c`. -/
def gS (xc : Shape.Idx ⟨2, ![8192, 6144]⟩ → EReal) (dt : Shape.Idx ⟨2, ![8704, 128]⟩ → EReal)
    (al : Shape.Idx ⟨1, ![64]⟩ → EReal) (s0 : Shape.Idx ⟨4, ![1, 64, 64, 128]⟩ → EReal) :
    ℕ → Fin 8 → Fin 8 → Fin 64 → Fin 128 → EReal
  | 0, G => fun r p n => s0 (ix4 0 ⟨8 * (G : ℕ) + (r : ℕ), by omega⟩ p n)
  | c + 1, G => nextS (gD dt c G) (ga al G) (gX xc c G) (gB xc c G) (gS xc dt al s0 c G)

/-- The output of chunk `c`. -/
def gY (xc : Shape.Idx ⟨2, ![8192, 6144]⟩ → EReal) (pj : Shape.Idx ⟨2, ![8704, 34816]⟩ → EReal)
    (dt : Shape.Idx ⟨2, ![8704, 128]⟩ → EReal) (al dk : Shape.Idx ⟨1, ![64]⟩ → EReal)
    (nw : Shape.Idx ⟨1, ![4096]⟩ → EReal) (s0 : Shape.Idx ⟨4, ![1, 64, 64, 128]⟩ → EReal)
    (c : ℕ) (G : Fin 8) (t : Fin 64) (q : Fin 512) : EReal :=
  normed (gated (gD dt c G) (ga al G) (gX xc c G) (gB xc c G) (gC xc c G) (gS xc dt al s0 c G) (gk dk G) (gZ pj c G))
    (gw nw G) t q

end Cert.Ssd

end
-- ==== Proof.Ssd.Reads.lean ====
module

public import proofs.«01_k».proof.Proof.Ssd.Cases
public import proofs.«01_k».proof.Proof.Ssd.Data
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

theorem idxA : ∀ t : Fin cfg0.N, (win0_0.index t (0 : Fin 2) = t.val % 16 ∧ win0_0.index t (1 : Fin 2) = t.val / 16)
    ∧ (win0_1.index t (0 : Fin 2) = t.val % 16 ∧ win0_1.index t (1 : Fin 2) = 8 + t.val / 16)
    ∧ (win0_2.index t (0 : Fin 2) = t.val % 16 ∧ win0_2.index t (1 : Fin 2) = 10 + t.val / 16)
    ∧ (win0_3.index t (0 : Fin 2) = t.val % 16 ∧ win0_3.index t (1 : Fin 2) = t.val / 16)
    ∧ (win0_4.index t (0 : Fin 2) = t.val % 16 ∧ win0_4.index t (1 : Fin 2) = t.val / 16) :=
  (by decide +kernel : ∀ t : Fin grid0.N, (win0_0.index t (0 : Fin 2) = t.val % 16 ∧ win0_0.index t (1 : Fin 2) = t.val / 16)
    ∧ (win0_1.index t (0 : Fin 2) = t.val % 16 ∧ win0_1.index t (1 : Fin 2) = 8 + t.val / 16)
    ∧ (win0_2.index t (0 : Fin 2) = t.val % 16 ∧ win0_2.index t (1 : Fin 2) = 10 + t.val / 16)
    ∧ (win0_3.index t (0 : Fin 2) = t.val % 16 ∧ win0_3.index t (1 : Fin 2) = t.val / 16)
    ∧ (win0_4.index t (0 : Fin 2) = t.val % 16 ∧ win0_4.index t (1 : Fin 2) = t.val / 16))

theorem idxB : ∀ t : Fin cfg0.N, (win0_5.index t (0 : Fin 4) = t.val / 16 ∧ win0_5.index t (1 : Fin 4) = t.val % 16 ∧ win0_5.index t (2 : Fin 4) = 0 ∧ win0_5.index t (3 : Fin 4) = 0)
    ∧ (win0_6.index t (0 : Fin 2) = 0 ∧ win0_6.index t (1 : Fin 2) = t.val / 16)
    ∧ (win0_7.index t (0 : Fin 3) = t.val / 16 ∧ win0_7.index t (1 : Fin 3) = 0 ∧ win0_7.index t (2 : Fin 3) = 0)
    ∧ (win0_8.index t (0 : Fin 2) = 0 ∧ win0_8.index t (1 : Fin 2) = t.val / 16)
    ∧ (win0_9.index t (0 : Fin 2) = 0 ∧ win0_9.index t (1 : Fin 2) = t.val / 16)
    ∧ (win0_10.index t (0 : Fin 4) = 0 ∧ win0_10.index t (1 : Fin 4) = t.val / 16 ∧ win0_10.index t (2 : Fin 4) = 0 ∧ win0_10.index t (3 : Fin 4) = 0) :=
  (by decide +kernel : ∀ t : Fin grid0.N, (win0_5.index t (0 : Fin 4) = t.val / 16 ∧ win0_5.index t (1 : Fin 4) = t.val % 16 ∧ win0_5.index t (2 : Fin 4) = 0 ∧ win0_5.index t (3 : Fin 4) = 0)
    ∧ (win0_6.index t (0 : Fin 2) = 0 ∧ win0_6.index t (1 : Fin 2) = t.val / 16)
    ∧ (win0_7.index t (0 : Fin 3) = t.val / 16 ∧ win0_7.index t (1 : Fin 3) = 0 ∧ win0_7.index t (2 : Fin 3) = 0)
    ∧ (win0_8.index t (0 : Fin 2) = 0 ∧ win0_8.index t (1 : Fin 2) = t.val / 16)
    ∧ (win0_9.index t (0 : Fin 2) = 0 ∧ win0_9.index t (1 : Fin 2) = t.val / 16)
    ∧ (win0_10.index t (0 : Fin 4) = 0 ∧ win0_10.index t (1 : Fin 4) = t.val / 16 ∧ win0_10.index t (2 : Fin 4) = 0 ∧ win0_10.index t (3 : Fin 4) = 0))

/-- The group of the layer that is group `g` of a block of column half `h`. -/
def gg (h : ℕ) (hh : h < 2) (g : Fin 4) : Fin 8 := ⟨4 * h + (g : ℕ), by omega⟩

variable (m : (ℓ : Loc nD τ sig) → Buf (Elt Ideal) ℓ)

theorem rd0 (c : Dev nD) (t : Fin cfg0.N) (ht : t.val / 16 < 2) (k : Fin 8) (g : Fin 4) (s : Fin 64) (q : Fin 512) :
    iblk m c 0 t (ix2 (row k s) (col g q)) = gX (m ((c : Thread nD τ).loc main_arg0)) (8 * (t.val % 16) + (k : ℕ)) (gg (t.val / 16) ht g) s (hd q) (pl q) := by
  have e := tm_of_lt (8 * (t.val % 16) + (k : ℕ)) s (by omega)
  unfold gX
  simp only [e, gg, hd, pl, row, col]
  blk_ext [iblk, V, idxA t]

theorem rd1 (c : Dev nD) (t : Fin cfg0.N) (ht : t.val / 16 < 2) (k : Fin 8) (g : Fin 4) (s : Fin 64) (n : Fin 128) :
    iblk m c 1 t (ix2 (row k s) (gn g n)) = gB (m ((c : Thread nD τ).loc main_arg0)) (8 * (t.val % 16) + (k : ℕ)) (gg (t.val / 16) ht g) s n := by
  have e := tm_of_lt (8 * (t.val % 16) + (k : ℕ)) s (by omega)
  unfold gB
  simp only [e, gg, row, gn]
  blk_ext [iblk, V, idxA t]

theorem rd2 (c : Dev nD) (t : Fin cfg0.N) (ht : t.val / 16 < 2) (k : Fin 8) (g : Fin 4) (s : Fin 64) (n : Fin 128) :
    iblk m c 2 t (ix2 (row k s) (gn g n)) = gC (m ((c : Thread nD τ).loc main_arg0)) (8 * (t.val % 16) + (k : ℕ)) (gg (t.val / 16) ht g) s n := by
  have e := tm_of_lt (8 * (t.val % 16) + (k : ℕ)) s (by omega)
  unfold gC
  simp only [e, gg, row, gn]
  blk_ext [iblk, V, idxA t]

theorem rd3 (c : Dev nD) (t : Fin cfg0.N) (ht : t.val / 16 < 2) (k : Fin 8) (g : Fin 4) (s : Fin 64) (q : Fin 512) :
    iblk m c 3 t (ix2 (row k s) (col g q)) = gZ (m ((c : Thread nD τ).loc main_arg1)) (8 * (t.val % 16) + (k : ℕ)) (gg (t.val / 16) ht g) s q := by
  have e := tm_of_lt (8 * (t.val % 16) + (k : ℕ)) s (by omega)
  unfold gZ
  simp only [e, gg, row, col]
  blk_ext [iblk, V, idxA t]

theorem rd4 (c : Dev nD) (t : Fin cfg0.N) (ht : t.val / 16 < 2) (k : Fin 8) (g : Fin 4) (s : Fin 64) (q : Fin 512) :
    iblk m c 4 t (ix2 (row k s) (col g q)) = gD (m ((c : Thread nD τ).loc main_arg2)) (8 * (t.val % 16) + (k : ℕ)) (gg (t.val / 16) ht g) s (hd q) := by
  have e := tm_of_lt (8 * (t.val % 16) + (k : ℕ)) s (by omega)
  unfold gD
  simp only [e, gg, hd, row, col]
  blk_simp [iblk]
  entry_read
  pointwise
  blk_ext [idxA t]

theorem rd5 (c : Dev nD) (t : Fin cfg0.N) (ht : t.val / 16 < 2) (k : Fin 8) (g : Fin 4) (s : Fin 64) (r : Fin 8) :
    iblk m c 5 t (ix4 g k r s) = gD (m ((c : Thread nD τ).loc main_arg2)) (8 * (t.val % 16) + (k : ℕ)) (gg (t.val / 16) ht g) s r := by
  have e := tm_of_lt (8 * (t.val % 16) + (k : ℕ)) s (by omega)
  unfold gD
  simp only [e, gg]
  blk_simp [iblk]
  entry_read
  pointwise
  blk_ext [idxB t]

theorem rd6 (c : Dev nD) (t : Fin cfg0.N) (ht : t.val / 16 < 2) (g : Fin 4) (q : Fin 512) :
    (0 : EReal) - Ideal.exp (iblk m c 6 t (ix2 0 (col g q))) = ga (m ((c : Thread nD τ).loc main_arg3)) (gg (t.val / 16) ht g) (hd q) := by
  unfold ga
  refine congrArg (fun x => (0 : EReal) - Ideal.exp x) ?_
  simp only [gg, hd, col]
  blk_simp [iblk]
  entry_read
  pointwise
  blk_ext [idxB t]

theorem rd7 (c : Dev nD) (t : Fin cfg0.N) (ht : t.val / 16 < 2) (g : Fin 4) (r : Fin 8) :
    (0 : EReal) - Ideal.exp (iblk m c 7 t (ix3 g r 0)) = ga (m ((c : Thread nD τ).loc main_arg3)) (gg (t.val / 16) ht g) r := by
  unfold ga
  refine congrArg (fun x => (0 : EReal) - Ideal.exp x) ?_
  simp only [gg]
  blk_simp [iblk]
  entry_read
  pointwise
  blk_ext [idxB t]

theorem rd8 (c : Dev nD) (t : Fin cfg0.N) (ht : t.val / 16 < 2) (g : Fin 4) (q : Fin 512) :
    iblk m c 8 t (ix2 0 (col g q)) = gk (m ((c : Thread nD τ).loc main_arg4)) (gg (t.val / 16) ht g) (hd q) := by
  unfold gk
  simp only [gg, hd, col]
  blk_simp [iblk]
  entry_read
  pointwise
  blk_ext [idxB t]

theorem rd9 (c : Dev nD) (t : Fin cfg0.N) (ht : t.val / 16 < 2) (g : Fin 4) (q : Fin 512) :
    iblk m c 9 t (ix2 0 (col g q)) = gw (m ((c : Thread nD τ).loc main_arg5)) (gg (t.val / 16) ht g) q := by
  unfold gw
  simp only [gg, col]
  blk_simp [iblk]
  entry_read
  pointwise
  blk_ext [idxB t]

theorem rd10 (c : Dev nD) (t : Fin cfg0.N) (ht : t.val / 16 < 2) (g : Fin 4) (n : Fin 128) (q : Fin 512) :
    iblk m c 10 t (ix4 0 g n q) = gS (m ((c : Thread nD τ).loc main_arg0)) (m ((c : Thread nD τ).loc main_arg2)) (m ((c : Thread nD τ).loc main_arg3)) (m ((c : Thread nD τ).loc main_arg6)) 0 (gg (t.val / 16) ht g) (hd q) (pl q) n := by
  unfold gS
  simp only [gg, hd, pl]
  blk_simp [iblk]
  entry_read
  pointwise
  blk_ext [idxB t]

end Cert.KernelIdeal.Value

end
-- ==== Proof.Ssd.Value.lean ====
module

public import proofs.«01_k».proof.Proof.Ssd.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

-- no `blocks12`: window 12's index map revisits a block index, or its points could not be enumerated here;
-- the final array is still the frame's `arrAt`, to read with Lib/Pipeline/Value.lean's lemmas by hand

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v17_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v17_1) = (dats m 0 c).arrAt 12 cfg0.N :=
  (h c).1 12

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v17_0) = (dats m 0 c).arrAt 11 cfg0.N
      ∧ r.2.mem ((c : Thread nD τ).loc main_v17_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Carried scratch 0: what each point leaves in it, and its fold -/

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x2048 .bf16 × Vec F S1x4x128x512 .f32 × Vec F S4x128x512 .f32 :=
  ((VO0_11.read (Elt F) VO0_11.junk, VO0_12.read (Elt F) VO0_12.junk, VS0_0.read (Elt F) VS0_0.junk) : Vec F S512x2048 .bf16 × Vec F S1x4x128x512 .f32 × Vec F S4x128x512 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x2048 .bf16 × Vec F S1x4x128x512 .f32 × Vec F S4x128x512 .f32) : Vec F S512x2048 .bf16 × Vec F S1x4x128x512 .f32 × Vec F S4x128x512 .f32 :=
  if h0 : n % 16 = 0 then
    if h1 : n % 16 = 15 then
      False.elim (by have hN : n < 32 := lt_of_lt_of_eq hb (show cfg0.N = 32 from N_0); omega)
    else
      (out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), out0_A_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)))
  else
    if h1 : n % 16 = 15 then
      (out0_C_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2, out0_C_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2)
    else
      (out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2, out0_B_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc.2.2)

/-- `stAt0` at a point of case A: that case's contents. -/
theorem stAt0_A (c : Dev nD) (t : Fin cfg0.N) (acc : Vec F S512x2048 .bf16 × Vec F S1x4x128x512 .f32 × Vec F S4x128x512 .f32) (h0 : t.val % 16 = 0) (h1 : ¬t.val % 16 = 15) :
    stAt0 m c t.val t.isLt acc = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) :=
  (dif_pos h0).trans ((dif_neg h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 32 from N_0)
  have e := Pipeline.eq_accAt_of_mod (fun n h => outsAt0 m c n h) 32 (fun n h => stAt0 m c n h junk0) (stAt0 m c)
    (fun n h _ => by
      have hN := lt_of_lt_of_eq h (show cfg0.N = 32 from N_0)
      obtain rfl : n = 0 := by omega
      exact outsAt0_zero m c h)
    (fun n h _ => outsAt0_succ m c n h)
    (by decide) n hn (by have := Nat.div_add_mod n 32; omega)
  have hd : n / 32 = 0 := Nat.div_eq_of_lt hN
  have hm : n % 32 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 11 -/

/-- The block of the array that holds index `i`, numbered in the order the points write the blocks back (one per point),
    `i`'s place in it, and the point that writes it back. -/
abbrev run11Of (i : S8192x4096.Idx) : ℕ := 1 * ((i 0).val / 512 - 0) + 16 * ((i 1).val / 2048 - 0)
set_option backward.proofsInPublic true in
abbrev loc11Of (i : S8192x4096.Idx) : S512x2048.Idx := fun a => match a with
  | ⟨0, _⟩ => ⟨(i 0).val % 512, Nat.mod_lt _ (by decide)⟩
  | ⟨1, _⟩ => ⟨(i 1).val % 2048, Nat.mod_lt _ (by decide)⟩
abbrev pt11Of (i : S8192x4096.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v17_0) := fun i =>
  if h : pt11Of i < cfg0.N then
    (Pipeline.accAt (fun n h => stAt0 m c n h junk0) (stAt0 m c) 0 (pt11Of i) (by omega)).1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 2) ∧ win0_11.index t (0 : Fin 2) ≤ 15
    ∧ 0 ≤ win0_11.index t (1 : Fin 2) ∧ win0_11.index t (1 : Fin 2) ≤ 1
    ∧ 1 * (win0_11.index t (0 : Fin 2) - 0) + 16 * (win0_11.index t (1 : Fin 2) - 0) = t.val :=
  (by decide +kernel : ∀ t : Fin grid0.N, _)

/-- Every block of the box is SOME flushing point's: `onto11Pt`, the point that writes back the block at place `q` of the box. -/
abbrev onto11Pt (q0 : Fin 16) (q1 : Fin 2) : Fin grid0.N :=
  ⟨1 * q0.val + 16 * q1.val, lt_of_lt_of_eq (by omega) N_0.symm⟩
theorem idx_onto11 : ∀ (q0 : Fin 16) (q1 : Fin 2), ∃ t : Fin cfg0.N, (cfg0.win 11).flush t = true ∧ win0_11.index t = ![q0.val + 0, q1.val + 0] :=
  fun q0 q1 => ⟨onto11Pt q0 q1, (by decide +kernel : ∀ (q0 : Fin 16) (q1 : Fin 2), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  obtain ⟨e0, e1, e2⟩ := idx_facts11 t
  funext y
  have hy0 : (y 0).val < 512 := (y 0).isLt
  have hy1 : (y 1).val < 2048 := (y 1).isLt
  have hb0 : (((cfg0.win 11).blk t).view.emb y 0).val = win0_11.index t (0 : Fin 2) * 512 + 1 * (y 0).val := rfl
  have hb1 : (((cfg0.win 11).blk t).view.emb y 1).val = win0_11.index t (1 : Fin 2) * 2048 + 1 * (y 1).val := rfl
  have hr : run11Of (((cfg0.win 11).blk t).view.emb y) = t.val := by
    show 1 * ((((cfg0.win 11).blk t).view.emb y 0).val / 512 - 0) + 16 * ((((cfg0.win 11).blk t).view.emb y 1).val / 2048 - 0) = _
    rw [hb0, hb1]
    rw [show (win0_11.index t (0 : Fin 2) * 512 + 1 * (y 0).val) / 512 = win0_11.index t (0 : Fin 2) from by omega]; rw [show (win0_11.index t (1 : Fin 2) * 2048 + 1 * (y 1).val) / 2048 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 512 = (y 0).val; rw [hb0]; omega
    | ⟨1, _⟩ => show (((cfg0.win 11).blk t).view.emb y 1).val % 2048 = (y 1).val; rw [hb1]; omega
  have hp : pt11Of (((cfg0.win 11).blk t).view.emb y) = t.val := by
    exact hr
  show (Pipeline.accAt (fun n h => stAt0 m c n h junk0) (stAt0 m c) 0 t.val _).1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S8192x4096.Idx) :
    i ∈ ((cfg0.win 11).blk t).view.set ↔ ∀ a : Fin 2, win0_11.index t a * S512x2048.size a ≤ (i a).val ∧ (i a).val < win0_11.index t a * S512x2048.size a + S512x2048.size a := by
  show i ∈ ((View.whole main_v17_0).slice (win0_11.rect t)).set ↔ _
  rw [View.set_slice_whole, Rect.mem_set_unit]
  exact Iff.rfl

/-- THE COVERED INDICES: in some flushing point's block iff inside the box those blocks fill. -/
theorem covered_iff11 (i : S8192x4096.Idx) :
    (∃ t : Fin cfg0.N, (cfg0.win 11).flush t = true ∧ i ∈ ((cfg0.win 11).blk t).view.set) ↔ 0 ≤ (i 0).val ∧ (i 0).val < 8192 ∧ 0 ≤ (i 1).val ∧ (i 1).val < 4096 := by
  constructor
  · rintro ⟨t, -, hi⟩
    rw [mem_blk11] at hi
    have b0 : win0_11.index t (0 : Fin 2) * 512 ≤ (i 0).val ∧ (i 0).val < win0_11.index t (0 : Fin 2) * 512 + 512 := hi 0
    have b1 : win0_11.index t (1 : Fin 2) * 2048 ≤ (i 1).val ∧ (i 1).val < win0_11.index t (1 : Fin 2) * 2048 + 2048 := hi 1
    obtain ⟨e0, e1, e2⟩ := idx_facts11 t
    omega
  · intro h
    have hi0 : (i 0).val < 8192 := (i 0).isLt
    have hi1 : (i 1).val < 4096 := (i 1).isLt
    obtain ⟨t, hft, ht⟩ := idx_onto11 ⟨(i 0).val / 512 - 0, by omega⟩ ⟨(i 1).val / 2048 - 0, by omega⟩
    have q0 : win0_11.index t (0 : Fin 2) = (i 0).val / 512 - 0 + 0 := congrFun ht 0
    have q1 : win0_11.index t (1 : Fin 2) = (i 1).val / 2048 - 0 + 0 := congrFun ht 1
    refine ⟨t, hft, ?_⟩
    rw [mem_blk11]
    intro a
    match a with
    | ⟨0, _⟩ => show win0_11.index t (0 : Fin 2) * 512 ≤ (i 0).val ∧ (i 0).val < win0_11.index t (0 : Fin 2) * 512 + 512; omega
    | ⟨1, _⟩ => show win0_11.index t (1 : Fin 2) * 2048 ≤ (i 1).val ∧ (i 1).val < win0_11.index t (1 : Fin 2) * 2048 + 2048; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 8192 := (i 0).isLt; have h1 : (i 1).val < 4096 := (i 1).isLt; omega))

/-! ## Output window 12 -/

/-- The block of the array that holds index `i`, numbered in the order the points write the blocks back (one every 16 points),
    `i`'s place in it, and the point that writes it back (the last of its 16). -/
abbrev run12Of (i : S1x8x128x512.Idx) : ℕ := 2 * ((i 0).val / 1 - 0) + 1 * ((i 1).val / 4 - 0) + 1 * ((i 2).val / 128 - 0) + 1 * ((i 3).val / 512 - 0)
set_option backward.proofsInPublic true in
abbrev loc12Of (i : S1x8x128x512.Idx) : S1x4x128x512.Idx := fun a => match a with
  | ⟨0, _⟩ => ⟨(i 0).val % 1, Nat.mod_lt _ (by decide)⟩
  | ⟨1, _⟩ => ⟨(i 1).val % 4, Nat.mod_lt _ (by decide)⟩
  | ⟨2, _⟩ => ⟨(i 2).val % 128, Nat.mod_lt _ (by decide)⟩
  | ⟨3, _⟩ => ⟨(i 3).val % 512, Nat.mod_lt _ (by decide)⟩
abbrev pt12Of (i : S1x8x128x512.Idx) : ℕ := 16 * run12Of i + 15

/-- WHAT THE ARRAY ENDS HOLDING at index `i` inside the box the flushing blocks fill: output 12's component of the carried
    state's fold at the point that writes `i`'s block back, at `i`'s place in the block. `G12` states the array's contents
    only inside the box. -/
def G12 (c : Dev nD) : Buf (Elt F) ((c : Thread nD τ).loc main_v17_1) := fun i =>
  if h : pt12Of i < cfg0.N then
    (Pipeline.accAt (fun n h => stAt0 m c n h junk0) (stAt0 m c) 0 (pt12Of i) (by omega)).2.1 (loc12Of i)
  else V m c (Pipeline.arrRef spec0 12) i

/-- The printed index map, decided over the grid: output window 12's block indices stay in the box, and the block number
    read off them is the point's (`t / 16`). -/
theorem idx_facts12 : ∀ t : Fin cfg0.N, 0 ≤ win0_12.index t (0 : Fin 4) ∧ win0_12.index t (0 : Fin 4) ≤ 0
    ∧ 0 ≤ win0_12.index t (1 : Fin 4) ∧ win0_12.index t (1 : Fin 4) ≤ 1
    ∧ 0 ≤ win0_12.index t (2 : Fin 4) ∧ win0_12.index t (2 : Fin 4) ≤ 0
    ∧ 0 ≤ win0_12.index t (3 : Fin 4) ∧ win0_12.index t (3 : Fin 4) ≤ 0
    ∧ 2 * (win0_12.index t (0 : Fin 4) - 0) + 1 * (win0_12.index t (1 : Fin 4) - 0) + 1 * (win0_12.index t (2 : Fin 4) - 0) + 1 * (win0_12.index t (3 : Fin 4) - 0) = t.val / 16 :=
  (by decide +kernel : ∀ t : Fin grid0.N, _)

/-- Every block of the box is SOME flushing point's: `onto12Pt`, the point that writes back the block at place `q` of the box (the last point of its run). -/
abbrev onto12Pt (q0 : Fin 1) (q1 : Fin 2) (q2 : Fin 1) (q3 : Fin 1) : Fin grid0.N :=
  ⟨16 * (2 * q0.val + 1 * q1.val + 1 * q2.val + 1 * q3.val) + 15, lt_of_lt_of_eq (by omega) N_0.symm⟩
theorem idx_onto12 : ∀ (q0 : Fin 1) (q1 : Fin 2) (q2 : Fin 1) (q3 : Fin 1), ∃ t : Fin cfg0.N, (cfg0.win 12).flush t = true ∧ win0_12.index t = ![q0.val + 0, q1.val + 0, q2.val + 0, q3.val + 0] :=
  fun q0 q1 q2 q3 => ⟨onto12Pt q0 q1 q2 q3, (by decide +kernel : ∀ (q0 : Fin 1) (q1 : Fin 2) (q2 : Fin 1) (q3 : Fin 1), win0_12.flush (onto12Pt q0 q1 q2 q3) = true ∧ win0_12.index (onto12Pt q0 q1 q2 q3) = ![q0.val + 0, q1.val + 0, q2.val + 0, q3.val + 0]) q0 q1 q2 q3⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12, outsAt0_sweep]
  have hm : t.val % 16 = 15 := (flush0_12 t).mp hf
  obtain ⟨e0, e1, e2, e3, e4⟩ := idx_facts12 t
  funext y
  have hy0 : (y 0).val < 1 := (y 0).isLt
  have hy1 : (y 1).val < 4 := (y 1).isLt
  have hy2 : (y 2).val < 128 := (y 2).isLt
  have hy3 : (y 3).val < 512 := (y 3).isLt
  have hb0 : (((cfg0.win 12).blk t).view.emb y 0).val = win0_12.index t (0 : Fin 4) * 1 + 1 * (y 0).val := rfl
  have hb1 : (((cfg0.win 12).blk t).view.emb y 1).val = win0_12.index t (1 : Fin 4) * 4 + 1 * (y 1).val := rfl
  have hb2 : (((cfg0.win 12).blk t).view.emb y 2).val = win0_12.index t (2 : Fin 4) * 128 + 1 * (y 2).val := rfl
  have hb3 : (((cfg0.win 12).blk t).view.emb y 3).val = win0_12.index t (3 : Fin 4) * 512 + 1 * (y 3).val := rfl
  have hr : run12Of (((cfg0.win 12).blk t).view.emb y) = t.val / 16 := by
    show 2 * ((((cfg0.win 12).blk t).view.emb y 0).val / 1 - 0) + 1 * ((((cfg0.win 12).blk t).view.emb y 1).val / 4 - 0) + 1 * ((((cfg0.win 12).blk t).view.emb y 2).val / 128 - 0) + 1 * ((((cfg0.win 12).blk t).view.emb y 3).val / 512 - 0) = _
    rw [hb0, hb1, hb2, hb3]
    rw [show (win0_12.index t (0 : Fin 4) * 1 + 1 * (y 0).val) / 1 = win0_12.index t (0 : Fin 4) from by omega]; rw [show (win0_12.index t (1 : Fin 4) * 4 + 1 * (y 1).val) / 4 = win0_12.index t (1 : Fin 4) from by omega]; rw [show (win0_12.index t (2 : Fin 4) * 128 + 1 * (y 2).val) / 128 = win0_12.index t (2 : Fin 4) from by omega]; rw [show (win0_12.index t (3 : Fin 4) * 512 + 1 * (y 3).val) / 512 = win0_12.index t (3 : Fin 4) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 1 = (y 0).val; rw [hb0]; omega
    | ⟨1, _⟩ => show (((cfg0.win 12).blk t).view.emb y 1).val % 4 = (y 1).val; rw [hb1]; omega
    | ⟨2, _⟩ => show (((cfg0.win 12).blk t).view.emb y 2).val % 128 = (y 2).val; rw [hb2]; omega
    | ⟨3, _⟩ => show (((cfg0.win 12).blk t).view.emb y 3).val % 512 = (y 3).val; rw [hb3]; omega
  have hp : pt12Of (((cfg0.win 12).blk t).view.emb y) = t.val := by
    show 16 * run12Of (((cfg0.win 12).blk t).view.emb y) + 15 = _
    rw [hr]; have := Nat.div_add_mod t.val 16; omega
  show (Pipeline.accAt (fun n h => stAt0 m c n h junk0) (stAt0 m c) 0 t.val _).2.1 ((cfg0.win 12).xinj (grid0.coords t) y) = G12 m c (((cfg0.win 12).blk t).view.emb y)
  unfold G12
  rw [dif_pos (by rw [hp]; exact t.isLt), hl, fold0_congr m c _ _ _ _ hp.symm]

/-- An index of the array is in point `t`'s block iff each coordinate is in the block's range on its axis. -/
theorem mem_blk12 (t : Fin cfg0.N) (i : S1x8x128x512.Idx) :
    i ∈ ((cfg0.win 12).blk t).view.set ↔ ∀ a : Fin 4, win0_12.index t a * S1x4x128x512.size a ≤ (i a).val ∧ (i a).val < win0_12.index t a * S1x4x128x512.size a + S1x4x128x512.size a := by
  show i ∈ ((View.whole main_v17_1).slice (win0_12.rect t)).set ↔ _
  rw [View.set_slice_whole, Rect.mem_set_unit]
  exact Iff.rfl

/-- THE COVERED INDICES: in some flushing point's block iff inside the box those blocks fill. -/
theorem covered_iff12 (i : S1x8x128x512.Idx) :
    (∃ t : Fin cfg0.N, (cfg0.win 12).flush t = true ∧ i ∈ ((cfg0.win 12).blk t).view.set) ↔ 0 ≤ (i 0).val ∧ (i 0).val < 1 ∧ 0 ≤ (i 1).val ∧ (i 1).val < 8 ∧ 0 ≤ (i 2).val ∧ (i 2).val < 128 ∧ 0 ≤ (i 3).val ∧ (i 3).val < 512 := by
  constructor
  · rintro ⟨t, -, hi⟩
    rw [mem_blk12] at hi
    have b0 : win0_12.index t (0 : Fin 4) * 1 ≤ (i 0).val ∧ (i 0).val < win0_12.index t (0 : Fin 4) * 1 + 1 := hi 0
    have b1 : win0_12.index t (1 : Fin 4) * 4 ≤ (i 1).val ∧ (i 1).val < win0_12.index t (1 : Fin 4) * 4 + 4 := hi 1
    have b2 : win0_12.index t (2 : Fin 4) * 128 ≤ (i 2).val ∧ (i 2).val < win0_12.index t (2 : Fin 4) * 128 + 128 := hi 2
    have b3 : win0_12.index t (3 : Fin 4) * 512 ≤ (i 3).val ∧ (i 3).val < win0_12.index t (3 : Fin 4) * 512 + 512 := hi 3
    obtain ⟨e0, e1, e2, e3, e4⟩ := idx_facts12 t
    omega
  · intro h
    have hi0 : (i 0).val < 1 := (i 0).isLt
    have hi1 : (i 1).val < 8 := (i 1).isLt
    have hi2 : (i 2).val < 128 := (i 2).isLt
    have hi3 : (i 3).val < 512 := (i 3).isLt
    obtain ⟨t, hft, ht⟩ := idx_onto12 ⟨(i 0).val / 1 - 0, by omega⟩ ⟨(i 1).val / 4 - 0, by omega⟩ ⟨(i 2).val / 128 - 0, by omega⟩ ⟨(i 3).val / 512 - 0, by omega⟩
    have q0 : win0_12.index t (0 : Fin 4) = (i 0).val / 1 - 0 + 0 := congrFun ht 0
    have q1 : win0_12.index t (1 : Fin 4) = (i 1).val / 4 - 0 + 0 := congrFun ht 1
    have q2 : win0_12.index t (2 : Fin 4) = (i 2).val / 128 - 0 + 0 := congrFun ht 2
    have q3 : win0_12.index t (3 : Fin 4) = (i 3).val / 512 - 0 + 0 := congrFun ht 3
    refine ⟨t, hft, ?_⟩
    rw [mem_blk12]
    intro a
    match a with
    | ⟨0, _⟩ => show win0_12.index t (0 : Fin 4) * 1 ≤ (i 0).val ∧ (i 0).val < win0_12.index t (0 : Fin 4) * 1 + 1; omega
    | ⟨1, _⟩ => show win0_12.index t (1 : Fin 4) * 4 ≤ (i 1).val ∧ (i 1).val < win0_12.index t (1 : Fin 4) * 4 + 4; omega
    | ⟨2, _⟩ => show win0_12.index t (2 : Fin 4) * 128 ≤ (i 2).val ∧ (i 2).val < win0_12.index t (2 : Fin 4) * 128 + 128; omega
    | ⟨3, _⟩ => show win0_12.index t (3 : Fin 4) * 512 ≤ (i 3).val ∧ (i 3).val < win0_12.index t (3 : Fin 4) * 512 + 512; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 1 := (i 0).isLt; have h1 : (i 1).val < 8 := (i 1).isLt; have h2 : (i 2).val < 128 := (i 2).isLt; have h3 : (i 3).val < 512 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v17_0) = G11 m c
      ∧ r.2.mem ((c : Thread nD τ).loc main_v17_1) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post11 m r h c).trans (final11 m c),
      (post12 m r h c).trans (final12 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.KernelIdeal.Value

end
-- ==== Proof.Ssd.Grid.lean ====
module

public import proofs.«01_k».proof.Proof.Ssd.Reads
public import proofs.«01_k».proof.Proof.Ssd.Value

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Ssd

variable (m : (ℓ : Loc nD τ sig) → Buf (Elt Ideal) ℓ)

theorem blk_at (c : Dev nD) (t : Fin cfg0.N) (ht : t.val / 16 < 2)
    (hpos : ∀ i, (0 : EReal) ≤ m ((c : Thread nD τ).loc main_arg2) i) :
    Blk (iblk m c 0 t) (iblk m c 1 t) (iblk m c 2 t) (iblk m c 3 t) (iblk m c 4 t) (iblk m c 5 t) (iblk m c 6 t) (iblk m c 7 t) (iblk m c 8 t) (iblk m c 9 t) (fun k g => gD (m ((c : Thread nD τ).loc main_arg2)) (8 * (t.val % 16) + k) (gg (t.val / 16) ht g)) (fun g => ga (m ((c : Thread nD τ).loc main_arg3)) (gg (t.val / 16) ht g)) (fun k g => gX (m ((c : Thread nD τ).loc main_arg0)) (8 * (t.val % 16) + k) (gg (t.val / 16) ht g)) (fun k g => gB (m ((c : Thread nD τ).loc main_arg0)) (8 * (t.val % 16) + k) (gg (t.val / 16) ht g)) (fun k g => gC (m ((c : Thread nD τ).loc main_arg0)) (8 * (t.val % 16) + k) (gg (t.val / 16) ht g)) (fun k g => gZ (m ((c : Thread nD τ).loc main_arg1)) (8 * (t.val % 16) + k) (gg (t.val / 16) ht g)) (fun k g => gS (m ((c : Thread nD τ).loc main_arg0)) (m ((c : Thread nD τ).loc main_arg2)) (m ((c : Thread nD τ).loc main_arg3)) (m ((c : Thread nD τ).loc main_arg6)) (8 * (t.val % 16) + k) (gg (t.val / 16) ht g)) (fun g => gk (m ((c : Thread nD τ).loc main_arg4)) (gg (t.val / 16) ht g)) (fun g => gw (m ((c : Thread nD τ).loc main_arg5)) (gg (t.val / 16) ht g)) where
  h0 := fun k g s q => rd0 m c t ht k g s q
  h1 := fun k g s n => rd1 m c t ht k g s n
  h2 := fun k g s n => rd2 m c t ht k g s n
  h3 := fun k g s q => rd3 m c t ht k g s q
  h4 := fun k g s q => rd4 m c t ht k g s q
  h5 := fun k g s r => rd5 m c t ht k g s r
  h6 := fun g q => rd6 m c t ht g q
  h7 := fun g r => rd7 m c t ht g r
  h8 := fun g q => rd8 m c t ht g q
  h9 := fun g q => rd9 m c t ht g q
  hD0 := fun k g s r => hpos _
  hS := fun k g => rfl

/-- What the outputs and the carried state hold after point `t`. -/
def At (c : Dev nD) (t : Fin cfg0.N) (ht : t.val / 16 < 2) : Prop :=
  (∀ (k : Fin 8) (g : Fin 4) (s : Fin 64) (q : Fin 512), (outsAt0 m c t.val t.isLt).1 (ix2 (row k s) (col g q)) = gY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (8 * (t.val % 16) + (k : ℕ)) (gg (t.val / 16) ht g) s q)
  ∧ (∀ (g : Fin 4) (n : Fin 128) (q : Fin 512), (outsAt0 m c t.val t.isLt).2.2 (ix3 g n q) = gS (m ((c : Thread nD τ).loc main_arg0)) (m ((c : Thread nD τ).loc main_arg2)) (m ((c : Thread nD τ).loc main_arg3)) (m ((c : Thread nD τ).loc main_arg6)) (8 * (t.val % 16) + 8) (gg (t.val / 16) ht g) (hd q) (pl q) n)
  ∧ (t.val % 16 = 15 → ∀ (g : Fin 4) (n : Fin 128) (q : Fin 512), (outsAt0 m c t.val t.isLt).2.1 (ix4 0 g n q) = gS (m ((c : Thread nD τ).loc main_arg0)) (m ((c : Thread nD τ).loc main_arg2)) (m ((c : Thread nD τ).loc main_arg3)) (m ((c : Thread nD τ).loc main_arg6)) (8 * (t.val % 16) + 8) (gg (t.val / 16) ht g) (hd q) (pl q) n)

theorem pt_A (c : Dev nD) (t : Fin cfg0.N) (ht : t.val / 16 < 2) (h0 : t.val % 16 = 0) (h1 : ¬t.val % 16 = 15)
    (hpos : ∀ i, (0 : EReal) ≤ m ((c : Thread nD τ).loc main_arg2) i) : At m c t ht := by
  have h := case_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (fun k g => gD (m ((c : Thread nD τ).loc main_arg2)) (8 * (t.val % 16) + k) (gg (t.val / 16) ht g)) (fun g => ga (m ((c : Thread nD τ).loc main_arg3)) (gg (t.val / 16) ht g)) (fun k g => gX (m ((c : Thread nD τ).loc main_arg0)) (8 * (t.val % 16) + k) (gg (t.val / 16) ht g)) (fun k g => gB (m ((c : Thread nD τ).loc main_arg0)) (8 * (t.val % 16) + k) (gg (t.val / 16) ht g)) (fun k g => gC (m ((c : Thread nD τ).loc main_arg0)) (8 * (t.val % 16) + k) (gg (t.val / 16) ht g)) (fun k g => gZ (m ((c : Thread nD τ).loc main_arg1)) (8 * (t.val % 16) + k) (gg (t.val / 16) ht g)) (fun k g => gS (m ((c : Thread nD τ).loc main_arg0)) (m ((c : Thread nD τ).loc main_arg2)) (m ((c : Thread nD τ).loc main_arg3)) (m ((c : Thread nD τ).loc main_arg6)) (8 * (t.val % 16) + k) (gg (t.val / 16) ht g)) (fun g => gk (m ((c : Thread nD τ).loc main_arg4)) (gg (t.val / 16) ht g)) (fun g => gw (m ((c : Thread nD τ).loc main_arg5)) (gg (t.val / 16) ht g)) (blk_at m c t ht hpos) (fun g n q => by
      have := rd10 m c t ht g n q
      rw [this]
      simp only [h0])
  unfold At
  rw [outsAt0_A m c t h0 h1]
  refine ⟨h.1, h.2, ?_⟩
  exact fun h5 => absurd h5 h1

theorem pt_B (c : Dev nD) (t : Fin cfg0.N) (ht : t.val / 16 < 2) (h0 : ¬t.val % 16 = 0) (h1 : ¬t.val % 16 = 15)
    (hpos : ∀ i, (0 : EReal) ≤ m ((c : Thread nD τ).loc main_arg2) i)
    (ih : ∀ (g : Fin 4) (n : Fin 128) (q : Fin 512), (outsAt0 m c (t.val - 1) (Nat.lt_of_le_of_lt (Nat.sub_le _ _) t.isLt)).2.2 (ix3 g n q) = gS (m ((c : Thread nD τ).loc main_arg0)) (m ((c : Thread nD τ).loc main_arg2)) (m ((c : Thread nD τ).loc main_arg3)) (m ((c : Thread nD τ).loc main_arg6)) (8 * (t.val % 16)) (gg (t.val / 16) ht g) (hd q) (pl q) n) : At m c t ht := by
  have h := case_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun k g => gD (m ((c : Thread nD τ).loc main_arg2)) (8 * (t.val % 16) + k) (gg (t.val / 16) ht g)) (fun g => ga (m ((c : Thread nD τ).loc main_arg3)) (gg (t.val / 16) ht g)) (fun k g => gX (m ((c : Thread nD τ).loc main_arg0)) (8 * (t.val % 16) + k) (gg (t.val / 16) ht g)) (fun k g => gB (m ((c : Thread nD τ).loc main_arg0)) (8 * (t.val % 16) + k) (gg (t.val / 16) ht g)) (fun k g => gC (m ((c : Thread nD τ).loc main_arg0)) (8 * (t.val % 16) + k) (gg (t.val / 16) ht g)) (fun k g => gZ (m ((c : Thread nD τ).loc main_arg1)) (8 * (t.val % 16) + k) (gg (t.val / 16) ht g)) (fun k g => gS (m ((c : Thread nD τ).loc main_arg0)) (m ((c : Thread nD τ).loc main_arg2)) (m ((c : Thread nD τ).loc main_arg3)) (m ((c : Thread nD τ).loc main_arg6)) (8 * (t.val % 16) + k) (gg (t.val / 16) ht g)) (fun g => gk (m ((c : Thread nD τ).loc main_arg4)) (gg (t.val / 16) ht g)) (fun g => gw (m ((c : Thread nD τ).loc main_arg5)) (gg (t.val / 16) ht g)) (blk_at m c t ht hpos) ih
  unfold At
  rw [outsAt0_B m c t h0 h1]
  refine ⟨h.1, h.2, ?_⟩
  exact fun h5 => absurd h5 h1

theorem pt_C (c : Dev nD) (t : Fin cfg0.N) (ht : t.val / 16 < 2) (h0 : ¬t.val % 16 = 0) (h1 : t.val % 16 = 15)
    (hpos : ∀ i, (0 : EReal) ≤ m ((c : Thread nD τ).loc main_arg2) i)
    (ih : ∀ (g : Fin 4) (n : Fin 128) (q : Fin 512), (outsAt0 m c (t.val - 1) (Nat.lt_of_le_of_lt (Nat.sub_le _ _) t.isLt)).2.2 (ix3 g n q) = gS (m ((c : Thread nD τ).loc main_arg0)) (m ((c : Thread nD τ).loc main_arg2)) (m ((c : Thread nD τ).loc main_arg3)) (m ((c : Thread nD τ).loc main_arg6)) (8 * (t.val % 16)) (gg (t.val / 16) ht g) (hd q) (pl q) n) : At m c t ht := by
  have h := case_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2 (fun k g => gD (m ((c : Thread nD τ).loc main_arg2)) (8 * (t.val % 16) + k) (gg (t.val / 16) ht g)) (fun g => ga (m ((c : Thread nD τ).loc main_arg3)) (gg (t.val / 16) ht g)) (fun k g => gX (m ((c : Thread nD τ).loc main_arg0)) (8 * (t.val % 16) + k) (gg (t.val / 16) ht g)) (fun k g => gB (m ((c : Thread nD τ).loc main_arg0)) (8 * (t.val % 16) + k) (gg (t.val / 16) ht g)) (fun k g => gC (m ((c : Thread nD τ).loc main_arg0)) (8 * (t.val % 16) + k) (gg (t.val / 16) ht g)) (fun k g => gZ (m ((c : Thread nD τ).loc main_arg1)) (8 * (t.val % 16) + k) (gg (t.val / 16) ht g)) (fun k g => gS (m ((c : Thread nD τ).loc main_arg0)) (m ((c : Thread nD τ).loc main_arg2)) (m ((c : Thread nD τ).loc main_arg3)) (m ((c : Thread nD τ).loc main_arg6)) (8 * (t.val % 16) + k) (gg (t.val / 16) ht g)) (fun g => gk (m ((c : Thread nD τ).loc main_arg4)) (gg (t.val / 16) ht g)) (fun g => gw (m ((c : Thread nD τ).loc main_arg5)) (gg (t.val / 16) ht g)) (blk_at m c t ht hpos) ih
  unfold At
  rw [outsAt0_C m c t h0 h1]
  refine ⟨h.1, h.2.1, ?_⟩
  intro _ g n q
  have h2 := h.2.2 g n q
  dsimp only
  exact h2

theorem pt_at (c : Dev nD) (hpos : ∀ i, (0 : EReal) ≤ m ((c : Thread nD τ).loc main_arg2) i) :
    ∀ (n : ℕ) (hn : n < cfg0.N) (ht : n / 16 < 2), At m c ⟨n, hn⟩ ht := by
  intro n
  induction n with
  | zero => exact fun hn ht => pt_A m c ⟨0, hn⟩ ht rfl (fun h => by dsimp only at h; omega) hpos
  | succ n ihn =>
    intro hn ht
    by_cases h0 : (n + 1) % 16 = 0
    · exact pt_A m c ⟨n + 1, hn⟩ ht h0 (by dsimp only; omega) hpos
    · have ih : ∀ (g : Fin 4) (k : Fin 128) (q : Fin 512), (outsAt0 m c ((⟨n + 1, hn⟩ : Fin cfg0.N).val - 1) (Nat.lt_of_le_of_lt (Nat.sub_le _ _) (⟨n + 1, hn⟩ : Fin cfg0.N).isLt)).2.2 (ix3 g k q) = gS (m ((c : Thread nD τ).loc main_arg0)) (m ((c : Thread nD τ).loc main_arg2)) (m ((c : Thread nD τ).loc main_arg3)) (m ((c : Thread nD τ).loc main_arg6)) (8 * ((⟨n + 1, hn⟩ : Fin cfg0.N).val % 16)) (gg ((⟨n + 1, hn⟩ : Fin cfg0.N).val / 16) ht g) (hd q) (pl q) k := by
        intro g k q
        have hd' : n / 16 = (n + 1) / 16 := by omega
        have hm' : 8 * (n % 16) + 8 = 8 * ((n + 1) % 16) := by omega
        have h := (ihn (Nat.lt_of_succ_lt hn) (by omega)).2.1 g k q
        have hg : gg (n / 16) (by omega) g = gg ((n + 1) / 16) ht g := by simp only [gg, hd']
        dsimp only at h ⊢
        rw [hm', hg] at h
        exact h
      by_cases h1 : (n + 1) % 16 = 15
      · exact pt_C m c ⟨n + 1, hn⟩ ht h0 h1 hpos ih
      · exact pt_B m c ⟨n + 1, hn⟩ ht h0 h1 hpos ih

/-- The output array at step `s` of chunk `k` and column `q` of group `G`. -/
theorem G11_at (c : Dev nD) (hpos : ∀ i, (0 : EReal) ≤ m ((c : Thread nD τ).loc main_arg2) i)
    (k : ℕ) (hk : k < 128) (G : Fin 8) (s : Fin 64) (q : Fin 512) :
    G11 (F := Ideal) m c (ix2 ⟨64 * k + (s : ℕ), by omega⟩ ⟨512 * (G : ℕ) + (q : ℕ), by omega⟩) = gY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k G s q := by
  have hN : cfg0.N = 32 := N_0
  have e : pt11Of (ix2 (⟨64 * k + (s : ℕ), by omega⟩ : Fin 8192) (⟨512 * (G : ℕ) + (q : ℕ), by omega⟩ : Fin 4096)) = k / 8 + 16 * ((G : ℕ) / 4) := by
    show 1 * ((64 * k + (s : ℕ)) / 512 - 0) + 16 * ((512 * (G : ℕ) + (q : ℕ)) / 2048 - 0) = _
    omega
  have hp : pt11Of (ix2 (⟨64 * k + (s : ℕ), by omega⟩ : Fin 8192) (⟨512 * (G : ℕ) + (q : ℕ), by omega⟩ : Fin 4096)) < cfg0.N := by
    rw [e, hN]; omega
  unfold G11
  rw [dif_pos hp, ← outsAt0_sweep m c _ hp]
  have hl : loc11Of (ix2 (⟨64 * k + (s : ℕ), by omega⟩ : Fin 8192) (⟨512 * (G : ℕ) + (q : ℕ), by omega⟩ : Fin 4096)) = ix2 (row ⟨k % 8, by omega⟩ s) (col ⟨(G : ℕ) % 4, by omega⟩ q) := by
    funext a; fin_cases a
    · apply Fin.ext; show (64 * k + (s : ℕ)) % 512 = 64 * (k % 8) + (s : ℕ); omega
    · apply Fin.ext; show (512 * (G : ℕ) + (q : ℕ)) % 2048 = 512 * ((G : ℕ) % 4) + (q : ℕ); omega
  rw [hl]
  generalize hn : pt11Of (ix2 (⟨64 * k + (s : ℕ), by omega⟩ : Fin 8192) (⟨512 * (G : ℕ) + (q : ℕ), by omega⟩ : Fin 4096)) = n at hp e
  have ht : n / 16 < 2 := by omega
  refine ((pt_at m c hpos n hp ht).1 ⟨k % 8, by omega⟩ ⟨(G : ℕ) % 4, by omega⟩ s q).trans ?_
  have e1 : 8 * (n % 16) + k % 8 = k := by omega
  have e2 : gg (n / 16) ht ⟨(G : ℕ) % 4, by omega⟩ = G := by
    apply Fin.ext; show 4 * (n / 16) + (G : ℕ) % 4 = G; omega
  dsimp only
  rw [e1, e2]

/-- The state array after the last chunk. -/
theorem G12_at (c : Dev nD) (hpos : ∀ i, (0 : EReal) ≤ m ((c : Thread nD τ).loc main_arg2) i)
    (G : Fin 8) (n : Fin 128) (q : Fin 512) :
    G12 (F := Ideal) m c (ix4 0 G n q) = gS (m ((c : Thread nD τ).loc main_arg0)) (m ((c : Thread nD τ).loc main_arg2)) (m ((c : Thread nD τ).loc main_arg3)) (m ((c : Thread nD τ).loc main_arg6)) 128 G (hd q) (pl q) n := by
  have hN : cfg0.N = 32 := N_0
  have e : pt12Of (ix4 (0 : Fin 1) G n q) = 16 * ((G : ℕ) / 4) + 15 := by
    show 16 * (2 * (0 / 1 - 0) + 1 * ((G : ℕ) / 4 - 0) + 1 * ((n : ℕ) / 128 - 0) + 1 * ((q : ℕ) / 512 - 0)) + 15 = _
    omega
  have hp : pt12Of (ix4 (0 : Fin 1) G n q) < cfg0.N := by rw [e, hN]; omega
  unfold G12
  rw [dif_pos hp, ← outsAt0_sweep m c _ hp]
  have hl : loc12Of (ix4 (0 : Fin 1) G n q) = ix4 (0 : Fin 1) ⟨(G : ℕ) % 4, by omega⟩ n q := by
    funext a; fin_cases a
    · apply Fin.ext; show 0 % 1 = 0; rfl
    · apply Fin.ext; show (G : ℕ) % 4 = (G : ℕ) % 4; rfl
    · apply Fin.ext; show (n : ℕ) % 128 = n; omega
    · apply Fin.ext; show (q : ℕ) % 512 = q; omega
  rw [hl]
  generalize hn : pt12Of (ix4 (0 : Fin 1) G n q) = j at hp e
  have ht : j / 16 < 2 := by omega
  have e3 : j % 16 = 15 := by omega
  refine ((pt_at m c hpos j hp ht).2.2 e3 ⟨(G : ℕ) % 4, by omega⟩ n q).trans ?_
  have e1 : 8 * (j % 16) + 8 = 128 := by omega
  have e2 : gg (j / 16) ht ⟨(G : ℕ) % 4, by omega⟩ = G := by
    apply Fin.ext; show 4 * (j / 16) + (G : ℕ) % 4 = G; omega
  dsimp only
  rw [e1, e2]

end Cert.KernelIdeal.Value

end
-- ==== Proof.Ssd.RefSteps.lean ====
module

public import proofs.«01_k».proof.Proof.Gen.ReferenceIdeal.Run
public import proofs.«01_k».proof.Proof.Ssd.Data
public import Idealize.ShloMosaic.Lib.Pipeline.ValueKit
public import Idealize.ShloMosaic.Lib.WordCmp

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Ssd

/-! One trip's terms at an index, over any chunk. -/

theorem state_term (S7 : FVec Ideal S1x8x8x64x128 .f32) (v58 : FVec Ideal S1x64x8x8x64 .f32) (v59 v65 : FVec Ideal S1x64x8x8 .f32)
    (v60 : FVec Ideal S1x64x8x128 .f32) (g r : Fin 8) (p : Fin 64) (n : Fin 128) :
    (addf (mulf S7 (broadcastInDim S1x8x8x64x128 ![0, 1, 2, 3, 4] bcast_S1x8x8x1x1_S1x8x8x64x128_0_1_2_3_4 (broadcastInDim S1x8x8x1x1 ![0, 1, 2] bcast_S1x8x8_S1x8x8x1x1_0_1_2 (Host.exp (shapeCast S1x8x8 (extractStridedSlice S1x1x8x8 ![0, 63, 0, 0] v65 slices_S1x64x8x8_S1x1x8x8_0_63_0_0) shapeCasts_S1x1x8x8_S1x8x8))))) (Host.dotGeneral dot_S1x64x8x8x64_S1x64x8x128_S1x8x8x64x128_1_1_34_3_02_02 none (mulf v58 (broadcastInDim S1x64x8x8x64 ![0, 1, 2, 3, 4] bcast_S1x64x8x8x1_S1x64x8x8x64_0_1_2_3_4 (broadcastInDim S1x64x8x8x1 ![0, 1, 2, 3] bcast_S1x64x8x8_S1x64x8x8x1_0_1_2_3 (mulf (Host.exp (subf (broadcastInDim S1x64x8x8 ![0, 1, 2, 3] bcast_S1x1x8x8_S1x64x8x8_0_1_2_3 (extractStridedSlice S1x1x8x8 ![0, 63, 0, 0] v65 slices_S1x64x8x8_S1x1x8x8_0_63_0_0)) v65)) v59)))) v60) : FVec Ideal S1x8x8x64x128 .f32) (ix5 0 g r p n)
      = S7 (ix5 0 g r p n) * Ideal.exp (v65 (ix4 0 63 g r)) + ∑ s : Fin 64, v58 (ix5 0 s g r p) * (Ideal.exp (v65 (ix4 0 63 g r) - v65 (ix4 0 s g r)) * v59 (ix4 0 s g r)) * v60 (ix4 0 s g n) := by
  pointwise

theorem out_term (S7 : FVec Ideal S1x8x8x64x128 .f32) (v58 : FVec Ideal S1x64x8x8x64 .f32) (v59 v65 : FVec Ideal S1x64x8x8 .f32)
    (v60 v61 : FVec Ideal S1x64x8x128 .f32) (msk : IVec S1x64x64x1x1 1) (t : Fin 64) (g r : Fin 8) (p : Fin 64) :
    (addf (transpose S1x64x8x8x64 [0, 4, 1, 2, 3] (Host.dotGeneral dot_S1x64x8x8x64_S1x64x64x8x8_S1x8x8x64x64_1_2_4_1_023_034 none (mulf v58 (broadcastInDim S1x64x8x8x64 ![0, 1, 2, 3, 4] bcast_S1x64x8x8x1_S1x64x8x8x64_0_1_2_3_4 (broadcastInDim S1x64x8x8x1 ![0, 1, 2, 3] bcast_S1x64x8x8_S1x64x8x8x1_0_1_2_3 v59))) (mulf (broadcastInDim S1x64x64x8x8 ![0, 1, 2, 3, 4] bcast_S1x64x64x8x1_S1x64x64x8x8_0_1_2_3_4 (broadcastInDim S1x64x64x8x1 ![0, 1, 2, 3] bcast_S1x64x64x8_S1x64x64x8x1_0_1_2_3 (transpose S1x64x64x8 [0, 3, 2, 1] (Host.dotGeneral dot_S1x64x8x128_S1x64x8x128_S1x8x64x64_3_3_1_1_02_02 none v60 v61) transposes_S1x8x64x64_S1x64x64x8_0_3_2_1))) (Host.exp (select (broadcastInDim S1x64x64x8x8 ![0, 1, 2, 3, 4] bcast_S1x64x64x1x1_S1x64x64x8x8_0_1_2_3_4 msk) (subf (broadcastInDim S1x64x64x8x8 ![0, 1, 2, 3, 4] bcast_S1x64x1x8x8_S1x64x64x8x8_0_1_2_3_4 (broadcastInDim S1x64x1x8x8 ![0, 1, 3, 4] bcast_S1x64x8x8_S1x64x1x8x8_0_1_3_4 v65)) (broadcastInDim S1x64x64x8x8 ![0, 1, 2, 3, 4] bcast_S1x1x64x8x8_S1x64x64x8x8_0_1_2_3_4 (broadcastInDim S1x1x64x8x8 ![0, 2, 3, 4] bcast_S1x64x8x8_S1x1x64x8x8_0_2_3_4 v65))) (broadcastInDim S1x64x64x8x8 ![] bcast_S_S1x64x64x8x8 (id (constant S_ .f32 0xFF800000#32))))))) transposes_S1x8x8x64x64_S1x64x8x8x64_0_4_1_2_3) (mulf (transpose S1x64x8x8x64 [0, 4, 1, 2, 3] (Host.dotGeneral dot_S1x8x8x64x128_S1x64x8x128_S1x8x8x64x64_4_3_23_1_01_02 none S7 v61) transposes_S1x8x8x64x64_S1x64x8x8x64_0_4_1_2_3) (broadcastInDim S1x64x8x8x64 ![0, 1, 2, 3, 4] bcast_S1x64x8x8x1_S1x64x8x8x64_0_1_2_3_4 (broadcastInDim S1x64x8x8x1 ![0, 1, 2, 3] bcast_S1x64x8x8_S1x64x8x8x1_0_1_2_3 (Host.exp v65)))) : FVec Ideal S1x64x8x8x64 .f32) (ix5 0 t g r p)
      = (∑ s : Fin 64, (v58 (ix5 0 s g r p) * v59 (ix4 0 s g r)) * ((∑ n : Fin 128, v60 (ix4 0 s g n) * v61 (ix4 0 t g n)) * Ideal.exp (Scalar.select (msk (ix5 0 t s 0 0)) (v65 (ix4 0 t g r) - v65 (ix4 0 s g r)) (Ideal.ofBits .f32 0xFF800000#32))))
        + (∑ n : Fin 128, S7 (ix5 0 g r p n) * v61 (ix4 0 t g n)) * Ideal.exp (v65 (ix4 0 t g r)) := by
  pointwise
  rfl

theorem foldl_add {α : Type} (f : α → EReal) : ∀ (l : List α) (v : EReal), l.foldl (fun r k => r + f k) v = v + (l.map f).sum
  | [], v => (add_zero v).symm
  | k :: l, v => by
    rw [List.foldl_cons, foldl_add f l (v + f k), List.map_cons, List.sum_cons, add_assoc]

/-- A running sum along the rows of one chunk. -/
theorem cum_term (x : FVec Ideal S1x64x8x8 .f32) (t : Fin 64) (g r : Fin 8) :
    (Host.reduceWindowAdd ![1, 64, 1, 1] ![1, 1, 1, 1] ![0, 63, 0, 0] ![0, 0, 0, 0] x (broadcastInDim S_ ![] bcast_S_S_ (constant S_ .f32 0x00000000#32)) reduceWindows_S1x64x8x8_S1x64x8x8_w1s1p0_0_w64s1p63_0_w1s1p0_0_w1s1p0_0 h_S_ : FVec Ideal S1x64x8x8 .f32) (ix4 0 t g r)
      = ∑ s : Fin 64, if s ≤ t then x (ix4 0 s g r) else 0 := by
  have h0 : (broadcastInDim S_ ![] bcast_S_S_ (constant (F := Ideal) S_ .f32 0x00000000#32)) (Shape.Idx.first h_S_) = (0 : EReal) := by
    show Ideal.ofBits .f32 0x00000000#32 = 0
    exact Ideal.ofBits_zero_f32
  unfold Host.reduceWindowAdd
  rw [Ideal.hostReduceWindowAdd_def, h0]
  unfold Ideal.hostReduceWindowAdd Host.reduceWindow
  dsimp only
  rw [foldl_add, zero_add, ← Fin.sum_univ_def]
  have key : ∀ (w : (⟨4, ![1, 64, 1, 1]⟩ : Shape).Idx) (inst : Decidable (∀ a : Fin 4, (![0, 63, 0, 0] : Fin 4 → ℕ) a ≤ (ix4 (0 : Fin 1) t g r a).val * (![1, 1, 1, 1] : Fin 4 → ℕ) a + (w a).val
          ∧ (ix4 (0 : Fin 1) t g r a).val * (![1, 1, 1, 1] : Fin 4 → ℕ) a + (w a).val - (![0, 63, 0, 0] : Fin 4 → ℕ) a < (![1, 64, 8, 8] : Fin 4 → ℕ) a)),
      (@dite EReal (∀ a : Fin 4, (![0, 63, 0, 0] : Fin 4 → ℕ) a ≤ (ix4 (0 : Fin 1) t g r a).val * (![1, 1, 1, 1] : Fin 4 → ℕ) a + (w a).val
          ∧ (ix4 (0 : Fin 1) t g r a).val * (![1, 1, 1, 1] : Fin 4 → ℕ) a + (w a).val - (![0, 63, 0, 0] : Fin 4 → ℕ) a < (![1, 64, 8, 8] : Fin 4 → ℕ) a) inst (fun hin => x (fun a => ⟨(ix4 (0 : Fin 1) t g r a).val * (![1, 1, 1, 1] : Fin 4 → ℕ) a + (w a).val - (![0, 63, 0, 0] : Fin 4 → ℕ) a, (hin a).2⟩)) (fun _ => (0 : EReal)))
      = if h : 63 ≤ (t : ℕ) + (w 1).val then x (ix4 0 ⟨(t : ℕ) + (w 1).val - 63, by have := (w 1).isLt; change _ < 64 at this; omega⟩ g r) else 0 := by
    intro w inst
    have w0 : (w 0).val < 1 := (w 0).isLt
    have w1 : (w 1).val < 64 := (w 1).isLt
    have w2 : (w 2).val < 1 := (w 2).isLt
    have w3 : (w 3).val < 1 := (w 3).isLt
    by_cases h : 63 ≤ (t : ℕ) + (w 1).val
    · have hin : ∀ a : Fin 4, (![0, 63, 0, 0] : Fin 4 → ℕ) a ≤ (ix4 (0 : Fin 1) t g r a).val * (![1, 1, 1, 1] : Fin 4 → ℕ) a + (w a).val
          ∧ (ix4 (0 : Fin 1) t g r a).val * (![1, 1, 1, 1] : Fin 4 → ℕ) a + (w a).val - (![0, 63, 0, 0] : Fin 4 → ℕ) a < (![1, 64, 8, 8] : Fin 4 → ℕ) a := by
        intro a
        fin_cases a
        · show 0 ≤ 0 * 1 + (w 0).val ∧ 0 * 1 + (w 0).val - 0 < 1; omega
        · show 63 ≤ (t : ℕ) * 1 + (w 1).val ∧ (t : ℕ) * 1 + (w 1).val - 63 < 64; omega
        · show 0 ≤ (g : ℕ) * 1 + (w 2).val ∧ (g : ℕ) * 1 + (w 2).val - 0 < 8; omega
        · show 0 ≤ (r : ℕ) * 1 + (w 3).val ∧ (r : ℕ) * 1 + (w 3).val - 0 < 8; omega
      rw [dif_pos hin, dif_pos h]
      refine congrArg x (funext fun a => Fin.ext ?_)
      fin_cases a
      · show 0 * 1 + (w 0).val - 0 = 0; omega
      · show (t : ℕ) * 1 + (w 1).val - 63 = (t : ℕ) + (w 1).val - 63; omega
      · show (g : ℕ) * 1 + (w 2).val - 0 = g; omega
      · show (r : ℕ) * 1 + (w 3).val - 0 = r; omega
    · rw [dif_neg h, dif_neg]
      intro hin
      have h1 := (hin 1).1
      change 63 ≤ (t : ℕ) * 1 + (w 1).val at h1
      omega
  refine (Finset.sum_congr rfl (fun i _ => key ((Shape.rowMajor (⟨4, ![1, 64, 1, 1]⟩ : Shape)).symm i) _)).trans ?_
  rw [Equiv.sum_comp (Shape.rowMajor (⟨4, ![1, 64, 1, 1]⟩ : Shape)).symm
    (fun w : (⟨4, ![1, 64, 1, 1]⟩ : Shape).Idx => if h : 63 ≤ (t : ℕ) + (w 1).val then x (ix4 0 ⟨(t : ℕ) + (w 1).val - 63, by have := (w 1).isLt; change _ < 64 at this; omega⟩ g r) else 0)]
  rw [sum_idx4, Fin.sum_univ_one]
  have e : ∀ b : Fin 64, (∑ c : Fin 1, ∑ d : Fin 1, if h : 63 ≤ (t : ℕ) + (ix4 (0 : Fin 1) b c d 1).val then x (ix4 0 ⟨(t : ℕ) + (ix4 (0 : Fin 1) b c d 1).val - 63, by show (t : ℕ) + (b : ℕ) - 63 < 64; omega⟩ g r) else 0)
      = if h : 63 ≤ (t : ℕ) + (b : ℕ) then x (ix4 0 ⟨(t : ℕ) + (b : ℕ) - 63, by omega⟩ g r) else 0 := by
    intro b
    rw [Fin.sum_univ_one, Fin.sum_univ_one]
    rfl
  refine (Finset.sum_congr rfl (fun b _ => e b)).trans ?_
  refine Eq.trans ?_ (Finset.sum_filter (fun s : Fin 64 => s ≤ t) (fun s => x (ix4 0 s g r)))
  have e2 : ∀ b : Fin 64, (if h : 63 ≤ (t : ℕ) + (b : ℕ) then x (ix4 0 ⟨(t : ℕ) + (b : ℕ) - 63, by omega⟩ g r) else 0)
      = if 63 ≤ (t : ℕ) + (b : ℕ) then x (ix4 0 ⟨(t : ℕ) + (b : ℕ) - 63, by omega⟩ g r) else 0 := fun b => by
    by_cases h : 63 ≤ (t : ℕ) + (b : ℕ)
    · rw [dif_pos h, if_pos h]
    · rw [dif_neg h, if_neg h]
  rw [Finset.sum_congr rfl (fun b _ => e2 b), ← Finset.sum_filter]
  refine Finset.sum_bij' (fun b _ => (⟨(t : ℕ) + (b : ℕ) - 63, by omega⟩ : Fin 64)) (fun s hs => (⟨63 - ((t : ℕ) - (s : ℕ)), by omega⟩ : Fin 64)) ?_ ?_ ?_ ?_ ?_
  · intro b hb
    simp only [Finset.mem_filter, Finset.mem_univ, true_and] at hb ⊢
    rw [Fin.le_def]; dsimp only; omega
  · intro s hs
    simp only [Finset.mem_filter, Finset.mem_univ, true_and] at hs ⊢
    rw [Fin.le_def] at hs; omega
  · intro b hb
    simp only [Finset.mem_filter, Finset.mem_univ, true_and] at hb
    apply Fin.ext; dsimp only; omega
  · intro s hs
    simp only [Finset.mem_filter, Finset.mem_univ, true_and] at hs
    rw [Fin.le_def] at hs
    apply Fin.ext; dsimp only; omega
  · intro b hb
    rfl

end Cert.ReferenceIdeal.Value

end
-- ==== Proof.Ssd.RefSlices.lean ====
module

public import proofs.«01_k».proof.Proof.Ssd.RefSteps

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Ssd

theorem toInt_ofNat (k : Fin 128) : (BitVec.ofNat 32 (k : ℕ)).toInt = ((k : ℕ) : Int) :=
  (by decide +kernel : ∀ k : Fin 128, (BitVec.ofNat 32 (k : ℕ)).toInt = ((k : ℕ) : Int)) k

theorem slices6 (k : Fin 128) : S128x1x64x8x8x64.Slices ![(k : ℕ), 0, 0, 0, 0, 0] S1x1x64x8x8x64 :=
  ⟨rfl, fun a => by have := k.isLt; fin_cases a <;> simp <;> omega⟩

theorem slices5 (k : Fin 128) : S128x1x64x8x128.Slices ![(k : ℕ), 0, 0, 0, 0] S1x1x64x8x128 :=
  ⟨rfl, fun a => by have := k.isLt; fin_cases a <;> simp <;> omega⟩

theorem slices55 (k : Fin 128) : S128x1x64x8x8.Slices ![(k : ℕ), 0, 0, 0, 0] S1x1x64x8x8 :=
  ⟨rfl, fun a => by have := k.isLt; fin_cases a <;> simp <;> omega⟩

variable (V : Valuation τ sig (Elt Ideal))

theorem v58_at (k : Fin 128) (hk : V (Proc.devRef .tc main_v24_6) = fun _ => BitVec.ofNat 32 k) (s : Fin 64) (g r : Fin 8) (p : Fin 64) :
    res_main_while0b_v58 V (ix5 0 s g r p) = V (Proc.devRef .tc main_v24_0) (ix6 k 0 s g r p) := by
  unfold res_main_while0b_v58
  rw [hk]
  generalize V (Proc.devRef .tc main_v24_0) = x
  revert x
  intro (x : FVec Ideal S128x1x64x8x8x64 .f32)
  rw [WordCmp.dynamicSlice_eq_extract _ x _ _ ![(k : ℕ), 0, 0, 0, 0, 0] (slices6 k) (by
    intro a; fin_cases a
    · exact toInt_ofNat k
    · rfl
    · rfl
    · rfl
    · rfl
    · rfl)]
  pointwise
  try blk_ext

theorem v59_at (k : Fin 128) (hk : V (Proc.devRef .tc main_v24_6) = fun _ => BitVec.ofNat 32 k) (s : Fin 64) (g r : Fin 8) :
    res_main_while0b_v59 V (ix4 0 s g r) = V (Proc.devRef .tc main_v24_1) (ix5 k 0 s g r) := by
  unfold res_main_while0b_v59
  rw [hk]
  generalize V (Proc.devRef .tc main_v24_1) = x
  revert x
  intro (x : FVec Ideal S128x1x64x8x8 .f32)
  rw [WordCmp.dynamicSlice_eq_extract _ x _ _ ![(k : ℕ), 0, 0, 0, 0] (slices55 k) (by
    intro a; fin_cases a
    · exact toInt_ofNat k
    · rfl
    · rfl
    · rfl
    · rfl)]
  pointwise
  try blk_ext

theorem v60_at (k : Fin 128) (hk : V (Proc.devRef .tc main_v24_6) = fun _ => BitVec.ofNat 32 k) (s : Fin 64) (g : Fin 8) (n : Fin 128) :
    res_main_while0b_v60 V (ix4 0 s g n) = V (Proc.devRef .tc main_v24_2) (ix5 k 0 s g n) := by
  unfold res_main_while0b_v60
  rw [hk]
  generalize V (Proc.devRef .tc main_v24_2) = x
  revert x
  intro (x : FVec Ideal S128x1x64x8x128 .f32)
  rw [WordCmp.dynamicSlice_eq_extract _ x _ _ ![(k : ℕ), 0, 0, 0, 0] (slices5 k) (by
    intro a; fin_cases a
    · exact toInt_ofNat k
    · rfl
    · rfl
    · rfl
    · rfl)]
  pointwise
  try blk_ext

theorem v61_at (k : Fin 128) (hk : V (Proc.devRef .tc main_v24_6) = fun _ => BitVec.ofNat 32 k) (s : Fin 64) (g : Fin 8) (n : Fin 128) :
    res_main_while0b_v61 V (ix4 0 s g n) = V (Proc.devRef .tc main_v24_3) (ix5 k 0 s g n) := by
  unfold res_main_while0b_v61
  rw [hk]
  generalize V (Proc.devRef .tc main_v24_3) = x
  revert x
  intro (x : FVec Ideal S128x1x64x8x128 .f32)
  rw [WordCmp.dynamicSlice_eq_extract _ x _ _ ![(k : ℕ), 0, 0, 0, 0] (slices5 k) (by
    intro a; fin_cases a
    · exact toInt_ofNat k
    · rfl
    · rfl
    · rfl
    · rfl)]
  pointwise
  try blk_ext

theorem ys_at (k : Fin 128) (x : FVec Ideal S128x1x64x8x8x64 .f32) (y : FVec Ideal S1x64x8x8x64 .f32) (j : Fin 128) (s : Fin 64) (g r : Fin 8) (p : Fin 64) :
    Host.dynamicUpdateSlice x (broadcastInDim S1x1x64x8x8x64 ![1, 2, 3, 4, 5] bcast_S1x64x8x8x64_S1x1x64x8x8x64_1_2_3_4_5 y) (fun b => (((![fun _ => BitVec.ofNat 32 k, constantI S_ 32 0#32, constantI S_ 32 0#32, constantI S_ 32 0#32, constantI S_ 32 0#32, constantI S_ 32 0#32] : Fin 6 → (⟨S_, .i32⟩ : BufTy).Contents (Elt Ideal))) b (Shape.Idx.first h_S_)).toInt) updateFits_S128x1x64x8x8x64_S1x1x64x8x8x64 (ix6 j 0 s g r p)
      = if j = k then y (ix5 0 s g r p) else x (ix6 j 0 s g r p) := by
  rw [WordCmp.dynamicUpdateSlice_eq_update x _ _ _ ![(k : ℕ), 0, 0, 0, 0, 0] (slices6 k) (by
    intro a; fin_cases a
    · exact toInt_ofNat k
    · rfl
    · rfl
    · rfl
    · rfl
    · rfl)]
  pointwise
  by_cases h : j = k
  · subst h
    rw [dif_pos ⟨le_refl _, Nat.lt_succ_self _⟩, if_pos rfl]
  · rw [dif_neg (fun hh => h (Fin.ext (by omega))), if_neg h]

/-- The running sums of chunk `k`. -/
theorem cum_at (k : Fin 128) (hk : V (Proc.devRef .tc main_v24_6) = fun _ => BitVec.ofNat 32 k)
    (D : Fin 8 → Fin 64 → Fin 8 → EReal) (a : Fin 8 → Fin 8 → EReal)
    (hD : ∀ g s r, V (Proc.devRef .tc main_v24_1) (ix5 k 0 s g r) = D g s r)
    (ha : ∀ g r, V (Proc.devRef .tc main_v24_4) (ix2 g r) = a g r) (g : Fin 8) (t : Fin 64) (r : Fin 8) :
    res_main_while0b_v65 V (ix4 0 t g r) = cum (D g) (a g) t r := by
  unfold res_main_while0b_v65 cum
  refine (cum_term _ t g r).trans (Finset.sum_congr rfl fun s _ => ?_)
  by_cases h : s ≤ t
  · rw [if_pos h, if_pos h]
    refine congrArg₂ (· * ·) ((v59_at V k hk s g r).trans (hD g s r)) ?_
    refine Eq.trans ?_ (ha g r)
    generalize V (Proc.devRef .tc main_v24_4) = x
    revert x
    intro (x : FVec Ideal S8x8 .f32)
    pointwise
  · rw [if_neg h, if_neg h]

theorem exp_low : Ideal.exp (Ideal.ofBits .f32 0xFF800000#32) = 0 := by
  have h : Ideal.ofBits .f32 0xFF800000#32 = ⊥ := by simp [Ideal.ofBits, Ideal.ieee]
  rw [h]; simp

/-- The state after the trip that reads chunk `k`. -/
theorem step7_at (k : Fin 128) (hk : V (Proc.devRef .tc main_v24_6) = fun _ => BitVec.ofNat 32 k)
    (D : Fin 8 → Fin 64 → Fin 8 → EReal) (a : Fin 8 → Fin 8 → EReal) (X : Fin 8 → Fin 64 → Fin 8 → Fin 64 → EReal)
    (B : Fin 8 → Fin 64 → Fin 128 → EReal) (S : Fin 8 → Fin 8 → Fin 64 → Fin 128 → EReal)
    (hX : ∀ g s r p, V (Proc.devRef .tc main_v24_0) (ix6 k 0 s g r p) = X g s r p)
    (hD : ∀ g s r, V (Proc.devRef .tc main_v24_1) (ix5 k 0 s g r) = D g s r)
    (hB : ∀ g s n, V (Proc.devRef .tc main_v24_2) (ix5 k 0 s g n) = B g s n)
    (ha : ∀ g r, V (Proc.devRef .tc main_v24_4) (ix2 g r) = a g r)
    (hS : ∀ g r p n, V (Proc.devRef .tc main_v24_7) (ix5 0 g r p n) = S g r p n)
    (g r : Fin 8) (p : Fin 64) (n : Fin 128) :
    step_main_v24_7 V (ix5 0 g r p n) = nextS (D g) (a g) (X g) (B g) (S g) r p n := by
  have hc := cum_at V k hk D a hD ha
  unfold step_main_v24_7
  refine (state_term (V (Proc.devRef .tc main_v24_7)) (res_main_while0b_v58 V) (res_main_while0b_v59 V) (res_main_while0b_v65 V) (res_main_while0b_v60 V) g r p n).trans ?_
  unfold nextS
  refine congrArg₂ (· + ·) (congrArg₂ (· * ·) (hS g r p n) (congrArg Ideal.exp (hc g 63 r))) (Finset.sum_congr rfl fun s _ => ?_)
  rw [v58_at V k hk, v59_at V k hk, v60_at V k hk, hX, hD, hB, mul_comm]
  refine congrArg₂ (· * ·) rfl (congrArg₂ (· * ·) rfl (congrArg₂ (· * ·) (congrArg Ideal.exp ?_) rfl))
  exact congrArg₂ (· - ·) (hc g 63 r) (hc g s r)

/-- The outputs stored by the trip that reads chunk `k`. -/
theorem step8_at (k : Fin 128) (hk : V (Proc.devRef .tc main_v24_6) = fun _ => BitVec.ofNat 32 k)
    (D : Fin 8 → Fin 64 → Fin 8 → EReal) (a : Fin 8 → Fin 8 → EReal) (X : Fin 8 → Fin 64 → Fin 8 → Fin 64 → EReal)
    (B C : Fin 8 → Fin 64 → Fin 128 → EReal) (S : Fin 8 → Fin 8 → Fin 64 → Fin 128 → EReal)
    (hX : ∀ g s r p, V (Proc.devRef .tc main_v24_0) (ix6 k 0 s g r p) = X g s r p)
    (hD : ∀ g s r, V (Proc.devRef .tc main_v24_1) (ix5 k 0 s g r) = D g s r)
    (hB : ∀ g s n, V (Proc.devRef .tc main_v24_2) (ix5 k 0 s g n) = B g s n)
    (hC : ∀ g s n, V (Proc.devRef .tc main_v24_3) (ix5 k 0 s g n) = C g s n)
    (ha : ∀ g r, V (Proc.devRef .tc main_v24_4) (ix2 g r) = a g r)
    (hM : ∀ t s, V (Proc.devRef .tc main_v24_5) (ix5 0 t s 0 0) = BitVec.ofBool (decide (s ≤ t)))
    (hS : ∀ g r p n, V (Proc.devRef .tc main_v24_7) (ix5 0 g r p n) = S g r p n)
    (j : Fin 128) (t : Fin 64) (g r : Fin 8) (p : Fin 64) :
    step_main_v24_8 V (ix6 j 0 t g r p)
      = if j = k then raw (D g) (a g) (X g) (B g) (C g) (S g) t r p else V (Proc.devRef .tc main_v24_8) (ix6 j 0 t g r p) := by
  have hc := cum_at V k hk D a hD ha
  unfold step_main_v24_8
  rw [hk]
  refine (ys_at k (V (Proc.devRef .tc main_v24_8)) _ j t g r p).trans ?_
  by_cases h : j = k
  · rw [if_pos h, if_pos h]
    refine (out_term (V (Proc.devRef .tc main_v24_7)) (res_main_while0b_v58 V) (res_main_while0b_v59 V) (res_main_while0b_v65 V) (res_main_while0b_v60 V) (res_main_while0b_v61 V) (V (Proc.devRef .tc main_v24_5)) t g r p).trans ?_
    rw [add_comm]
    unfold raw Ssd.inner att
    refine congrArg₂ (· + ·) (congrArg₂ (· * ·) (Finset.sum_congr rfl fun n _ => ?_) (congrArg Ideal.exp (hc g t r))) (Finset.sum_congr rfl fun s _ => ?_)
    · rw [v61_at V k hk, hC, hS, mul_comm]
    · rw [v58_at V k hk, v59_at V k hk, hX, hD, hM, mul_comm]
      refine congrArg₂ (· * ·) (congrArg₂ (· * ·) (Finset.sum_congr rfl fun n _ => ?_) ?_) rfl
      · rw [v60_at V k hk, v61_at V k hk, hC, hB, mul_comm]
      · by_cases hs : s ≤ t
        · rw [if_pos hs, decide_eq_true hs]
          exact congrArg Ideal.exp (congrArg₂ (· - ·) (hc g t r) (hc g s r))
        · rw [if_neg hs, decide_eq_false hs]
          exact exp_low
  · rw [if_neg h, if_neg h]

end Cert.ReferenceIdeal.Value

end
-- ==== Proof.Ssd.RefEntry.lean ====
module

public import proofs.«01_k».proof.Proof.Ssd.RefSlices

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Ssd
open Idealize.ShloMosaic.StableHlo

variable (m : (ℓ : Loc nD τ sig) → Buf (Elt Ideal) ℓ)

theorem ent0 (c : Dev nD) (k : Fin 128) (s : Fin 64) (g r : Fin 8) (p : Fin 64) :
    entryContents preI m c (Proc.devRef .tc main_v24_0) (ix6 k 0 s g r p) = gX (m ((c.tc : Thread nD τ).loc main_arg0)) k g s r p := by
  have e := tm_of_lt (k : ℕ) s k.isLt
  unfold gX
  simp only [e]
  simp only [entryContents, preI, afterL_cons, afterL_nil, hostOps0, hostOps0_1, hostOps0_2]
  after_results
  simp only [id_eq]
  rw [show launchContents m c (Proc.devRef .tc main_arg0) = m ((c.tc : Thread nD τ).loc main_arg0) from rfl]
  generalize (m ((c.tc : Thread nD τ).loc main_arg0)) = x
  revert x
  intro (x : FVec Ideal S8192x6144 .f32)
  pointwise
  blk_ext

theorem ent1 (c : Dev nD) (k : Fin 128) (s : Fin 64) (g r : Fin 8) :
    entryContents preI m c (Proc.devRef .tc main_v24_1) (ix5 k 0 s g r) = gD (m ((c.tc : Thread nD τ).loc main_arg2)) k g s r := by
  have e := tm_of_lt (k : ℕ) s k.isLt
  unfold gD
  simp only [e]
  simp only [entryContents, preI, afterL_cons, afterL_nil, hostOps0, hostOps0_1, hostOps0_2]
  after_results
  simp only [id_eq]
  rw [show launchContents m c (Proc.devRef .tc main_arg2) = m ((c.tc : Thread nD τ).loc main_arg2) from rfl]
  generalize (m ((c.tc : Thread nD τ).loc main_arg2)) = x
  revert x
  intro (x : FVec Ideal S8704x128 .f32)
  pointwise
  blk_ext

theorem ent2 (c : Dev nD) (k : Fin 128) (s : Fin 64) (g : Fin 8) (n : Fin 128) :
    entryContents preI m c (Proc.devRef .tc main_v24_2) (ix5 k 0 s g n) = gB (m ((c.tc : Thread nD τ).loc main_arg0)) k g s n := by
  have e := tm_of_lt (k : ℕ) s k.isLt
  unfold gB
  simp only [e]
  simp only [entryContents, preI, afterL_cons, afterL_nil, hostOps0, hostOps0_1, hostOps0_2]
  after_results
  simp only [id_eq]
  rw [show launchContents m c (Proc.devRef .tc main_arg0) = m ((c.tc : Thread nD τ).loc main_arg0) from rfl]
  generalize (m ((c.tc : Thread nD τ).loc main_arg0)) = x
  revert x
  intro (x : FVec Ideal S8192x6144 .f32)
  pointwise
  blk_ext

theorem ent3 (c : Dev nD) (k : Fin 128) (s : Fin 64) (g : Fin 8) (n : Fin 128) :
    entryContents preI m c (Proc.devRef .tc main_v24_3) (ix5 k 0 s g n) = gC (m ((c.tc : Thread nD τ).loc main_arg0)) k g s n := by
  have e := tm_of_lt (k : ℕ) s k.isLt
  unfold gC
  simp only [e]
  simp only [entryContents, preI, afterL_cons, afterL_nil, hostOps0, hostOps0_1, hostOps0_2]
  after_results
  simp only [id_eq]
  rw [show launchContents m c (Proc.devRef .tc main_arg0) = m ((c.tc : Thread nD τ).loc main_arg0) from rfl]
  generalize (m ((c.tc : Thread nD τ).loc main_arg0)) = x
  revert x
  intro (x : FVec Ideal S8192x6144 .f32)
  pointwise
  blk_ext

theorem ent4 (c : Dev nD) (g r : Fin 8) :
    entryContents preI m c (Proc.devRef .tc main_v24_4) (ix2 g r) = ga (m ((c.tc : Thread nD τ).loc main_arg3)) g r := by
  unfold ga
  rw [zero_sub]
  simp only [entryContents, preI, afterL_cons, afterL_nil, hostOps0, hostOps0_1, hostOps0_2]
  after_results
  simp only [id_eq]
  rw [show launchContents m c (Proc.devRef .tc main_arg3) = m ((c.tc : Thread nD τ).loc main_arg3) from rfl]
  generalize (m ((c.tc : Thread nD τ).loc main_arg3)) = x
  revert x
  intro (x : FVec Ideal S64 .f32)
  pointwise
  refine congrArg (fun z => -Ideal.exp z) ?_
  blk_ext

theorem ent5 (c : Dev nD) (t s : Fin 64) :
    entryContents preI m c (Proc.devRef .tc main_v24_5) (ix5 0 t s 0 0) = BitVec.ofBool (decide (s ≤ t)) := by
  simp only [entryContents, preI, afterL_cons, afterL_nil, hostOps0, hostOps0_1, hostOps0_2]
  after_results
  pointwise
  revert t s
  decide +kernel

theorem ent7 (c : Dev nD) (g r : Fin 8) (p : Fin 64) (n : Fin 128) :
    entryContents preI m c (Proc.devRef .tc main_v24_7) (ix5 0 g r p n) = gS (m ((c.tc : Thread nD τ).loc main_arg0)) (m ((c.tc : Thread nD τ).loc main_arg2)) (m ((c.tc : Thread nD τ).loc main_arg3)) (m ((c.tc : Thread nD τ).loc main_arg6)) 0 g r p n := by
  unfold gS
  simp only [entryContents, preI, afterL_cons, afterL_nil, hostOps0, hostOps0_1, hostOps0_2]
  after_results
  simp only [id_eq]
  rw [show launchContents m c (Proc.devRef .tc main_arg6) = m ((c.tc : Thread nD τ).loc main_arg6) from rfl]
  generalize (m ((c.tc : Thread nD τ).loc main_arg6)) = x
  revert x
  intro (x : FVec Ideal S1x64x64x128 .f32)
  pointwise
  blk_ext

end Cert.ReferenceIdeal.Value

end
-- ==== Proof.Ssd.RefOut.lean ====
module

public import proofs.«01_k».proof.Proof.Ssd.RefEntry

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Cert.Ssd
open Idealize.ShloMosaic.StableHlo

/-- The gated output at an index. -/
theorem gated_term (ys : FVec Ideal S128x1x64x8x8x64 .f32) (xc : FVec Ideal S8192x6144 .f32) (pj : FVec Ideal S8704x34816 .f32) (dk : FVec Ideal S64 .f32)
    (k : Fin 128) (t : Fin 64) (G : Fin 8) (q : Fin 512) :
    (shapeCast S1x8192x8x512 (mulf (shapeCast _ (addf (shapeCast _ (transpose S1x128x64x8x8x64 [1, 0, 2, 3, 4, 5] ys transposes_S128x1x64x8x8x64_S1x128x64x8x8x64_1_0_2_3_4_5) shapeCasts_S1x128x64x8x8x64_S1x8192x8x8x64) (mulf (broadcastInDim S1x8192x8x8x64 ![0, 1, 2, 3, 4] bcast_S1x1x8x8x1_S1x8192x8x8x64_0_1_2_3_4 (broadcastInDim S1x1x8x8x1 ![2, 3, 4] bcast_S8x8x1_S1x1x8x8x1_2_3_4 (shapeCast _ dk shapeCasts_S64_S8x8x1))) (shapeCast _ (extractStridedSlice S8192x4096 ![0, 0] xc slices_S8192x6144_S8192x4096_0_0) shapeCasts_S8192x4096_S1x8192x8x8x64))) shapeCasts_S1x8192x8x8x64_S1x8192x4096) (mulf (shapeCast _ (extractStridedSlice S8192x4096 ![0, 0] pj slices_S8704x34816_S8192x4096_0_0) shapeCasts_S8192x4096_S1x8192x4096) (Host.divf (broadcastInDim S1x8192x4096 ![] bcast_S_S1x8192x4096 (constant S_ .f32 0x3F800000#32)) (addf (broadcastInDim S1x8192x4096 ![] bcast_S_S1x8192x4096 (constant S_ .f32 0x3F800000#32)) (Host.exp (Host.negf (shapeCast _ (extractStridedSlice S8192x4096 ![0, 0] pj slices_S8704x34816_S8192x4096_0_0) shapeCasts_S8192x4096_S1x8192x4096))))))) shapeCasts_S1x8192x4096_S1x8192x8x512 : FVec Ideal S1x8192x8x512 .f32) (ix4 0 ⟨64 * (k : ℕ) + (t : ℕ), by omega⟩ G q)
      = (ys (ix6 k 0 t G (hd q) (pl q)) + dk (ix1 ⟨8 * (G : ℕ) + (hd q : ℕ), by omega⟩) * xc (ix2 ⟨64 * (k : ℕ) + (t : ℕ), by omega⟩ ⟨512 * (G : ℕ) + 64 * (hd q : ℕ) + (pl q : ℕ), by omega⟩)) * gate (pj (ix2 ⟨64 * (k : ℕ) + (t : ℕ), by omega⟩ ⟨512 * (G : ℕ) + (q : ℕ), by omega⟩)) := by
  pointwise
  have e1 : ((G : ℕ) * 512 + (q : ℕ)) / 64 % 8 = (q : ℕ) / 64 := by omega
  have e2 : ((G : ℕ) * 512 + (q : ℕ)) % 64 = (q : ℕ) % 64 := by omega
  have e3 : (G : ℕ) * 8 = 8 * (G : ℕ) := by omega
  have e5 : (G : ℕ) * 512 = 512 * (G : ℕ) := by omega
  have e6 : (q : ℕ) / 64 * 64 = 64 * ((q : ℕ) / 64) := by omega
  simp only [e1, e2, gate, hd, pl, zero_sub]
  simp only [e3, e5, e6]

theorem normed_term (gs : FVec Ideal S1x8192x8x512 .f32) (nw : FVec Ideal S4096 .f32) (i : Fin 8192) (G : Fin 8) (q : Fin 512) :
    (truncf .bf16 (shapeCast _ (mulf (mulf gs (broadcastInDim S1x8192x8x512 ![0, 1, 2, 3] bcast_S1x8192x8x1_S1x8192x8x512_0_1_2_3 (Host.rsqrt (addf (Host.divf (broadcastInDim S1x8192x8x1 ![0, 1, 2] bcast_S1x8192x8_S1x8192x8x1_0_1_2 (Host.reduceAdd (mulf gs gs) (constant S_ .f32 0x00000000#32) reducesTo_S1x8192x8x512_S1x8192x8_d3 h_S_)) (broadcastInDim S1x8192x8x1 ![] bcast_S_S1x8192x8x1 (constant S_ .f32 0x44000000#32))) (broadcastInDim S1x8192x8x1 ![] bcast_S_S1x8192x8x1 (constant S_ .f32 0x358637BD#32)))))) (broadcastInDim S1x8192x8x512 ![0, 1, 2, 3] bcast_S1x1x8x512_S1x8192x8x512_0_1_2_3 (broadcastInDim S1x1x8x512 ![2, 3] bcast_S8x512_S1x1x8x512_2_3 (shapeCast _ nw shapeCasts_S4096_S8x512)))) shapeCasts_S1x8192x8x512_S8192x4096) bitsLt_bf16_f32 : FVec Ideal S8192x4096 .bf16) (ix2 i ⟨512 * (G : ℕ) + (q : ℕ), by omega⟩)
      = gs (ix4 0 i G q) * Ideal.rsqrt (Ideal.div (∑ k : Fin 512, gs (ix4 0 i G k) * gs (ix4 0 i G k)) (Ideal.ofBits .f32 0x44000000#32)
    + Ideal.ofBits .f32 0x358637BD#32) * nw (ix1 ⟨512 * (G : ℕ) + (q : ℕ), by omega⟩) := by
  pointwise
  have e5 : (G : ℕ) * 512 = 512 * (G : ℕ) := by omega
  simp only [e5]

variable (m : (ℓ : Loc nD τ sig) → Buf (Elt Ideal) ℓ)

/-- The contents the loop carries before trip `k`. -/
structure Inv (c : Dev nD) (k : ℕ) (V : Valuation τ sig (Elt Ideal)) : Prop where
  ctr : V (Proc.devRef .tc main_v24_6) = fun _ => BitVec.ofNat 32 k
  h0 : ∀ (j : Fin 128) (s : Fin 64) (g r : Fin 8) (p : Fin 64), V (Proc.devRef .tc main_v24_0) (ix6 j 0 s g r p) = gX (m ((c.tc : Thread nD τ).loc main_arg0)) j g s r p
  h1 : ∀ (j : Fin 128) (s : Fin 64) (g r : Fin 8), V (Proc.devRef .tc main_v24_1) (ix5 j 0 s g r) = gD (m ((c.tc : Thread nD τ).loc main_arg2)) j g s r
  h2 : ∀ (j : Fin 128) (s : Fin 64) (g : Fin 8) (n : Fin 128), V (Proc.devRef .tc main_v24_2) (ix5 j 0 s g n) = gB (m ((c.tc : Thread nD τ).loc main_arg0)) j g s n
  h3 : ∀ (j : Fin 128) (s : Fin 64) (g : Fin 8) (n : Fin 128), V (Proc.devRef .tc main_v24_3) (ix5 j 0 s g n) = gC (m ((c.tc : Thread nD τ).loc main_arg0)) j g s n
  h4 : ∀ g r : Fin 8, V (Proc.devRef .tc main_v24_4) (ix2 g r) = ga (m ((c.tc : Thread nD τ).loc main_arg3)) g r
  h5 : ∀ t s : Fin 64, V (Proc.devRef .tc main_v24_5) (ix5 0 t s 0 0) = BitVec.ofBool (decide (s ≤ t))
  h7 : ∀ (g r : Fin 8) (p : Fin 64) (n : Fin 128), V (Proc.devRef .tc main_v24_7) (ix5 0 g r p n) = gS (m ((c.tc : Thread nD τ).loc main_arg0)) (m ((c.tc : Thread nD τ).loc main_arg2)) (m ((c.tc : Thread nD τ).loc main_arg3)) (m ((c.tc : Thread nD τ).loc main_arg6)) k g r p n
  h8 : ∀ (j : Fin 128) (t : Fin 64) (g r : Fin 8) (p : Fin 64), (j : ℕ) < k → V (Proc.devRef .tc main_v24_8) (ix6 j 0 t g r p)
    = raw (gD (m ((c.tc : Thread nD τ).loc main_arg2)) j g) (ga (m ((c.tc : Thread nD τ).loc main_arg3)) g) (gX (m ((c.tc : Thread nD τ).loc main_arg0)) j g) (gB (m ((c.tc : Thread nD τ).loc main_arg0)) j g) (gC (m ((c.tc : Thread nD τ).loc main_arg0)) j g) (gS (m ((c.tc : Thread nD τ).loc main_arg0)) (m ((c.tc : Thread nD τ).loc main_arg2)) (m ((c.tc : Thread nD τ).loc main_arg3)) (m ((c.tc : Thread nD τ).loc main_arg6)) j g) t r p

theorem inv_iter (c : Dev nD) : ∀ k : ℕ, k ≤ 128 → Inv m c k (STEP^[k] (entryContents preI m c))
  | 0, _ => by
    rw [Function.iterate_zero, id_eq]
    exact ⟨ctr_entry m c, ent0 m c, ent1 m c, ent2 m c, ent3 m c, ent4 m c, ent5 m c, ent7 m c, fun j t g r p h => absurd h (Nat.not_lt_zero _)⟩
  | k + 1, hk => by
    rw [Function.iterate_succ_apply']
    have I := inv_iter c k (Nat.le_of_succ_le hk)
    generalize STEP^[k] (entryContents preI m c) = V at I
    have hk' : k < 128 := hk
    refine ⟨?_, ?_, ?_, ?_, ?_, ?_, ?_, ?_, ?_⟩
    · rw [STEP_main_v24_6]
      unfold step_main_v24_6
      rw [I.ctr]
      funext i
      show BitVec.ofNat 32 k + 1#32 = BitVec.ofNat 32 (k + 1)
      rw [BitVec.ofNat_add]
    · intro j s g r p; rw [STEP_main_v24_0]; exact I.h0 j s g r p
    · intro j s g r; rw [STEP_main_v24_1]; exact I.h1 j s g r
    · intro j s g n; rw [STEP_main_v24_2]; exact I.h2 j s g n
    · intro j s g n; rw [STEP_main_v24_3]; exact I.h3 j s g n
    · intro g r; rw [STEP_main_v24_4]; exact I.h4 g r
    · intro t s; rw [STEP_main_v24_5]; exact I.h5 t s
    · intro g r p n
      rw [STEP_main_v24_7]
      exact step7_at V ⟨k, hk'⟩ I.ctr (fun g => gD (m ((c.tc : Thread nD τ).loc main_arg2)) k g) (fun g => ga (m ((c.tc : Thread nD τ).loc main_arg3)) g) (fun g => gX (m ((c.tc : Thread nD τ).loc main_arg0)) k g) (fun g => gB (m ((c.tc : Thread nD τ).loc main_arg0)) k g) (fun g => gS (m ((c.tc : Thread nD τ).loc main_arg0)) (m ((c.tc : Thread nD τ).loc main_arg2)) (m ((c.tc : Thread nD τ).loc main_arg3)) (m ((c.tc : Thread nD τ).loc main_arg6)) k g)
        (fun g s r p => I.h0 ⟨k, hk'⟩ s g r p) (fun g s r => I.h1 ⟨k, hk'⟩ s g r) (fun g s n => I.h2 ⟨k, hk'⟩ s g n) I.h4 I.h7 g r p n
    · intro j t g r p hj
      rw [STEP_main_v24_8]
      refine (step8_at V ⟨k, hk'⟩ I.ctr (fun g => gD (m ((c.tc : Thread nD τ).loc main_arg2)) k g) (fun g => ga (m ((c.tc : Thread nD τ).loc main_arg3)) g) (fun g => gX (m ((c.tc : Thread nD τ).loc main_arg0)) k g) (fun g => gB (m ((c.tc : Thread nD τ).loc main_arg0)) k g) (fun g => gC (m ((c.tc : Thread nD τ).loc main_arg0)) k g) (fun g => gS (m ((c.tc : Thread nD τ).loc main_arg0)) (m ((c.tc : Thread nD τ).loc main_arg2)) (m ((c.tc : Thread nD τ).loc main_arg3)) (m ((c.tc : Thread nD τ).loc main_arg6)) k g)
        (fun g s r p => I.h0 ⟨k, hk'⟩ s g r p) (fun g s r => I.h1 ⟨k, hk'⟩ s g r) (fun g s n => I.h2 ⟨k, hk'⟩ s g n) (fun g s n => I.h3 ⟨k, hk'⟩ s g n) I.h4 I.h5 I.h7 j t g r p).trans ?_
      by_cases h : j = ⟨k, hk'⟩
      · rw [if_pos h]
        subst h
        rfl
      · rw [if_neg h]
        exact I.h8 j t g r p (by
          have : (j : ℕ) ≠ k := fun e => h (Fin.ext e)
          omega)

/-- The reference's output. -/
theorem out55_at (c : Dev nD) (k : Fin 128) (t : Fin 64) (G : Fin 8) (q : Fin 512) :
    out_main_v55 (STEP^[128] (entryContents preI m c)) (ix2 ⟨64 * (k : ℕ) + (t : ℕ), by omega⟩ ⟨512 * (G : ℕ) + (q : ℕ), by omega⟩) = gY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) k G t q := by
  have I := inv_iter m c 128 (le_refl _)
  have a0 := iter_main_arg0 m c 128
  have a1 := iter_main_arg1 m c 128
  have a4 := iter_main_arg4 m c 128
  have a5 := iter_main_arg5 m c 128
  generalize STEP^[128] (entryContents preI m c) = V at I a0 a1 a4 a5 ⊢
  unfold out_main_v55
  rw [a0, a1, a4, a5]
  refine (normed_term _ (m ((c.tc : Thread nD τ).loc main_arg5)) ⟨64 * (k : ℕ) + (t : ℕ), by omega⟩ G q).trans ?_
  have hg : ∀ q : Fin 512, _ = gated (gD (m ((c.tc : Thread nD τ).loc main_arg2)) k G) (ga (m ((c.tc : Thread nD τ).loc main_arg3)) G) (gX (m ((c.tc : Thread nD τ).loc main_arg0)) k G) (gB (m ((c.tc : Thread nD τ).loc main_arg0)) k G) (gC (m ((c.tc : Thread nD τ).loc main_arg0)) k G) (gS (m ((c.tc : Thread nD τ).loc main_arg0)) (m ((c.tc : Thread nD τ).loc main_arg2)) (m ((c.tc : Thread nD τ).loc main_arg3)) (m ((c.tc : Thread nD τ).loc main_arg6)) k G) (gk (m ((c.tc : Thread nD τ).loc main_arg4)) G) (gZ (m ((c.tc : Thread nD τ).loc main_arg1)) k G) t q := fun q => by
    refine (gated_term (V (Proc.devRef .tc main_v24_8)) (m ((c.tc : Thread nD τ).loc main_arg0)) (m ((c.tc : Thread nD τ).loc main_arg1)) (m ((c.tc : Thread nD τ).loc main_arg4)) k t G q).trans ?_
    rw [I.h8 k t G (hd q) (pl q) k.isLt]
    unfold gated gk gX gZ
    have e := tm_of_lt (k : ℕ) t k.isLt
    simp only [e]
  unfold gY normed gw
  refine congrArg₂ (· * ·) (congrArg₂ (· * ·) (hg q) (congrArg (fun z => Ideal.rsqrt (Ideal.div z _ + _)) (Finset.sum_congr rfl fun j _ => congrArg₂ (· * ·) (hg j) (hg j)))) rfl

/-- The reference's last state. -/
theorem out57_at (c : Dev nD) (G : Fin 8) (n : Fin 128) (q : Fin 512) :
    out_main_v57 (STEP^[128] (entryContents preI m c)) (ix4 0 G n q) = gS (m ((c.tc : Thread nD τ).loc main_arg0)) (m ((c.tc : Thread nD τ).loc main_arg2)) (m ((c.tc : Thread nD τ).loc main_arg3)) (m ((c.tc : Thread nD τ).loc main_arg6)) 128 G (hd q) (pl q) n := by
  have I := inv_iter m c 128 (le_refl _)
  refine Eq.trans ?_ (I.h7 G (hd q) (pl q) n)
  generalize STEP^[128] (entryContents preI m c) = V
  unfold out_main_v57
  generalize V (Proc.devRef .tc main_v24_7) = x
  revert x
  intro (x : FVec Ideal S1x8x8x64x128 .f32)
  simp only [hd, pl]
  pointwise
  try blk_ext

end Cert.ReferenceIdeal.Value

end
-- ==== Proof.Ssd.Algebraic.lean ====
module

public import proofs.«01_k».proof.Proof.Ssd.Assemble
public import proofs.«01_k».proof.Proof.Ssd.Grid
public import proofs.«01_k».proof.Proof.Ssd.RefOut
public import Idealize.ShloMosaic.Lib.ReduceAll

@[expose] public section

set_option maxRecDepth 16384

noncomputable section

namespace Cert.Ssd

open Idealize.ShloMosaic Idealize.ShloMosaic.TcCoe Idealize.SL.Sem

/-- The precondition, read: every step size is at least zero. -/
theorem dt_pos (m : (ℓ : Loc Cert.KernelIdeal.nD Cert.KernelIdeal.τ Cert.KernelIdeal.sig) → Buf (Elt Ideal) ℓ)
    (h : Cert.Pre_KernelIdeal_dt_nonneg (hPre_dt_nonneg := pre_facts) m) (c : Dev Cert.KernelIdeal.nD) :
    ∀ i, (0 : EReal) ≤ m ((c.tc : Thread Cert.KernelIdeal.nD Cert.KernelIdeal.τ).loc Cert.KernelIdeal.main_arg2) i := by
  haveI : Subsingleton Cert.Pre_dt_nonneg.S_.Idx := ⟨fun a b => funext fun x => x.elim0⟩
  have e := congrFun (h c) (fun x => x.elim0)
  intro i
  have e2 := Host.reduce_andi_all _ _ _ _ _ e i
  have e3 : Ideal.cmp .oge (m ((c.tc : Thread Cert.KernelIdeal.nD Cert.KernelIdeal.τ).loc Cert.KernelIdeal.main_arg2) i : EReal) (Ideal.ofBits .f32 0x00000000#32) = 1 := e2
  rw [Ideal.ofBits_zero] at e3
  exact (Ideal.cmp_oge_eq_one _ _).1 e3

/-- An index of the output, as chunk, step, group and column of the group. -/
theorem out_index (i : Shape.Idx ⟨2, ![8192, 4096]⟩) :
    ∃ (k : Fin 128) (s : Fin 64) (G : Fin 8) (q : Fin 512),
      i = ix2 ⟨64 * (k : ℕ) + (s : ℕ), by omega⟩ ⟨512 * (G : ℕ) + (q : ℕ), by omega⟩ := by
  obtain ⟨a, ha⟩ := (⟨i 0, rfl⟩ : ∃ a : Fin 8192, i 0 = a)
  obtain ⟨b, hb⟩ := (⟨i 1, rfl⟩ : ∃ b : Fin 4096, i 1 = b)
  refine ⟨⟨(a : ℕ) / 64, by omega⟩, ⟨(a : ℕ) % 64, by omega⟩, ⟨(b : ℕ) / 512, by omega⟩, ⟨(b : ℕ) % 512, by omega⟩, ?_⟩
  funext d
  fin_cases d
  · refine ha.trans (Fin.ext ?_); show (a : ℕ) = 64 * ((a : ℕ) / 64) + (a : ℕ) % 64; omega
  · refine hb.trans (Fin.ext ?_); show (b : ℕ) = 512 * ((b : ℕ) / 512) + (b : ℕ) % 512; omega

theorem state_index (i : Shape.Idx ⟨4, ![1, 8, 128, 512]⟩) :
    ∃ (G : Fin 8) (n : Fin 128) (q : Fin 512), i = ix4 (0 : Fin 1) G n q := by
  refine ⟨i 1, i 2, i 3, ?_⟩
  funext d
  fin_cases d
  · exact Subsingleton.elim (α := Fin 1) _ _
  · rfl
  · rfl
  · rfl

theorem algebraic : Cert.algebraic_KernelIdeal_ReferenceIdeal_pre_dt_nonneg (hKernelIdeal := Cert.KernelIdeal.Gen.facts)
    (hReferenceIdeal := Cert.ReferenceIdeal.Gen.facts) (hPre_dt_nonneg := pre_facts) := by
  intro m g m' g' hp hargs
  refine ⟨fun c => Cert.KernelIdeal.Value.G11 (F := Ideal) m c, fun c => Cert.KernelIdeal.Value.G12 (F := Ideal) m c,
    Cert.KernelIdeal.Value.run (F := Ideal) m g, ?_⟩
  refine (θ_run Cert.ReferenceIdeal.defs _ _).mono (fun r h c => ?_) (Cert.ReferenceIdeal.Value.run (F := Ideal) m' g')
  obtain ⟨h0, h1, hrest⟩ := h c
  obtain ⟨a0, a1, a2, a3, a4, a5, a6⟩ := hargs c
  refine ⟨h0.trans ?_, h1.trans ?_, hrest⟩
  · funext i
    obtain ⟨k, s, G, q, rfl⟩ := out_index i
    have e1 := Cert.ReferenceIdeal.Value.out55_at m' c k s G q
    have e2 := Cert.KernelIdeal.Value.G11_at m c (dt_pos m hp c) k k.isLt G s q
    rw [a0, a1, a2, a3, a4, a5, a6] at e1
    exact e1.trans e2.symm
  · funext i
    obtain ⟨G, n, q, rfl⟩ := state_index i
    have e1 := Cert.ReferenceIdeal.Value.out57_at m' c G n q
    have e2 := Cert.KernelIdeal.Value.G12_at m c (dt_pos m hp c) G n q
    rw [a0, a2, a3, a6] at e1
    exact e1.trans e2.symm

end Cert.Ssd

end
-- ==== Proof.Dense.Merge.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

/-! # The gated merge: both heads through their output weights, gated and added -/

noncomputable section

namespace Cert.Merge

open Idealize.ShloMosaic Idealize.ShloMosaic.TcCoe Idealize.SL.Sem Cert.Kernel3Ideal Cert.Kernel3Ideal.Gen

/-- The reference's result as a function of its arguments. -/
abbrev REF (Xp : FVec Ideal S8192x4096 .bf16) (Xs : FVec Ideal S512x4096 .bf16) (Yp : FVec Ideal S8192x4096 .bf16)
    (Ys : FVec Ideal S512x4096 .bf16) (U W : FVec Ideal S1x4096x4096 .f32) (P : FVec Ideal S8704x34816 .f32) :
    FVec Ideal S8704x4096 .bf16 :=
  truncf .bf16 (addf (mulf (extractStridedSlice Cert.Reference3Ideal.S8704x4096 ![0, 0] (Host.divf (broadcastInDim Cert.Reference3Ideal.S8704x8192 ![] Cert.Reference3Ideal.Gen.bcast_S_S8704x8192 (constant Cert.Reference3Ideal.S_ .f32 0x3F800000#32)) (addf (broadcastInDim Cert.Reference3Ideal.S8704x8192 ![] Cert.Reference3Ideal.Gen.bcast_S_S8704x8192 (constant Cert.Reference3Ideal.S_ .f32 0x3F800000#32)) (Host.exp (Host.negf (extractStridedSlice Cert.Reference3Ideal.S8704x8192 ![0, 26624] P Cert.Reference3Ideal.Gen.slices_S8704x34816_S8704x8192_0_26624))))) Cert.Reference3Ideal.Gen.slices_S8704x8192_S8704x4096_0_0) (Host.dotGeneral Cert.Reference3Ideal.dot_S8704x4096_S4096x4096_S8704x4096_1_0_0_1_n_n none (extf .f32 (concatenate Cert.Reference3Ideal.S8704x4096 0 [⟨Cert.Reference3Ideal.S8192x4096, Xp⟩, ⟨Cert.Reference3Ideal.S512x4096, Xs⟩] Cert.Reference3Ideal.Gen.concatenates_S8192x4096_S512x4096_S8704x4096_d0) Cert.Reference3Ideal.Gen.bitsLt_bf16_f32) (shapeCast _ U Cert.Reference3Ideal.Gen.shapeCasts_S1x4096x4096_S4096x4096))) (mulf (extractStridedSlice Cert.Reference3Ideal.S8704x4096 ![0, 4096] (Host.divf (broadcastInDim Cert.Reference3Ideal.S8704x8192 ![] Cert.Reference3Ideal.Gen.bcast_S_S8704x8192 (constant Cert.Reference3Ideal.S_ .f32 0x3F800000#32)) (addf (broadcastInDim Cert.Reference3Ideal.S8704x8192 ![] Cert.Reference3Ideal.Gen.bcast_S_S8704x8192 (constant Cert.Reference3Ideal.S_ .f32 0x3F800000#32)) (Host.exp (Host.negf (extractStridedSlice Cert.Reference3Ideal.S8704x8192 ![0, 26624] P Cert.Reference3Ideal.Gen.slices_S8704x34816_S8704x8192_0_26624))))) Cert.Reference3Ideal.Gen.slices_S8704x8192_S8704x4096_0_4096) (Host.dotGeneral Cert.Reference3Ideal.dot_S8704x4096_S4096x4096_S8704x4096_1_0_0_1_n_n none (extf .f32 (concatenate Cert.Reference3Ideal.S8704x4096 0 [⟨Cert.Reference3Ideal.S8192x4096, Yp⟩, ⟨Cert.Reference3Ideal.S512x4096, Ys⟩] Cert.Reference3Ideal.Gen.concatenates_S8192x4096_S512x4096_S8704x4096_d0) Cert.Reference3Ideal.Gen.bitsLt_bf16_f32) (shapeCast _ W Cert.Reference3Ideal.Gen.shapeCasts_S1x4096x4096_S4096x4096)))) Cert.Reference3Ideal.Gen.bitsLt_bf16_f32

variable (m : (ℓ : Loc nD τ sig) → Buf (Elt Ideal) ℓ)

/-- Where the windows of grid point `t` lie. -/
theorem idx : ∀ t : Fin cfg0.N,
    (win0_0.index t (0 : Fin 2) = min (t.val % 17) 15 ∧ win0_0.index t (1 : Fin 2) = 0) ∧
    (win0_1.index t (0 : Fin 2) = 0 ∧ win0_1.index t (1 : Fin 2) = 0) ∧
    (win0_2.index t (0 : Fin 2) = min (t.val % 17) 15 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = t.val / 17) ∧
    (win0_5.index t (0 : Fin 2) = 0 ∧ win0_5.index t (1 : Fin 2) = t.val / 17) ∧
    (win0_6.index t (0 : Fin 2) = t.val % 17 ∧ win0_6.index t (1 : Fin 2) = 52 + t.val / 17) ∧
    (win0_7.index t (0 : Fin 2) = t.val % 17 ∧ win0_7.index t (1 : Fin 2) = 60 + t.val / 17) ∧
    (win0_8.index t (0 : Fin 2) = t.val % 17 ∧ win0_8.index t (1 : Fin 2) = t.val / 17) :=
  (by decide +kernel : ∀ t : Fin grid0.N,
    (win0_0.index t (0 : Fin 2) = min (t.val % 17) 15 ∧ win0_0.index t (1 : Fin 2) = 0) ∧
    (win0_1.index t (0 : Fin 2) = 0 ∧ win0_1.index t (1 : Fin 2) = 0) ∧
    (win0_2.index t (0 : Fin 2) = min (t.val % 17) 15 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = t.val / 17) ∧
    (win0_5.index t (0 : Fin 2) = 0 ∧ win0_5.index t (1 : Fin 2) = t.val / 17) ∧
    (win0_6.index t (0 : Fin 2) = t.val % 17 ∧ win0_6.index t (1 : Fin 2) = 52 + t.val / 17) ∧
    (win0_7.index t (0 : Fin 2) = t.val % 17 ∧ win0_7.index t (1 : Fin 2) = 60 + t.val / 17) ∧
    (win0_8.index t (0 : Fin 2) = t.val % 17 ∧ win0_8.index t (1 : Fin 2) = t.val / 17))

/-- The body's test of the row block: the first 16 row blocks are the prompt's. -/
theorem test : ∀ t : Fin cfg0.N,
    Scalar.cmpi .slt (BitVec.ofNat 32 (grid0.coords t 1).val) 16#32 = if t.val % 17 < 16 then 1#1 else 0#1 :=
  (by decide +kernel : ∀ t : Fin grid0.N,
    Scalar.cmpi .slt (BitVec.ofNat 32 (grid0.coords t 1).val) 16#32 = if t.val % 17 < 16 then 1#1 else 0#1)

/-- What a grid point stores is the reference's block. -/
theorem point (c : Dev nD) (t : Fin cfg0.N) (y : S512x512.Idx) :
    k0_pay1 (F := Ideal) (k0_pay2 (grid0.coords t) (iblk m c 0 t) (iblk m c 1 t) (iblk m c 4 t) (iblk m c 6 t))
        (k0_pay3 (grid0.coords t) (iblk m c 2 t) (iblk m c 3 t) (iblk m c 5 t) (iblk m c 7 t)) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (((cfg0.win 8).blk t).view.emb y) := by
  pointwise [k0_pay1, k0_pay2, k0_pay3, REF]
  have e0 : ((((cfg0.win 8).blk t).view.emb y) 0 : ℕ) = t.val % 17 * 512 + (y 0 : ℕ) := by
    blk_simp [idx t]
  have h0 : (y 0 : ℕ) < 512 := (y 0).isLt
  by_cases h : t.val % 17 < 16
  · have hy : ((((cfg0.win 8).blk t).view.emb y) 0 : ℕ) < 8192 := by rw [e0]; omega
    simp only [test t, if_pos h, dif_pos hy]
    have s1 : ∀ a b : EReal, Scalar.select (1#1) a b = a := fun _ _ => rfl
    have z : ∀ a : EReal, 0 - a = -a := zero_sub
    simp only [s1, z]
    blk_point [iblk, V, idx t]
  · have hy : ¬ ((((cfg0.win 8).blk t).view.emb y) 0 : ℕ) < 8192 := by rw [e0]; omega
    have h17 : t.val % 17 = 16 := by omega
    simp only [test t, if_neg h, dif_neg hy]
    have s0 : ∀ a b : EReal, Scalar.select (0#1) a b = b := fun _ _ => rfl
    have z : ∀ a : EReal, 0 - a = -a := zero_sub
    simp only [s0, z]
    blk_point [iblk, V, idx t]

/-- The result array after the run is the reference's. -/
theorem final (c : Dev nD) : (dats m 0 c).arrAt 8 (cfgs 0).N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  frame_out
  exact point m c t y

end Cert.Merge
-- ==== Proof.Dense.Resid.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

/-! # The residual product: the stream plus the merged heads through `w_o` -/

noncomputable section

namespace Cert.Resid

open Idealize.ShloMosaic Idealize.ShloMosaic.TcCoe Idealize.SL.Sem Cert.Kernel4Ideal Cert.Kernel4Ideal.Gen

/-- The reference's result as a function of its arguments. -/
abbrev REF (M : FVec Ideal S8704x4096 .bf16) (W : FVec Ideal S1x4096x4096 .f32) (P : FVec Ideal S1x8192x4096 .f32)
    (S : FVec Ideal S16x32x4096 .f32) : FVec Ideal S8704x4096 .f32 :=
  addf (concatenate Cert.Reference4Ideal.S8704x4096 0 [⟨Cert.Reference4Ideal.S8192x4096, (shapeCast _ P Cert.Reference4Ideal.Gen.shapeCasts_S1x8192x4096_S8192x4096)⟩, ⟨Cert.Reference4Ideal.S512x4096, (shapeCast _ S Cert.Reference4Ideal.Gen.shapeCasts_S16x32x4096_S512x4096)⟩] Cert.Reference4Ideal.Gen.concatenates_S8192x4096_S512x4096_S8704x4096_d0) (Host.dotGeneral Cert.Reference4Ideal.dot_S8704x4096_S4096x4096_S8704x4096_1_0_0_1_n_n none (extf .f32 M Cert.Reference4Ideal.Gen.bitsLt_bf16_f32) (shapeCast _ W Cert.Reference4Ideal.Gen.shapeCasts_S1x4096x4096_S4096x4096))

variable (m : (ℓ : Loc nD τ sig) → Buf (Elt Ideal) ℓ)

/-- Where the windows of grid point `t` lie. -/
theorem idx : ∀ t : Fin cfg0.N,
    (win0_0.index t (0 : Fin 2) = t.val % 17 ∧ win0_0.index t (1 : Fin 2) = 0) ∧
    (win0_1.index t (0 : Fin 2) = 0 ∧ win0_1.index t (1 : Fin 2) = t.val / 17) ∧
    (win0_2.index t (0 : Fin 2) = min (t.val % 17) 15 ∧ win0_2.index t (1 : Fin 2) = t.val / 17) ∧
    (win0_3.index t (0 : Fin 2) = t.val % 17 - 16 ∧ win0_3.index t (1 : Fin 2) = t.val / 17) ∧
    (win0_4.index t (0 : Fin 2) = t.val % 17 ∧ win0_4.index t (1 : Fin 2) = t.val / 17) :=
  (by decide +kernel : ∀ t : Fin grid0.N,
    (win0_0.index t (0 : Fin 2) = t.val % 17 ∧ win0_0.index t (1 : Fin 2) = 0) ∧
    (win0_1.index t (0 : Fin 2) = 0 ∧ win0_1.index t (1 : Fin 2) = t.val / 17) ∧
    (win0_2.index t (0 : Fin 2) = min (t.val % 17) 15 ∧ win0_2.index t (1 : Fin 2) = t.val / 17) ∧
    (win0_3.index t (0 : Fin 2) = t.val % 17 - 16 ∧ win0_3.index t (1 : Fin 2) = t.val / 17) ∧
    (win0_4.index t (0 : Fin 2) = t.val % 17 ∧ win0_4.index t (1 : Fin 2) = t.val / 17))

/-- The body's test of the row block: the first 16 row blocks are the prompt's. -/
theorem test : ∀ t : Fin cfg0.N,
    Scalar.cmpi .slt (BitVec.ofNat 32 (grid0.coords t 1).val) 16#32 = if t.val % 17 < 16 then 1#1 else 0#1 :=
  (by decide +kernel : ∀ t : Fin grid0.N,
    Scalar.cmpi .slt (BitVec.ofNat 32 (grid0.coords t 1).val) 16#32 = if t.val % 17 < 16 then 1#1 else 0#1)

/-- What a grid point stores is the reference's block. -/
theorem point (c : Dev nD) (t : Fin cfg0.N) (y : S512x1024.Idx) :
    k0_pay1 (F := Ideal) (grid0.coords t) (iblk m c 2 t) (iblk m c 3 t) (iblk m c 0 t) (iblk m c 1 t) y
      = REF (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, REF]
  rw [test t]
  have e0 : ((((cfg0.win 4).blk t).view.emb y) 0 : ℕ) = t.val % 17 * 512 + (y 0 : ℕ) := by
    blk_simp [idx t]
  have h0 : (y 0 : ℕ) < 512 := (y 0).isLt
  by_cases h : t.val % 17 < 16
  · rw [dif_pos (show ((((cfg0.win 4).blk t).view.emb y) 0 : ℕ) < 8192 by rw [e0]; omega), if_pos h]
    refine Ideal.add_congr ?_ ?_
    · show (iblk m c 2 t y : EReal) = _
      blk_point [iblk, V, idx t]
    · blk_point [iblk, V, idx t]
  · rw [dif_neg (show ¬ ((((cfg0.win 4).blk t).view.emb y) 0 : ℕ) < 8192 by rw [e0]; omega), if_neg h]
    have h17 : t.val % 17 = 16 := by omega
    refine Ideal.add_congr ?_ ?_
    · show (iblk m c 3 t y : EReal) = _
      show V m c main_v3 (((cfg0.win 3).blk t).view.emb y) = _
      entry_read
      pointwise
      have e3 : ((((cfg0.win 3).blk t).view.emb y) 0 : ℕ) = (t.val % 17 - 16) * 512 + (y 0 : ℕ) := by blk_simp [idx t]
      have e3' : ((((cfg0.win 3).blk t).view.emb y) 1 : ℕ) = t.val / 17 * 1024 + (y 1 : ℕ) := by blk_simp [idx t]
      have e4' : ((((cfg0.win 4).blk t).view.emb y) 1 : ℕ) = t.val / 17 * 1024 + (y 1 : ℕ) := by blk_simp [idx t]
      refine congrArg (m (c.tc.loc main_arg3)) ((ix3_inj ..).2 ⟨Fin.ext ?_, Fin.ext ?_, Fin.ext ?_⟩)
      · show ((((cfg0.win 3).blk t).view.emb y) 0 : ℕ) / 32 = ((((cfg0.win 4).blk t).view.emb y) 0 - 8192 : ℕ) / 32
        rw [e3, e0]; omega
      · show ((((cfg0.win 3).blk t).view.emb y) 0 : ℕ) % 32 = ((((cfg0.win 4).blk t).view.emb y) 0 - 8192 : ℕ) % 32
        rw [e3, e0]; omega
      · exact e3'.trans e4'.symm
    · blk_point [iblk, V, idx t]

/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]
  frame_out
  exact point m c t y

end Cert.Resid
-- ==== Proof.Dense.NormPrompt.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

/-! # The closing norm over the prompt rows -/

noncomputable section

namespace Cert.NormP

open Idealize.ShloMosaic Idealize.ShloMosaic.TcCoe Idealize.SL.Sem Cert.Kernel5Ideal Cert.Kernel5Ideal.Gen

/-- The reference's result as a function of its arguments. -/
abbrev REF (H P : FVec Ideal S8704x4096 .f32) (W : FVec Ideal S4096 .f32) : FVec Ideal S8192x4096 .f32 :=
  mulf (mulf (addf (extractStridedSlice Cert.Reference5Ideal.S8192x4096 ![0, 0] H Cert.Reference5Ideal.Gen.slices_S8704x4096_S8192x4096_0_0) (extractStridedSlice Cert.Reference5Ideal.S8192x4096 ![0, 0] P Cert.Reference5Ideal.Gen.slices_S8704x4096_S8192x4096_0_0)) (broadcastInDim Cert.Reference5Ideal.S8192x4096 ![0, 1] Cert.Reference5Ideal.Gen.bcast_S8192x1_S8192x4096_0_1 (Host.rsqrt (addf (Host.divf (broadcastInDim Cert.Reference5Ideal.S8192x1 ![0] Cert.Reference5Ideal.Gen.bcast_S8192_S8192x1_0 (Host.reduceAdd (mulf (addf (extractStridedSlice Cert.Reference5Ideal.S8192x4096 ![0, 0] H Cert.Reference5Ideal.Gen.slices_S8704x4096_S8192x4096_0_0) (extractStridedSlice Cert.Reference5Ideal.S8192x4096 ![0, 0] P Cert.Reference5Ideal.Gen.slices_S8704x4096_S8192x4096_0_0)) (addf (extractStridedSlice Cert.Reference5Ideal.S8192x4096 ![0, 0] H Cert.Reference5Ideal.Gen.slices_S8704x4096_S8192x4096_0_0) (extractStridedSlice Cert.Reference5Ideal.S8192x4096 ![0, 0] P Cert.Reference5Ideal.Gen.slices_S8704x4096_S8192x4096_0_0))) (constant Cert.Reference5Ideal.S_ .f32 0x00000000#32) Cert.Reference5Ideal.Gen.reducesTo_S8192x4096_S8192_d1 Cert.Reference5Ideal.Gen.h_S_)) (broadcastInDim Cert.Reference5Ideal.S8192x1 ![] Cert.Reference5Ideal.Gen.bcast_S_S8192x1 (constant Cert.Reference5Ideal.S_ .f32 0x45800000#32))) (broadcastInDim Cert.Reference5Ideal.S8192x1 ![] Cert.Reference5Ideal.Gen.bcast_S_S8192x1 (constant Cert.Reference5Ideal.S_ .f32 0x358637BD#32)))))) (broadcastInDim Cert.Reference5Ideal.S8192x4096 ![0, 1] Cert.Reference5Ideal.Gen.bcast_S1x4096_S8192x4096_0_1 (broadcastInDim Cert.Reference5Ideal.S1x4096 ![1] Cert.Reference5Ideal.Gen.bcast_S4096_S1x4096_1 W))

variable (m : (ℓ : Loc nD τ sig) → Buf (Elt Ideal) ℓ)

/-- Where the windows of grid point `t` lie. -/
theorem idx : ∀ t : Fin cfg0.N,
    (win0_0.index t (0 : Fin 2) = t.val ∧ win0_0.index t (1 : Fin 2) = 0) ∧
    (win0_1.index t (0 : Fin 2) = t.val ∧ win0_1.index t (1 : Fin 2) = 0) ∧
    (win0_2.index t (0 : Fin 2) = 0 ∧ win0_2.index t (1 : Fin 2) = 0) ∧
    (win0_3.index t (0 : Fin 2) = t.val ∧ win0_3.index t (1 : Fin 2) = 0) :=
  (by decide +kernel : ∀ t : Fin grid0.N,
    (win0_0.index t (0 : Fin 2) = t.val ∧ win0_0.index t (1 : Fin 2) = 0) ∧
    (win0_1.index t (0 : Fin 2) = t.val ∧ win0_1.index t (1 : Fin 2) = 0) ∧
    (win0_2.index t (0 : Fin 2) = 0 ∧ win0_2.index t (1 : Fin 2) = 0) ∧
    (win0_3.index t (0 : Fin 2) = t.val ∧ win0_3.index t (1 : Fin 2) = 0))

/-- What a grid point stores is the reference's block. -/
theorem point (c : Dev nD) (t : Fin cfg0.N) (y : S256x4096.Idx) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, REF]
  blk_point [iblk, V, idx t]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.NormP
-- ==== Proof.Dense.NormSample.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

/-! # The closing norm over the sample rows -/

noncomputable section

namespace Cert.NormS

open Idealize.ShloMosaic Idealize.ShloMosaic.TcCoe Idealize.SL.Sem Cert.Kernel6Ideal Cert.Kernel6Ideal.Gen

/-- The reference's result as a function of its arguments. -/
abbrev REF (H P : FVec Ideal S8704x4096 .f32) (W : FVec Ideal S4096 .f32) : FVec Ideal S512x4096 .f32 :=
  mulf (mulf (addf (extractStridedSlice Cert.Reference6Ideal.S512x4096 ![8192, 0] H Cert.Reference6Ideal.Gen.slices_S8704x4096_S512x4096_8192_0) (extractStridedSlice Cert.Reference6Ideal.S512x4096 ![8192, 0] P Cert.Reference6Ideal.Gen.slices_S8704x4096_S512x4096_8192_0)) (broadcastInDim Cert.Reference6Ideal.S512x4096 ![0, 1] Cert.Reference6Ideal.Gen.bcast_S512x1_S512x4096_0_1 (Host.rsqrt (addf (Host.divf (broadcastInDim Cert.Reference6Ideal.S512x1 ![0] Cert.Reference6Ideal.Gen.bcast_S512_S512x1_0 (Host.reduceAdd (mulf (addf (extractStridedSlice Cert.Reference6Ideal.S512x4096 ![8192, 0] H Cert.Reference6Ideal.Gen.slices_S8704x4096_S512x4096_8192_0) (extractStridedSlice Cert.Reference6Ideal.S512x4096 ![8192, 0] P Cert.Reference6Ideal.Gen.slices_S8704x4096_S512x4096_8192_0)) (addf (extractStridedSlice Cert.Reference6Ideal.S512x4096 ![8192, 0] H Cert.Reference6Ideal.Gen.slices_S8704x4096_S512x4096_8192_0) (extractStridedSlice Cert.Reference6Ideal.S512x4096 ![8192, 0] P Cert.Reference6Ideal.Gen.slices_S8704x4096_S512x4096_8192_0))) (constant Cert.Reference6Ideal.S_ .f32 0x00000000#32) Cert.Reference6Ideal.Gen.reducesTo_S512x4096_S512_d1 Cert.Reference6Ideal.Gen.h_S_)) (broadcastInDim Cert.Reference6Ideal.S512x1 ![] Cert.Reference6Ideal.Gen.bcast_S_S512x1 (constant Cert.Reference6Ideal.S_ .f32 0x45800000#32))) (broadcastInDim Cert.Reference6Ideal.S512x1 ![] Cert.Reference6Ideal.Gen.bcast_S_S512x1 (constant Cert.Reference6Ideal.S_ .f32 0x358637BD#32)))))) (broadcastInDim Cert.Reference6Ideal.S512x4096 ![0, 1] Cert.Reference6Ideal.Gen.bcast_S1x4096_S512x4096_0_1 (broadcastInDim Cert.Reference6Ideal.S1x4096 ![1] Cert.Reference6Ideal.Gen.bcast_S4096_S1x4096_1 W))

variable (m : (ℓ : Loc nD τ sig) → Buf (Elt Ideal) ℓ)

/-- Where the windows of grid point `t` lie. -/
theorem idx : ∀ t : Fin cfg0.N,
    (win0_0.index t (0 : Fin 2) = 32 + t.val ∧ win0_0.index t (1 : Fin 2) = 0) ∧
    (win0_1.index t (0 : Fin 2) = 32 + t.val ∧ win0_1.index t (1 : Fin 2) = 0) ∧
    (win0_2.index t (0 : Fin 2) = 0 ∧ win0_2.index t (1 : Fin 2) = 0) ∧
    (win0_3.index t (0 : Fin 2) = t.val ∧ win0_3.index t (1 : Fin 2) = 0) :=
  (by decide +kernel : ∀ t : Fin grid0.N,
    (win0_0.index t (0 : Fin 2) = 32 + t.val ∧ win0_0.index t (1 : Fin 2) = 0) ∧
    (win0_1.index t (0 : Fin 2) = 32 + t.val ∧ win0_1.index t (1 : Fin 2) = 0) ∧
    (win0_2.index t (0 : Fin 2) = 0 ∧ win0_2.index t (1 : Fin 2) = 0) ∧
    (win0_3.index t (0 : Fin 2) = t.val ∧ win0_3.index t (1 : Fin 2) = 0))

/-- What a grid point stores is the reference's block. -/
theorem point (c : Dev nD) (t : Fin cfg0.N) (y : S256x4096.Idx) :
    k0_pay1 (F := Ideal) (iblk m c 0 t) (iblk m c 1 t) (iblk m c 2 t) y
      = REF (m ((c : Thread nD τ).loc main_arg0)) (m ((c : Thread nD τ).loc main_arg1)) (m ((c : Thread nD τ).loc main_arg2))
          (((cfg0.win 3).blk t).view.emb y) := by
  pointwise [k0_pay1, REF]
  blk_point [iblk, V, idx t]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.NormS
-- ==== Proof.Dense.Algebraic.lean ====
module

public import proofs.«01_k».proof.Defs
public import proofs.«01_k».proof.Proof.Gen.Kernel3.Frame
public import proofs.«01_k».proof.Proof.Dense.Merge
public import proofs.«01_k».proof.Proof.Gen.Kernel4.Frame
public import proofs.«01_k».proof.Proof.Dense.Resid
public import proofs.«01_k».proof.Proof.Gen.Kernel5.Frame
public import proofs.«01_k».proof.Proof.Dense.NormPrompt
public import proofs.«01_k».proof.Proof.Gen.Kernel6.Frame
public import proofs.«01_k».proof.Proof.Dense.NormSample

@[expose] public section

set_option maxRecDepth 16384

/-! # The merge, the residual product and the two normalized outputs: what is claimed of each -/

noncomputable section

namespace Cert.Dense

open Idealize.ShloMosaic Idealize.ShloMosaic.TcCoe Idealize.SL.Sem

theorem merge_kernel : Cert.quiescent_Kernel3 (hKernel3 := Cert.Kernel3.Gen.facts) :=
  fun m g _ => Cert.Kernel3.Gen.frame (F := Bits) m g

theorem merge_ideal : Cert.quiescent_Kernel3Ideal (hKernel3Ideal := Cert.Kernel3Ideal.Gen.facts) :=
  fun m g _ => Cert.Kernel3Ideal.Gen.frame (F := Ideal) m g

theorem merge_reference : Cert.quiescent_Reference3Ideal (hReference3Ideal := Cert.Reference3Ideal.Gen.facts) := by
  intro m g _
  exact (θ_run Cert.Reference3Ideal.defs _ _).mono (fun r h => ⟨fun c => (h c).2,
    Idealize.ShloMosaic.sem_eq_zero_of_no_sems (by decide) r.2⟩) (Cert.Reference3Ideal.Value.run (F := Ideal) m g)

theorem merge_algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Merge.REF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    (θ_run Cert.Kernel3Ideal.defs _ _).mono (fun r h c => ⟨(h c).1.trans (Cert.Merge.final m c), (h c).2⟩)
      (Cert.Kernel3Ideal.Value.run_blocks (F := Ideal) m g), ?_⟩
  refine (θ_run Cert.Reference3Ideal.defs _ _).mono (fun r h c => ⟨(h c).1.trans ?_, (h c).2⟩)
    (Cert.Reference3Ideal.Value.run (F := Ideal) m' g')
  obtain ⟨a0, a1, a2, a3, a4, a5, a6⟩ := hargs c
  rw [a0, a1, a2, a3, a4, a5, a6]

theorem resid_kernel : Cert.quiescent_Kernel4 (hKernel4 := Cert.Kernel4.Gen.facts) :=
  fun m g _ => Cert.Kernel4.Gen.frame (F := Bits) m g

theorem resid_ideal : Cert.quiescent_Kernel4Ideal (hKernel4Ideal := Cert.Kernel4Ideal.Gen.facts) :=
  fun m g _ => Cert.Kernel4Ideal.Gen.frame (F := Ideal) m g

theorem resid_reference : Cert.quiescent_Reference4Ideal (hReference4Ideal := Cert.Reference4Ideal.Gen.facts) := by
  intro m g _
  exact (θ_run Cert.Reference4Ideal.defs _ _).mono (fun r h => ⟨fun c => (h c).2,
    Idealize.ShloMosaic.sem_eq_zero_of_no_sems (by decide) r.2⟩) (Cert.Reference4Ideal.Value.run (F := Ideal) m g)

theorem resid_algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Resid.REF (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    (θ_run Cert.Kernel4Ideal.defs _ _).mono (fun r h c => ⟨(h c).1.trans (Cert.Resid.final m c), (h c).2⟩)
      (Cert.Kernel4Ideal.Value.run_blocks (F := Ideal) m g), ?_⟩
  refine (θ_run Cert.Reference4Ideal.defs _ _).mono (fun r h c => ⟨(h c).1.trans ?_, (h c).2⟩)
    (Cert.Reference4Ideal.Value.run (F := Ideal) m' g')
  obtain ⟨a0, a1, a2, a3⟩ := hargs c
  rw [a0, a1, a2, a3]

theorem normP_kernel : Cert.quiescent_Kernel5 (hKernel5 := Cert.Kernel5.Gen.facts) :=
  fun m g _ => Cert.Kernel5.Gen.frame (F := Bits) m g

theorem normP_ideal : Cert.quiescent_Kernel5Ideal (hKernel5Ideal := Cert.Kernel5Ideal.Gen.facts) :=
  fun m g _ => Cert.Kernel5Ideal.Gen.frame (F := Ideal) m g

theorem normP_reference : Cert.quiescent_Reference5Ideal (hReference5Ideal := Cert.Reference5Ideal.Gen.facts) := by
  intro m g _
  exact (θ_run Cert.Reference5Ideal.defs _ _).mono (fun r h => ⟨fun c => (h c).2,
    Idealize.ShloMosaic.sem_eq_zero_of_no_sems (by decide) r.2⟩) (Cert.Reference5Ideal.Value.run (F := Ideal) m g)

theorem normP_algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.NormP.REF (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun r h c => ⟨(h c).1.trans (Cert.NormP.final m c), (h c).2⟩)
      (Cert.Kernel5Ideal.Value.run_blocks (F := Ideal) m g), ?_⟩
  refine (θ_run Cert.Reference5Ideal.defs _ _).mono (fun r h c => ⟨(h c).1.trans ?_, (h c).2⟩)
    (Cert.Reference5Ideal.Value.run (F := Ideal) m' g')
  obtain ⟨a0, a1, a2⟩ := hargs c
  rw [a0, a1, a2]

theorem normS_kernel : Cert.quiescent_Kernel6 (hKernel6 := Cert.Kernel6.Gen.facts) :=
  fun m g _ => Cert.Kernel6.Gen.frame (F := Bits) m g

theorem normS_ideal : Cert.quiescent_Kernel6Ideal (hKernel6Ideal := Cert.Kernel6Ideal.Gen.facts) :=
  fun m g _ => Cert.Kernel6Ideal.Gen.frame (F := Ideal) m g

theorem normS_reference : Cert.quiescent_Reference6Ideal (hReference6Ideal := Cert.Reference6Ideal.Gen.facts) := by
  intro m g _
  exact (θ_run Cert.Reference6Ideal.defs _ _).mono (fun r h => ⟨fun c => (h c).2,
    Idealize.ShloMosaic.sem_eq_zero_of_no_sems (by decide) r.2⟩) (Cert.Reference6Ideal.Value.run (F := Ideal) m g)

theorem normS_algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.NormS.REF (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    (θ_run Cert.Kernel6Ideal.defs _ _).mono (fun r h c => ⟨(h c).1.trans (Cert.NormS.final m c), (h c).2⟩)
      (Cert.Kernel6Ideal.Value.run_blocks (F := Ideal) m g), ?_⟩
  refine (θ_run Cert.Reference6Ideal.defs _ _).mono (fun r h c => ⟨(h c).1.trans ?_, (h c).2⟩)
    (Cert.Reference6Ideal.Value.run (F := Ideal) m' g')
  obtain ⟨a0, a1, a2⟩ := hargs c
  rw [a0, a1, a2]

end Cert.Dense

end
-- ==== Proof.Dense.InPieces.lean ====
module

public import proofs.«01_k».proof.Proof.Gen.Kernel2Ideal.Loops
public import proofs.«01_k».proof.Proof.Gen.Kernel2Ideal.Frame
public import Idealize.ShloMosaic.Lib.Pipeline.ValueKit

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounded weight block of a column tile before the removed columns: the block itself. -/
def W1 (x1 : Vec F S1024x4096 .f32) : FVec F S1024x4096 .bf16 := truncf .bf16 x1 bitsLt_bf16_f32

/-- The rounded weight block of a column tile after the removed columns: the first block from its 64th row on, then the 64 rows of the second block. -/
def W2 (x1 : Vec F S1024x4096 .f32) (x2 : Vec F S64x4096 .f32) : FVec F S1024x4096 .bf16 := fun y =>
  if h : (y (0 : Fin 2)).val < 960 then truncf .bf16 x1 bitsLt_bf16_f32 (fun a => match a with | ⟨0, _⟩ => ⟨(y (0 : Fin 2)).val + 64, by change _ < 1024; omega⟩ | ⟨1, _⟩ => ⟨(y (1 : Fin 2)).val, (y (1 : Fin 2)).isLt⟩)
  else truncf .bf16 x2 bitsLt_bf16_f32 (fun a => match a with | ⟨0, _⟩ => ⟨(y (0 : Fin 2)).val - 960, by have := (y (0 : Fin 2)).isLt; change _ < 1024 at this; change _ < 64; omega⟩ | ⟨1, _⟩ => ⟨(y (1 : Fin 2)).val, (y (1 : Fin 2)).isLt⟩)

theorem off1_eq (k : Fin k0_t1_loop.trips) : k0_off1 k = ![64 * (k : ℕ), 0] := by revert k; decide +kernel
theorem off2_eq (k : Fin k0_t2_loop.trips) : k0_off2 k = ![64 * (k : ℕ) + 64, 0] := by revert k; decide +kernel
theorem off3_eq (k : Fin k0_t2_loop.trips) : k0_off3 k = ![64 * (k : ℕ), 0] := by revert k; decide +kernel
theorem trips1 : k0_t1_loop.trips = 16 := by decide +kernel
theorem trips2 : k0_t2_loop.trips = 15 := by decide +kernel

variable (𝒱 : Variants) (c : Dev nD) (bd : Option 𝒱.V) (i : grid0.Coords) (arg2 : Memref sig .tc .vmem S512x4096 .bf16) (harg2 : arg2.IsWhole) (arg3 : Memref sig .tc .vmem S1024x4096 .f32) (harg3 : arg3.IsWhole) (arg4 : Memref sig .tc .vmem S64x4096 .f32) (harg4 : arg4.IsWhole) (arg5 : Memref sig .tc .vmem S32x4096 .f32) (harg5 : arg5.IsWhole) (arg6 : Memref sig .tc .vmem S32x4096 .f32) (harg6 : arg6.IsWhole) (arg7 : Memref sig .tc .vmem S512x1024 .f32) (harg7 : arg7.IsWhole) (arg8 : Memref sig .tc .vmem S32x4096 .bf16) (harg8 : arg8.IsWhole) (arg9 : Memref sig .tc .vmem S32x4096 .bf16) (harg9 : arg9.IsWhole) (arg10 : Memref sig .tc .vmem S1024x4096 .bf16) (harg10 : arg10.IsWhole)

theorem trip1 (h1 : k0_cond1 i = 1#1) (X : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 arg9 harg9 arg10 harg10 h1 X k = [⟨Rect.unit (s := S1024x4096) (k0_off1 k) S64x4096.size (k0_off1_inb i k h1), k0_pay3 (arg3.view.readAt (Elt F) (Rect.unit (s := S1024x4096) (k0_off1 k) S64x4096.size (k0_off1_inb i k h1)).toLoadRect X)⟩] := by
  unfold tripL_k0_t1 trip_k0_t1
  rfl

theorem trip2 (h2 : k0_cond2 i = 1#1) (X : BufTy.Contents (Elt F) arg3.view.ty) (k : Fin k0_t2_loop.trips) :
    tripL_k0_t2 (F := F) 𝒱 c bd i arg2 harg2 arg3 harg3 arg4 harg4 arg5 harg5 arg6 harg6 arg7 harg7 arg8 harg8 arg9 harg9 arg10 harg10 h2 X k = [⟨Rect.unit (s := S1024x4096) (k0_off3 k) S64x4096.size (k0_off3_inb i k h2), k0_pay4 (arg3.view.readAt (Elt F) (Rect.unit (s := S1024x4096) (k0_off2 k) S64x4096.size (k0_off2_inb i k h2)).toLoadRect X)⟩] := by
  unfold tripL_k0_t2 trip_k0_t2
  rfl

/-- The pieces of the first `n` trips of the first loop: each holds the rounded block, and together they cover the first `64 n` rows. -/
theorem pieces1 (h1 : k0_cond1 i = 1#1) (X : BufTy.Contents (Elt F) arg3.view.ty) : ∀ n, n ≤ 16 →
    (∀ p ∈ pb_k0_t1 (F := F) 𝒱 c bd i arg2 harg2 arg3 harg3 arg4 harg4 arg5 harg5 arg6 harg6 arg7 harg7 arg8 harg8 arg9 harg9 arg10 harg10 h1 X n, ∀ x : p.1.shape.Idx, p.2 x = W1 (arg3.view.read (Elt F) X) (p.1.emb x))
    ∧ ∀ y : S1024x4096.Idx, (y (0 : Fin 2)).val < 64 * n → ∃ p ∈ pb_k0_t1 (F := F) 𝒱 c bd i arg2 harg2 arg3 harg3 arg4 harg4 arg5 harg5 arg6 harg6 arg7 harg7 arg8 harg8 arg9 harg9 arg10 harg10 h1 X n, y ∈ p.1.set
  | 0, _ => ⟨fun p hp => absurd hp List.not_mem_nil, fun y hy => absurd hy (by omega)⟩
  | n + 1, hn => by
    obtain ⟨ih1, ih2⟩ := pieces1 h1 X n (by omega)
    have hs := pb_k0_t1_succ (F := F) 𝒱 c bd i arg2 harg2 arg3 harg3 arg4 harg4 arg5 harg5 arg6 harg6 arg7 harg7 arg8 harg8 arg9 harg9 arg10 harg10 h1 X ⟨n, by rw [trips1]; omega⟩
    rw [trip1] at hs
    rw [hs]
    refine ⟨fun p hp => ?_, fun y hy => ?_⟩
    · rcases List.mem_cons.mp hp with rfl | hp
      · intro x
        unfold k0_pay3
        dsimp only
        rw [shapeCast_self, shapeCast_self]
        rfl
      · exact ih1 p hp
    · by_cases h : (y (0 : Fin 2)).val < 64 * n
      · obtain ⟨p, hp, hy'⟩ := ih2 y h
        exact ⟨p, List.mem_cons_of_mem _ hp, hy'⟩
      · refine ⟨_, List.mem_cons_self, ?_⟩
        rw [Rect.mem_set_unit, off1_eq]
        intro a
        match a with
        | ⟨0, _⟩ => exact ⟨by show 64 * n ≤ (y (0 : Fin 2)).val; omega, by show (y (0 : Fin 2)).val < 64 * n + 64; omega⟩
        | ⟨1, _⟩ => exact ⟨Nat.zero_le _, by have := (y (1 : Fin 2)).isLt; change _ < 4096 at this; show (y (1 : Fin 2)).val < 0 + 4096; omega⟩

/-- The pieces of the first `n` trips of the second loop. -/
theorem pieces2 (x2 : Vec F S64x4096 .f32) (h2 : k0_cond2 i = 1#1) (X : BufTy.Contents (Elt F) arg3.view.ty) : ∀ n, n ≤ 15 →
    (∀ p ∈ pb_k0_t2 (F := F) 𝒱 c bd i arg2 harg2 arg3 harg3 arg4 harg4 arg5 harg5 arg6 harg6 arg7 harg7 arg8 harg8 arg9 harg9 arg10 harg10 h2 X n, ∀ x : p.1.shape.Idx, p.2 x = W2 (arg3.view.read (Elt F) X) x2 (p.1.emb x))
    ∧ ∀ y : S1024x4096.Idx, (y (0 : Fin 2)).val < 64 * n → ∃ p ∈ pb_k0_t2 (F := F) 𝒱 c bd i arg2 harg2 arg3 harg3 arg4 harg4 arg5 harg5 arg6 harg6 arg7 harg7 arg8 harg8 arg9 harg9 arg10 harg10 h2 X n, y ∈ p.1.set
  | 0, _ => ⟨fun p hp => absurd hp List.not_mem_nil, fun y hy => absurd hy (by omega)⟩
  | n + 1, hn => by
    obtain ⟨ih1, ih2⟩ := pieces2 x2 h2 X n (by omega)
    have hs := pb_k0_t2_succ (F := F) 𝒱 c bd i arg2 harg2 arg3 harg3 arg4 harg4 arg5 harg5 arg6 harg6 arg7 harg7 arg8 harg8 arg9 harg9 arg10 harg10 h2 X ⟨n, by rw [trips2]; omega⟩
    rw [trip2] at hs
    rw [hs]
    refine ⟨fun p hp => ?_, fun y hy => ?_⟩
    · rcases List.mem_cons.mp hp with rfl | hp
      · intro x
        have hx0 := (x (0 : Fin 2)).isLt
        change (x (0 : Fin 2)).val < 64 at hx0
        have o3 : k0_off3 (⟨n, by rw [trips2]; omega⟩ : Fin k0_t2_loop.trips) (0 : Fin 2) = 64 * n := by rw [off3_eq]; rfl
        have o3' : k0_off3 (⟨n, by rw [trips2]; omega⟩ : Fin k0_t2_loop.trips) (1 : Fin 2) = 0 := by rw [off3_eq]; rfl
        have o2 : k0_off2 (⟨n, by rw [trips2]; omega⟩ : Fin k0_t2_loop.trips) (0 : Fin 2) = 64 * n + 64 := by rw [off2_eq]; rfl
        have o2' : k0_off2 (⟨n, by rw [trips2]; omega⟩ : Fin k0_t2_loop.trips) (1 : Fin 2) = 0 := by rw [off2_eq]; rfl
        unfold k0_pay4
        dsimp only
        rw [shapeCast_self, shapeCast_self]
        unfold W2
        have hlt : k0_off3 (⟨n, by rw [trips2]; omega⟩ : Fin k0_t2_loop.trips) (0 : Fin 2) + 1 * (x (0 : Fin 2)).val < 960 := by rw [o3]; omega
        refine Eq.trans ?_ (dif_pos hlt).symm
        refine congrArg (truncf .bf16 (arg3.view.read (Elt F) X) bitsLt_bf16_f32) (funext fun a => Fin.ext ?_)
        match a with
        | ⟨0, _⟩ => show k0_off2 (⟨n, by rw [trips2]; omega⟩ : Fin k0_t2_loop.trips) (0 : Fin 2) + 1 * (x (0 : Fin 2)).val = k0_off3 (⟨n, by rw [trips2]; omega⟩ : Fin k0_t2_loop.trips) (0 : Fin 2) + 1 * (x (0 : Fin 2)).val + 64; rw [o2, o3]; omega
        | ⟨1, _⟩ => show k0_off2 (⟨n, by rw [trips2]; omega⟩ : Fin k0_t2_loop.trips) (1 : Fin 2) + 1 * (x (1 : Fin 2)).val = k0_off3 (⟨n, by rw [trips2]; omega⟩ : Fin k0_t2_loop.trips) (1 : Fin 2) + 1 * (x (1 : Fin 2)).val; rw [o2', o3']
      · exact ih1 p hp
    · by_cases h : (y (0 : Fin 2)).val < 64 * n
      · obtain ⟨p, hp, hy'⟩ := ih2 y h
        exact ⟨p, List.mem_cons_of_mem _ hp, hy'⟩
      · refine ⟨_, List.mem_cons_self, ?_⟩
        rw [Rect.mem_set_unit, off3_eq]
        intro a
        match a with
        | ⟨0, _⟩ => exact ⟨by show 64 * n ≤ (y (0 : Fin 2)).val; omega, by show (y (0 : Fin 2)).val < 64 * n + 64; omega⟩
        | ⟨1, _⟩ => exact ⟨Nat.zero_le _, by have := (y (1 : Fin 2)).isLt; change _ < 4096 at this; show (y (1 : Fin 2)).val < 0 + 4096; omega⟩

/-- What the first loop leaves in the scratch. -/
theorem read1 (h1 : k0_cond1 i = 1#1) (X : BufTy.Contents (Elt F) arg3.view.ty) (f : BufTy.Contents (Elt F) arg10.view.ty) :
    arg10.view.read (Elt F) (arg10.view.writes (Elt F) f (pb_k0_t1 (F := F) 𝒱 c bd i arg2 harg2 arg3 harg3 arg4 harg4 arg5 harg5 arg6 harg6 arg7 harg7 arg8 harg8 arg9 harg9 arg10 harg10 h1 X k0_t1_loop.trips)) = W1 (arg3.view.read (Elt F) X) := by
  rw [trips1]
  obtain ⟨g, h⟩ := pieces1 𝒱 c bd i arg2 harg2 arg3 harg3 arg4 harg4 arg5 harg5 arg6 harg6 arg7 harg7 arg8 harg8 arg9 harg9 arg10 harg10 h1 X 16 (le_refl _)
  funext y
  exact View.read_writes_apply_of_pieces arg10.view f (W1 (arg3.view.read (Elt F) X)) _ g y (h y (y (0 : Fin 2)).isLt)

/-- What the second loop and the store after it leave in the scratch. -/
theorem read2 (x2 : Vec F S64x4096 .f32) (h2 : k0_cond2 i = 1#1) (X : BufTy.Contents (Elt F) arg3.view.ty) (f : BufTy.Contents (Elt F) arg10.view.ty) :
    arg10.view.read (Elt F) (arg10.view.writes (Elt F) f (⟨Rect.unit (s := S1024x4096) ![960, 0] S64x4096.size inb_S1024x4096_S64x4096_960_0, k0_pay5 x2⟩ :: pb_k0_t2 (F := F) 𝒱 c bd i arg2 harg2 arg3 harg3 arg4 harg4 arg5 harg5 arg6 harg6 arg7 harg7 arg8 harg8 arg9 harg9 arg10 harg10 h2 X k0_t2_loop.trips)) = W2 (arg3.view.read (Elt F) X) x2 := by
  rw [trips2]
  obtain ⟨g, h⟩ := pieces2 𝒱 c bd i arg2 harg2 arg3 harg3 arg4 harg4 arg5 harg5 arg6 harg6 arg7 harg7 arg8 harg8 arg9 harg9 arg10 harg10 x2 h2 X 15 (le_refl _)
  funext y
  refine View.read_writes_apply_of_pieces arg10.view f (W2 (arg3.view.read (Elt F) X) x2) _ (fun p hp => ?_) y ?_
  · rcases List.mem_cons.mp hp with rfl | hp
    · intro x
      unfold k0_pay5
      dsimp only
      rw [shapeCast_self, shapeCast_self]
      unfold W2
      have hlt : ¬ (960 + 1 * (x (0 : Fin 2)).val < 960) := by omega
      refine Eq.trans ?_ (dif_neg hlt).symm
      refine congrArg (truncf .bf16 x2 bitsLt_bf16_f32) (funext fun a => Fin.ext ?_)
      match a with
      | ⟨0, _⟩ => show (x (0 : Fin 2)).val = 960 + 1 * (x (0 : Fin 2)).val - 960; omega
      | ⟨1, _⟩ => show (x (1 : Fin 2)).val = 0 + 1 * (x (1 : Fin 2)).val; omega
    · exact g p hp
  · by_cases hy : (y (0 : Fin 2)).val < 64 * 15
    · obtain ⟨p, hp, hy'⟩ := h y hy
      exact ⟨p, List.mem_cons_of_mem _ hp, hy'⟩
    · refine ⟨_, List.mem_cons_self, ?_⟩
      rw [Rect.mem_set_unit]
      intro a
      match a with
      | ⟨0, _⟩ => exact ⟨by show 960 ≤ (y (0 : Fin 2)).val; omega, by have := (y (0 : Fin 2)).isLt; change _ < 1024 at this; show (y (0 : Fin 2)).val < 960 + 64; omega⟩
      | ⟨1, _⟩ => exact ⟨Nat.zero_le _, by have := (y (1 : Fin 2)).isLt; change _ < 4096 at this; show (y (1 : Fin 2)).val < 0 + 4096; omega⟩

end Cert.Kernel2Ideal.Gen

end
-- ==== Proof.Dense.InRun.lean ====
module

public import proofs.«01_k».proof.Proof.Dense.InPieces
public import Idealize.ShloMosaic.Lib.VecWindow

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point that keeps the scratch: the product of the activations with it, and the rounded tables. -/
theorem runA (c : Dev nD) (i : grid0.Coords) (arg2 : Memref sig .tc .vmem S512x4096 .bf16) (harg2 : arg2.IsWhole) (arg3 : Memref sig .tc .vmem S1024x4096 .f32) (harg3 : arg3.IsWhole) (arg4 : Memref sig .tc .vmem S64x4096 .f32) (harg4 : arg4.IsWhole) (arg5 : Memref sig .tc .vmem S32x4096 .f32) (harg5 : arg5.IsWhole) (arg6 : Memref sig .tc .vmem S32x4096 .f32) (harg6 : arg6.IsWhole) (arg7 : Memref sig .tc .vmem S512x1024 .f32) (harg7 : arg7.IsWhole) (arg8 : Memref sig .tc .vmem S32x4096 .bf16) (harg8 : arg8.IsWhole) (arg9 : Memref sig .tc .vmem S32x4096 .bf16) (harg9 : arg9.IsWhole) (arg10 : Memref sig .tc .vmem S1024x4096 .bf16) (harg10 : arg10.IsWhole) (hc0 : ¬ k0_cond1 i = 1#1) (hc1 : ¬ k0_cond2 i = 1#1)
    (x0 : Vec F S512x4096 .bf16) (x1 : Vec F S1024x4096 .f32) (x2 : Vec F S64x4096 .f32) (x3 : Vec F S32x4096 .f32) (x4 : Vec F S32x4096 .f32) (W : Vec F S1024x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare W ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 x0 W) ∗ owns (c : Thread nD τ) arg8 fullShare (k0_pay1 x3) ∗ owns (c : Thread nD τ) arg9 fullShare (k0_pay2 x4) ∗ owns (c : Thread nD τ) arg10 fullShare W) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6
  obtain rfl := harg10.eq_unread hf10
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    refine (View.read_writes_full ..).trans ?_
    exact congrArg₂ k0_pay6 ((View.readAt_full ..).trans (harg2.read_unread _)) ((View.readAt_full ..).trans (harg10.read_unread _))
  isplitl [H8]
  · iexists _; isplitr; swap
    · iexact H8
    ipureintro
    refine (View.read_writes_full ..).trans ?_
    exact congrArg k0_pay1 ((View.readAt_full ..).trans (harg5.read_unread _))
  isplitl [H9]
  · iexists _; isplitr; swap
    · iexact H9
    ipureintro
    refine (View.read_writes_full ..).trans ?_
    exact congrArg k0_pay2 ((View.readAt_full ..).trans (harg6.read_unread _))
  iexists _; isplitr; swap
  · iexact H10
  ipureintro
  exact harg10.read_unread _

/-- A point that fills the scratch before the removed columns. -/
theorem runB (c : Dev nD) (i : grid0.Coords) (arg2 : Memref sig .tc .vmem S512x4096 .bf16) (harg2 : arg2.IsWhole) (arg3 : Memref sig .tc .vmem S1024x4096 .f32) (harg3 : arg3.IsWhole) (arg4 : Memref sig .tc .vmem S64x4096 .f32) (harg4 : arg4.IsWhole) (arg5 : Memref sig .tc .vmem S32x4096 .f32) (harg5 : arg5.IsWhole) (arg6 : Memref sig .tc .vmem S32x4096 .f32) (harg6 : arg6.IsWhole) (arg7 : Memref sig .tc .vmem S512x1024 .f32) (harg7 : arg7.IsWhole) (arg8 : Memref sig .tc .vmem S32x4096 .bf16) (harg8 : arg8.IsWhole) (arg9 : Memref sig .tc .vmem S32x4096 .bf16) (harg9 : arg9.IsWhole) (arg10 : Memref sig .tc .vmem S1024x4096 .bf16) (harg10 : arg10.IsWhole) (hc0 : k0_cond1 i = 1#1) (hc1 : ¬ k0_cond2 i = 1#1)
    (x0 : Vec F S512x4096 .bf16) (x1 : Vec F S1024x4096 .f32) (x2 : Vec F S64x4096 .f32) (x3 : Vec F S32x4096 .f32) (x4 : Vec F S32x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 x0 (W1 x1)) ∗ owns (c : Thread nD τ) arg8 fullShare (k0_pay1 x3) ∗ owns (c : Thread nD τ) arg9 fullShare (k0_pay2 x4) ∗ owns (c : Thread nD τ) arg10 fullShare (W1 x1)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    refine (View.read_writes_full ..).trans ?_
    exact congrArg₂ k0_pay6 ((View.readAt_full ..).trans (harg2.read_unread _)) ((View.readAt_full ..).trans ((read1 ..).trans (congrArg W1 (harg3.read_unread _))))
  isplitl [H8]
  · iexists _; isplitr; swap
    · iexact H8
    ipureintro
    refine (View.read_writes_full ..).trans ?_
    exact congrArg k0_pay1 ((View.readAt_full ..).trans (harg5.read_unread _))
  isplitl [H9]
  · iexists _; isplitr; swap
    · iexact H9
    ipureintro
    refine (View.read_writes_full ..).trans ?_
    exact congrArg k0_pay2 ((View.readAt_full ..).trans (harg6.read_unread _))
  iexists _; isplitr; swap
  · iexact H10
  ipureintro
  exact (read1 ..).trans (congrArg W1 (harg3.read_unread _))

/-- A point that fills the scratch after the removed columns. -/
theorem runC (c : Dev nD) (i : grid0.Coords) (arg2 : Memref sig .tc .vmem S512x4096 .bf16) (harg2 : arg2.IsWhole) (arg3 : Memref sig .tc .vmem S1024x4096 .f32) (harg3 : arg3.IsWhole) (arg4 : Memref sig .tc .vmem S64x4096 .f32) (harg4 : arg4.IsWhole) (arg5 : Memref sig .tc .vmem S32x4096 .f32) (harg5 : arg5.IsWhole) (arg6 : Memref sig .tc .vmem S32x4096 .f32) (harg6 : arg6.IsWhole) (arg7 : Memref sig .tc .vmem S512x1024 .f32) (harg7 : arg7.IsWhole) (arg8 : Memref sig .tc .vmem S32x4096 .bf16) (harg8 : arg8.IsWhole) (arg9 : Memref sig .tc .vmem S32x4096 .bf16) (harg9 : arg9.IsWhole) (arg10 : Memref sig .tc .vmem S1024x4096 .bf16) (harg10 : arg10.IsWhole) (hc0 : ¬ k0_cond1 i = 1#1) (hc1 : k0_cond2 i = 1#1)
    (x0 : Vec F S512x4096 .bf16) (x1 : Vec F S1024x4096 .f32) (x2 : Vec F S64x4096 .f32) (x3 : Vec F S32x4096 .f32) (x4 : Vec F S32x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 x0 (W2 x1 x2)) ∗ owns (c : Thread nD τ) arg8 fullShare (k0_pay1 x3) ∗ owns (c : Thread nD τ) arg9 fullShare (k0_pay2 x4) ∗ owns (c : Thread nD τ) arg10 fullShare (W2 x1 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap
    · iexact H7
    ipureintro
    have e : arg10.view.read (Elt F) (arg10.view.writes (Elt F) f10 (runC.sl.H10_1 c i arg2 harg2 arg3 harg3 arg4 harg4 arg5 harg5 arg6 harg6 arg7 harg7 arg8 harg8 arg9 harg9 arg10 harg10 hc1 x1 x2)) = W2 x1 x2 := by
      unfold runC.sl.H10_1
      refine Eq.trans (congrArg (fun z => arg10.view.read (Elt F) (arg10.view.writes (Elt F) f10 (⟨Rect.unit (s := S1024x4096) ![960, 0] S64x4096.size inb_S1024x4096_S64x4096_960_0, k0_pay5 z⟩ :: _))) ((View.readAt_full ..).trans hf4)) ?_
      exact (read2 ..).trans (congrArg (fun z => W2 z x2) hf3)
    refine (View.read_writes_full ..).trans ?_
    exact congrArg₂ k0_pay6 ((View.readAt_full ..).trans (harg2.read_unread _)) ((View.readAt_full ..).trans e)
  isplitl [H8]
  · iexists _; isplitr; swap
    · iexact H8
    ipureintro
    refine (View.read_writes_full ..).trans ?_
    exact congrArg k0_pay1 ((View.readAt_full ..).trans (harg5.read_unread _))
  isplitl [H9]
  · iexists _; isplitr; swap
    · iexact H9
    ipureintro
    refine (View.read_writes_full ..).trans ?_
    exact congrArg k0_pay2 ((View.readAt_full ..).trans (harg6.read_unread _))
  iexists _; isplitr; swap
  · iexact H10
  ipureintro
  have e : arg10.view.read (Elt F) (arg10.view.writes (Elt F) f10 (runC.sl.H10_1 c i arg2 harg2 arg3 harg3 arg4 harg4 arg5 harg5 arg6 harg6 arg7 harg7 arg8 harg8 arg9 harg9 arg10 harg10 hc1 x1 x2)) = W2 x1 x2 := by
    unfold runC.sl.H10_1
    refine Eq.trans (congrArg (fun z => arg10.view.read (Elt F) (arg10.view.writes (Elt F) f10 (⟨Rect.unit (s := S1024x4096) ![960, 0] S64x4096.size inb_S1024x4096_S64x4096_960_0, k0_pay5 z⟩ :: _))) ((View.readAt_full ..).trans hf4)) ?_
    exact (read2 ..).trans (congrArg (fun z => W2 z x2) hf3)
  exact e

end Cert.Kernel2Ideal.Gen

end
-- ==== Proof.Dense.InFrame.lean ====
module

public import proofs.«01_k».proof.Proof.Dense.InRun

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The column tile of a grid point, and the scratch the tile's points share -/

theorem colt (n : ℕ) (h : n < cfg0.N) : n / 17 < 34 := by have hN : cfg0.N = 578 := N_0; omega

/-- The first point of column tile `j`. -/
def base (j : Fin 34) : Fin cfg0.N := ⟨17 * j.val, by have hN : cfg0.N = 578 := N_0; omega⟩

/-- What the scratch holds during column tile `j`: the tile's weights, rounded. -/
def WB (c : Dev nD) (j : Fin 34) : FVec F S1024x4096 .bf16 :=
  if j.val < 10 then W1 (X0_1 m c (base j)) else W2 (X0_1 m c (base j)) (iblk m c 2 (base j))

theorem cond1 : ∀ t : Fin cfg0.N, k0_cond1 (grid0.coords t) = 1#1 ↔ (t.val % 17 = 0 ∧ t.val / 17 < 10) :=
  (fun t => by
    have ht : t.val < 578 := Nat.lt_of_lt_of_eq t.isLt N_0
    have e0 : (grid0.coords t 0).val = t.val / 17 % 34 := Pipeline.Grid.coords_val t 0 (by decide) rfl
    have e1 : (grid0.coords t 1).val = t.val / 1 % 17 := Pipeline.Grid.coords_val t 1 (by decide) rfl
    simp only [k0_cond1, e0, e1]
    word_cmp
   : ∀ t : Fin grid0.N, k0_cond1 (grid0.coords t) = 1#1 ↔ (t.val % 17 = 0 ∧ t.val / 17 < 10))

theorem cond2 : ∀ t : Fin cfg0.N, k0_cond2 (grid0.coords t) = 1#1 ↔ (t.val % 17 = 0 ∧ ¬ t.val / 17 < 10) :=
  (fun t => by
    have ht : t.val < 578 := Nat.lt_of_lt_of_eq t.isLt N_0
    have e0 : (grid0.coords t 0).val = t.val / 17 % 34 := Pipeline.Grid.coords_val t 0 (by decide) rfl
    have e1 : (grid0.coords t 1).val = t.val / 1 % 17 := Pipeline.Grid.coords_val t 1 (by decide) rfl
    simp only [k0_cond2, e0, e1]
    word_cmp
   : ∀ t : Fin grid0.N, k0_cond2 (grid0.coords t) = 1#1 ↔ (t.val % 17 = 0 ∧ ¬ t.val / 17 < 10))

theorem base_eq (t : Fin cfg0.N) (h : t.val % 17 = 0) : base ⟨t.val / 17, colt t.val t.isLt⟩ = t :=
  Fin.ext (by show 17 * (t.val / 17) = t.val; omega)

abbrev scM0_0 : Memref sig .tc .vmem S1024x4096 .bf16 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The invariant before position `n`: before the first point the scratch at anything, afterwards the scratch at the weights of the last point's column tile. -/
def PhiS (c : Dev nD) : (n : ℕ) → n ≤ cfg0.N → sProp 𝕄
  | 0, _ => Pipeline.ΦA spec0 c
  | n + 1, hn => iprop(iprop(owns (c : Thread nD τ) scM0_0 fullShare (WB m c ⟨n / 17, colt n hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (WB m c ⟨n / 17, colt n hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (WB m c ⟨(n - 1) / 17, colt (n - 1) (by omega)⟩)) ∗ (∃ r, prngReg c r)) := by
  cases n with
  | zero => exact absurd rfl hz
  | succ n => rfl

/-- Before any point the scratch is at some contents. -/
theorem PhiS_any (c : Dev nD) (n : ℕ) (h : n ≤ cfg0.N) : PhiS m c n h ⊢ iprop(iprop((∃ d, owns (c : Thread nD τ) scM0_0 fullShare d)) ∗ (∃ r, prngReg c r)) := by
  by_cases hz : n = 0
  · rw [PhiS_zero m c n h hz, PhiA0_eq]
  · rw [PhiS_pos m c n h hz]
    iintro ⟨HS0, Hg⟩
    isplitl [HS0]
    · iexists _; iexact HS0
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => k0_pay6 (iblk m c 0 t) (WB m c ⟨t.val / 17, colt t.val t.isLt⟩)
    | ⟨6, _⟩ => k0_pay1 (iblk m c 3 t)
    | ⟨7, _⟩ => k0_pay2 (iblk m c 4 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay6 (iblk m c 0 t) (WB m c ⟨t.val / 17, colt t.val t.isLt⟩) := by dsimp only [dats]
theorem after0_6 (c : Dev nD) (t : Fin cfg0.N) : (dats m 0 c).after 6 t = k0_pay1 (iblk m c 3 t) := by dsimp only [dats]
theorem after0_7 (c : Dev nD) (t : Fin cfg0.N) : (dats m 0 c).after 7 t = k0_pay2 (iblk m c 4 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ,
    after0_0, after0_1, after0_2, after0_3, after0_4, after0_5, after0_6, after0_7, PhiS_castSucc]
  by_cases h0 : t.val % 17 = 0
  · refine (sep_mono (PhiS_any m c t.val (Nat.le_of_lt t.isLt)) .rfl).trans ?_
    by_cases h1 : t.val / 17 < 10
    · have e : WB m c ⟨t.val / 17, colt t.val t.isLt⟩ = W1 (X0_1 m c t) := by
        unfold WB; rw [if_pos h1, base_eq t h0]
      rw [e]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ ((cond1 t).mpr ⟨h0, h1⟩) (fun h => ((cond2 t).mp h).2 h1) (iblk m c 0 t) (X0_1 m c t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have e : WB m c ⟨t.val / 17, colt t.val t.isLt⟩ = W2 (X0_1 m c t) (iblk m c 2 t) := by
        unfold WB; rw [if_neg h1, base_eq t h0]
      rw [e]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) _ _ _ _ _ _ _ _ _ _ _ _ _ _ _ _ _ _ (fun h => h1 ((cond1 t).mp h).2) ((cond2 t).mpr ⟨h0, h1⟩) (iblk m c 0 t) (X0_1 m c t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      iintro ⟨H0, H1, H2, H3, H4, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · rw [PhiS_pos m c _ _ (by omega : t.val ≠ 0)]
    have e : WB m c ⟨(t.val - 1) / 17, colt (t.val - 1) (by omega)⟩ = WB m c ⟨t.val / 17, colt t.val t.isLt⟩ :=
      congrArg (WB m c) (Fin.ext (by show (t.val - 1) / 17 = t.val / 17; omega))
    rw [e]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ (fun h => h0 ((cond1 t).mp h).1) (fun h => h0 ((cond2 t).mp h).1) (iblk m c 0 t) (X0_1 m c t) (iblk m c 2 t) (iblk m c 3 t) (iblk m c 4 t) (WB m c ⟨t.val / 17, colt t.val t.isLt⟩) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel2Ideal.Gen

end
-- ==== Proof.Dense.InKernel.lean ====
module

public import proofs.«01_k».proof.Proof.Gen.Kernel2
public import proofs.«01_k».proof.Proof.Dense.InFrame
public import proofs.«01_k».proof.Defs

@[expose] public section

set_option maxRecDepth 16384

noncomputable section

namespace Cert.InProj

open Idealize.ShloMosaic Idealize.ShloMosaic.TcCoe Idealize.SL.Sem

/-- The kernel as traced and its idealization print the same text, so the one's run is the other's. -/
theorem main_eq {F : FTy → Type} [FloatOps F] : Cert.Kernel2.main (F := F) = Cert.Kernel2Ideal.main (F := F) := by
  rfl

theorem body_eq {F : FTy → Type} [FloatOps F] : @Cert.Kernel2.cc0_in_proj F _ _ = @Cert.Kernel2Ideal.cc0_in_proj F _ _ := by
  rfl

theorem defs₀_eq {F : FTy → Type} [FloatOps F] : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | 0, (t, s) => rfl
  | ⟨_ + 1, h⟩, _ => exact absurd h (Nat.not_lt.2 (Nat.le_add_left _ _))

theorem defs_eq {F : FTy → Type} [FloatOps F] : Cert.Kernel2.defs (F := F) = Cert.Kernel2Ideal.defs (F := F) := by
  unfold Cert.Kernel2.defs Cert.Kernel2Ideal.defs
  rw [defs₀_eq]
  rfl

theorem kernel_frame : Cert.quiescent_Kernel2 (hKernel2 := Cert.Kernel2.Gen.facts) := by
  intro m g _
  have h := Cert.Kernel2Ideal.Gen.frame (F := Bits) m g
  rw [← main_eq, ← defs_eq] at h
  exact h

end Cert.InProj

end
-- ==== Proof.Dense.InValue.lean ====
module

public import proofs.«01_k».proof.Proof.Dense.InFrame
public import proofs.«01_k».proof.Proof.Gen.Reference2Ideal.Run
public import Idealize.ShloMosaic.Lib.Pipeline.ValueKit
public import Idealize.ShloMosaic.Lib.Pointwise

@[expose] public section

set_option maxRecDepth 16384

/-! # The input projection: the normed stream through the input weights without the removed columns, and the two rounded tables -/

noncomputable section

namespace Cert.InProj

open Idealize.ShloMosaic Idealize.ShloMosaic.TcCoe Idealize.SL.Sem Cert.Kernel2Ideal Cert.Kernel2Ideal.Gen

/-- The reference's projection as a function of its arguments. -/
abbrev REF (M : FVec Ideal S8704x4096 .bf16) (W : FVec Ideal S1x4096x34880 .f32) : FVec Ideal S8704x34816 .f32 :=
  concatenate Cert.Reference2Ideal.S8704x34816 1 [⟨Cert.Reference2Ideal.S8704x10240, (extractStridedSlice Cert.Reference2Ideal.S8704x10240 ![0, 0] (Host.dotGeneral Cert.Reference2Ideal.dot_S8704x4096_S4096x34880_S8704x34880_1_0_0_1_n_n none (extf .f32 M Cert.Reference2Ideal.Gen.bitsLt_bf16_f32) (shapeCast _ W Cert.Reference2Ideal.Gen.shapeCasts_S1x4096x34880_S4096x34880)) Cert.Reference2Ideal.Gen.slices_S8704x34880_S8704x10240_0_0)⟩, ⟨Cert.Reference2Ideal.S8704x24576, (extractStridedSlice Cert.Reference2Ideal.S8704x24576 ![0, 10304] (Host.dotGeneral Cert.Reference2Ideal.dot_S8704x4096_S4096x34880_S8704x34880_1_0_0_1_n_n none (extf .f32 M Cert.Reference2Ideal.Gen.bitsLt_bf16_f32) (shapeCast _ W Cert.Reference2Ideal.Gen.shapeCasts_S1x4096x34880_S4096x34880)) Cert.Reference2Ideal.Gen.slices_S8704x34880_S8704x24576_0_10304)⟩] Cert.Reference2Ideal.Gen.concatenates_S8704x10240_S8704x24576_S8704x34816_d1

/-- A rounded table as a function of the table. -/
abbrev TAB (T : FVec Ideal S1x16384x4096 .f32) : FVec Ideal S16384x4096 .bf16 :=
  truncf .bf16 (shapeCast _ T Cert.Reference2Ideal.Gen.shapeCasts_S1x16384x4096_S16384x4096) Cert.Reference2Ideal.Gen.bitsLt_bf16_f32

variable (m : (ℓ : Loc nD τ sig) → Buf (Elt Ideal) ℓ)

/-- Where the windows of grid point `t` lie. -/
theorem idx : ∀ t : Fin cfg0.N,
    (win0_0.index t (0 : Fin 2) = t.val % 17 ∧ win0_0.index t (1 : Fin 2) = 0) ∧
    (win0_1.index t (0 : Fin 2) = t.val / 17 ∧ win0_1.index t (1 : Fin 2) = 0) ∧
    (win0_2.index t (0 : Fin 2) = 16 * (t.val / 17 + 1) ∧ win0_2.index t (1 : Fin 2) = 0) ∧
    (win0_3.index t (0 : Fin 2) = min t.val 511 ∧ win0_3.index t (1 : Fin 2) = 0) ∧
    (win0_4.index t (0 : Fin 2) = min t.val 511 ∧ win0_4.index t (1 : Fin 2) = 0) ∧
    (win0_5.index t (0 : Fin 2) = t.val % 17 ∧ win0_5.index t (1 : Fin 2) = t.val / 17) ∧
    (win0_6.index t (0 : Fin 2) = min t.val 511 ∧ win0_6.index t (1 : Fin 2) = 0) ∧
    (win0_7.index t (0 : Fin 2) = min t.val 511 ∧ win0_7.index t (1 : Fin 2) = 0) :=
  (by decide +kernel : ∀ t : Fin grid0.N,
    (win0_0.index t (0 : Fin 2) = t.val % 17 ∧ win0_0.index t (1 : Fin 2) = 0) ∧
    (win0_1.index t (0 : Fin 2) = t.val / 17 ∧ win0_1.index t (1 : Fin 2) = 0) ∧
    (win0_2.index t (0 : Fin 2) = 16 * (t.val / 17 + 1) ∧ win0_2.index t (1 : Fin 2) = 0) ∧
    (win0_3.index t (0 : Fin 2) = min t.val 511 ∧ win0_3.index t (1 : Fin 2) = 0) ∧
    (win0_4.index t (0 : Fin 2) = min t.val 511 ∧ win0_4.index t (1 : Fin 2) = 0) ∧
    (win0_5.index t (0 : Fin 2) = t.val % 17 ∧ win0_5.index t (1 : Fin 2) = t.val / 17) ∧
    (win0_6.index t (0 : Fin 2) = min t.val 511 ∧ win0_6.index t (1 : Fin 2) = 0) ∧
    (win0_7.index t (0 : Fin 2) = min t.val 511 ∧ win0_7.index t (1 : Fin 2) = 0))

theorem base_div (j : Fin 34) : (base j).val / 17 = j.val := by
  show 17 * j.val / 17 = j.val
  omega

/-- The weight block of a column tile, read off the weights. -/
theorem X_apply (c : Dev nD) (j : Fin 34) (r : Fin 1024) (k : Fin 4096) :
    X0_1 m c (base j) (ix2 r k) = m ((c : Thread nD τ).loc main_arg1) (ix3 0 k ⟨1024 * j.val + r.val, by omega⟩) := by
  unfold X0_1 Pipeline.Window.fill
  rw [dif_pos (moved0_1 (base j) (ix2 r k))]
  show V m c main_v1 (((cfg0.win 1).blk (base j)).view.emb _) = _
  entry_read
  pointwise
  have e0 : ∀ h : (∀ a, (ix2 r k a).val < ((cfg0.win 1).xblock (cfg0.grid.coords (base j))).size a), (((cfg0.win 1).blk (base j)).view.emb (fun a => ⟨(ix2 r k a).val, h a⟩) (0 : Fin 2) : ℕ) = 1024 * j.val + r.val := by
    intro h
    blk_simp [idx (base j)]
    have := base_div j
    show (base j).val / 17 * 1024 + r.val = 1024 * j.val + r.val
    omega
  have e1 : ∀ h : (∀ a, (ix2 r k a).val < ((cfg0.win 1).xblock (cfg0.grid.coords (base j))).size a), (((cfg0.win 1).blk (base j)).view.emb (fun a => ⟨(ix2 r k a).val, h a⟩) (1 : Fin 2) : ℕ) = k.val := by
    intro h
    blk_simp [idx (base j)]
  exact congrArg (m (c.tc.loc main_arg1)) ((ix3_inj ..).2 ⟨rfl, Fin.ext (e1 _), Fin.ext (e0 _)⟩)

/-- The 64 rows after a column tile, read off the weights. -/
theorem N_apply (c : Dev nD) (j : Fin 34) (r : Fin 64) (k : Fin 4096) :
    iblk m c 2 (base j) (ix2 r k) = m ((c : Thread nD τ).loc main_arg1) (ix3 0 k ⟨1024 * j.val + 1024 + r.val, by omega⟩) := by
  show V m c main_v1 (((cfg0.win 2).blk (base j)).view.emb _) = _
  entry_read
  pointwise
  have e0 : (((cfg0.win 2).blk (base j)).view.emb (ix2 r k) (0 : Fin 2) : ℕ) = 1024 * j.val + 1024 + r.val := by
    blk_simp [idx (base j)]
    have := base_div j
    omega
  have e1 : (((cfg0.win 2).blk (base j)).view.emb (ix2 r k) (1 : Fin 2) : ℕ) = k.val := by
    blk_simp [idx (base j)]
  exact congrArg (m (c.tc.loc main_arg1)) ((ix3_inj ..).2 ⟨rfl, Fin.ext e1, Fin.ext e0⟩)

/-- The weights a column tile multiplies with: the columns before the removed ones as they are, those after them shifted. -/
theorem WB_apply (c : Dev nD) (j : Fin 34) (r : Fin 1024) (k : Fin 4096) :
    WB m c j (ix2 r k) = m ((c : Thread nD τ).loc main_arg1) (ix3 0 k ⟨1024 * j.val + r.val + (if j.val < 10 then 0 else 64), by split <;> omega⟩) := by
  unfold WB
  by_cases h : j.val < 10
  · simp only [if_pos h]
    exact X_apply m c j r k
  · simp only [if_neg h]
    unfold W2
    by_cases hr : r.val < 960
    · refine (dif_pos hr).trans ?_
      refine Eq.trans ?_ ((X_apply m c j ⟨r.val + 64, by omega⟩ k).trans ?_)
      · exact congrArg (X0_1 m c (base j)) (funext fun a => match a with | ⟨0, _⟩ => rfl | ⟨1, _⟩ => rfl)
      · exact congrArg (m ((c : Thread nD τ).loc main_arg1)) ((ix3_inj ..).2 ⟨rfl, rfl, Fin.ext (by show 1024 * j.val + (r.val + 64) = 1024 * j.val + r.val + 64; omega)⟩)
    · refine (dif_neg hr).trans ?_
      refine Eq.trans ?_ ((N_apply m c j ⟨r.val - 960, by omega⟩ k).trans ?_)
      · exact congrArg (iblk m c 2 (base j)) (funext fun a => match a with | ⟨0, _⟩ => rfl | ⟨1, _⟩ => rfl)
      · exact congrArg (m ((c : Thread nD τ).loc main_arg1)) ((ix3_inj ..).2 ⟨rfl, rfl, Fin.ext (by show 1024 * j.val + 1024 + (r.val - 960) = 1024 * j.val + r.val + 64; omega)⟩)

/-- What a grid point stores of the projection is the reference's block. -/
theorem point5 (c : Dev nD) (t : Fin cfg0.N) (y : S512x1024.Idx) :
    k0_pay6 (F := Ideal) (iblk m c 0 t) (WB m c ⟨t.val / 17, colt t.val t.isLt⟩) y
      = REF (m ((c : Thread nD τ).loc main_arg0)) (m ((c : Thread nD τ).loc main_arg1)) (((cfg0.win 5).blk t).view.emb y) := by
  pointwise [k0_pay6, REF]
  have e0 : (((((cfg0.win 5).blk t).view.emb y) 0 : Fin _) : ℕ) = 512 * (t.val % 17) + (y 0).val := by
    blk_simp [idx t]
    omega
  have e1 : (((((cfg0.win 5).blk t).view.emb y) 1 : Fin _) : ℕ) = 1024 * (t.val / 17) + (y 1).val := by
    blk_simp [idx t]
    omega
  have hx : ∀ k : Fin 4096, iblk m c 0 t (ix2 (y 0) k) = m ((c : Thread nD τ).loc main_arg0) (ix2 ((((cfg0.win 5).blk t).view.emb y) 0) k) := fun k => by
    blk_point [iblk, V, idx t]
  have hy := (y 1).isLt
  have hyy : (y 1).val < 1024 := hy
  by_cases h : t.val / 17 < 10
  · rw [dif_pos (lt_of_eq_of_lt e1 (by omega))]
    refine Finset.sum_congr rfl fun k _ => ?_
    refine congrArg₂ (fun a b : EReal => a * b) (hx k) ?_
    refine (WB_apply m c _ (y 1) k).trans (congrArg (m ((c : Thread nD τ).loc main_arg1)) ((ix3_inj ..).2 ⟨rfl, rfl, Fin.ext ?_⟩))
    simp only [if_pos h]
    refine Eq.trans ?_ e1.symm
    omega
  · rw [dif_neg fun hh => absurd (lt_of_eq_of_lt e1.symm hh) (by omega)]
    refine Finset.sum_congr rfl fun k _ => ?_
    refine congrArg₂ (fun a b : EReal => a * b) (hx k) ?_
    refine (WB_apply m c _ (y 1) k).trans (congrArg (m ((c : Thread nD τ).loc main_arg1)) ((ix3_inj ..).2 ⟨rfl, rfl, Fin.ext ?_⟩))
    simp only [if_neg h]
    refine Eq.trans ?_ (congrArg (fun n => 10304 + (n - 10240)) e1).symm
    dsimp only
    omega

theorem point6 (c : Dev nD) (t : Fin cfg0.N) (y : S32x4096.Idx) :
    k0_pay1 (F := Ideal) (iblk m c 3 t) y = TAB (m ((c : Thread nD τ).loc main_arg2)) (((cfg0.win 6).blk t).view.emb y) := by
  pointwise [k0_pay1, TAB]
  blk_point [iblk, V, idx t]

theorem point7 (c : Dev nD) (t : Fin cfg0.N) (y : S32x4096.Idx) :
    k0_pay2 (F := Ideal) (iblk m c 4 t) y = TAB (m ((c : Thread nD τ).loc main_arg3)) (((cfg0.win 7).blk t).view.emb y) := by
  pointwise [k0_pay2, TAB]
  blk_point [iblk, V, idx t]

theorem final5 (c : Dev nD) : (dats m 0 c).arrAt 5 (cfgs 0).N = REF (m ((c : Thread nD τ).loc main_arg0)) (m ((c : Thread nD τ).loc main_arg1)) := by
  refine (dats m 0 c).arrAt_eq_of_covers 5 _ (by decide +kernel) fun t _ y => ?_
  blk_simp
  rw [after0_5]
  try frame_out
  exact point5 m c t y

theorem final6 (c : Dev nD) : (dats m 0 c).arrAt 6 (cfgs 0).N = TAB (m ((c : Thread nD τ).loc main_arg2)) := by
  refine (dats m 0 c).arrAt_eq_of_covers 6 _ (by decide +kernel) fun t _ y => ?_
  blk_simp
  rw [after0_6]
  try frame_out
  exact point6 m c t y

theorem final7 (c : Dev nD) : (dats m 0 c).arrAt 7 (cfgs 0).N = TAB (m ((c : Thread nD τ).loc main_arg3)) := by
  refine (dats m 0 c).arrAt_eq_of_covers 7 _ (by decide +kernel) fun t _ y => ?_
  blk_simp
  rw [after0_7]
  try frame_out
  exact point7 m c t y

/-- The run, with the three results read off the reference's terms. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v4_0) = REF (m ((c.tc : Thread nD τ).loc main_arg0)) (m ((c.tc : Thread nD τ).loc main_arg1))
      ∧ r.2.mem ((c.tc : Thread nD τ).loc main_v4_1) = TAB (m ((c.tc : Thread nD τ).loc main_arg2))
      ∧ r.2.mem ((c.tc : Thread nD τ).loc main_v4_2) = TAB (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 5).trans (final5 m c), ((h.1 c).1 6).trans (final6 m c), ((h.1 c).1 7).trans (final7 m c), h.2 c⟩)
    (θ_run_and (run_main m ρ) (unchanged m ρ))

end Cert.InProj
-- ==== Proof.Dense.InAlgebraic.lean ====
module

public import proofs.«01_k».proof.Proof.Dense.InKernel
public import proofs.«01_k».proof.Proof.Dense.InValue
public import proofs.«01_k».proof.Proof.Gen.Reference2Ideal

@[expose] public section

set_option maxRecDepth 16384

/-! # The input projection: what is claimed of it -/

noncomputable section

namespace Cert.Dense

open Idealize.ShloMosaic Idealize.ShloMosaic.TcCoe Idealize.SL.Sem

theorem inProj_kernel : Cert.quiescent_Kernel2 (hKernel2 := Cert.Kernel2.Gen.facts) :=
  Cert.InProj.kernel_frame

theorem inProj_ideal : Cert.quiescent_Kernel2Ideal (hKernel2Ideal := Cert.Kernel2Ideal.Gen.facts) :=
  fun m g _ => Cert.Kernel2Ideal.Gen.frame (F := Ideal) m g

theorem inProj_reference : Cert.quiescent_Reference2Ideal (hReference2Ideal := Cert.Reference2Ideal.Gen.facts) := by
  intro m g _
  exact (θ_run Cert.Reference2Ideal.defs _ _).mono (fun r h => ⟨fun c => (h c).2.2.2,
    Idealize.ShloMosaic.sem_eq_zero_of_no_sems (by decide) r.2⟩) (Cert.Reference2Ideal.Value.run (F := Ideal) m g)

theorem inProj_algebraic : Cert.algebraic_Kernel2Ideal_Reference2Ideal (hKernel2Ideal := Cert.Kernel2Ideal.Gen.facts)
    (hReference2Ideal := Cert.Reference2Ideal.Gen.facts) := by
  intro m g m' g' _ hargs
  refine ⟨_, _, _, Cert.InProj.run_values m g, ?_⟩
  refine (θ_run Cert.Reference2Ideal.defs _ _).mono (fun r h c => ?_) (Cert.Reference2Ideal.Value.run (F := Ideal) m' g')
  obtain ⟨a0, a1, a2, a3⟩ := hargs c
  refine ⟨(h c).1.trans ?_, (h c).2.1.trans ?_, (h c).2.2.1.trans ?_, (h c).2.2.2⟩
  · rw [a0, a1]
  · rw [a2]
  · rw [a3]

end Cert.Dense

end
-- ==== Proof.Dense.ConvP.lean ====
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

/-! # The causal convolution of the prompt rows: every row is the weighted sum of itself and the three before it, through the silu -/

noncomputable section

namespace Cert.ConvP

open Idealize.ShloMosaic Idealize.ShloMosaic.TcCoe Idealize.SL.Sem Cert.Kernel7Ideal Cert.Kernel7Ideal.Gen

/-- The reference's rows as a function of its arguments. -/
abbrev REF (P : FVec Ideal S8704x34816 .f32) (B : FVec Ideal S1x3x6144 .f32) (W : FVec Ideal S1x4x6144 .f32) (C : FVec Ideal S1x6144 .f32) : FVec Ideal S8192x6144 .f32 :=
  shapeCast _ (mulf (addf (addf (addf (addf (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ C Cert.Reference7Ideal.Gen.shapeCasts_S1x6144_S6144))) (mulf (extractStridedSlice Cert.Reference7Ideal.S1x8192x6144 ![0, 0, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x8192x6144_0_0_0) (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ (extractStridedSlice Cert.Reference7Ideal.S1x6144 ![0, 0] (shapeCast _ W Cert.Reference7Ideal.Gen.shapeCasts_S1x4x6144_S4x6144) Cert.Reference7Ideal.Gen.slices_S4x6144_S1x6144_0_0) Cert.Reference7Ideal.Gen.shapeCasts_S1x6144_S6144))))) (mulf (extractStridedSlice Cert.Reference7Ideal.S1x8192x6144 ![0, 1, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x8192x6144_0_1_0) (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ (extractStridedSlice Cert.Reference7Ideal.S1x6144 ![1, 0] (shapeCast _ W Cert.Reference7Ideal.Gen.shapeCasts_S1x4x6144_S4x6144) Cert.Reference7Ideal.Gen.slices_S4x6144_S1x6144_1_0) Cert.Reference7Ideal.Gen.shapeCasts_S1x6144_S6144))))) (mulf (extractStridedSlice Cert.Reference7Ideal.S1x8192x6144 ![0, 2, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x8192x6144_0_2_0) (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ (extractStridedSlice Cert.Reference7Ideal.S1x6144 ![2, 0] (shapeCast _ W Cert.Reference7Ideal.Gen.shapeCasts_S1x4x6144_S4x6144) Cert.Reference7Ideal.Gen.slices_S4x6144_S1x6144_2_0) Cert.Reference7Ideal.Gen.shapeCasts_S1x6144_S6144))))) (mulf (extractStridedSlice Cert.Reference7Ideal.S1x8192x6144 ![0, 3, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x8192x6144_0_3_0) (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ (extractStridedSlice Cert.Reference7Ideal.S1x6144 ![3, 0] (shapeCast _ W Cert.Reference7Ideal.Gen.shapeCasts_S1x4x6144_S4x6144) Cert.Reference7Ideal.Gen.slices_S4x6144_S1x6144_3_0) Cert.Reference7Ideal.Gen.shapeCasts_S1x6144_S6144))))) (Host.divf (broadcastInDim Cert.Reference7Ideal.S1x8192x6144 ![] Cert.Reference7Ideal.Gen.bcast_S_S1x8192x6144 (constant Cert.Reference7Ideal.S_ .f32 0x3F800000#32)) (addf (broadcastInDim Cert.Reference7Ideal.S1x8192x6144 ![] Cert.Reference7Ideal.Gen.bcast_S_S1x8192x6144 (constant Cert.Reference7Ideal.S_ .f32 0x3F800000#32)) (Host.exp (Host.negf (addf (addf (addf (addf (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ C Cert.Reference7Ideal.Gen.shapeCasts_S1x6144_S6144))) (mulf (extractStridedSlice Cert.Reference7Ideal.S1x8192x6144 ![0, 0, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x8192x6144_0_0_0) (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ (extractStridedSlice Cert.Reference7Ideal.S1x6144 ![0, 0] (shapeCast _ W Cert.Reference7Ideal.Gen.shapeCasts_S1x4x6144_S4x6144) Cert.Reference7Ideal.Gen.slices_S4x6144_S1x6144_0_0) Cert.Reference7Ideal.Gen.shapeCasts_S1x6144_S6144))))) (mulf (extractStridedSlice Cert.Reference7Ideal.S1x8192x6144 ![0, 1, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x8192x6144_0_1_0) (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ (extractStridedSlice Cert.Reference7Ideal.S1x6144 ![1, 0] (shapeCast _ W Cert.Reference7Ideal.Gen.shapeCasts_S1x4x6144_S4x6144) Cert.Reference7Ideal.Gen.slices_S4x6144_S1x6144_1_0) Cert.Reference7Ideal.Gen.shapeCasts_S1x6144_S6144))))) (mulf (extractStridedSlice Cert.Reference7Ideal.S1x8192x6144 ![0, 2, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x8192x6144_0_2_0) (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ (extractStridedSlice Cert.Reference7Ideal.S1x6144 ![2, 0] (shapeCast _ W Cert.Reference7Ideal.Gen.shapeCasts_S1x4x6144_S4x6144) Cert.Reference7Ideal.Gen.slices_S4x6144_S1x6144_2_0) Cert.Reference7Ideal.Gen.shapeCasts_S1x6144_S6144))))) (mulf (extractStridedSlice Cert.Reference7Ideal.S1x8192x6144 ![0, 3, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x8192x6144_0_3_0) (broadcastInDim Cert.Reference7Ideal.S1x8192x6144 ![0, 1, 2] Cert.Reference7Ideal.Gen.bcast_S1x1x6144_S1x8192x6144_0_1_2 (broadcastInDim Cert.Reference7Ideal.S1x1x6144 ![2] Cert.Reference7Ideal.Gen.bcast_S6144_S1x1x6144_2 (shapeCast _ (extractStridedSlice Cert.Reference7Ideal.S1x6144 ![3, 0] (shapeCast _ W Cert.Reference7Ideal.Gen.shapeCasts_S1x4x6144_S4x6144) Cert.Reference7Ideal.Gen.slices_S4x6144_S1x6144_3_0) Cert.Reference7Ideal.Gen.shapeCasts_S1x6144_S6144)))))))))) Cert.Reference7Ideal.Gen.shapeCasts_S1x8192x6144_S8192x6144

/-- The reference's three last rows. -/
abbrev TAIL (P : FVec Ideal S8704x34816 .f32) (B : FVec Ideal S1x3x6144 .f32) : FVec Ideal S1x3x6144 .f32 :=
  extractStridedSlice Cert.Reference7Ideal.S1x3x6144 ![0, 8192, 0] (concatenate Cert.Reference7Ideal.S1x8195x6144 1 [⟨Cert.Reference7Ideal.S1x3x6144, B⟩, ⟨Cert.Reference7Ideal.S1x8192x6144, (shapeCast _ (extractStridedSlice Cert.Reference7Ideal.S8192x6144 ![0, 4096] P Cert.Reference7Ideal.Gen.slices_S8704x34816_S8192x6144_0_4096) Cert.Reference7Ideal.Gen.shapeCasts_S8192x6144_S1x8192x6144)⟩] Cert.Reference7Ideal.Gen.concatenates_S1x3x6144_S1x8192x6144_S1x8195x6144_d1) Cert.Reference7Ideal.Gen.slices_S1x8195x6144_S1x3x6144_0_8192_0

/-- A column of the sequence: the three rows carried in, then the rows of the projection. -/
def col (P : FVec Ideal S8704x34816 .f32) (B : FVec Ideal S1x3x6144 .f32) (col : Fin 6144) (i : ℕ) : EReal :=
  if h : i < 3 then B (ix3 0 ⟨i, h⟩ col) else if h : i < 8195 then P (ix2 ⟨i - 3, by omega⟩ ⟨4096 + col.val, by omega⟩) else 0

/-- The product with the sigmoid. -/
abbrev silu (v : EReal) : EReal := v * Ideal.div 1 (1 + Ideal.exp (-v))

/-- A block whose rows moved down by one, its first row replaced. -/
theorem moved_down (x : Vec Ideal S512x2048 .f32) (p : EReal) (r : Fin 512) (l : Fin 2048) :
    (if h : r.val < 8 then
      Scalar.select (IntOp.cmpi CmpIPredicate.eq (BitVec.ofNat 32 r.val) 0#32) p (x (ix2 ⟨(r.val + 512 - 1) % 512, by omega⟩ l))
    else x (ix2 ⟨(8 + (r.val - 8) + 512 - 1) % 512, by omega⟩ l)) = if h : r.val = 0 then p else x (ix2 ⟨r.val - 1, by omega⟩ l) := by
  by_cases h0 : r.val = 0
  · rw [dif_pos h0, dif_pos (by omega)]
    simp [Scalar.select, IntOp.cmpi, h0]
  · rw [dif_neg h0]
    by_cases h8 : r.val < 8
    · rw [dif_pos h8]
      have e : BitVec.ofNat 32 r.val ≠ 0#32 := by
        intro e
        have h := congrArg BitVec.toNat e
        simp at h
        omega
      have g : (⟨(r.val + 512 - 1) % 512, by omega⟩ : Fin 512) = ⟨r.val - 1, by omega⟩ := Fin.ext (by show (r.val + 512 - 1) % 512 = r.val - 1; omega)
      rw [g]
      have e' : (BitVec.ofNat 32 r.val == 0#32) = false := beq_eq_false_iff_ne.2 e
      simp [Scalar.select, IntOp.cmpi, e']
    · rw [dif_neg h8]
      have g : (⟨(8 + (r.val - 8) + 512 - 1) % 512, by omega⟩ : Fin 512) = ⟨r.val - 1, by omega⟩ := Fin.ext (by show (8 + (r.val - 8) + 512 - 1) % 512 = r.val - 1; omega)
      rw [g]

theorem first_shift (x : Vec Ideal S512x2048 .f32) (p : Vec Ideal S1x2048 .f32) (r : Fin 512) (l : Fin 2048) :
    k0_pay6 (F := Ideal) x p (ix2 r l) = if h : r.val = 0 then p (ix2 0 l) else x (ix2 ⟨r.val - 1, by omega⟩ l) := by
  pointwise [k0_pay6, k0_pay5]
  exact moved_down x _ r l

theorem second_shift (x : Vec Ideal S512x2048 .f32) (p q : Vec Ideal S1x2048 .f32) (r : Fin 512) (l : Fin 2048) :
    k0_pay8 (F := Ideal) x p q (ix2 r l) = if h : r.val = 0 then q (ix2 0 l) else k0_pay6 (F := Ideal) x p (ix2 ⟨r.val - 1, by omega⟩ l) := by
  pointwise [k0_pay8, k0_pay5]
  exact moved_down (k0_pay6 (F := Ideal) x p) _ r l

/-- One block of the convolution: where the block's rows and the three rows before them are the numbers `u`, from `n` on,
    a row is the sum of four of them, weighted, through the silu. -/
theorem block (u : ℕ → EReal) (n : ℕ) (x : Vec Ideal S512x2048 .f32) (b w0 w1 w2 w3 p1 p2 p3 : Vec Ideal S1x2048 .f32) (r : Fin 512) (l : Fin 2048)
    (hx : ∀ r : Fin 512, x (ix2 r l) = u (n + r.val + 3)) (h1 : p1 (ix2 0 l) = u (n + 2)) (h2 : p2 (ix2 0 l) = u (n + 1)) (h3 : p3 (ix2 0 l) = u n) :
    k0_pay1 (F := Ideal) k0_pay5 (k0_pay7 (F := Ideal) x b w3 p1 w2) (k0_pay8 (F := Ideal) x p1 p2) w1 p3 w0 (ix2 r l)
      = silu (b (ix2 0 l) + u (n + r.val) * w0 (ix2 0 l) + u (n + r.val + 1) * w1 (ix2 0 l) + u (n + r.val + 2) * w2 (ix2 0 l)
        + u (n + r.val + 3) * w3 (ix2 0 l)) := by
  have s1 : ∀ r : Fin 512, k0_pay6 (F := Ideal) x p1 (ix2 r l) = u (n + r.val + 2) := fun r => by
    rw [first_shift]
    by_cases h : r.val = 0
    · rw [dif_pos h, h1, h]
    · rw [dif_neg h, hx]
      exact congrArg u (by show n + (r.val - 1) + 3 = n + r.val + 2; omega)
  have s2 : ∀ r : Fin 512, k0_pay8 (F := Ideal) x p1 p2 (ix2 r l) = u (n + r.val + 1) := fun r => by
    rw [second_shift]
    by_cases h : r.val = 0
    · rw [dif_pos h, h2, h]
    · rw [dif_neg h, s1]
      exact congrArg u (by show n + (r.val - 1) + 2 = n + r.val + 1; omega)
  have s3 : (if h : r.val = 0 then p3 (ix2 0 l) else k0_pay8 (F := Ideal) x p1 p2 (ix2 ⟨r.val - 1, by omega⟩ l)) = u (n + r.val) := by
    by_cases h : r.val = 0
    · rw [dif_pos h, h3, h]
      rfl
    · rw [dif_neg h, s2]
      exact congrArg u (by show n + (r.val - 1) + 1 = n + r.val; omega)
  pointwise [k0_pay1, k0_pay5, k0_pay7]
  rw [moved_down (k0_pay8 (F := Ideal) x p1 p2) _ r l, s3, s2, s1, hx]
  have z : ∀ v : EReal, v * Ideal.div 1 (1 + Ideal.exp (0 - v)) = silu v := fun v => by rw [zero_sub]
  refine (z _).trans (congrArg silu ?_)
  ac_rfl

theorem row_at (k : Fin 3) (off : ℕ) (ho : off = 5 + k.val)
    (inb : ∀ a, (![off, 0] : Fin 2 → ℕ) a + (![1, 2048] : Fin 2 → ℕ) a ≤ S8x2048.size a)
    (inb' : ∀ a, (![5, 0] : Fin 2 → ℕ) a + (![3, 2048] : Fin 2 → ℕ) a ≤ S8x2048.size a) (l : Fin 2048) :
    (Rect.unit (s := S8x2048) ![off, 0] ![1, 2048] inb).toLoadRect.idx (ix2 (0 : Fin 1) l)
      = (Rect.unit (s := S8x2048) ![5, 0] ![3, 2048] inb').emb (ix2 k l) := by
  subst ho
  refine funext fun a => Fin.ext ?_
  match a with
  | ⟨0, _⟩ =>
    show (5 + k.val) + 1 * 0 = 5 + 1 * k.val
    omega
  | ⟨1, _⟩ => rfl

/-- A row of the scratch, where only its last three rows were written. -/
theorem row_of_three (v : View sig .tc .vmem S8x2048 .f32) (w : Vec Ideal S3x2048 .f32) (k : Fin 3) (off : ℕ) (ho : off = 5 + k.val)
    (inb : ∀ a, (![off, 0] : Fin 2 → ℕ) a + (![1, 2048] : Fin 2 → ℕ) a ≤ S8x2048.size a)
    (inb' : ∀ a, (![5, 0] : Fin 2 → ℕ) a + (![3, 2048] : Fin 2 → ℕ) a ≤ S8x2048.size a) (l : Fin 2048) :
    v.readCov [(⟨Rect.unit (s := S8x2048) ![5, 0] ![3, 2048] inb', w⟩ : View.Piece (Elt Ideal) S8x2048 .f32)]
      (Rect.unit (s := S8x2048) ![off, 0] ![1, 2048] inb).toLoadRect (ix2 (0 : Fin 1) l) = w (ix2 k l) := by
  rw [View.readCov_eq_canon']
  show View.canon _ ((Rect.unit (s := S8x2048) ![off, 0] ![1, 2048] inb).toLoadRect.idx (ix2 (0 : Fin 1) l)) = _
  rw [row_at k off ho inb inb' l]
  exact View.canon_cons_emb (Val := Elt Ideal) _ _ _ _

theorem ref_apply (P : FVec Ideal S8704x34816 .f32) (B : FVec Ideal S1x3x6144 .f32) (W : FVec Ideal S1x4x6144 .f32) (C : FVec Ideal S1x6144 .f32) (j : S8192x6144.Idx) :
    REF P B W C j = silu (C (ix2 0 (j 1)) + col P B (j 1) ((j 0).val) * W (ix3 0 0 (j 1)) + col P B (j 1) (1 + (j 0).val) * W (ix3 0 1 (j 1))
      + col P B (j 1) (2 + (j 0).val) * W (ix3 0 2 (j 1)) + col P B (j 1) (3 + (j 0).val) * W (ix3 0 3 (j 1))) := by
  have hj : (j 0).val < 8192 := (j 0).isLt
  pointwise [REF]
  refine congrArg silu ?_
  refine congrArg₂ (fun a b : EReal => a + b) (congrArg₂ (fun a b : EReal => a + b) (congrArg₂ (fun a b : EReal => a + b) (congrArg₂ (fun a b : EReal => a + b) rfl (congrArg (fun a : EReal => a * _) ?_))
    (congrArg (fun a : EReal => a * _) ?_)) (congrArg (fun a : EReal => a * _) ?_)) (congrArg (fun a : EReal => a * _) ?_)
  · unfold col
    split
    · rfl
    · refine Eq.trans ?_ (dif_pos (by omega)).symm
      exact congrArg P ((ix2_inj ..).2 ⟨Fin.ext (by dsimp only), rfl⟩)
  · unfold col
    split
    · rfl
    · refine Eq.trans ?_ (dif_pos (by omega)).symm
      exact congrArg P ((ix2_inj ..).2 ⟨Fin.ext (by dsimp only), rfl⟩)
  · unfold col
    split
    · rfl
    · refine Eq.trans ?_ (dif_pos (by omega)).symm
      exact congrArg P ((ix2_inj ..).2 ⟨Fin.ext (by dsimp only), rfl⟩)
  · unfold col
    rw [dif_neg (by omega)]
    refine Eq.trans ?_ (dif_pos (by omega)).symm
    refine congrArg P ((ix2_inj ..).2 ⟨Fin.ext ?_, rfl⟩)
    dsimp only
    omega

theorem ref_at (P : FVec Ideal S8704x34816 .f32) (B : FVec Ideal S1x3x6144 .f32) (W : FVec Ideal S1x4x6144 .f32) (C : FVec Ideal S1x6144 .f32) (j : S8192x6144.Idx) (r : ℕ) (q : Fin 6144) (h0 : (j 0).val = r) (h1 : j 1 = q) :
    REF P B W C j = silu (C (ix2 0 q) + col P B q (r) * W (ix3 0 0 q) + col P B q (1 + r) * W (ix3 0 1 q)
      + col P B q (2 + r) * W (ix3 0 2 q) + col P B q (3 + r) * W (ix3 0 3 q)) := by
  rw [ref_apply, h0, h1]

theorem tail_apply (P : FVec Ideal S8704x34816 .f32) (B : FVec Ideal S1x3x6144 .f32) (j : S1x3x6144.Idx) : TAIL P B j = col P B (j 2) (8192 + (j 1).val) := by
  have hj : (j 1).val < 3 := (j 1).isLt
  pointwise [TAIL]
  unfold col
  rw [dif_neg (by omega)]
  rw [dif_neg (by omega)]
  refine Eq.trans ?_ (dif_pos (by omega)).symm
  refine congrArg P ((ix2_inj ..).2 ⟨Fin.ext (by dsimp only), rfl⟩)

/-- The rows carried in, as the scratch gets them. -/
theorem carried (x : Vec Ideal S1x3x2048 .f32) (k : Fin 3) (l : Fin 2048) : k0_pay4 (F := Ideal) x (ix2 k l) = x (ix3 0 k l) := by
  pointwise [k0_pay4]

/-- The last rows of a block, as the scratch keeps them. -/
theorem kept (x : Vec Ideal S512x2048 .f32) (k : Fin 8) (l : Fin 2048) : k0_pay2 (F := Ideal) x (ix2 k l) = x (ix2 ⟨504 + k.val, by omega⟩ l) := by
  pointwise [k0_pay2]

theorem tail_rows (v : View sig .tc .vmem S8x2048 .f32) (w : Vec Ideal S8x2048 .f32) (L : List (View.Piece (Elt Ideal) S8x2048 .f32))
    (inb : ∀ a, (![5, 0] : Fin 2 → ℕ) a + (![3, 2048] : Fin 2 → ℕ) a ≤ S8x2048.size a)
    (inb' : ∀ a, (![0, 0] : Fin 2 → ℕ) a + (![8, 2048] : Fin 2 → ℕ) a ≤ S8x2048.size a) (k : Fin 3) (l : Fin 2048) :
    v.readCov ((⟨Rect.unit (s := S8x2048) ![0, 0] ![8, 2048] inb', w⟩ : View.Piece (Elt Ideal) S8x2048 .f32) :: L)
      (Rect.unit (s := S8x2048) ![5, 0] ![3, 2048] inb).toLoadRect (ix2 k l) = w (ix2 ⟨5 + k.val, by omega⟩ l) := by
  have e : (Rect.unit (s := S8x2048) ![5, 0] ![3, 2048] inb).toLoadRect.idx (ix2 k l)
      = (Rect.unit (s := S8x2048) ![0, 0] ![8, 2048] inb').emb (ix2 (⟨5 + k.val, by omega⟩ : Fin 8) l) := by
    refine funext fun a => Fin.ext ?_
    match a with
    | ⟨0, _⟩ =>
      show 5 + 1 * k.val = 0 + 1 * (5 + k.val)
      omega
    | ⟨1, _⟩ => rfl
  rw [View.readCov_eq_canon']
  show View.canon _ ((Rect.unit (s := S8x2048) ![5, 0] ![3, 2048] inb).toLoadRect.idx (ix2 k l)) = _
  rw [e]
  exact View.canon_cons_emb (Val := Elt Ideal) _ _ _ _

variable (m : (ℓ : Loc nD τ sig) → Buf (Elt Ideal) ℓ)

/-- Where the windows of grid point `t` lie. -/
theorem idx : ∀ t : Fin cfg0.N,
    (win0_0.index t (0 : Fin 2) = t.val % 16 ∧ win0_0.index t (1 : Fin 2) = 2 + t.val / 16) ∧
    (win0_1.index t (0 : Fin 3) = 0 ∧ win0_1.index t (1 : Fin 3) = 0 ∧ win0_1.index t (2 : Fin 3) = t.val / 16) ∧
    (win0_2.index t (0 : Fin 2) = 0 ∧ win0_2.index t (1 : Fin 2) = t.val / 16) ∧
    (win0_3.index t (0 : Fin 2) = 0 ∧ win0_3.index t (1 : Fin 2) = t.val / 16) ∧
    (win0_4.index t (0 : Fin 2) = t.val % 16 ∧ win0_4.index t (1 : Fin 2) = t.val / 16) ∧
    (win0_5.index t (0 : Fin 3) = 0 ∧ win0_5.index t (1 : Fin 3) = 0 ∧ win0_5.index t (2 : Fin 3) = t.val / 16) :=
  (by decide +kernel : ∀ t : Fin grid0.N,
    (win0_0.index t (0 : Fin 2) = t.val % 16 ∧ win0_0.index t (1 : Fin 2) = 2 + t.val / 16) ∧
    (win0_1.index t (0 : Fin 3) = 0 ∧ win0_1.index t (1 : Fin 3) = 0 ∧ win0_1.index t (2 : Fin 3) = t.val / 16) ∧
    (win0_2.index t (0 : Fin 2) = 0 ∧ win0_2.index t (1 : Fin 2) = t.val / 16) ∧
    (win0_3.index t (0 : Fin 2) = 0 ∧ win0_3.index t (1 : Fin 2) = t.val / 16) ∧
    (win0_4.index t (0 : Fin 2) = t.val % 16 ∧ win0_4.index t (1 : Fin 2) = t.val / 16) ∧
    (win0_5.index t (0 : Fin 3) = 0 ∧ win0_5.index t (1 : Fin 3) = 0 ∧ win0_5.index t (2 : Fin 3) = t.val / 16))

theorem lt48 (t : Fin cfg0.N) : t.val < 48 := lt_of_lt_of_eq t.isLt N_0

/-- The column of the arrays at column `l` of grid point `t`. -/
abbrev at_col (t : Fin cfg0.N) (l : Fin 2048) : Fin 6144 := ⟨2048 * (t.val / 16) + l.val, by have := lt48 t; omega⟩

theorem x_apply (c : Dev nD) (t : Fin cfg0.N) (r : Fin 512) (l : Fin 2048) :
    iblk m c 0 t (ix2 r l) = col (m ((c : Thread nD τ).loc main_arg0)) (m ((c : Thread nD τ).loc main_arg1)) (at_col t l) (512 * (t.val % 16) + r.val + 3) := by
  have ht := lt48 t
  unfold col
  rw [dif_neg (by omega), dif_pos (by omega)]
  blk_point [iblk, V, idx t]

theorem b_apply (c : Dev nD) (t : Fin cfg0.N) (k : Fin 3) (l : Fin 2048) :
    iblk m c 1 t (ix3 0 k l) = (m ((c : Thread nD τ).loc main_arg1)) (ix3 0 k (at_col t l)) := by
  have ht := lt48 t
  blk_point [iblk, V, idx t]

theorem w_apply (c : Dev nD) (t : Fin cfg0.N) (k : Fin 4) (l : Fin 2048) :
    iblk m c 2 t (ix2 k l) = (m ((c : Thread nD τ).loc main_arg2)) (ix3 0 k (at_col t l)) := by
  have ht := lt48 t
  have e0 : ((((cfg0.win 2).blk t).view.emb (ix2 k l)) (0 : Fin 2) : ℕ) = k.val := by
    blk_simp [idx t]
    try omega
  have e1 : ((((cfg0.win 2).blk t).view.emb (ix2 k l)) (1 : Fin 2) : ℕ) = 2048 * (t.val / 16) + l.val := by
    blk_simp [idx t]
    try omega
  show V m c main_v0 (((cfg0.win 2).blk t).view.emb _) = _
  entry_read
  pointwise
  exact congrArg (m ((c : Thread nD τ).loc main_arg2)) ((ix3_inj ..).2 ⟨rfl, Fin.ext e0, Fin.ext e1⟩)

theorem c_apply (c : Dev nD) (t : Fin cfg0.N)  (l : Fin 2048) :
    iblk m c 3 t (ix2 0 l) = (m ((c : Thread nD τ).loc main_arg3)) (ix2 0 (at_col t l)) := by
  have ht := lt48 t
  have e0 : ((((cfg0.win 3).blk t).view.emb (ix2 0 l)) (0 : Fin 2) : ℕ) = 0 := by
    blk_simp [idx t]
    try omega
  have e1 : ((((cfg0.win 3).blk t).view.emb (ix2 0 l)) (1 : Fin 2) : ℕ) = 2048 * (t.val / 16) + l.val := by
    blk_simp [idx t]
    try omega
  show V m c main_v2 (((cfg0.win 3).blk t).view.emb _) = _
  entry_read
  pointwise
  exact congrArg (m ((c : Thread nD τ).loc main_arg3)) ((eq_ix2 _).trans ((ix2_inj ..).2 ⟨Fin.ext e0, Fin.ext e1⟩))

theorem w_row (c : Dev nD) (t : Fin cfg0.N) (k : Fin 4) (off : ℕ) (ho : off = k.val)
    (inb : ∀ a, (![off, 0] : Fin 2 → ℕ) a + (![1, 2048] : Fin 2 → ℕ) a ≤ S4x2048.size a) (l : Fin 2048) :
    View.ld (iblk m c 2 t) (Rect.unit (s := S4x2048) ![off, 0] ![1, 2048] inb) (ix2 (0 : Fin 1) l) = (m ((c : Thread nD τ).loc main_arg2)) (ix3 0 k (at_col t l)) := by
  have e : (Rect.unit (s := S4x2048) ![off, 0] ![1, 2048] inb).emb (ix2 (0 : Fin 1) l) = ix2 k l := by
    subst ho
    refine funext fun a => Fin.ext ?_
    match a with
    | ⟨0, _⟩ =>
      show k.val + 1 * 0 = k.val
      omega
    | ⟨1, _⟩ =>
      show 0 + 1 * l.val = l.val
      omega
  exact (congrArg (iblk m c 2 t) e).trans (w_apply m c t k l)

/-- A grid point's rows are the reference's, whatever the three rows before them come from, if they are the right ones. -/
theorem point4 (c : Dev nD) (t : Fin cfg0.N) (p1 p2 p3 : Vec Ideal S1x2048 .f32) (r : Fin 512) (l : Fin 2048)
    (h1 : p1 (ix2 0 l) = col (m ((c : Thread nD τ).loc main_arg0)) (m ((c : Thread nD τ).loc main_arg1)) (at_col t l) (512 * (t.val % 16) + 2)) (h2 : p2 (ix2 0 l) = col (m ((c : Thread nD τ).loc main_arg0)) (m ((c : Thread nD τ).loc main_arg1)) (at_col t l) (512 * (t.val % 16) + 1)) (h3 : p3 (ix2 0 l) = col (m ((c : Thread nD τ).loc main_arg0)) (m ((c : Thread nD τ).loc main_arg1)) (at_col t l) (512 * (t.val % 16))) :
    k0_pay1 (F := Ideal) k0_pay5 (k0_pay7 (F := Ideal) (iblk m c 0 t) (iblk m c 3 t) (View.ld (iblk m c 2 t) (Rect.unit ![3, 0] ![1, 2048] inb_S4x2048_S1x2048_3_0)) p1
        (View.ld (iblk m c 2 t) (Rect.unit ![2, 0] ![1, 2048] inb_S4x2048_S1x2048_2_0)))
      (k0_pay8 (F := Ideal) (iblk m c 0 t) p1 p2) (View.ld (iblk m c 2 t) (Rect.unit ![1, 0] ![1, 2048] inb_S4x2048_S1x2048_1_0)) p3
      (View.ld (iblk m c 2 t) (Rect.unit ![0, 0] ![1, 2048] inb_S4x2048_S1x2048_0_0)) (ix2 r l)
      = REF (m ((c : Thread nD τ).loc main_arg0)) (m ((c : Thread nD τ).loc main_arg1)) (m ((c : Thread nD τ).loc main_arg2)) (m ((c : Thread nD τ).loc main_arg3)) (((cfg0.win 4).blk t).view.emb (ix2 r l)) := by
  have ht := lt48 t
  have e0 : ((((cfg0.win 4).blk t).view.emb (ix2 r l)) (0 : Fin 2) : ℕ) = 512 * (t.val % 16) + r.val := by
    blk_simp [idx t]
    try omega
  have e1 : (((cfg0.win 4).blk t).view.emb (ix2 r l)) (1 : Fin 2) = at_col t l := by
    refine Fin.ext (?_ : _ = 2048 * (t.val / 16) + l.val)
    blk_simp [idx t]
    try omega
  refine (block (col (m ((c : Thread nD τ).loc main_arg0)) (m ((c : Thread nD τ).loc main_arg1)) (at_col t l)) (512 * (t.val % 16)) _ _ _ _ _ _ _ _ _ r l (fun r => x_apply m c t r l) h1 h2 h3).trans (Eq.trans ?_ (ref_at _ _ _ _ _ (512 * (t.val % 16) + r.val) (at_col t l) e0 e1).symm)
  exact congrArg silu (congrArg₂ (fun a b : EReal => a + b) (congrArg₂ (fun a b : EReal => a + b) (congrArg₂ (fun a b : EReal => a + b) (congrArg₂ (fun a b : EReal => a + b) (c_apply m c t l) (congrArg₂ (fun a b : EReal => a * b) (congrArg _ (by omega)) (w_row m c t 0 0 rfl _ l)))
    (congrArg₂ (fun a b : EReal => a * b) (congrArg _ (by omega)) (w_row m c t 1 1 rfl _ l))) (congrArg₂ (fun a b : EReal => a * b) (congrArg _ (by omega)) (w_row m c t 2 2 rfl _ l))) (congrArg₂ (fun a b : EReal => a * b) (congrArg _ (by omega)) (w_row m c t 3 3 rfl _ l)))

theorem b_col (c : Dev nD) (t : Fin cfg0.N) (h0 : t.val % 16 = 0) (k : Fin 3) (l : Fin 2048) : (m ((c : Thread nD τ).loc main_arg1)) (ix3 0 k (at_col t l))
    = col (m ((c : Thread nD τ).loc main_arg0)) (m ((c : Thread nD τ).loc main_arg1)) (at_col t l) (512 * (t.val % 16) + k.val) := by
  have hk : 512 * (t.val % 16) + k.val = k.val := by omega
  rw [hk]
  unfold col
  rw [dif_pos k.isLt]

/-- After every grid point the scratch holds the last rows of the point's block. -/
theorem scratch (c : Dev nD) (t : Fin cfg0.N) : (outsAt0 m c t.val t.isLt).2.2 = k0_pay2 (F := Ideal) (iblk m c 0 t) := by
  by_cases h0 : t.val % 16 = 0
  · rw [outsAt0_A m c t h0 (by omega)]
    frame_out
  · by_cases h1 : t.val % 16 = 15
    · rw [outsAt0_C m c t h0 h1]
      frame_out
    · rw [outsAt0_B m c t h0 h1]
      frame_out

theorem ld_row (z : Vec Ideal S8x2048 .f32) (k : Fin 8) (off : ℕ) (ho : off = k.val)
    (inb : ∀ a, (![off, 0] : Fin 2 → ℕ) a + (![1, 2048] : Fin 2 → ℕ) a ≤ S8x2048.size a) (l : Fin 2048) :
    View.ld z (Rect.unit (s := S8x2048) ![off, 0] ![1, 2048] inb) (ix2 (0 : Fin 1) l) = z (ix2 k l) := by
  have e : (Rect.unit (s := S8x2048) ![off, 0] ![1, 2048] inb).emb (ix2 (0 : Fin 1) l) = ix2 k l := by
    subst ho
    refine funext fun a => Fin.ext ?_
    match a with
    | ⟨0, _⟩ =>
      show k.val + 1 * 0 = k.val
      omega
    | ⟨1, _⟩ =>
      show 0 + 1 * l.val = l.val
      omega
  exact congrArg z e

/-- The rows before a block that is not the first are the last rows of the block before. -/
theorem before (c : Dev nD) (t : Fin cfg0.N) (h0 : ¬ t.val % 16 = 0) (k : Fin 3) (l : Fin 2048) :
    (outsAt0 m c (t.val - 1) (Nat.lt_of_le_of_lt (Nat.sub_le _ _) t.isLt)).2.2 (ix2 ⟨5 + k.val, by omega⟩ l) = col (m ((c : Thread nD τ).loc main_arg0)) (m ((c : Thread nD τ).loc main_arg1)) (at_col t l) (512 * (t.val % 16) + k.val) := by
  have ht := lt48 t
  have hp : t.val - 1 < cfg0.N := Nat.lt_of_le_of_lt (Nat.sub_le _ _) t.isLt
  refine (congrFun (scratch m c ⟨t.val - 1, hp⟩) _).trans ((kept _ _ l).trans ((x_apply m c ⟨t.val - 1, hp⟩ _ l).trans ?_))
  have hc : at_col ⟨t.val - 1, hp⟩ l = at_col t l := Fin.ext (by show 2048 * ((t.val - 1) / 16) + l.val = 2048 * (t.val / 16) + l.val; omega)
  rw [hc]
  exact congrArg _ (by show 512 * ((t.val - 1) % 16) + (504 + (5 + k.val)) + 3 = 512 * (t.val % 16) + k.val; omega)

theorem final4 (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h0 : t.val % 16 = 0
  · rw [outsAt0_A m c t h0 (by omega)]
    frame_out
    obtain ⟨r, l, rfl⟩ : ∃ (r : Fin 512) (l : Fin 2048), y = ix2 r l := ⟨y 0, y 1, eq_ix2 y⟩
    exact point4 m c t _ _ _ r l ((row_of_three _ _ 2 7 rfl _ _ l).trans ((carried _ 2 l).trans ((b_apply m c t 2 l).trans (b_col m c t h0 2 l))))
      ((row_of_three _ _ 1 6 rfl _ _ l).trans ((carried _ 1 l).trans ((b_apply m c t 1 l).trans (b_col m c t h0 1 l))))
      ((row_of_three _ _ 0 5 rfl _ _ l).trans ((carried _ 0 l).trans ((b_apply m c t 0 l).trans (b_col m c t h0 0 l))))
  · by_cases h1 : t.val % 16 = 15
    · rw [outsAt0_C m c t h0 h1]
      frame_out
      obtain ⟨r, l, rfl⟩ : ∃ (r : Fin 512) (l : Fin 2048), y = ix2 r l := ⟨y 0, y 1, eq_ix2 y⟩
      exact point4 m c t _ _ _ r l ((ld_row _ ⟨7, by decide⟩ 7 rfl _ l).trans ((congrFun ((Memref.isWhole_whole cc0_scratch0).read_unread _) _).trans (before m c t h0 2 l)))
        ((ld_row _ ⟨6, by decide⟩ 6 rfl _ l).trans ((congrFun ((Memref.isWhole_whole cc0_scratch0).read_unread _) _).trans (before m c t h0 1 l)))
        ((ld_row _ ⟨5, by decide⟩ 5 rfl _ l).trans ((congrFun ((Memref.isWhole_whole cc0_scratch0).read_unread _) _).trans (before m c t h0 0 l)))
    · rw [outsAt0_B m c t h0 h1]
      frame_out
      obtain ⟨r, l, rfl⟩ : ∃ (r : Fin 512) (l : Fin 2048), y = ix2 r l := ⟨y 0, y 1, eq_ix2 y⟩
      exact point4 m c t _ _ _ r l ((ld_row _ ⟨7, by decide⟩ 7 rfl _ l).trans ((congrFun ((Memref.isWhole_whole cc0_scratch0).read_unread _) _).trans (before m c t h0 2 l)))
        ((ld_row _ ⟨6, by decide⟩ 6 rfl _ l).trans ((congrFun ((Memref.isWhole_whole cc0_scratch0).read_unread _) _).trans (before m c t h0 1 l)))
        ((ld_row _ ⟨5, by decide⟩ 5 rfl _ l).trans ((congrFun ((Memref.isWhole_whole cc0_scratch0).read_unread _) _).trans (before m c t h0 0 l)))

theorem stored (w : Vec Ideal S3x2048 .f32) (k : Fin 3) (l : Fin 2048) : k0_pay3 (F := Ideal) w (ix3 0 k l) = w (ix2 k l) := by
  pointwise [k0_pay3]

theorem final5 (c : Dev nD) : (dats m 0 c).arrAt 5 (cfgs 0).N = TAIL (m ((c : Thread nD τ).loc main_arg0)) (m ((c : Thread nD τ).loc main_arg1)) := by
  refine (dats m 0 c).arrAt_eq_of_covers 5 _ (by decide +kernel) fun t hf y => ?_
  have ht := lt48 t
  blk_simp
  have h1 : t.val % 16 = 15 := (flush0_5 t).mp hf
  rw [after0_5, outsAt0_C m c t (by omega) h1]
  frame_out
  obtain ⟨z, k, l, rfl⟩ : ∃ (z : Fin 1) (k : Fin 3) (l : Fin 2048), y = ix3 z k l := ⟨y 0, y 1, y 2, eq_ix3 y⟩
  obtain rfl : z = 0 := Subsingleton.elim _ _
  have e0 : ((((cfg0.win 5).blk t).view.emb (ix3 0 k l)) (0 : Fin 3) : ℕ) = 0 := by
    blk_simp [idx t]
    try omega
  have e1 : ((((cfg0.win 5).blk t).view.emb (ix3 0 k l)) (1 : Fin 3) : ℕ) = k.val := by
    blk_simp [idx t]
    try omega
  have e2 : (((cfg0.win 5).blk t).view.emb (ix3 0 k l)) (2 : Fin 3) = at_col t l := by
    refine Fin.ext (?_ : _ = 2048 * (t.val / 16) + l.val)
    blk_simp [idx t]
    try omega
  refine (stored _ k l).trans ((tail_rows _ _ _ _ _ k l).trans ((kept _ _ l).trans ((x_apply m c t _ l).trans (Eq.trans ?_ (tail_apply _ _ _).symm))))
  rw [e1, e2]

  exact congrArg _ (by show 512 * (t.val % 16) + (504 + (5 + k.val)) + 3 = 8192 + k.val; omega)

theorem run_values (ρ : Dev nD → PrngReg) : θ_run defs (onTc (τ := τ) (main (F := Ideal))) ⟨m, fun _ => 0, ρ⟩ fun r => ∀ c : Dev nD,
    r.2.mem ((c : Thread nD τ).loc main_v3_0) = REF (m ((c : Thread nD τ).loc main_arg0)) (m ((c : Thread nD τ).loc main_arg1)) (m ((c : Thread nD τ).loc main_arg2)) (m ((c : Thread nD τ).loc main_arg3))
    ∧ r.2.mem ((c : Thread nD τ).loc main_v3_1) = TAIL (m ((c : Thread nD τ).loc main_arg0)) (m ((c : Thread nD τ).loc main_arg1))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3)) :=
  (θ_run defs _ _).mono (fun r h c => ⟨(h c).1.trans (final4 m c), (h c).2.1.trans (final5 m c), (h c).2.2⟩) (Cert.Kernel7Ideal.Value.run_blocks m ρ)

end Cert.ConvP
-- ==== Proof.Dense.ConvS.lean ====
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

/-! # The causal convolution of the sample rows: every row is the weighted sum of itself and the three before it, through the silu -/

noncomputable section

namespace Cert.ConvS

open Idealize.ShloMosaic Idealize.ShloMosaic.TcCoe Idealize.SL.Sem Cert.Kernel8Ideal Cert.Kernel8Ideal.Gen

/-- The reference's rows as a function of its arguments. -/
abbrev REF (P : FVec Ideal S8704x34816 .f32) (B : FVec Ideal S1x16x3x6144 .f32) (W : FVec Ideal S1x4x6144 .f32) (C : FVec Ideal S1x6144 .f32) : FVec Ideal S512x6144 .f32 :=
  shapeCast _ (mulf (addf (addf (addf (addf (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ C Cert.Reference8Ideal.Gen.shapeCasts_S1x6144_S6144))) (mulf (extractStridedSlice Cert.Reference8Ideal.S16x32x6144 ![0, 0, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x32x6144_0_0_0) (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ (extractStridedSlice Cert.Reference8Ideal.S1x6144 ![0, 0] (shapeCast _ W Cert.Reference8Ideal.Gen.shapeCasts_S1x4x6144_S4x6144) Cert.Reference8Ideal.Gen.slices_S4x6144_S1x6144_0_0) Cert.Reference8Ideal.Gen.shapeCasts_S1x6144_S6144))))) (mulf (extractStridedSlice Cert.Reference8Ideal.S16x32x6144 ![0, 1, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x32x6144_0_1_0) (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ (extractStridedSlice Cert.Reference8Ideal.S1x6144 ![1, 0] (shapeCast _ W Cert.Reference8Ideal.Gen.shapeCasts_S1x4x6144_S4x6144) Cert.Reference8Ideal.Gen.slices_S4x6144_S1x6144_1_0) Cert.Reference8Ideal.Gen.shapeCasts_S1x6144_S6144))))) (mulf (extractStridedSlice Cert.Reference8Ideal.S16x32x6144 ![0, 2, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x32x6144_0_2_0) (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ (extractStridedSlice Cert.Reference8Ideal.S1x6144 ![2, 0] (shapeCast _ W Cert.Reference8Ideal.Gen.shapeCasts_S1x4x6144_S4x6144) Cert.Reference8Ideal.Gen.slices_S4x6144_S1x6144_2_0) Cert.Reference8Ideal.Gen.shapeCasts_S1x6144_S6144))))) (mulf (extractStridedSlice Cert.Reference8Ideal.S16x32x6144 ![0, 3, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x32x6144_0_3_0) (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ (extractStridedSlice Cert.Reference8Ideal.S1x6144 ![3, 0] (shapeCast _ W Cert.Reference8Ideal.Gen.shapeCasts_S1x4x6144_S4x6144) Cert.Reference8Ideal.Gen.slices_S4x6144_S1x6144_3_0) Cert.Reference8Ideal.Gen.shapeCasts_S1x6144_S6144))))) (Host.divf (broadcastInDim Cert.Reference8Ideal.S16x32x6144 ![] Cert.Reference8Ideal.Gen.bcast_S_S16x32x6144 (constant Cert.Reference8Ideal.S_ .f32 0x3F800000#32)) (addf (broadcastInDim Cert.Reference8Ideal.S16x32x6144 ![] Cert.Reference8Ideal.Gen.bcast_S_S16x32x6144 (constant Cert.Reference8Ideal.S_ .f32 0x3F800000#32)) (Host.exp (Host.negf (addf (addf (addf (addf (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ C Cert.Reference8Ideal.Gen.shapeCasts_S1x6144_S6144))) (mulf (extractStridedSlice Cert.Reference8Ideal.S16x32x6144 ![0, 0, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x32x6144_0_0_0) (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ (extractStridedSlice Cert.Reference8Ideal.S1x6144 ![0, 0] (shapeCast _ W Cert.Reference8Ideal.Gen.shapeCasts_S1x4x6144_S4x6144) Cert.Reference8Ideal.Gen.slices_S4x6144_S1x6144_0_0) Cert.Reference8Ideal.Gen.shapeCasts_S1x6144_S6144))))) (mulf (extractStridedSlice Cert.Reference8Ideal.S16x32x6144 ![0, 1, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x32x6144_0_1_0) (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ (extractStridedSlice Cert.Reference8Ideal.S1x6144 ![1, 0] (shapeCast _ W Cert.Reference8Ideal.Gen.shapeCasts_S1x4x6144_S4x6144) Cert.Reference8Ideal.Gen.slices_S4x6144_S1x6144_1_0) Cert.Reference8Ideal.Gen.shapeCasts_S1x6144_S6144))))) (mulf (extractStridedSlice Cert.Reference8Ideal.S16x32x6144 ![0, 2, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x32x6144_0_2_0) (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ (extractStridedSlice Cert.Reference8Ideal.S1x6144 ![2, 0] (shapeCast _ W Cert.Reference8Ideal.Gen.shapeCasts_S1x4x6144_S4x6144) Cert.Reference8Ideal.Gen.slices_S4x6144_S1x6144_2_0) Cert.Reference8Ideal.Gen.shapeCasts_S1x6144_S6144))))) (mulf (extractStridedSlice Cert.Reference8Ideal.S16x32x6144 ![0, 3, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x32x6144_0_3_0) (broadcastInDim Cert.Reference8Ideal.S16x32x6144 ![0, 1, 2] Cert.Reference8Ideal.Gen.bcast_S1x1x6144_S16x32x6144_0_1_2 (broadcastInDim Cert.Reference8Ideal.S1x1x6144 ![2] Cert.Reference8Ideal.Gen.bcast_S6144_S1x1x6144_2 (shapeCast _ (extractStridedSlice Cert.Reference8Ideal.S1x6144 ![3, 0] (shapeCast _ W Cert.Reference8Ideal.Gen.shapeCasts_S1x4x6144_S4x6144) Cert.Reference8Ideal.Gen.slices_S4x6144_S1x6144_3_0) Cert.Reference8Ideal.Gen.shapeCasts_S1x6144_S6144)))))))))) Cert.Reference8Ideal.Gen.shapeCasts_S16x32x6144_S512x6144

/-- The reference's three last rows. -/
abbrev TAIL (P : FVec Ideal S8704x34816 .f32) (B : FVec Ideal S1x16x3x6144 .f32) : FVec Ideal S16x3x6144 .f32 :=
  extractStridedSlice Cert.Reference8Ideal.S16x3x6144 ![0, 32, 0] (concatenate Cert.Reference8Ideal.S16x35x6144 1 [⟨Cert.Reference8Ideal.S16x3x6144, (shapeCast _ B Cert.Reference8Ideal.Gen.shapeCasts_S1x16x3x6144_S16x3x6144)⟩, ⟨Cert.Reference8Ideal.S16x32x6144, (shapeCast _ (extractStridedSlice Cert.Reference8Ideal.S512x6144 ![8192, 4096] P Cert.Reference8Ideal.Gen.slices_S8704x34816_S512x6144_8192_4096) Cert.Reference8Ideal.Gen.shapeCasts_S512x6144_S16x32x6144)⟩] Cert.Reference8Ideal.Gen.concatenates_S16x3x6144_S16x32x6144_S16x35x6144_d1) Cert.Reference8Ideal.Gen.slices_S16x35x6144_S16x3x6144_0_32_0

/-- A column of the sequence: the three rows carried in, then the rows of the projection. -/
def col (P : FVec Ideal S8704x34816 .f32) (B : FVec Ideal S1x16x3x6144 .f32) (b : Fin 16) (col : Fin 6144) (i : ℕ) : EReal :=
  if h : i < 3 then B (ix4 0 b ⟨i, h⟩ col) else if h : i < 35 then P (ix2 ⟨8192 + (b.val * 32 + (i - 3)), by omega⟩ ⟨4096 + col.val, by omega⟩) else 0

/-- The product with the sigmoid. -/
abbrev silu (v : EReal) : EReal := v * Ideal.div 1 (1 + Ideal.exp (-v))

/-- A block whose rows moved down by one, its first row replaced. -/
theorem moved_down (x : Vec Ideal S32x2048 .f32) (p : EReal) (r : Fin 32) (l : Fin 2048) :
    (if h : r.val < 8 then
      Scalar.select (IntOp.cmpi CmpIPredicate.eq (BitVec.ofNat 32 r.val) 0#32) p (x (ix2 ⟨(r.val + 32 - 1) % 32, by omega⟩ l))
    else x (ix2 ⟨(8 + (r.val - 8) + 32 - 1) % 32, by omega⟩ l)) = if h : r.val = 0 then p else x (ix2 ⟨r.val - 1, by omega⟩ l) := by
  by_cases h0 : r.val = 0
  · rw [dif_pos h0, dif_pos (by omega)]
    simp [Scalar.select, IntOp.cmpi, h0]
  · rw [dif_neg h0]
    by_cases h8 : r.val < 8
    · rw [dif_pos h8]
      have e : BitVec.ofNat 32 r.val ≠ 0#32 := by
        intro e
        have h := congrArg BitVec.toNat e
        simp at h
        omega
      have g : (⟨(r.val + 32 - 1) % 32, by omega⟩ : Fin 32) = ⟨r.val - 1, by omega⟩ := Fin.ext (by show (r.val + 32 - 1) % 32 = r.val - 1; omega)
      rw [g]
      have e' : (BitVec.ofNat 32 r.val == 0#32) = false := beq_eq_false_iff_ne.2 e
      simp [Scalar.select, IntOp.cmpi, e']
    · rw [dif_neg h8]
      have g : (⟨(8 + (r.val - 8) + 32 - 1) % 32, by omega⟩ : Fin 32) = ⟨r.val - 1, by omega⟩ := Fin.ext (by show (8 + (r.val - 8) + 32 - 1) % 32 = r.val - 1; omega)
      rw [g]

theorem first_shift (x : Vec Ideal S32x2048 .f32) (p : Vec Ideal S1x2048 .f32) (r : Fin 32) (l : Fin 2048) :
    k0_pay6 (F := Ideal) x p (ix2 r l) = if h : r.val = 0 then p (ix2 0 l) else x (ix2 ⟨r.val - 1, by omega⟩ l) := by
  pointwise [k0_pay6, k0_pay5]
  exact moved_down x _ r l

theorem second_shift (x : Vec Ideal S32x2048 .f32) (p q : Vec Ideal S1x2048 .f32) (r : Fin 32) (l : Fin 2048) :
    k0_pay8 (F := Ideal) x p q (ix2 r l) = if h : r.val = 0 then q (ix2 0 l) else k0_pay6 (F := Ideal) x p (ix2 ⟨r.val - 1, by omega⟩ l) := by
  pointwise [k0_pay8, k0_pay5]
  exact moved_down (k0_pay6 (F := Ideal) x p) _ r l

/-- One block of the convolution: where the block's rows and the three rows before them are the numbers `u`, from `n` on,
    a row is the sum of four of them, weighted, through the silu. -/
theorem block (u : ℕ → EReal) (n : ℕ) (x : Vec Ideal S32x2048 .f32) (b w0 w1 w2 w3 p1 p2 p3 : Vec Ideal S1x2048 .f32) (r : Fin 32) (l : Fin 2048)
    (hx : ∀ r : Fin 32, x (ix2 r l) = u (n + r.val + 3)) (h1 : p1 (ix2 0 l) = u (n + 2)) (h2 : p2 (ix2 0 l) = u (n + 1)) (h3 : p3 (ix2 0 l) = u n) :
    k0_pay1 (F := Ideal) k0_pay5 (k0_pay7 (F := Ideal) x b w3 p1 w2) (k0_pay8 (F := Ideal) x p1 p2) w1 p3 w0 (ix2 r l)
      = silu (b (ix2 0 l) + u (n + r.val) * w0 (ix2 0 l) + u (n + r.val + 1) * w1 (ix2 0 l) + u (n + r.val + 2) * w2 (ix2 0 l)
        + u (n + r.val + 3) * w3 (ix2 0 l)) := by
  have s1 : ∀ r : Fin 32, k0_pay6 (F := Ideal) x p1 (ix2 r l) = u (n + r.val + 2) := fun r => by
    rw [first_shift]
    by_cases h : r.val = 0
    · rw [dif_pos h, h1, h]
    · rw [dif_neg h, hx]
      exact congrArg u (by show n + (r.val - 1) + 3 = n + r.val + 2; omega)
  have s2 : ∀ r : Fin 32, k0_pay8 (F := Ideal) x p1 p2 (ix2 r l) = u (n + r.val + 1) := fun r => by
    rw [second_shift]
    by_cases h : r.val = 0
    · rw [dif_pos h, h2, h]
    · rw [dif_neg h, s1]
      exact congrArg u (by show n + (r.val - 1) + 2 = n + r.val + 1; omega)
  have s3 : (if h : r.val = 0 then p3 (ix2 0 l) else k0_pay8 (F := Ideal) x p1 p2 (ix2 ⟨r.val - 1, by omega⟩ l)) = u (n + r.val) := by
    by_cases h : r.val = 0
    · rw [dif_pos h, h3, h]
      rfl
    · rw [dif_neg h, s2]
      exact congrArg u (by show n + (r.val - 1) + 1 = n + r.val; omega)
  pointwise [k0_pay1, k0_pay5, k0_pay7]
  rw [moved_down (k0_pay8 (F := Ideal) x p1 p2) _ r l, s3, s2, s1, hx]
  have z : ∀ v : EReal, v * Ideal.div 1 (1 + Ideal.exp (0 - v)) = silu v := fun v => by rw [zero_sub]
  refine (z _).trans (congrArg silu ?_)
  ac_rfl

theorem row_at (k : Fin 3) (off : ℕ) (ho : off = 5 + k.val)
    (inb : ∀ a, (![off, 0] : Fin 2 → ℕ) a + (![1, 2048] : Fin 2 → ℕ) a ≤ S8x2048.size a)
    (inb' : ∀ a, (![5, 0] : Fin 2 → ℕ) a + (![3, 2048] : Fin 2 → ℕ) a ≤ S8x2048.size a) (l : Fin 2048) :
    (Rect.unit (s := S8x2048) ![off, 0] ![1, 2048] inb).toLoadRect.idx (ix2 (0 : Fin 1) l)
      = (Rect.unit (s := S8x2048) ![5, 0] ![3, 2048] inb').emb (ix2 k l) := by
  subst ho
  refine funext fun a => Fin.ext ?_
  match a with
  | ⟨0, _⟩ =>
    show (5 + k.val) + 1 * 0 = 5 + 1 * k.val
    omega
  | ⟨1, _⟩ => rfl

/-- A row of the scratch, where only its last three rows were written. -/
theorem row_of_three (v : View sig .tc .vmem S8x2048 .f32) (w : Vec Ideal S3x2048 .f32) (k : Fin 3) (off : ℕ) (ho : off = 5 + k.val)
    (inb : ∀ a, (![off, 0] : Fin 2 → ℕ) a + (![1, 2048] : Fin 2 → ℕ) a ≤ S8x2048.size a)
    (inb' : ∀ a, (![5, 0] : Fin 2 → ℕ) a + (![3, 2048] : Fin 2 → ℕ) a ≤ S8x2048.size a) (l : Fin 2048) :
    v.readCov [(⟨Rect.unit (s := S8x2048) ![5, 0] ![3, 2048] inb', w⟩ : View.Piece (Elt Ideal) S8x2048 .f32)]
      (Rect.unit (s := S8x2048) ![off, 0] ![1, 2048] inb).toLoadRect (ix2 (0 : Fin 1) l) = w (ix2 k l) := by
  rw [View.readCov_eq_canon']
  show View.canon _ ((Rect.unit (s := S8x2048) ![off, 0] ![1, 2048] inb).toLoadRect.idx (ix2 (0 : Fin 1) l)) = _
  rw [row_at k off ho inb inb' l]
  exact View.canon_cons_emb (Val := Elt Ideal) _ _ _ _

theorem ref_apply (P : FVec Ideal S8704x34816 .f32) (B : FVec Ideal S1x16x3x6144 .f32) (W : FVec Ideal S1x4x6144 .f32) (C : FVec Ideal S1x6144 .f32) (j : S512x6144.Idx) :
    REF P B W C j = silu (C (ix2 0 (j 1)) + col P B ⟨(j 0).val / 32, by have h : (j 0).val < 512 := (j 0).isLt; omega⟩ (j 1) ((j 0).val % 32) * W (ix3 0 0 (j 1)) + col P B ⟨(j 0).val / 32, by have h : (j 0).val < 512 := (j 0).isLt; omega⟩ (j 1) (1 + (j 0).val % 32) * W (ix3 0 1 (j 1))
      + col P B ⟨(j 0).val / 32, by have h : (j 0).val < 512 := (j 0).isLt; omega⟩ (j 1) (2 + (j 0).val % 32) * W (ix3 0 2 (j 1)) + col P B ⟨(j 0).val / 32, by have h : (j 0).val < 512 := (j 0).isLt; omega⟩ (j 1) (3 + (j 0).val % 32) * W (ix3 0 3 (j 1))) := by
  have hj : (j 0).val < 512 := (j 0).isLt
  pointwise [REF]
  refine congrArg silu ?_
  refine congrArg₂ (fun a b : EReal => a + b) (congrArg₂ (fun a b : EReal => a + b) (congrArg₂ (fun a b : EReal => a + b) (congrArg₂ (fun a b : EReal => a + b) rfl (congrArg (fun a : EReal => a * _) ?_))
    (congrArg (fun a : EReal => a * _) ?_)) (congrArg (fun a : EReal => a * _) ?_)) (congrArg (fun a : EReal => a * _) ?_)
  · unfold col
    split
    · rfl
    · refine Eq.trans ?_ (dif_pos (by omega)).symm
      exact congrArg P ((ix2_inj ..).2 ⟨Fin.ext (by dsimp only), rfl⟩)
  · unfold col
    split
    · rfl
    · refine Eq.trans ?_ (dif_pos (by omega)).symm
      exact congrArg P ((ix2_inj ..).2 ⟨Fin.ext (by dsimp only), rfl⟩)
  · unfold col
    split
    · rfl
    · refine Eq.trans ?_ (dif_pos (by omega)).symm
      exact congrArg P ((ix2_inj ..).2 ⟨Fin.ext (by dsimp only), rfl⟩)
  · unfold col
    rw [dif_neg (by omega)]
    refine Eq.trans ?_ (dif_pos (by omega)).symm
    refine congrArg P ((ix2_inj ..).2 ⟨Fin.ext ?_, rfl⟩)
    dsimp only
    omega

theorem ref_at (P : FVec Ideal S8704x34816 .f32) (B : FVec Ideal S1x16x3x6144 .f32) (W : FVec Ideal S1x4x6144 .f32) (C : FVec Ideal S1x6144 .f32) (j : S512x6144.Idx) (b : Fin 16) (r : Fin 32) (q : Fin 6144) (h0 : (j 0).val = 32 * b.val + r.val) (h1 : j 1 = q) :
    REF P B W C j = silu (C (ix2 0 q) + col P B b q (r.val) * W (ix3 0 0 q) + col P B b q (1 + r.val) * W (ix3 0 1 q)
      + col P B b q (2 + r.val) * W (ix3 0 2 q) + col P B b q (3 + r.val) * W (ix3 0 3 q)) := by
  have hb : (⟨(j 0).val / 32, by have h : (j 0).val < 512 := (j 0).isLt; omega⟩ : Fin 16) = b := Fin.ext (by show (j 0).val / 32 = b.val; omega)
  have hr : (j 0).val % 32 = r.val := by omega
  rw [ref_apply, hb, hr, h1]

theorem tail_apply (P : FVec Ideal S8704x34816 .f32) (B : FVec Ideal S1x16x3x6144 .f32) (j : S16x3x6144.Idx) : TAIL P B j = col P B (j 0) (j 2) (32 + (j 1).val) := by
  have hj : (j 1).val < 3 := (j 1).isLt
  pointwise [TAIL]
  unfold col
  rw [dif_neg (by omega)]
  rw [dif_neg (by omega)]
  refine Eq.trans ?_ (dif_pos (by omega)).symm
  refine congrArg P ((ix2_inj ..).2 ⟨Fin.ext (by dsimp only), rfl⟩)

/-- The rows carried in, as the scratch gets them. -/
theorem carried (x : Vec Ideal S1x3x2048 .f32) (k : Fin 3) (l : Fin 2048) : k0_pay4 (F := Ideal) x (ix2 k l) = x (ix3 0 k l) := by
  pointwise [k0_pay4]

/-- The last rows of a block, as the scratch keeps them. -/
theorem kept (x : Vec Ideal S32x2048 .f32) (k : Fin 8) (l : Fin 2048) : k0_pay2 (F := Ideal) x (ix2 k l) = x (ix2 ⟨24 + k.val, by omega⟩ l) := by
  pointwise [k0_pay2]

theorem tail_rows (v : View sig .tc .vmem S8x2048 .f32) (w : Vec Ideal S8x2048 .f32) (L : List (View.Piece (Elt Ideal) S8x2048 .f32))
    (inb : ∀ a, (![5, 0] : Fin 2 → ℕ) a + (![3, 2048] : Fin 2 → ℕ) a ≤ S8x2048.size a)
    (inb' : ∀ a, (![0, 0] : Fin 2 → ℕ) a + (![8, 2048] : Fin 2 → ℕ) a ≤ S8x2048.size a) (k : Fin 3) (l : Fin 2048) :
    v.readCov ((⟨Rect.unit (s := S8x2048) ![0, 0] ![8, 2048] inb', w⟩ : View.Piece (Elt Ideal) S8x2048 .f32) :: L)
      (Rect.unit (s := S8x2048) ![5, 0] ![3, 2048] inb).toLoadRect (ix2 k l) = w (ix2 ⟨5 + k.val, by omega⟩ l) := by
  have e : (Rect.unit (s := S8x2048) ![5, 0] ![3, 2048] inb).toLoadRect.idx (ix2 k l)
      = (Rect.unit (s := S8x2048) ![0, 0] ![8, 2048] inb').emb (ix2 (⟨5 + k.val, by omega⟩ : Fin 8) l) := by
    refine funext fun a => Fin.ext ?_
    match a with
    | ⟨0, _⟩ =>
      show 5 + 1 * k.val = 0 + 1 * (5 + k.val)
      omega
    | ⟨1, _⟩ => rfl
  rw [View.readCov_eq_canon']
  show View.canon _ ((Rect.unit (s := S8x2048) ![5, 0] ![3, 2048] inb).toLoadRect.idx (ix2 k l)) = _
  rw [e]
  exact View.canon_cons_emb (Val := Elt Ideal) _ _ _ _

variable (m : (ℓ : Loc nD τ sig) → Buf (Elt Ideal) ℓ)

/-- Where the windows of grid point `t` lie. -/
theorem idx : ∀ t : Fin cfg0.N,
    (win0_0.index t (0 : Fin 2) = 256 + t.val % 16 ∧ win0_0.index t (1 : Fin 2) = 2 + t.val / 16) ∧
    (win0_1.index t (0 : Fin 3) = t.val % 16 ∧ win0_1.index t (1 : Fin 3) = 0 ∧ win0_1.index t (2 : Fin 3) = t.val / 16) ∧
    (win0_2.index t (0 : Fin 2) = 0 ∧ win0_2.index t (1 : Fin 2) = t.val / 16) ∧
    (win0_3.index t (0 : Fin 2) = 0 ∧ win0_3.index t (1 : Fin 2) = t.val / 16) ∧
    (win0_4.index t (0 : Fin 2) = t.val % 16 ∧ win0_4.index t (1 : Fin 2) = t.val / 16) ∧
    (win0_5.index t (0 : Fin 3) = t.val % 16 ∧ win0_5.index t (1 : Fin 3) = 0 ∧ win0_5.index t (2 : Fin 3) = t.val / 16) :=
  (by decide +kernel : ∀ t : Fin grid0.N,
    (win0_0.index t (0 : Fin 2) = 256 + t.val % 16 ∧ win0_0.index t (1 : Fin 2) = 2 + t.val / 16) ∧
    (win0_1.index t (0 : Fin 3) = t.val % 16 ∧ win0_1.index t (1 : Fin 3) = 0 ∧ win0_1.index t (2 : Fin 3) = t.val / 16) ∧
    (win0_2.index t (0 : Fin 2) = 0 ∧ win0_2.index t (1 : Fin 2) = t.val / 16) ∧
    (win0_3.index t (0 : Fin 2) = 0 ∧ win0_3.index t (1 : Fin 2) = t.val / 16) ∧
    (win0_4.index t (0 : Fin 2) = t.val % 16 ∧ win0_4.index t (1 : Fin 2) = t.val / 16) ∧
    (win0_5.index t (0 : Fin 3) = t.val % 16 ∧ win0_5.index t (1 : Fin 3) = 0 ∧ win0_5.index t (2 : Fin 3) = t.val / 16))

theorem lt48 (t : Fin cfg0.N) : t.val < 48 := lt_of_lt_of_eq t.isLt N_0

/-- The column of the arrays at column `l` of grid point `t`. -/
abbrev at_col (t : Fin cfg0.N) (l : Fin 2048) : Fin 6144 := ⟨2048 * (t.val / 16) + l.val, by have := lt48 t; omega⟩

theorem x_apply (c : Dev nD) (t : Fin cfg0.N) (r : Fin 32) (l : Fin 2048) :
    iblk m c 0 t (ix2 r l) = col (m ((c : Thread nD τ).loc main_arg0)) (m ((c : Thread nD τ).loc main_arg1)) ⟨t.val % 16, by omega⟩ (at_col t l) (0 + r.val + 3) := by
  have ht := lt48 t
  unfold col
  rw [dif_neg (by omega), dif_pos (by omega)]
  blk_point [iblk, V, idx t]

theorem b_apply (c : Dev nD) (t : Fin cfg0.N) (k : Fin 3) (l : Fin 2048) :
    iblk m c 1 t (ix3 0 k l) = (m ((c : Thread nD τ).loc main_arg1)) (ix4 0 ⟨t.val % 16, by omega⟩ k (at_col t l)) := by
  have ht := lt48 t
  have e0 : ((((cfg0.win 1).blk t).view.emb (ix3 0 k l)) (0 : Fin 3) : ℕ) = t.val % 16 := by
    blk_simp [idx t]
    try omega
  have e1 : ((((cfg0.win 1).blk t).view.emb (ix3 0 k l)) (1 : Fin 3) : ℕ) = k.val := by
    blk_simp [idx t]
    try omega
  have e2 : ((((cfg0.win 1).blk t).view.emb (ix3 0 k l)) (2 : Fin 3) : ℕ) = 2048 * (t.val / 16) + l.val := by
    blk_simp [idx t]
    try omega
  show V m c main_v0 (((cfg0.win 1).blk t).view.emb _) = _
  entry_read
  pointwise
  exact congrArg (m ((c : Thread nD τ).loc main_arg1)) ((ix4_inj ..).2 ⟨rfl, Fin.ext e0, Fin.ext e1, Fin.ext e2⟩)

theorem w_apply (c : Dev nD) (t : Fin cfg0.N) (k : Fin 4) (l : Fin 2048) :
    iblk m c 2 t (ix2 k l) = (m ((c : Thread nD τ).loc main_arg2)) (ix3 0 k (at_col t l)) := by
  have ht := lt48 t
  have e0 : ((((cfg0.win 2).blk t).view.emb (ix2 k l)) (0 : Fin 2) : ℕ) = k.val := by
    blk_simp [idx t]
    try omega
  have e1 : ((((cfg0.win 2).blk t).view.emb (ix2 k l)) (1 : Fin 2) : ℕ) = 2048 * (t.val / 16) + l.val := by
    blk_simp [idx t]
    try omega
  show V m c main_v1 (((cfg0.win 2).blk t).view.emb _) = _
  entry_read
  pointwise
  exact congrArg (m ((c : Thread nD τ).loc main_arg2)) ((ix3_inj ..).2 ⟨rfl, Fin.ext e0, Fin.ext e1⟩)

theorem c_apply (c : Dev nD) (t : Fin cfg0.N)  (l : Fin 2048) :
    iblk m c 3 t (ix2 0 l) = (m ((c : Thread nD τ).loc main_arg3)) (ix2 0 (at_col t l)) := by
  have ht := lt48 t
  have e0 : ((((cfg0.win 3).blk t).view.emb (ix2 0 l)) (0 : Fin 2) : ℕ) = 0 := by
    blk_simp [idx t]
    try omega
  have e1 : ((((cfg0.win 3).blk t).view.emb (ix2 0 l)) (1 : Fin 2) : ℕ) = 2048 * (t.val / 16) + l.val := by
    blk_simp [idx t]
    try omega
  show V m c main_v3 (((cfg0.win 3).blk t).view.emb _) = _
  entry_read
  pointwise
  exact congrArg (m ((c : Thread nD τ).loc main_arg3)) ((eq_ix2 _).trans ((ix2_inj ..).2 ⟨Fin.ext e0, Fin.ext e1⟩))

theorem w_row (c : Dev nD) (t : Fin cfg0.N) (k : Fin 4) (off : ℕ) (ho : off = k.val)
    (inb : ∀ a, (![off, 0] : Fin 2 → ℕ) a + (![1, 2048] : Fin 2 → ℕ) a ≤ S4x2048.size a) (l : Fin 2048) :
    View.ld (iblk m c 2 t) (Rect.unit (s := S4x2048) ![off, 0] ![1, 2048] inb) (ix2 (0 : Fin 1) l) = (m ((c : Thread nD τ).loc main_arg2)) (ix3 0 k (at_col t l)) := by
  have e : (Rect.unit (s := S4x2048) ![off, 0] ![1, 2048] inb).emb (ix2 (0 : Fin 1) l) = ix2 k l := by
    subst ho
    refine funext fun a => Fin.ext ?_
    match a with
    | ⟨0, _⟩ =>
      show k.val + 1 * 0 = k.val
      omega
    | ⟨1, _⟩ =>
      show 0 + 1 * l.val = l.val
      omega
  exact (congrArg (iblk m c 2 t) e).trans (w_apply m c t k l)

/-- A grid point's rows are the reference's, whatever the three rows before them come from, if they are the right ones. -/
theorem point4 (c : Dev nD) (t : Fin cfg0.N) (p1 p2 p3 : Vec Ideal S1x2048 .f32) (r : Fin 32) (l : Fin 2048)
    (h1 : p1 (ix2 0 l) = col (m ((c : Thread nD τ).loc main_arg0)) (m ((c : Thread nD τ).loc main_arg1)) ⟨t.val % 16, by omega⟩ (at_col t l) (0 + 2)) (h2 : p2 (ix2 0 l) = col (m ((c : Thread nD τ).loc main_arg0)) (m ((c : Thread nD τ).loc main_arg1)) ⟨t.val % 16, by omega⟩ (at_col t l) (0 + 1)) (h3 : p3 (ix2 0 l) = col (m ((c : Thread nD τ).loc main_arg0)) (m ((c : Thread nD τ).loc main_arg1)) ⟨t.val % 16, by omega⟩ (at_col t l) (0)) :
    k0_pay1 (F := Ideal) k0_pay5 (k0_pay7 (F := Ideal) (iblk m c 0 t) (iblk m c 3 t) (View.ld (iblk m c 2 t) (Rect.unit ![3, 0] ![1, 2048] inb_S4x2048_S1x2048_3_0)) p1
        (View.ld (iblk m c 2 t) (Rect.unit ![2, 0] ![1, 2048] inb_S4x2048_S1x2048_2_0)))
      (k0_pay8 (F := Ideal) (iblk m c 0 t) p1 p2) (View.ld (iblk m c 2 t) (Rect.unit ![1, 0] ![1, 2048] inb_S4x2048_S1x2048_1_0)) p3
      (View.ld (iblk m c 2 t) (Rect.unit ![0, 0] ![1, 2048] inb_S4x2048_S1x2048_0_0)) (ix2 r l)
      = REF (m ((c : Thread nD τ).loc main_arg0)) (m ((c : Thread nD τ).loc main_arg1)) (m ((c : Thread nD τ).loc main_arg2)) (m ((c : Thread nD τ).loc main_arg3)) (((cfg0.win 4).blk t).view.emb (ix2 r l)) := by
  have ht := lt48 t
  have e0 : ((((cfg0.win 4).blk t).view.emb (ix2 r l)) (0 : Fin 2) : ℕ) = 32 * (t.val % 16) + r.val := by
    blk_simp [idx t]
    try omega
  have e1 : (((cfg0.win 4).blk t).view.emb (ix2 r l)) (1 : Fin 2) = at_col t l := by
    refine Fin.ext (?_ : _ = 2048 * (t.val / 16) + l.val)
    blk_simp [idx t]
    try omega
  refine (block (col (m ((c : Thread nD τ).loc main_arg0)) (m ((c : Thread nD τ).loc main_arg1)) ⟨t.val % 16, by omega⟩ (at_col t l)) (0) _ _ _ _ _ _ _ _ _ r l (fun r => x_apply m c t r l) h1 h2 h3).trans (Eq.trans ?_ (ref_at _ _ _ _ _ ⟨t.val % 16, by omega⟩ r (at_col t l) e0 e1).symm)
  exact congrArg silu (congrArg₂ (fun a b : EReal => a + b) (congrArg₂ (fun a b : EReal => a + b) (congrArg₂ (fun a b : EReal => a + b) (congrArg₂ (fun a b : EReal => a + b) (c_apply m c t l) (congrArg₂ (fun a b : EReal => a * b) (congrArg _ (by omega)) (w_row m c t 0 0 rfl _ l)))
    (congrArg₂ (fun a b : EReal => a * b) (congrArg _ (by omega)) (w_row m c t 1 1 rfl _ l))) (congrArg₂ (fun a b : EReal => a * b) (congrArg _ (by omega)) (w_row m c t 2 2 rfl _ l))) (congrArg₂ (fun a b : EReal => a * b) (congrArg _ (by omega)) (w_row m c t 3 3 rfl _ l)))

theorem b_col (c : Dev nD) (t : Fin cfg0.N) (k : Fin 3) (l : Fin 2048) : (m ((c : Thread nD τ).loc main_arg1)) (ix4 0 ⟨t.val % 16, by have := lt48 t; omega⟩ k (at_col t l))
    = col (m ((c : Thread nD τ).loc main_arg0)) (m ((c : Thread nD τ).loc main_arg1)) ⟨t.val % 16, by have := lt48 t; omega⟩ (at_col t l) (0 + k.val) := by
  have hk : 0 + k.val = k.val := by omega
  rw [hk]
  unfold col
  rw [dif_pos k.isLt]

theorem final4 (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, outsAt0]
  frame_out
  obtain ⟨r, l, rfl⟩ : ∃ (r : Fin 32) (l : Fin 2048), y = ix2 r l := ⟨y 0, y 1, eq_ix2 y⟩
  exact point4 m c t _ _ _ r l ((row_of_three _ _ 2 7 rfl _ _ l).trans ((carried _ 2 l).trans ((b_apply m c t 2 l).trans (b_col m c t 2 l))))
    ((row_of_three _ _ 1 6 rfl _ _ l).trans ((carried _ 1 l).trans ((b_apply m c t 1 l).trans (b_col m c t 1 l))))
    ((row_of_three _ _ 0 5 rfl _ _ l).trans ((carried _ 0 l).trans ((b_apply m c t 0 l).trans (b_col m c t 0 l))))

theorem stored (w : Vec Ideal S3x2048 .f32) (k : Fin 3) (l : Fin 2048) : k0_pay3 (F := Ideal) w (ix3 0 k l) = w (ix2 k l) := by
  pointwise [k0_pay3]

theorem final5 (c : Dev nD) : (dats m 0 c).arrAt 5 (cfgs 0).N = TAIL (m ((c : Thread nD τ).loc main_arg0)) (m ((c : Thread nD τ).loc main_arg1)) := by
  refine (dats m 0 c).arrAt_eq_of_covers 5 _ (by decide +kernel) fun t hf y => ?_
  have ht := lt48 t
  blk_simp
  rw [after0_5, outsAt0]
  frame_out
  obtain ⟨z, k, l, rfl⟩ : ∃ (z : Fin 1) (k : Fin 3) (l : Fin 2048), y = ix3 z k l := ⟨y 0, y 1, y 2, eq_ix3 y⟩
  obtain rfl : z = 0 := Subsingleton.elim _ _
  have e0 : ((((cfg0.win 5).blk t).view.emb (ix3 0 k l)) (0 : Fin 3) : ℕ) = t.val % 16 := by
    blk_simp [idx t]
    try omega
  have e1 : ((((cfg0.win 5).blk t).view.emb (ix3 0 k l)) (1 : Fin 3) : ℕ) = k.val := by
    blk_simp [idx t]
    try omega
  have e2 : (((cfg0.win 5).blk t).view.emb (ix3 0 k l)) (2 : Fin 3) = at_col t l := by
    refine Fin.ext (?_ : _ = 2048 * (t.val / 16) + l.val)
    blk_simp [idx t]
    try omega
  refine (stored _ k l).trans ((tail_rows _ _ _ _ _ k l).trans ((kept _ _ l).trans ((x_apply m c t _ l).trans (Eq.trans ?_ (tail_apply _ _ _).symm))))
  rw [e1, e2]
  have eb : (((cfg0.win 5).blk t).view.emb (ix3 0 k l)) (0 : Fin 3) = (⟨t.val % 16, by omega⟩ : Fin 16) := Fin.ext e0
  rw [eb]
  exact congrArg _ (by show 0 + (24 + (5 + k.val)) + 3 = 32 + k.val; omega)

theorem run_values (ρ : Dev nD → PrngReg) : θ_run defs (onTc (τ := τ) (main (F := Ideal))) ⟨m, fun _ => 0, ρ⟩ fun r => ∀ c : Dev nD,
    r.2.mem ((c : Thread nD τ).loc main_v4_0) = REF (m ((c : Thread nD τ).loc main_arg0)) (m ((c : Thread nD τ).loc main_arg1)) (m ((c : Thread nD τ).loc main_arg2)) (m ((c : Thread nD τ).loc main_arg3))
    ∧ r.2.mem ((c : Thread nD τ).loc main_v4_1) = TAIL (m ((c : Thread nD τ).loc main_arg0)) (m ((c : Thread nD τ).loc main_arg1))
    ∧ r.2.mem ((c : Thread nD τ).loc main_arg0) = (m ((c : Thread nD τ).loc main_arg0))
    ∧ r.2.mem ((c : Thread nD τ).loc main_arg1) = (m ((c : Thread nD τ).loc main_arg1))
    ∧ r.2.mem ((c : Thread nD τ).loc main_arg2) = (m ((c : Thread nD τ).loc main_arg2))
    ∧ r.2.mem ((c : Thread nD τ).loc main_arg3) = (m ((c : Thread nD τ).loc main_arg3)) :=
  (θ_run defs _ _).mono (fun r h c => ⟨(h c).1.trans (final4 m c), (h c).2.1.trans (final5 m c), (h c).2.2⟩) (Cert.Kernel8Ideal.Value.run_blocks m ρ)

end Cert.ConvS
-- ==== Proof.Dense.ConvAlgebraic.lean ====
module

public import proofs.«01_k».proof.Proof.Dense.ConvP
public import proofs.«01_k».proof.Proof.Dense.ConvS
public import proofs.«01_k».proof.Proof.Gen.Kernel7.Frame
public import proofs.«01_k».proof.Proof.Gen.Kernel8.Frame
public import proofs.«01_k».proof.Proof.Gen.Reference7Ideal
public import proofs.«01_k».proof.Proof.Gen.Reference8Ideal
public import proofs.«01_k».proof.Defs

@[expose] public section

set_option maxRecDepth 16384

/-! # The convolution with its gate, on the prompt and on the sample: what is claimed of it -/

noncomputable section

namespace Cert.Dense

open Idealize.ShloMosaic Idealize.ShloMosaic.TcCoe Idealize.SL.Sem

theorem convP_kernel : Cert.quiescent_Kernel7 (hKernel7 := Cert.Kernel7.Gen.facts) :=
  fun m g _ => Cert.Kernel7.Gen.frame (F := Bits) m g

theorem convP_ideal : Cert.quiescent_Kernel7Ideal (hKernel7Ideal := Cert.Kernel7Ideal.Gen.facts) :=
  fun m g _ => Cert.Kernel7Ideal.Gen.frame (F := Ideal) m g

theorem convP_reference : Cert.quiescent_Reference7Ideal (hReference7Ideal := Cert.Reference7Ideal.Gen.facts) := by
  intro m g _
  exact (θ_run Cert.Reference7Ideal.defs _ _).mono
    (fun r h => ⟨fun c => (h c).2.2, Idealize.ShloMosaic.sem_eq_zero_of_no_sems (by decide) r.2⟩)
    (Cert.Reference7Ideal.Value.run (F := Ideal) m g)

theorem convP_algebraic : Cert.algebraic_Kernel7Ideal_Reference7Ideal (hKernel7Ideal := Cert.Kernel7Ideal.Gen.facts)
    (hReference7Ideal := Cert.Reference7Ideal.Gen.facts) := by
  intro m g m' g' _ hargs
  refine ⟨_, _, Cert.ConvP.run_values m g, ?_⟩
  refine (θ_run Cert.Reference7Ideal.defs _ _).mono (fun r h c => ?_) (Cert.Reference7Ideal.Value.run (F := Ideal) m' g')
  obtain ⟨a0, a1, a2, a3⟩ := hargs c
  refine ⟨(h c).1.trans ?_, (h c).2.1.trans ?_, (h c).2.2⟩
  · unfold Cert.Reference7Ideal.Value.res_main_v37
    rw [a0, a1, a2, a3]
    rfl
  · rw [a0, a1]

theorem convS_kernel : Cert.quiescent_Kernel8 (hKernel8 := Cert.Kernel8.Gen.facts) :=
  fun m g _ => Cert.Kernel8.Gen.frame (F := Bits) m g

theorem convS_ideal : Cert.quiescent_Kernel8Ideal (hKernel8Ideal := Cert.Kernel8Ideal.Gen.facts) :=
  fun m g _ => Cert.Kernel8Ideal.Gen.frame (F := Ideal) m g

theorem convS_reference : Cert.quiescent_Reference8Ideal (hReference8Ideal := Cert.Reference8Ideal.Gen.facts) := by
  intro m g _
  exact (θ_run Cert.Reference8Ideal.defs _ _).mono
    (fun r h => ⟨fun c => (h c).2.2, Idealize.ShloMosaic.sem_eq_zero_of_no_sems (by decide) r.2⟩)
    (Cert.Reference8Ideal.Value.run (F := Ideal) m g)

theorem convS_algebraic : Cert.algebraic_Kernel8Ideal_Reference8Ideal (hKernel8Ideal := Cert.Kernel8Ideal.Gen.facts)
    (hReference8Ideal := Cert.Reference8Ideal.Gen.facts) := by
  intro m g m' g' _ hargs
  refine ⟨_, _, Cert.ConvS.run_values m g, ?_⟩
  refine (θ_run Cert.Reference8Ideal.defs _ _).mono (fun r h c => ?_) (Cert.Reference8Ideal.Value.run (F := Ideal) m' g')
  obtain ⟨a0, a1, a2, a3⟩ := hargs c
  refine ⟨(h c).1.trans ?_, (h c).2.1.trans ?_, (h c).2.2⟩
  · unfold Cert.Reference8Ideal.Value.res_main_v38
    rw [a0, a1, a2, a3]
    rfl
  · rw [a0, a1]

end Cert.Dense
-- ==== Proof.Samp.Spec.lean ====
module

public import Idealize.ShloMosaic.Lib.Pointwise
public import proofs.«01_k».proof.Proof.Ssd.Spec

@[expose] public section

noncomputable section

namespace Cert.Samp

open Idealize.ShloMosaic

open Cert.Ssd (gate hd pl)

/-! One chunk of 32 steps of one group of 8 heads, in extended reals. `D` is the step size, `a` the decay rate of a
head, `X` the input, `B` and `C` the group's projections, `S` the state at the start of the chunk. -/

/-- The log decay of head `r` summed through step `t`. -/
def cum (D : Fin 32 → Fin 8 → EReal) (a : Fin 8 → EReal) (t : Fin 32) (r : Fin 8) : EReal :=
  ∑ s : Fin 32, if s ≤ t then D s r * a r else 0

/-- The state after the chunk. -/
def nextS (D : Fin 32 → Fin 8 → EReal) (a : Fin 8 → EReal) (X : Fin 32 → Fin 8 → Fin 64 → EReal)
    (B : Fin 32 → Fin 128 → EReal) (S : Fin 8 → Fin 64 → Fin 128 → EReal) (r : Fin 8) (p : Fin 64) (n : Fin 128) :
    EReal :=
  S r p n * Ideal.exp (cum D a 31 r)
    + ∑ s : Fin 32, B s n * (X s r p * (Ideal.exp (cum D a 31 r - cum D a s r) * D s r))

/-- The product of the projections of steps `t` and `s`. -/
def att (B C : Fin 32 → Fin 128 → EReal) (t s : Fin 32) : EReal := ∑ n : Fin 128, C t n * B s n

/-- The contribution of the steps of the chunk itself. -/
def inner (D : Fin 32 → Fin 8 → EReal) (a : Fin 8 → EReal) (X : Fin 32 → Fin 8 → Fin 64 → EReal)
    (B C : Fin 32 → Fin 128 → EReal) (t : Fin 32) (r : Fin 8) (p : Fin 64) : EReal :=
  ∑ s : Fin 32, (att B C t s * (if s ≤ t then Ideal.exp (cum D a t r - cum D a s r) else 0)) * (X s r p * D s r)

/-- The output before the skip connection, the gate and the norm. -/
def raw (D : Fin 32 → Fin 8 → EReal) (a : Fin 8 → EReal) (X : Fin 32 → Fin 8 → Fin 64 → EReal)
    (B C : Fin 32 → Fin 128 → EReal) (S : Fin 8 → Fin 64 → Fin 128 → EReal) (t : Fin 32) (r : Fin 8) (p : Fin 64) :
    EReal :=
  (∑ n : Fin 128, C t n * S r p n) * Ideal.exp (cum D a t r) + inner D a X B C t r p

/-- The output with skip connection and gate. -/
def gated (D : Fin 32 → Fin 8 → EReal) (a : Fin 8 → EReal) (X : Fin 32 → Fin 8 → Fin 64 → EReal)
    (B C : Fin 32 → Fin 128 → EReal) (S : Fin 8 → Fin 64 → Fin 128 → EReal) (dsk : Fin 8 → EReal)
    (Z : Fin 32 → Fin 512 → EReal) (t : Fin 32) (q : Fin 512) : EReal :=
  (raw D a X B C S t (hd q) (pl q) + dsk (hd q) * X t (hd q) (pl q)) * gate (Z t q)

/-- The root mean square norm over a group's 512 columns, with weights. -/
def normed (G : Fin 32 → Fin 512 → EReal) (w : Fin 512 → EReal) (t : Fin 32) (q : Fin 512) : EReal :=
  G t q * Ideal.rsqrt (Ideal.div (∑ k : Fin 512, G t k * G t k) (Ideal.ofBits .f32 0x44000000#32)
    + Ideal.ofBits .f32 0x358637BD#32) * w q

end Cert.Samp

end
-- ==== Proof.Samp.Chunk.lean ====
module

public import proofs.«01_k».proof.Proof.Gen.Kernel9Ideal.Skeleton
public import proofs.«01_k».proof.Proof.Samp.Spec

@[expose] public section

set_option maxRecDepth 16384

noncomputable section

namespace Cert.Kernel9Ideal.Value

open Idealize.ShloMosaic Idealize.ShloMosaic.TcCoe Idealize.SL.Sem
open Cert.Kernel9Ideal Cert.Kernel9Ideal.Gen
open Cert.Samp
open Cert.Ssd (gate hd pl)

/-- The normalized group. -/
def normV (v205 : FVec Ideal S32x512 .f32) (w : FVec Ideal S1x512 .f32) : FVec Ideal S32x512 .bf16 :=
  truncf .bf16 (mulf (mulf v205 (broadcastTo S32x512 (rsqrt (addf (divf (shapeCast S32x1
    (multiReduction .add [1] S32 (mulf v205 v205) 0x00000000#32 reduces_S32x512_S32 (.inl rfl) rfl) shapeCasts_S32_S32x1)
    (broadcast S32x1 (Scalar.ofBits .f32 0x44000000#32))) (broadcast S32x1 (Scalar.ofBits .f32 0x358637BD#32))))
    broadcasts_S32x1_S32x512)) (broadcastTo S32x512 w broadcasts_S1x512_S32x512)) bitsLt_bf16_f32

theorem normV_at (v : FVec Ideal S32x512 .f32) (w : FVec Ideal S1x512 .f32) (t : Fin 32) (q : Fin 512) :
    normV v w (ix2 t q) = normed (fun t q => v (ix2 t q)) (fun q => w (ix2 0 q)) t q := by
  pointwise [normV, normed]

/-- One head's contribution within the chunk, as the kernel computes it: `off` is its first column, `row` its row among
the transposed sums. -/
def headV (off row : ℕ) (h1 : S32x4096.Slices ![0, off] S32x32) (h3 : S32x4096.Slices ![0, off] S32x64) (h2 : S64x32.Slices ![row, 0] S1x32)
    (v5 : IVec S32x32 1) (v62 : FVec Ideal S32x4096 .f32) (v80 : FVec Ideal S64x32 .f32)
    (v84 : FVec Ideal S32x4096 .bf16) (cb : FVec Ideal S32x32 .f32) : FVec Ideal S32x64 .f32 :=
  matmul dot_S32x32_S32x64_S32x64_1_0_0_1_n_n none (truncf .bf16 (mulf cb (select v5
    (exp (subf (extractStridedSlice S32x32 ![0, off] v62 h1)
      (broadcastTo S32x32 (extractStridedSlice S1x32 ![row, 0] v80 h2) broadcasts_S1x32_S32x32)))
    (broadcast S32x32 (Scalar.ofBits .f32 0x00000000#32)))) bitsLt_bf16_f32)
    (extractStridedSlice S32x64 ![0, off] v84 h3) (constant S32x64 .f32 0x00000000#32)

theorem headV_at (off row : ℕ) (h1 : S32x4096.Slices ![0, off] S32x32) (h3 : S32x4096.Slices ![0, off] S32x64) (h2 : S64x32.Slices ![row, 0] S1x32)
    (hoff : off + 64 ≤ 4096) (hrow : row < 64)
    (v5 : IVec S32x32 1) (v62 : FVec Ideal S32x4096 .f32) (v80 : FVec Ideal S64x32 .f32)
    (v84 : FVec Ideal S32x4096 .bf16) (cb : FVec Ideal S32x32 .f32) (t : Fin 32) (p : Fin 64) :
    headV off row h1 h3 h2 v5 v62 v80 v84 cb (ix2 t p) = ∑ s : Fin 32, (cb (ix2 t s) * (Scalar.select (v5 (ix2 t s))
      (Ideal.exp (v62 (ix2 t ⟨off + (s : ℕ), by omega⟩) - v80 (ix2 ⟨row, hrow⟩ s))) 0 : EReal))
      * v84 (ix2 s ⟨off + (p : ℕ), by omega⟩) := by
  pointwise [headV]

/-- The eight heads side by side, with what the earlier chunks contribute, the skip connection and the gate. -/
def rawV (v116 : FVec Ideal S32x512 .f32) (h : Fin 8 → FVec Ideal S32x64 .f32) (a b : FVec Ideal S32x512 .f32) :
    FVec Ideal S32x512 .f32 :=
  mulf (addf (addf v116 (concatenate S32x512 1 [⟨S32x64, h 0⟩, ⟨S32x64, h 1⟩, ⟨S32x64, h 2⟩, ⟨S32x64, h 3⟩,
    ⟨S32x64, h 4⟩, ⟨S32x64, h 5⟩, ⟨S32x64, h 6⟩, ⟨S32x64, h 7⟩]
    concatenates_S32x64_S32x64_S32x64_S32x64_S32x64_S32x64_S32x64_S32x64_S32x512_d1)) a) b

theorem rawV_at (v116 : FVec Ideal S32x512 .f32) (h : Fin 8 → FVec Ideal S32x64 .f32) (a b : FVec Ideal S32x512 .f32)
    (t : Fin 32) (q : Fin 512) :
    rawV v116 h a b (ix2 t q) = (v116 (ix2 t q) + h (hd q) (ix2 t (pl q)) + a (ix2 t q)) * b (ix2 t q) := by
  obtain ⟨r, p, hr⟩ : ∃ (r : Fin 8) (p : Fin 64), q = ⟨64 * (r : ℕ) + (p : ℕ), by omega⟩ :=
    ⟨hd q, pl q, Fin.ext (Nat.div_add_mod (q : ℕ) 64).symm⟩
  subst hr
  have e1 : hd ⟨64 * (r : ℕ) + (p : ℕ), by omega⟩ = r := Fin.ext (by show (64 * (r : ℕ) + (p : ℕ)) / 64 = r; omega)
  have e2 : pl ⟨64 * (r : ℕ) + (p : ℕ), by omega⟩ = p := Fin.ext (by show (64 * (r : ℕ) + (p : ℕ)) % 64 = p; omega)
  rw [e1, e2]
  clear e1 e2
  obtain ⟨r, hr⟩ := r
  interval_cases r
  all_goals
    pointwise [rawV]
    all_goals try refine congrArg₂ (· * ·) (congrArg₂ (· + ·) (congrArg₂ (· + ·) rfl ?_) rfl) rfl
    all_goals repeat' split
    all_goals first
      | (exfalso; omega)
      | exact congrArg (fun x => h _ (ix2 t x)) (Fin.ext (by dsimp only; omega))

/-- What the chunks before contribute to a group. -/
def carryV (off : ℕ) (h : S32x4096.Slices ![0, off] S32x512) (v82 : FVec Ideal S32x4096 .f32) (vc : FVec Ideal S32x128 .f32)
    (vs : FVec Ideal S1x128x512 .f32) : FVec Ideal S32x512 .f32 :=
  mulf (matmul dot_S32x128_S128x512_S32x512_1_0_0_1_n_n none (truncf .bf16 vc bitsLt_bf16_f32)
    (truncf .bf16 (shapeCast S128x512 vs shapeCasts_S1x128x512_S128x512) bitsLt_bf16_f32)
    (constant S32x512 .f32 0x00000000#32)) (extractStridedSlice S32x512 ![0, off] v82 h)

theorem carryV_at (off : ℕ) (h : S32x4096.Slices ![0, off] S32x512) (hoff : off + 512 ≤ 4096)
    (v82 : FVec Ideal S32x4096 .f32) (vc : FVec Ideal S32x128 .f32) (vs : FVec Ideal S1x128x512 .f32) (t : Fin 32)
    (q : Fin 512) : carryV off h v82 vc vs (ix2 t q)
      = (∑ n : Fin 128, vc (ix2 t n) * vs (ix3 0 n q)) * v82 (ix2 t ⟨off + (q : ℕ), by omega⟩) := by
  pointwise [carryV]

theorem slices_head (g : Fin 8) (r : Fin 8) : S32x4096.Slices ![0, 512 * (g : ℕ) + 64 * (r : ℕ)] S32x32 := by
  revert g r; decide

theorem slices_head2 (g : Fin 8) (r : Fin 8) : S32x4096.Slices ![0, 512 * (g : ℕ) + 64 * (r : ℕ)] S32x64 := by
  revert g r; decide

theorem slices_row (g : Fin 8) (r : Fin 8) : S64x32.Slices ![8 * (g : ℕ) + (r : ℕ), 0] S1x32 := by revert g r; decide

theorem slices_group (g : Fin 8) : S32x4096.Slices ![0, 512 * (g : ℕ)] S32x512 := by revert g; decide

theorem slices_group1 (g : Fin 8) : S1x4096.Slices ![0, 512 * (g : ℕ)] S1x512 := by revert g; decide

/-- The products of the projections within a chunk. -/
def cbV (vb vc : FVec Ideal S32x128 .f32) : FVec Ideal S32x32 .f32 :=
  matmul dot_S32x128_S32x128_S32x32_1_1_0_0_n_n none (truncf .bf16 vc bitsLt_bf16_f32) (truncf .bf16 vb bitsLt_bf16_f32)
    (constant S32x32 .f32 0x00000000#32)

theorem cbV_at (vb vc : FVec Ideal S32x128 .f32) (t s : Fin 32) :
    cbV vb vc (ix2 t s) = ∑ n : Fin 128, vc (ix2 t n) * vb (ix2 s n) := by
  pointwise [cbV]

/-- A group's output in a chunk. -/
def yVec (g : Fin 8) (v5 : IVec S32x32 1) (v40 : FVec Ideal S1x4096 .f32) (v62 : FVec Ideal S32x4096 .f32)
    (v80 : FVec Ideal S64x32 .f32) (v82 : FVec Ideal S32x4096 .f32) (v84 : FVec Ideal S32x4096 .bf16)
    (v101 v103 : FVec Ideal S32x4096 .f32) (vb vc : FVec Ideal S32x128 .f32) (vs : FVec Ideal S1x128x512 .f32) :
    FVec Ideal S32x512 .bf16 :=
  normV (rawV (carryV (512 * (g : ℕ)) (slices_group g) v82 vc vs)
      (fun r => headV (512 * (g : ℕ) + 64 * (r : ℕ)) (8 * (g : ℕ) + (r : ℕ)) (slices_head g r) (slices_head2 g r) (slices_row g r)
        v5 v62 v80 v84 (cbV vb vc))
      (extractStridedSlice S32x512 ![0, 512 * (g : ℕ)] v103 (slices_group g))
      (extractStridedSlice S32x512 ![0, 512 * (g : ℕ)] v101 (slices_group g)))
    (extractStridedSlice S1x512 ![0, 512 * (g : ℕ)] v40 (slices_group1 g))

/-- A group's state after a chunk. -/
def sVec (g : Fin 8) (v90 : FVec Ideal S32x4096 .bf16) (v91 : FVec Ideal S1x4096 .f32) (vb : FVec Ideal S32x128 .f32)
    (vs : FVec Ideal S1x128x512 .f32) : FVec Ideal S1x128x512 .f32 :=
  shapeCast S1x128x512 (addf (mulf (shapeCast S128x512 vs shapeCasts_S1x128x512_S128x512)
      (broadcastTo S128x512 (extractStridedSlice S1x512 ![0, 512 * (g : ℕ)] v91 (slices_group1 g)) broadcasts_S1x512_S128x512))
    (matmul dot_S32x128_S32x512_S128x512_0_0_1_1_n_n none (truncf .bf16 vb bitsLt_bf16_f32)
      (extractStridedSlice S32x512 ![0, 512 * (g : ℕ)] v90 (slices_group g)) (constant S128x512 .f32 0x00000000#32)))
    shapeCasts_S128x512_S1x128x512

theorem sVec_at (g : Fin 8) (v90 : FVec Ideal S32x4096 .bf16) (v91 : FVec Ideal S1x4096 .f32) (vb : FVec Ideal S32x128 .f32)
    (vs : FVec Ideal S1x128x512 .f32) (n : Fin 128) (q : Fin 512) : sVec g v90 v91 vb vs (ix3 0 n q)
      = vs (ix3 0 n q) * v91 (ix2 0 ⟨512 * (g : ℕ) + (q : ℕ), by omega⟩)
        + ∑ s : Fin 32, vb (ix2 s n) * v90 (ix2 s ⟨512 * (g : ℕ) + (q : ℕ), by omega⟩) := by
  pointwise [sVec]

end Cert.Kernel9Ideal.Value

end
-- ==== Proof.Samp.Sums.lean ====
module

public import proofs.«01_k».proof.Proof.Samp.Chunk
public import proofs.«01_k».proof.Proof.Ssd.Sums

@[expose] public section

set_option maxRecDepth 16384

noncomputable section

namespace Cert.Kernel9Ideal.Value

open Idealize.ShloMosaic Idealize.ShloMosaic.TcCoe Idealize.SL.Sem
open Cert.Kernel9Ideal Cert.Kernel9Ideal.Gen
open Cert.Samp
open Cert.Ssd (gate hd pl)
open Cert.KernelIdeal.Value (sitofp_bit parts)

theorem pay4_at (t s : Fin 32) : k0_pay4 (ix2 t s) = if s ≤ t then 1#1 else 0#1 := by
  pointwise [k0_pay4]
  revert t s
  decide +kernel

theorem pay6_at (s t : Fin 32) : k0_pay6 (F := Ideal) (ix2 s t) = if s ≤ t then (1 : EReal) else 0 := by
  pointwise [k0_pay6]
  rw [show IntOp.cmpi CmpIPredicate.sle (BitVec.ofNat 32 (s : ℕ)) (BitVec.ofNat 32 (t : ℕ)) = if s ≤ t then 1#1 else 0#1 from by
    revert s t; decide +kernel]
  exact sitofp_bit _

theorem pay5_at (t : Fin 32) (k : Fin 96) :
    k0_pay5 (F := Ideal) (ix2 t k) = if (k : ℕ) % 32 ≤ (t : ℕ) then (1 : EReal) else 0 := by
  pointwise [k0_pay5]
  rw [show (IntOp.cmpi CmpIPredicate.sge (BitVec.ofNat 32 (t : ℕ))
          (Scalar.select (IntOp.cmpi CmpIPredicate.sge (BitVec.ofNat 32 (k : ℕ)) 64#32)
            (IntOp.subi (BitVec.ofNat 32 (k : ℕ)) 64#32)
            (Scalar.select (IntOp.cmpi CmpIPredicate.sge (BitVec.ofNat 32 (k : ℕ)) 32#32)
              (IntOp.subi (BitVec.ofNat 32 (k : ℕ)) 32#32) (BitVec.ofNat 32 (k : ℕ))))) = if (k : ℕ) % 32 ≤ (t : ℕ) then 1#1 else 0#1 from by
    revert t k; decide +kernel]
  exact sitofp_bit _

theorem sum96 (f : Fin 96 → EReal) : ∑ k : Fin 96, f k
    = ∑ s : Fin 32, f ⟨(s : ℕ), by omega⟩ + ∑ s : Fin 32, f ⟨32 + (s : ℕ), by omega⟩
      + ∑ s : Fin 32, f ⟨64 + (s : ℕ), by omega⟩ := by
  rw [Fin.sum_univ_tiles 3 32 rfl f, Fin.sum_univ_three]
  refine congrArg₂ (· + ·) (congrArg₂ (· + ·) ?_ ?_) ?_
  all_goals refine Finset.sum_congr rfl fun s _ => congrArg f (Fin.ext ?_)
  · show 0 * 32 + (s : ℕ) = s; omega
  · show 1 * 32 + (s : ℕ) = 32 + s; omega
  · show 2 * 32 + (s : ℕ) = 64 + s; omega

/-- The kernel's log decay per column. -/
theorem pay12_at (v30 : FVec Ideal S1x4096 .f32) (v50 : FVec Ideal S32x4096 .f32) (t : Fin 32) (j : Fin 4096)
    (hy : ∀ s : Fin 32, v50 (ix2 s j) * v30 (ix2 0 j) ≠ ⊤) :
    k0_pay12 (F := Ideal) (k0_pay5 (F := Ideal)) v30 v50 (ix2 t j) = ∑ s : Fin 32, if s ≤ t then v50 (ix2 s j) * v30 (ix2 0 j) else 0 := by
  pointwise [k0_pay12, k0_pay11]
  rw [sum96, ← Finset.sum_add_distrib, ← Finset.sum_add_distrib]
  refine Finset.sum_congr rfl fun s _ => ?_
  rw [pay5_at, pay5_at, pay5_at, dif_pos s.isLt, dif_neg (by simp), dif_pos (by simp), dif_neg (by show ¬ (64 + (s : ℕ) < 32); omega), dif_neg (by show ¬ (64 + (s : ℕ) - 32 < 32); omega)]
  have e1 : (s : ℕ) % 32 = s := Nat.mod_eq_of_lt s.isLt
  have e2 : (32 + (s : ℕ)) % 32 = s := by omega
  have e3 : (64 + (s : ℕ)) % 32 = s := by omega
  have e4 : (⟨32 + (s : ℕ) - 32, by omega⟩ : Fin 32) = s := Fin.ext (by simp)
  have e5 : (⟨64 + (s : ℕ) - 32 - 32, by omega⟩ : Fin 32) = s := Fin.ext (by simp; omega)
  simp only [e1, e2, e3, e4, e5]
  exact parts ((s : ℕ) ≤ t) _ (hy s)

/-- The kernel's log decay per head. -/
theorem pay13_at (v36 : FVec Ideal S64x1 .f32) (v64 : FVec Ideal S8x1x8x32 .f32) (g : Fin 8) (r : Fin 8) (t : Fin 32)
    (hy : ∀ s : Fin 32, v64 (ix4 g 0 r s) * v36 (ix2 ⟨8 * (g : ℕ) + (r : ℕ), by omega⟩ 0) ≠ ⊤) :
    k0_pay13 (F := Ideal) (k0_pay6 (F := Ideal)) v36 v64 (ix2 ⟨8 * (g : ℕ) + (r : ℕ), by omega⟩ t)
      = ∑ s : Fin 32, if s ≤ t then v64 (ix4 g 0 r s) * v36 (ix2 ⟨8 * (g : ℕ) + (r : ℕ), by omega⟩ 0) else 0 := by
  pointwise [k0_pay13]
  rw [← Finset.sum_add_distrib, ← Finset.sum_add_distrib]
  refine Finset.sum_congr rfl fun s _ => ?_
  have e1 : (⟨(8 * (g : ℕ) + (r : ℕ)) / 8, by omega⟩ : Fin 8) = g := Fin.ext (by dsimp only; omega)
  have e2 : (⟨(8 * (g : ℕ) + (r : ℕ)) % 8, by omega⟩ : Fin 8) = r := Fin.ext (by dsimp only; omega)
  simp only [e1, e2, pay6_at]
  rw [← parts (s ≤ t) _ (hy s)]
  simp only [mul_comm]

end Cert.Kernel9Ideal.Value

end
-- ==== Proof.Samp.Group.lean ====
module

public import proofs.«01_k».proof.Proof.Samp.Sums
public import proofs.«01_k».proof.Proof.Ssd.Group

@[expose] public section

set_option maxRecDepth 16384

noncomputable section

namespace Cert.Kernel9Ideal.Value

open Idealize.ShloMosaic Idealize.ShloMosaic.TcCoe Idealize.SL.Sem
open Cert.Kernel9Ideal Cert.Kernel9Ideal.Gen
open Cert.Samp
open Cert.Ssd (gate hd pl)
open Cert.KernelIdeal.Value (hp hd_hp pl_hp hp_hd mul_ne_top)

/-- Column `q` of group `g` among the columns of a block. -/
def col (g : Fin 8) (q : Fin 512) : Fin 4096 := ⟨512 * (g : ℕ) + (q : ℕ), by omega⟩

/-- Row of head `r` of group `g` among the heads of a block. -/
def hr (g : Fin 8) (r : Fin 8) : Fin 64 := ⟨8 * (g : ℕ) + (r : ℕ), by omega⟩

section
variable (g : Fin 8) (v48 v50 v93 : FVec Ideal S32x4096 .f32) (v64 : FVec Ideal S8x1x8x32 .f32)
  (v30 v38 v39 : FVec Ideal S1x4096 .f32) (v36 : FVec Ideal S64x1 .f32)
  (vb vc : FVec Ideal S32x128 .f32) (vs : FVec Ideal S1x128x512 .f32)
  (D : Fin 32 → Fin 8 → EReal) (a dsk : Fin 8 → EReal)
  (hD : ∀ s q, v50 (ix2 s (col g q)) = D s (hd q)) (ha : ∀ q, v30 (ix2 0 (col g q)) = a (hd q))
  (hDt : ∀ r s, v64 (ix4 g 0 r s) = D s r) (hat : ∀ r : Fin 8, v36 (ix2 (hr g r) 0) = a r)
  (hdsk : ∀ q, v38 (ix2 0 (col g q)) = dsk (hd q))
  (hD0 : ∀ s r, 0 ≤ D s r) (ha0 : ∀ r, a r ≤ 0)
include hD ha hD0 ha0

theorem pay12_cum (t : Fin 32) (q : Fin 512) :
    k0_pay12 (F := Ideal) (k0_pay5 (F := Ideal)) v30 v50 (ix2 t (col g q)) = cum D a t (hd q) := by
  rw [pay12_at]
  · simp only [hD, ha]; rfl
  · intro s; rw [hD, ha]; exact mul_ne_top _ _ (hD0 _ _) (ha0 _)

omit hD ha in
include hDt hat in
theorem pay13_cum (t : Fin 32) (r : Fin 8) :
    k0_pay13 (F := Ideal) (k0_pay6 (F := Ideal)) v36 v64 (ix2 (hr g r) t) = cum D a t r := by
  unfold hr at *
  rw [pay13_at]
  · simp only [hDt, hat]; rfl
  · intro s; rw [hDt, hat]; exact mul_ne_top _ _ (hD0 _ _) (ha0 _)

/-- A group's state after the chunk. -/
theorem state_eq (n : Fin 128) (q : Fin 512) :
    sVec g (k0_pay17 (F := Ideal) (k0_pay5 (F := Ideal)) v30 v48 v50) (k0_pay18 (F := Ideal) (k0_pay5 (F := Ideal)) v30 v50) vb vs (ix3 0 n q)
      = nextS D a (fun s r p => v48 (ix2 s (col g (hp r p)))) (fun s n => vb (ix2 s n))
          (fun r p n => vs (ix3 0 n (hp r p))) (hd q) (pl q) n := by
  have h5 := pay12_cum g v50 v30 D a hD ha hD0 ha0
  rw [sVec_at]
  change vs (ix3 0 n q) * k0_pay18 (F := Ideal) (k0_pay5 (F := Ideal)) v30 v50 (ix2 0 (col g q))
        + ∑ s : Fin 32, vb (ix2 s n) * k0_pay17 (F := Ideal) (k0_pay5 (F := Ideal)) v30 v48 v50 (ix2 s (col g q)) = _
  have e11 : k0_pay18 (F := Ideal) (k0_pay5 (F := Ideal)) v30 v50 (ix2 0 (col g q))
      = Ideal.exp (k0_pay12 (F := Ideal) (k0_pay5 (F := Ideal)) v30 v50 (ix2 31 (col g q))) := by
    pointwise [k0_pay18, k0_pay14]
  have e10 : ∀ s : Fin 32, k0_pay17 (F := Ideal) (k0_pay5 (F := Ideal)) v30 v48 v50 (ix2 s (col g q))
      = v48 (ix2 s (col g q)) * (Ideal.exp (k0_pay12 (F := Ideal) (k0_pay5 (F := Ideal)) v30 v50 (ix2 31 (col g q))
        - k0_pay12 (F := Ideal) (k0_pay5 (F := Ideal)) v30 v50 (ix2 s (col g q))) * v50 (ix2 s (col g q))) := by
    intro s
    pointwise [k0_pay17, k0_pay14, k0_pay11]
  simp only [e11, e10, h5, hD, nextS, hp_hd]

include hDt hat hdsk in
/-- A group's output in the chunk. -/
theorem out_eq (t : Fin 32) (q : Fin 512) :
    yVec g k0_pay4 (k0_pay10 (F := Ideal) v39) (k0_pay12 (F := Ideal) (k0_pay5 (F := Ideal)) v30 v50)
        (k0_pay13 (F := Ideal) (k0_pay6 (F := Ideal)) v36 v64) (k0_pay15 (F := Ideal) (k0_pay5 (F := Ideal)) v30 v50)
        (k0_pay16 (F := Ideal) v48 v50) (k0_pay19 (F := Ideal) v93) (k0_pay20 (F := Ideal) v38 v48) vb vc vs (ix2 t q)
      = normed (gated D a (fun s r p => v48 (ix2 s (col g (hp r p)))) (fun s n => vb (ix2 s n)) (fun s n => vc (ix2 s n))
          (fun r p n => vs (ix3 0 n (hp r p))) dsk (fun t q => v93 (ix2 t (col g q))))
          (fun q => v39 (ix2 0 (col g q))) t q := by
  have h5 := pay12_cum g v50 v30 D a hD ha hD0 ha0
  have h6 := pay13_cum g v64 v36 D a hDt hat hD0 ha0
  unfold yVec
  rw [normV_at]
  refine congrArg₂ (fun G w => normed G w t q) ?_ ?_
  · funext t q
    rw [rawV_at, carryV_at _ _ (by omega)]
    rw [headV_at _ _ _ _ _ (by have := (hd q).isLt; omega) (by have := (hd q).isLt; omega)]
    have e8 : ∀ (t : Fin 32) (j : Fin 4096), k0_pay15 (F := Ideal) (k0_pay5 (F := Ideal)) v30 v50 (ix2 t j)
        = Ideal.exp (k0_pay12 (F := Ideal) (k0_pay5 (F := Ideal)) v30 v50 (ix2 t j)) := fun _ _ => rfl
    have e9 : ∀ (t : Fin 32) (j : Fin 4096), k0_pay16 (F := Ideal) v48 v50 (ix2 t j)
        = v48 (ix2 t j) * v50 (ix2 t j) := fun t j => by pointwise [k0_pay16, k0_pay11]
    have e12 : ∀ (t : Fin 32) (j : Fin 4096), k0_pay19 (F := Ideal) v93 (ix2 t j)
        = gate (v93 (ix2 t j)) := fun t j => by pointwise [k0_pay19, gate]
    have e13 : ∀ (t : Fin 32) (j : Fin 4096), k0_pay20 (F := Ideal) v38 v48 (ix2 t j)
        = v38 (ix2 0 j) * v48 (ix2 t j) := fun t j => by pointwise [k0_pay20]
    have ec : ∀ (v : FVec Ideal S32x4096 .f32), extractStridedSlice S32x512 ![0, 512 * (g : ℕ)] v (slices_group g) (ix2 t q)
        = v (ix2 t (col g q)) := fun v => by pointwise; rfl
    have eh : ∀ p : Fin 64, (⟨512 * (g : ℕ) + 64 * (hd q : ℕ) + (p : ℕ), by have := (hd q).isLt; omega⟩ : Fin 4096)
        = col g (hp (hd q) p) := fun p => Fin.ext (by show _ = 512 * (g : ℕ) + (64 * (hd q : ℕ) + (p : ℕ)); dsimp only; omega)
    have eh2 : ∀ x : Fin 32, (⟨512 * (g : ℕ) + 64 * (hd q : ℕ) + (x : ℕ), by have := (hd q).isLt; omega⟩ : Fin 4096)
        = col g (hp (hd q) ⟨(x : ℕ), by omega⟩) := fun x => Fin.ext (by show _ = 512 * (g : ℕ) + (64 * (hd q : ℕ) + (x : ℕ)); dsimp only; omega)
    have er : (⟨8 * (g : ℕ) + (hd q : ℕ), by have := (hd q).isLt; omega⟩ : Fin 64) = hr g (hd q) := rfl
    have es : ∀ (s : Fin 32) (x : EReal), (Scalar.select (k0_pay4 (ix2 t s)) x 0 : EReal) = if s ≤ t then x else 0 := by
      intro s x
      rw [pay4_at]
      split <;> rfl
    have eq' : (⟨512 * (g : ℕ) + (q : ℕ), by omega⟩ : Fin 4096) = col g q := rfl
    simp only [ec, eh, eh2, es, er, eq', e8, e9, e12, e13, h5, h6, hD, hdsk, cbV_at, hd_hp, hp_hd, gated, raw, Samp.inner, att]
  · funext q
    pointwise [k0_pay10]
    rfl

end

end Cert.Kernel9Ideal.Value

end
-- ==== Proof.Samp.Cells.lean ====
module

public import proofs.«01_k».proof.Proof.Gen.Kernel9Ideal.Value
public import proofs.«01_k».proof.Proof.Samp.Group
public import Idealize.ShloMosaic.Lib.Pipeline.ValueKit
public import Idealize.ShloMosaic.Lib.Pointwise

@[expose] public section

set_option maxRecDepth 16384

noncomputable section

namespace Cert.Kernel9Ideal.Value

open Idealize.ShloMosaic Idealize.ShloMosaic.TcCoe Idealize.SL.Sem
open Cert.Kernel9Ideal Cert.Kernel9Ideal.Gen

/-! The state scratch has a row for each of the eight groups: what a read of a row finds after writes of rows. -/

theorem row_not_mem (k g : ℕ) (h : k ≠ g)
    (inb : ∀ a, (![k, 0, 0] : Fin 3 → ℕ) a + (![1, 128, 512] : Fin 3 → ℕ) a ≤ S8x128x512.size a) (y : S8x128x512.Idx) (hy : (y 0).val = g) :
    y ∉ (Rect.unit (s := S8x128x512) ![k, 0, 0] ![1, 128, 512] inb).set := by
  intro hm
  obtain ⟨x, hx⟩ := LoadRect.exists_idx_of_mem _ hm
  have h0 : k + 1 * (x 0).val = (y 0).val := congrArg (fun z : S8x128x512.Idx => (z 0).val) hx
  have h1 : (x 0).val < 1 := (x 0).isLt
  omega

theorem row_skip (v : View sig .tc .vmem S8x128x512 .f32) (k g : ℕ) (h : k ≠ g) (w : Vec Ideal S1x128x512 .f32)
    (L : List (View.Piece (Elt Ideal) S8x128x512 .f32))
    (inb : ∀ a, (![k, 0, 0] : Fin 3 → ℕ) a + (![1, 128, 512] : Fin 3 → ℕ) a ≤ S8x128x512.size a)
    (inb' : ∀ a, (![g, 0, 0] : Fin 3 → ℕ) a + (![1, 128, 512] : Fin 3 → ℕ) a ≤ S8x128x512.size a) :
    v.readCov ((⟨Rect.unit (s := S8x128x512) ![k, 0, 0] ![1, 128, 512] inb, w⟩ : View.Piece (Elt Ideal) S8x128x512 .f32) :: L)
      (Rect.unit (s := S8x128x512) ![g, 0, 0] ![1, 128, 512] inb').toLoadRect
      = v.readCov L (Rect.unit (s := S8x128x512) ![g, 0, 0] ![1, 128, 512] inb').toLoadRect := by
  rw [View.readCov_eq_canon', View.readCov_eq_canon']
  funext j
  refine View.canon_cons_of_not_mem _ _ (row_not_mem k g h inb _ ?_)
  have h1 : (j 0).val < 1 := (j 0).isLt
  show g + 1 * (j 0).val = g
  omega

/-- Row `g` of the state. -/
def rowOf (w : Vec Ideal S8x128x512 .f32) (g : ℕ) (hg : g < 8) : Vec Ideal S1x128x512 .f32 := fun j => w (ix3 ⟨g, hg⟩ (j 1) (j 2))

theorem row_read (v : View sig .tc .vmem S8x128x512 .f32) (g : ℕ) (w : Vec Ideal S8x128x512 .f32)
    (inb : ∀ a, (![0, 0, 0] : Fin 3 → ℕ) a + (![8, 128, 512] : Fin 3 → ℕ) a ≤ S8x128x512.size a)
    (inb' : ∀ a, (![g, 0, 0] : Fin 3 → ℕ) a + (![1, 128, 512] : Fin 3 → ℕ) a ≤ S8x128x512.size a) :
    v.readCov [(⟨Rect.unit (s := S8x128x512) ![0, 0, 0] ![8, 128, 512] inb, w⟩ : View.Piece (Elt Ideal) S8x128x512 .f32)]
      (Rect.unit (s := S8x128x512) ![g, 0, 0] ![1, 128, 512] inb').toLoadRect
      = rowOf w g (by have := inb' 0; change g + 1 ≤ 8 at this; omega) := by
  rw [View.readCov_eq_canon']
  funext j
  have h1 : (j 0).val < 1 := (j 0).isLt
  have hg : g < 8 := by have := inb' 0; change g + 1 ≤ 8 at this; omega
  have e : (Rect.unit (s := S8x128x512) ![g, 0, 0] ![1, 128, 512] inb').toLoadRect.idx j
      = (Rect.unit (s := S8x128x512) ![0, 0, 0] ![8, 128, 512] inb).emb (ix3 ⟨g, hg⟩ (j 1) (j 2)) := by
    refine funext fun a => Fin.ext ?_
    match a with
    | ⟨0, _⟩ =>
      show g + 1 * (j 0).val = 0 + 1 * g
      omega
    | ⟨1, _⟩ => rfl
    | ⟨2, _⟩ => rfl
  show View.canon _ ((Rect.unit (s := S8x128x512) ![g, 0, 0] ![1, 128, 512] inb').toLoadRect.idx j) = _
  rw [e]
  exact View.canon_cons_emb (Val := Elt Ideal) _ _ _ _

/-- The whole scratch after writes of rows, at a place of row `k`: the last row written there. -/
theorem all_hit (v : View sig .tc .vmem S8x128x512 .f32) (k : ℕ) (hk : k < 8) (w : Vec Ideal S1x128x512 .f32)
    (L : List (View.Piece (Elt Ideal) S8x128x512 .f32))
    (inb : ∀ a, (![k, 0, 0] : Fin 3 → ℕ) a + (![1, 128, 512] : Fin 3 → ℕ) a ≤ S8x128x512.size a)
    (inb' : ∀ a, (![0, 0, 0] : Fin 3 → ℕ) a + (![8, 128, 512] : Fin 3 → ℕ) a ≤ S8x128x512.size a) (n : Fin 128) (q : Fin 512) :
    v.readCov ((⟨Rect.unit (s := S8x128x512) ![k, 0, 0] ![1, 128, 512] inb, w⟩ : View.Piece (Elt Ideal) S8x128x512 .f32) :: L)
      (Rect.unit (s := S8x128x512) ![0, 0, 0] ![8, 128, 512] inb').toLoadRect (ix3 ⟨k, hk⟩ n q) = w (ix3 0 n q) := by
  have e : (Rect.unit (s := S8x128x512) ![0, 0, 0] ![8, 128, 512] inb').toLoadRect.idx (ix3 ⟨k, hk⟩ n q)
      = (Rect.unit (s := S8x128x512) ![k, 0, 0] ![1, 128, 512] inb).emb (ix3 (0 : Fin 1) n q) := by
    refine funext fun a => Fin.ext ?_
    match a with
    | ⟨0, _⟩ =>
      show 0 + 1 * k = k + 1 * 0
      omega
    | ⟨1, _⟩ => rfl
    | ⟨2, _⟩ => rfl
  rw [View.readCov_eq_canon']
  show View.canon _ ((Rect.unit (s := S8x128x512) ![0, 0, 0] ![8, 128, 512] inb').toLoadRect.idx (ix3 ⟨k, hk⟩ n q)) = _
  rw [e]
  exact View.canon_cons_emb (Val := Elt Ideal) _ _ _ _

theorem all_skip (v : View sig .tc .vmem S8x128x512 .f32) (k g : ℕ) (h : k ≠ g) (hg : g < 8) (w : Vec Ideal S1x128x512 .f32)
    (L : List (View.Piece (Elt Ideal) S8x128x512 .f32))
    (inb : ∀ a, (![k, 0, 0] : Fin 3 → ℕ) a + (![1, 128, 512] : Fin 3 → ℕ) a ≤ S8x128x512.size a)
    (inb' : ∀ a, (![0, 0, 0] : Fin 3 → ℕ) a + (![8, 128, 512] : Fin 3 → ℕ) a ≤ S8x128x512.size a) (n : Fin 128) (q : Fin 512) :
    v.readCov ((⟨Rect.unit (s := S8x128x512) ![k, 0, 0] ![1, 128, 512] inb, w⟩ : View.Piece (Elt Ideal) S8x128x512 .f32) :: L)
      (Rect.unit (s := S8x128x512) ![0, 0, 0] ![8, 128, 512] inb').toLoadRect (ix3 ⟨g, hg⟩ n q)
      = v.readCov L (Rect.unit (s := S8x128x512) ![0, 0, 0] ![8, 128, 512] inb').toLoadRect (ix3 ⟨g, hg⟩ n q) := by
  rw [View.readCov_eq_canon', View.readCov_eq_canon']
  refine View.canon_cons_of_not_mem _ _ (row_not_mem k g h inb _ ?_)
  show 0 + 1 * g = g
  omega

theorem col_hit (k : Fin 8) (off : Fin 2 → ℕ) (h : off = ![0, 512 * (k : ℕ)]) (w : Vec Ideal S32x512 .bf16)
    (L : List (View.Piece (Elt Ideal) S32x4096 .bf16))
    (inb : ∀ a, off a + (![32, 512] : Fin 2 → ℕ) a ≤ S32x4096.size a) (r : Fin 32) (q : Fin 512) :
    View.canon ((⟨Rect.unit (s := S32x4096) off ![32, 512] inb, w⟩ : View.Piece (Elt Ideal) S32x4096 .bf16) :: L) (ix2 r (col k q)) = w (ix2 r q) := by
  subst h
  have e : ix2 r (col k q) = (Rect.unit (s := S32x4096) ![0, 512 * (k : ℕ)] ![32, 512] inb).emb (ix2 r q) := by
    refine funext fun a => Fin.ext ?_
    match a with
    | ⟨0, _⟩ =>
      show (r : ℕ) = 0 + 1 * (r : ℕ)
      omega
    | ⟨1, _⟩ =>
      show 512 * (k : ℕ) + (q : ℕ) = 512 * (k : ℕ) + 1 * (q : ℕ)
      omega
  rw [e]
  exact View.canon_cons_emb (Val := Elt Ideal) _ _ _ _

theorem col_skip (k g : Fin 8) (h : k ≠ g) (off : Fin 2 → ℕ) (ho : off = ![0, 512 * (k : ℕ)]) (w : Vec Ideal S32x512 .bf16)
    (L : List (View.Piece (Elt Ideal) S32x4096 .bf16))
    (inb : ∀ a, off a + (![32, 512] : Fin 2 → ℕ) a ≤ S32x4096.size a) (r : Fin 32) (q : Fin 512) :
    View.canon ((⟨Rect.unit (s := S32x4096) off ![32, 512] inb, w⟩ : View.Piece (Elt Ideal) S32x4096 .bf16) :: L) (ix2 r (col g q))
      = View.canon L (ix2 r (col g q)) := by
  subst ho
  refine View.canon_cons_of_not_mem (Val := Elt Ideal) _ _ ?_
  intro hm
  obtain ⟨x, hx⟩ := LoadRect.exists_idx_of_mem _ hm
  have h0 : 512 * (k : ℕ) + 1 * (x 1).val = 512 * (g : ℕ) + (q : ℕ) := congrArg (fun z : S32x4096.Idx => (z 1).val) hx
  have h1 : (x 1).val < 512 := (x 1).isLt
  exact h (Fin.ext (by omega))

/-- A group's 128 columns of a block of projections. -/
theorem ld_group (g : Fin 8) (off : Fin 2 → ℕ) (ho : off = ![0, 128 * (g : ℕ)]) (v : Vec Ideal S32x1024 .f32)
    (inb : ∀ a, off a + (![32, 128] : Fin 2 → ℕ) a ≤ S32x1024.size a) (s : Fin 32) (n : Fin 128) :
    View.ld v (Rect.unit (s := S32x1024) off ![32, 128] inb) (ix2 s n) = v (ix2 s ⟨128 * (g : ℕ) + (n : ℕ), by omega⟩) := by
  subst ho
  refine congrArg v (funext fun a => Fin.ext ?_)
  match a with
  | ⟨0, _⟩ =>
    show 0 + 1 * (s : ℕ) = (s : ℕ)
    omega
  | ⟨1, _⟩ =>
    show 128 * (g : ℕ) + 1 * (n : ℕ) = 128 * (g : ℕ) + (n : ℕ)
    omega

theorem pay2_at (w : Vec Ideal S8x128x512 .f32) (g : Fin 8) (n : Fin 128) (q : Fin 512) :
    k0_pay2 (F := Ideal) w (ix4 0 g n q) = w (ix3 g n q) := by
  pointwise [k0_pay2]

theorem pay3_at (w : Vec Ideal S1x8x128x512 .f32) (g : Fin 8) (n : Fin 128) (q : Fin 512) :
    k0_pay3 (F := Ideal) w (ix3 g n q) = w (ix4 0 g n q) := by
  pointwise [k0_pay3]

end Cert.Kernel9Ideal.Value

end
-- ==== Proof.Samp.Out.lean ====
module

public import proofs.«01_k».proof.Proof.Samp.Cells

@[expose] public section

set_option maxRecDepth 16384

noncomputable section

namespace Cert.Kernel9Ideal.Value

open Idealize.ShloMosaic Idealize.ShloMosaic.TcCoe Idealize.SL.Sem
open Cert.Kernel9Ideal Cert.Kernel9Ideal.Gen

/-- Of eight writes of columns, a group's columns keep the group's own. -/
theorem cols_keep (w : Fin 8 → Vec Ideal S32x512 .bf16) (off : Fin 8 → Fin 2 → ℕ) (ho : ∀ k, off k = ![0, 512 * (k : ℕ)])
    (inb : ∀ k a, off k a + (![32, 512] : Fin 2 → ℕ) a ≤ S32x4096.size a) (L : List (View.Piece (Elt Ideal) S32x4096 .bf16))
    (g : Fin 8) (r : Fin 32) (q : Fin 512) :
    View.canon ((⟨Rect.unit (s := S32x4096) (off 7) ![32, 512] (inb 7), w 7⟩ : View.Piece (Elt Ideal) S32x4096 .bf16) :: (⟨Rect.unit (s := S32x4096) (off 6) ![32, 512] (inb 6), w 6⟩ : View.Piece (Elt Ideal) S32x4096 .bf16) :: (⟨Rect.unit (s := S32x4096) (off 5) ![32, 512] (inb 5), w 5⟩ : View.Piece (Elt Ideal) S32x4096 .bf16) :: (⟨Rect.unit (s := S32x4096) (off 4) ![32, 512] (inb 4), w 4⟩ : View.Piece (Elt Ideal) S32x4096 .bf16) :: (⟨Rect.unit (s := S32x4096) (off 3) ![32, 512] (inb 3), w 3⟩ : View.Piece (Elt Ideal) S32x4096 .bf16) :: (⟨Rect.unit (s := S32x4096) (off 2) ![32, 512] (inb 2), w 2⟩ : View.Piece (Elt Ideal) S32x4096 .bf16) :: (⟨Rect.unit (s := S32x4096) (off 1) ![32, 512] (inb 1), w 1⟩ : View.Piece (Elt Ideal) S32x4096 .bf16) :: (⟨Rect.unit (s := S32x4096) (off 0) ![32, 512] (inb 0), w 0⟩ : View.Piece (Elt Ideal) S32x4096 .bf16) :: L) (ix2 r (col g q)) = w g (ix2 r q) := by
  by_cases h7 : g = 7
  · subst h7; exact col_hit _ _ (ho _) _ _ _ r q
  refine (col_skip 7 g (Ne.symm h7) _ (ho 7) _ _ _ r q).trans ?_
  by_cases h6 : g = 6
  · subst h6; exact col_hit _ _ (ho _) _ _ _ r q
  refine (col_skip 6 g (Ne.symm h6) _ (ho 6) _ _ _ r q).trans ?_
  by_cases h5 : g = 5
  · subst h5; exact col_hit _ _ (ho _) _ _ _ r q
  refine (col_skip 5 g (Ne.symm h5) _ (ho 5) _ _ _ r q).trans ?_
  by_cases h4 : g = 4
  · subst h4; exact col_hit _ _ (ho _) _ _ _ r q
  refine (col_skip 4 g (Ne.symm h4) _ (ho 4) _ _ _ r q).trans ?_
  by_cases h3 : g = 3
  · subst h3; exact col_hit _ _ (ho _) _ _ _ r q
  refine (col_skip 3 g (Ne.symm h3) _ (ho 3) _ _ _ r q).trans ?_
  by_cases h2 : g = 2
  · subst h2; exact col_hit _ _ (ho _) _ _ _ r q
  refine (col_skip 2 g (Ne.symm h2) _ (ho 2) _ _ _ r q).trans ?_
  by_cases h1 : g = 1
  · subst h1; exact col_hit _ _ (ho _) _ _ _ r q
  refine (col_skip 1 g (Ne.symm h1) _ (ho 1) _ _ _ r q).trans ?_
  have h0 : g = 0 := Fin.ext (by have := g.isLt; simp only [Fin.ext_iff] at *; omega)
  subst h0
  exact col_hit _ _ (ho _) _ _ _ r q

/-- Of eight writes of rows, a group's row keeps the group's own. -/
theorem rows_keep (v : View sig .tc .vmem S8x128x512 .f32) (w : Fin 8 → Vec Ideal S1x128x512 .f32)
    (inb : ∀ (k : Fin 8) a, (![(k : ℕ), 0, 0] : Fin 3 → ℕ) a + (![1, 128, 512] : Fin 3 → ℕ) a ≤ S8x128x512.size a)
    (inb' : ∀ a, (![0, 0, 0] : Fin 3 → ℕ) a + (![8, 128, 512] : Fin 3 → ℕ) a ≤ S8x128x512.size a)
    (L : List (View.Piece (Elt Ideal) S8x128x512 .f32)) (g : Fin 8) (n : Fin 128) (q : Fin 512) :
    v.readCov ((⟨Rect.unit (s := S8x128x512) ![7, 0, 0] ![1, 128, 512] (inb 7), w 7⟩ : View.Piece (Elt Ideal) S8x128x512 .f32) :: (⟨Rect.unit (s := S8x128x512) ![6, 0, 0] ![1, 128, 512] (inb 6), w 6⟩ : View.Piece (Elt Ideal) S8x128x512 .f32) :: (⟨Rect.unit (s := S8x128x512) ![5, 0, 0] ![1, 128, 512] (inb 5), w 5⟩ : View.Piece (Elt Ideal) S8x128x512 .f32) :: (⟨Rect.unit (s := S8x128x512) ![4, 0, 0] ![1, 128, 512] (inb 4), w 4⟩ : View.Piece (Elt Ideal) S8x128x512 .f32) :: (⟨Rect.unit (s := S8x128x512) ![3, 0, 0] ![1, 128, 512] (inb 3), w 3⟩ : View.Piece (Elt Ideal) S8x128x512 .f32) :: (⟨Rect.unit (s := S8x128x512) ![2, 0, 0] ![1, 128, 512] (inb 2), w 2⟩ : View.Piece (Elt Ideal) S8x128x512 .f32) :: (⟨Rect.unit (s := S8x128x512) ![1, 0, 0] ![1, 128, 512] (inb 1), w 1⟩ : View.Piece (Elt Ideal) S8x128x512 .f32) :: (⟨Rect.unit (s := S8x128x512) ![0, 0, 0] ![1, 128, 512] (inb 0), w 0⟩ : View.Piece (Elt Ideal) S8x128x512 .f32) :: L) (Rect.unit (s := S8x128x512) ![0, 0, 0] ![8, 128, 512] inb').toLoadRect (ix3 g n q) = w g (ix3 0 n q) := by
  by_cases h7 : g = 7
  · subst h7; exact all_hit v _ (by decide) _ _ _ _ n q
  refine (all_skip v 7 g (fun e => h7 (Fin.ext e.symm)) g.isLt _ _ _ _ n q).trans ?_
  by_cases h6 : g = 6
  · subst h6; exact all_hit v _ (by decide) _ _ _ _ n q
  refine (all_skip v 6 g (fun e => h6 (Fin.ext e.symm)) g.isLt _ _ _ _ n q).trans ?_
  by_cases h5 : g = 5
  · subst h5; exact all_hit v _ (by decide) _ _ _ _ n q
  refine (all_skip v 5 g (fun e => h5 (Fin.ext e.symm)) g.isLt _ _ _ _ n q).trans ?_
  by_cases h4 : g = 4
  · subst h4; exact all_hit v _ (by decide) _ _ _ _ n q
  refine (all_skip v 4 g (fun e => h4 (Fin.ext e.symm)) g.isLt _ _ _ _ n q).trans ?_
  by_cases h3 : g = 3
  · subst h3; exact all_hit v _ (by decide) _ _ _ _ n q
  refine (all_skip v 3 g (fun e => h3 (Fin.ext e.symm)) g.isLt _ _ _ _ n q).trans ?_
  by_cases h2 : g = 2
  · subst h2; exact all_hit v _ (by decide) _ _ _ _ n q
  refine (all_skip v 2 g (fun e => h2 (Fin.ext e.symm)) g.isLt _ _ _ _ n q).trans ?_
  by_cases h1 : g = 1
  · subst h1; exact all_hit v _ (by decide) _ _ _ _ n q
  refine (all_skip v 1 g (fun e => h1 (Fin.ext e.symm)) g.isLt _ _ _ _ n q).trans ?_
  have h0 : g = 0 := Fin.ext (by have := g.isLt; simp only [Fin.ext_iff] at *; omega)
  subst h0
  exact all_hit v _ (by decide) _ _ _ _ n q

variable (m : (ℓ : Loc nD τ sig) → Buf (Elt Ideal) ℓ)

/-- What a grid point stores in a group's row of the state, of the contents of its windows. -/
def stG (c : Dev nD) (t : Fin cfg0.N) (g : Fin 8) (off : Fin 2 → ℕ) (inb : ∀ a, off a + (![32, 128] : Fin 2 → ℕ) a ≤ S32x1024.size a) :
    FVec Ideal S1x128x512 .f32 :=
  sVec g (k0_pay17 (F := Ideal) (k0_pay5 (F := Ideal)) (k0_pay7 (F := Ideal) (iblk m c 6 t)) (X0_0 m c t) (iblk m c 4 t))
    (k0_pay18 (F := Ideal) (k0_pay5 (F := Ideal)) (k0_pay7 (F := Ideal) (iblk m c 6 t)) (iblk m c 4 t))
    (View.ld (iblk m c 1 t) (Rect.unit (s := S32x1024) off ![32, 128] inb)) (rowOf (k0_pay3 (F := Ideal) (iblk m c 10 t)) g g.isLt)

/-- What a grid point stores in a group's columns of the output, of the contents of its windows. -/
def outG (c : Dev nD) (t : Fin cfg0.N) (g : Fin 8) (off : Fin 2 → ℕ) (inb : ∀ a, off a + (![32, 128] : Fin 2 → ℕ) a ≤ S32x1024.size a) :
    FVec Ideal S32x512 .bf16 :=
  yVec g k0_pay4 (k0_pay10 (F := Ideal) (iblk m c 9 t))
    (k0_pay12 (F := Ideal) (k0_pay5 (F := Ideal)) (k0_pay7 (F := Ideal) (iblk m c 6 t)) (iblk m c 4 t))
    (k0_pay13 (F := Ideal) (k0_pay6 (F := Ideal)) (k0_pay8 (F := Ideal) (iblk m c 7 t)) (iblk m c 5 t))
    (k0_pay15 (F := Ideal) (k0_pay5 (F := Ideal)) (k0_pay7 (F := Ideal) (iblk m c 6 t)) (iblk m c 4 t))
    (k0_pay16 (F := Ideal) (X0_0 m c t) (iblk m c 4 t)) (k0_pay19 (F := Ideal) (X0_3 m c t))
    (k0_pay20 (F := Ideal) (k0_pay9 (F := Ideal) (iblk m c 8 t)) (X0_0 m c t))
    (View.ld (iblk m c 1 t) (Rect.unit (s := S32x1024) off ![32, 128] inb)) (View.ld (iblk m c 2 t) (Rect.unit (s := S32x1024) off ![32, 128] inb))
    (rowOf (k0_pay3 (F := Ideal) (iblk m c 10 t)) g g.isLt)

/-- The start of a group's columns among those of a block of projections. -/
def goff (g : Fin 8) : Fin 2 → ℕ := ![k0_off2, k0_off4, k0_off6, k0_off8, k0_off10, k0_off12, k0_off14, k0_off16] g

theorem goff_eq : ∀ g : Fin 8, goff g = ![0, 128 * (g : ℕ)]
  | 0 => k0_off2_eq
  | 1 => k0_off4_eq
  | 2 => k0_off6_eq
  | 3 => k0_off8_eq
  | 4 => k0_off10_eq
  | 5 => k0_off12_eq
  | 6 => k0_off14_eq
  | 7 => k0_off16_eq

theorem goff_inb (g : Fin 8) (a : Fin 2) : goff g a + (![32, 128] : Fin 2 → ℕ) a ≤ S32x1024.size a :=
  match g with
  | 0 => k0_off2_inb a
  | 1 => k0_off4_inb a
  | 2 => k0_off6_inb a
  | 3 => k0_off8_inb a
  | 4 => k0_off10_inb a
  | 5 => k0_off12_inb a
  | 6 => k0_off14_inb a
  | 7 => k0_off16_inb a

/-- The start of a group's columns among those of the output. -/
def coff (g : Fin 8) : Fin 2 → ℕ := ![k0_off3, k0_off5, k0_off7, k0_off9, k0_off11, k0_off13, k0_off15, k0_off17] g

theorem coff_eq : ∀ g : Fin 8, coff g = ![0, 512 * (g : ℕ)]
  | 0 => k0_off3_eq
  | 1 => k0_off5_eq
  | 2 => k0_off7_eq
  | 3 => k0_off9_eq
  | 4 => k0_off11_eq
  | 5 => k0_off13_eq
  | 6 => k0_off15_eq
  | 7 => k0_off17_eq

theorem coff_inb (g : Fin 8) (a : Fin 2) : coff g a + (![32, 512] : Fin 2 → ℕ) a ≤ S32x4096.size a :=
  match g with
  | 0 => k0_off3_inb a
  | 1 => k0_off5_inb a
  | 2 => k0_off7_inb a
  | 3 => k0_off9_inb a
  | 4 => k0_off11_inb a
  | 5 => k0_off13_inb a
  | 6 => k0_off15_inb a
  | 7 => k0_off17_inb a

/-- The state after a grid point. -/
theorem st_at (c : Dev nD) (t : Fin cfg0.N) (g : Fin 8) (n : Fin 128) (q : Fin 512) :
    (outsAt0 m c t).2 (ix4 0 g n q) = stG m c t g (goff g) (goff_inb g) (ix3 0 n q) := by
  rw [outsAt0]
  frame_out
  simp (disch := decide) only [row_skip, row_read]
  exact (pay2_at _ g n q).trans (rows_keep _ (fun k => stG m c t k (goff k) (goff_inb k)) (by decide) _ _ g n q)

/-- The output of a grid point. -/
theorem y_at (c : Dev nD) (t : Fin cfg0.N) (g : Fin 8) (r : Fin 32) (q : Fin 512) :
    (outsAt0 m c t).1 (ix2 r (col g q)) = outG m c t g (goff g) (goff_inb g) (ix2 r q) := by
  rw [outsAt0]
  frame_out
  simp (disch := decide) only [row_skip, row_read]
  exact cols_keep (fun k => outG m c t k (goff k) (goff_inb k)) coff coff_eq coff_inb _ g r q

end Cert.Kernel9Ideal.Value

end
-- ==== Proof.Samp.Data.lean ====
module

public import proofs.«01_k».proof.Proof.Samp.Spec
public import proofs.«01_k».proof.Proof.Ssd.Data

@[expose] public section

noncomputable section

namespace Cert.Samp

open Idealize.ShloMosaic
open Cert.Ssd (ga gk gw)

/-! The data of all groups of one sequence `b` of the sample batch, read from the argument arrays. -/

def gX (xc : Shape.Idx ⟨2, ![512, 6144]⟩ → EReal) (b : Fin 16) (G : Fin 8) (s : Fin 32) (r : Fin 8) (p : Fin 64) : EReal :=
  xc (ix2 ⟨32 * (b : ℕ) + (s : ℕ), by omega⟩ ⟨512 * (G : ℕ) + 64 * (r : ℕ) + (p : ℕ), by omega⟩)

def gB (xc : Shape.Idx ⟨2, ![512, 6144]⟩ → EReal) (b : Fin 16) (G : Fin 8) (s : Fin 32) (n : Fin 128) : EReal :=
  xc (ix2 ⟨32 * (b : ℕ) + (s : ℕ), by omega⟩ ⟨4096 + 128 * (G : ℕ) + (n : ℕ), by omega⟩)

def gC (xc : Shape.Idx ⟨2, ![512, 6144]⟩ → EReal) (b : Fin 16) (G : Fin 8) (s : Fin 32) (n : Fin 128) : EReal :=
  xc (ix2 ⟨32 * (b : ℕ) + (s : ℕ), by omega⟩ ⟨5120 + 128 * (G : ℕ) + (n : ℕ), by omega⟩)

def gZ (pj : Shape.Idx ⟨2, ![8704, 34816]⟩ → EReal) (b : Fin 16) (G : Fin 8) (t : Fin 32) (q : Fin 512) : EReal :=
  pj (ix2 ⟨8192 + 32 * (b : ℕ) + (t : ℕ), by omega⟩ ⟨512 * (G : ℕ) + (q : ℕ), by omega⟩)

def gD (dt : Shape.Idx ⟨2, ![8704, 128]⟩ → EReal) (b : Fin 16) (G : Fin 8) (s : Fin 32) (r : Fin 8) : EReal :=
  dt (ix2 ⟨8192 + 32 * (b : ℕ) + (s : ℕ), by omega⟩ ⟨8 * (G : ℕ) + (r : ℕ), by omega⟩)

/-- The state before the steps. -/
def gS (s0 : Shape.Idx ⟨5, ![1, 16, 64, 64, 128]⟩ → EReal) (b : Fin 16) (G r : Fin 8) (p : Fin 64) (n : Fin 128) : EReal :=
  s0 (ix5 0 b ⟨8 * (G : ℕ) + (r : ℕ), by omega⟩ p n)

/-- The state after the steps. -/
def gT (xc : Shape.Idx ⟨2, ![512, 6144]⟩ → EReal) (dt : Shape.Idx ⟨2, ![8704, 128]⟩ → EReal)
    (al : Shape.Idx ⟨1, ![64]⟩ → EReal) (s0 : Shape.Idx ⟨5, ![1, 16, 64, 64, 128]⟩ → EReal) (b : Fin 16) (G : Fin 8) :
    Fin 8 → Fin 64 → Fin 128 → EReal :=
  nextS (gD dt b G) (ga al G) (gX xc b G) (gB xc b G) (gS s0 b G)

/-- The output of the steps. -/
def gY (xc : Shape.Idx ⟨2, ![512, 6144]⟩ → EReal) (pj : Shape.Idx ⟨2, ![8704, 34816]⟩ → EReal)
    (dt : Shape.Idx ⟨2, ![8704, 128]⟩ → EReal) (al dk : Shape.Idx ⟨1, ![64]⟩ → EReal)
    (nw : Shape.Idx ⟨1, ![4096]⟩ → EReal) (s0 : Shape.Idx ⟨5, ![1, 16, 64, 64, 128]⟩ → EReal)
    (b : Fin 16) (G : Fin 8) (t : Fin 32) (q : Fin 512) : EReal :=
  normed (gated (gD dt b G) (ga al G) (gX xc b G) (gB xc b G) (gC xc b G) (gS s0 b G) (gk dk G) (gZ pj b G)) (gw nw G) t q

end Cert.Samp

end
-- ==== Proof.Samp.Reads.lean ====
module

public import proofs.«01_k».proof.Proof.Samp.Out
public import proofs.«01_k».proof.Proof.Samp.Data
public import Idealize.ShloMosaic.Lib.Pipeline.ValueKit

@[expose] public section

set_option maxRecDepth 16384

noncomputable section

namespace Cert.Kernel9Ideal.Value

open Idealize.ShloMosaic Idealize.ShloMosaic.TcCoe Idealize.SL.Sem
open Cert.Kernel9Ideal Cert.Kernel9Ideal.Gen
open Cert.Samp
open Cert.Ssd (gate hd pl ga gk gw)

theorem idxA : ∀ t : Fin cfg0.N, (win0_0.index t (0 : Fin 2) = t.val ∧ win0_0.index t (1 : Fin 2) = 0)
    ∧ (win0_1.index t (0 : Fin 2) = t.val ∧ win0_1.index t (1 : Fin 2) = 4)
    ∧ (win0_2.index t (0 : Fin 2) = t.val ∧ win0_2.index t (1 : Fin 2) = 5)
    ∧ (win0_3.index t (0 : Fin 2) = 256 + t.val ∧ win0_3.index t (1 : Fin 2) = 0)
    ∧ (win0_4.index t (0 : Fin 2) = 256 + t.val ∧ win0_4.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 4)
    ∧ (win0_2.index t (0 : Fin 2) = t.val ∧ win0_2.index t (1 : Fin 2) = 5)
    ∧ (win0_3.index t (0 : Fin 2) = 256 + t.val ∧ win0_3.index t (1 : Fin 2) = 0)
    ∧ (win0_4.index t (0 : Fin 2) = 256 + t.val ∧ win0_4.index t (1 : Fin 2) = 0))

theorem idxB : ∀ t : Fin cfg0.N, (win0_5.index t (0 : Fin 4) = 0 ∧ win0_5.index t (1 : Fin 4) = t.val ∧ win0_5.index t (2 : Fin 4) = 0 ∧ win0_5.index t (3 : Fin 4) = 0)
    ∧ (win0_6.index t (0 : Fin 2) = 0 ∧ win0_6.index t (1 : Fin 2) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 4) = t.val ∧ win0_10.index t (1 : Fin 4) = 0 ∧ win0_10.index t (2 : Fin 4) = 0 ∧ win0_10.index t (3 : Fin 4) = 0) :=
  (by decide +kernel : ∀ t : Fin grid0.N, (win0_5.index t (0 : Fin 4) = 0 ∧ win0_5.index t (1 : Fin 4) = t.val ∧ win0_5.index t (2 : Fin 4) = 0 ∧ win0_5.index t (3 : Fin 4) = 0)
    ∧ (win0_6.index t (0 : Fin 2) = 0 ∧ win0_6.index t (1 : Fin 2) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 4) = t.val ∧ win0_10.index t (1 : Fin 4) = 0 ∧ win0_10.index t (2 : Fin 4) = 0 ∧ win0_10.index t (3 : Fin 4) = 0))

theorem idxC : ∀ t : Fin cfg0.N, (win0_11.index t (0 : Fin 2) = t.val ∧ win0_11.index t (1 : Fin 2) = 0)
    ∧ (win0_12.index t (0 : Fin 4) = t.val ∧ win0_12.index t (1 : Fin 4) = 0 ∧ win0_12.index t (2 : Fin 4) = 0 ∧ win0_12.index t (3 : Fin 4) = 0) :=
  (by decide +kernel : ∀ t : Fin grid0.N, (win0_11.index t (0 : Fin 2) = t.val ∧ win0_11.index t (1 : Fin 2) = 0)
    ∧ (win0_12.index t (0 : Fin 4) = t.val ∧ win0_12.index t (1 : Fin 4) = 0 ∧ win0_12.index t (2 : Fin 4) = 0 ∧ win0_12.index t (3 : Fin 4) = 0))

theorem lt16 (t : Fin cfg0.N) : t.val < 16 := t.isLt

/-- The sequence a grid point works on. -/
def bt (t : Fin cfg0.N) : Fin 16 := ⟨t.val, lt16 t⟩

/-- Column `n` of group `g` among the columns of a block of projections. -/
def gn (g : Fin 8) (n : Fin 128) : Fin 1024 := ⟨128 * (g : ℕ) + (n : ℕ), by omega⟩

variable (m : (ℓ : Loc nD τ sig) → Buf (Elt Ideal) ℓ)

theorem rd0 (c : Dev nD) (t : Fin cfg0.N) (g : Fin 8) (s : Fin 32) (q : Fin 512) :
    X0_0 m c t (ix2 s (col g q)) = gX (m ((c : Thread nD τ).loc main_arg0)) (bt t) g s (hd q) (pl q) := by
  have ht := lt16 t
  unfold X0_0 Pipeline.Window.fill
  rw [dif_pos (moved0_0 t _)]
  unfold gX
  simp only [hd, pl, col, bt]
  blk_ext [iblk, V, idxA t]

theorem rd1 (c : Dev nD) (t : Fin cfg0.N) (g : Fin 8) (s : Fin 32) (n : Fin 128) :
    iblk m c 1 t (ix2 s (gn g n)) = gB (m ((c : Thread nD τ).loc main_arg0)) (bt t) g s n := by
  have ht := lt16 t
  unfold gB
  simp only [gn, bt]
  blk_ext [iblk, V, idxA t]

theorem rd2 (c : Dev nD) (t : Fin cfg0.N) (g : Fin 8) (s : Fin 32) (n : Fin 128) :
    iblk m c 2 t (ix2 s (gn g n)) = gC (m ((c : Thread nD τ).loc main_arg0)) (bt t) g s n := by
  have ht := lt16 t
  unfold gC
  simp only [gn, bt]
  blk_ext [iblk, V, idxA t]

theorem rd3 (c : Dev nD) (t : Fin cfg0.N) (g : Fin 8) (s : Fin 32) (q : Fin 512) :
    X0_3 m c t (ix2 s (col g q)) = gZ (m ((c : Thread nD τ).loc main_arg1)) (bt t) g s q := by
  have ht := lt16 t
  unfold X0_3 Pipeline.Window.fill
  rw [dif_pos (moved0_3 t _)]
  unfold gZ
  simp only [col, bt]
  blk_ext [iblk, V, idxA t]

theorem rd4 (c : Dev nD) (t : Fin cfg0.N) (g : Fin 8) (s : Fin 32) (q : Fin 512) :
    iblk m c 4 t (ix2 s (col g q)) = gD (m ((c : Thread nD τ).loc main_arg2)) (bt t) g s (hd q) := by
  have ht := lt16 t
  unfold gD
  simp only [hd, col, bt]
  blk_simp [iblk]
  entry_read
  pointwise
  blk_ext [idxA t]

theorem rd5 (c : Dev nD) (t : Fin cfg0.N) (g : Fin 8) (s : Fin 32) (r : Fin 8) :
    iblk m c 5 t (ix4 g 0 r s) = gD (m ((c : Thread nD τ).loc main_arg2)) (bt t) g s r := by
  have ht := lt16 t
  unfold gD
  simp only [bt]
  blk_simp [iblk]
  entry_read
  pointwise
  blk_ext [idxB t]

theorem rd6 (c : Dev nD) (t : Fin cfg0.N) (g : Fin 8) (q : Fin 512) :
    (0 : EReal) - Ideal.exp (iblk m c 6 t (ix2 0 (col g q))) = ga (m ((c : Thread nD τ).loc main_arg3)) g (hd q) := by
  unfold ga
  refine congrArg (fun x => (0 : EReal) - Ideal.exp x) ?_
  simp only [hd, col]
  blk_simp [iblk]
  entry_read
  pointwise
  blk_ext [idxB t]

theorem rd7 (c : Dev nD) (t : Fin cfg0.N) (g : Fin 8) (r : Fin 8) :
    (0 : EReal) - Ideal.exp (iblk m c 7 t (ix3 g r 0)) = ga (m ((c : Thread nD τ).loc main_arg3)) g r := by
  unfold ga
  refine congrArg (fun x => (0 : EReal) - Ideal.exp x) ?_
  blk_simp [iblk]
  entry_read
  pointwise
  blk_ext [idxB t]

theorem rd8 (c : Dev nD) (t : Fin cfg0.N) (g : Fin 8) (q : Fin 512) :
    iblk m c 8 t (ix2 0 (col g q)) = gk (m ((c : Thread nD τ).loc main_arg4)) g (hd q) := by
  unfold gk
  simp only [hd, col]
  blk_simp [iblk]
  entry_read
  pointwise
  blk_ext [idxB t]

theorem rd9 (c : Dev nD) (t : Fin cfg0.N) (g : Fin 8) (q : Fin 512) :
    iblk m c 9 t (ix2 0 (col g q)) = gw (m ((c : Thread nD τ).loc main_arg5)) g q := by
  unfold gw
  simp only [col]
  blk_simp [iblk]
  entry_read
  pointwise
  blk_ext [idxB t]

theorem rd10 (c : Dev nD) (t : Fin cfg0.N) (g : Fin 8) (n : Fin 128) (q : Fin 512) :
    iblk m c 10 t (ix4 0 g n q) = gS (m ((c : Thread nD τ).loc main_arg6)) (bt t) g (hd q) (pl q) n := by
  have ht := lt16 t
  unfold gS
  simp only [hd, pl, bt]
  blk_simp [iblk]
  entry_read
  pointwise
  blk_ext [idxB t]

end Cert.Kernel9Ideal.Value

end
-- ==== Proof.Samp.Value.lean ====
module

public import proofs.«01_k».proof.Proof.Samp.Reads
public import proofs.«01_k».proof.Proof.Ssd.Sums
public import Idealize.ShloMosaic.Lib.Pipeline.ValueKit

@[expose] public section

set_option maxRecDepth 16384

noncomputable section

namespace Cert.Kernel9Ideal.Value

open Idealize.ShloMosaic Idealize.ShloMosaic.TcCoe Idealize.SL.Sem
open Cert.Kernel9Ideal Cert.Kernel9Ideal.Gen
open Cert.Samp
open Cert.Ssd (gate hd pl ga gk gw)
open Cert.KernelIdeal.Value (hp hd_hp pl_hp hp_hd nonpos_rate)

variable (m : (ℓ : Loc nD τ sig) → Buf (Elt Ideal) ℓ)

theorem inX (c : Dev nD) (t : Fin cfg0.N) (g : Fin 8) :
    (fun s r p => X0_0 m c t (ix2 s (col g (hp r p)))) = gX (m ((c : Thread nD τ).loc main_arg0)) (bt t) g := by
  funext s r p
  refine (rd0 m c t g s (hp r p)).trans ?_
  rw [hd_hp, pl_hp]

theorem inB (c : Dev nD) (t : Fin cfg0.N) (g : Fin 8) (off : Fin 2 → ℕ) (ho : off = ![0, 128 * (g : ℕ)])
    (inb : ∀ a, off a + (![32, 128] : Fin 2 → ℕ) a ≤ S32x1024.size a) :
    (fun s n => View.ld (iblk m c 1 t) (Rect.unit (s := S32x1024) off ![32, 128] inb) (ix2 s n)) = gB (m ((c : Thread nD τ).loc main_arg0)) (bt t) g := by
  funext s n
  exact (ld_group g off ho _ inb s n).trans (rd1 m c t g s n)

theorem inC (c : Dev nD) (t : Fin cfg0.N) (g : Fin 8) (off : Fin 2 → ℕ) (ho : off = ![0, 128 * (g : ℕ)])
    (inb : ∀ a, off a + (![32, 128] : Fin 2 → ℕ) a ≤ S32x1024.size a) :
    (fun s n => View.ld (iblk m c 2 t) (Rect.unit (s := S32x1024) off ![32, 128] inb) (ix2 s n)) = gC (m ((c : Thread nD τ).loc main_arg0)) (bt t) g := by
  funext s n
  exact (ld_group g off ho _ inb s n).trans (rd2 m c t g s n)

theorem inS (c : Dev nD) (t : Fin cfg0.N) (g : Fin 8) (hg : (g : ℕ) < 8) :
    (fun r p n => rowOf (k0_pay3 (F := Ideal) (iblk m c 10 t)) g hg (ix3 0 n (hp r p))) = gS (m ((c : Thread nD τ).loc main_arg6)) (bt t) g := by
  funext r p n
  refine (pay3_at _ g n (hp r p)).trans ((rd10 m c t g n (hp r p)).trans ?_)
  rw [hd_hp, pl_hp]

theorem inZ (c : Dev nD) (t : Fin cfg0.N) (g : Fin 8) :
    (fun s q => X0_3 m c t (ix2 s (col g q))) = gZ (m ((c : Thread nD τ).loc main_arg1)) (bt t) g := by
  funext s q
  exact rd3 m c t g s q

theorem inW (c : Dev nD) (t : Fin cfg0.N) (g : Fin 8) :
    (fun q => iblk m c 9 t (ix2 0 (col g q))) = gw (m ((c : Thread nD τ).loc main_arg5)) g := by
  funext q
  exact rd9 m c t g q

theorem inA (c : Dev nD) (t : Fin cfg0.N) (g : Fin 8) (q : Fin 512) :
    k0_pay7 (F := Ideal) (iblk m c 6 t) (ix2 0 (col g q)) = ga (m ((c : Thread nD τ).loc main_arg3)) g (hd q) := by
  refine Eq.trans ?_ (rd6 m c t g q)
  pointwise [k0_pay7]

theorem inAt (c : Dev nD) (t : Fin cfg0.N) (g r : Fin 8) :
    k0_pay8 (F := Ideal) (iblk m c 7 t) (ix2 (hr g r) 0) = ga (m ((c : Thread nD τ).loc main_arg3)) g r := by
  refine Eq.trans ?_ (rd7 m c t g r)
  unfold hr
  pointwise [k0_pay8]

theorem inK (c : Dev nD) (t : Fin cfg0.N) (g : Fin 8) (q : Fin 512) :
    k0_pay9 (F := Ideal) (iblk m c 8 t) (ix2 0 (col g q)) = gk (m ((c : Thread nD τ).loc main_arg4)) g (hd q) := by
  refine Eq.trans ?_ (rd8 m c t g q)
  pointwise [k0_pay9]

/-- A group's state after the chunk, of the arguments. -/
theorem state_at (c : Dev nD) (hpos : ∀ i, (0 : EReal) ≤ (m ((c : Thread nD τ).loc main_arg2)) i) (t : Fin cfg0.N) (g : Fin 8) (n : Fin 128) (q : Fin 512) :
    (outsAt0 m c t).2 (ix4 0 g n q) = gT (m ((c : Thread nD τ).loc main_arg0)) (m ((c : Thread nD τ).loc main_arg2)) (m ((c : Thread nD τ).loc main_arg3)) (m ((c : Thread nD τ).loc main_arg6)) (bt t) g (hd q) (pl q) n := by
  refine (st_at m c t g n q).trans ?_
  unfold stG
  refine (state_eq g (X0_0 m c t) (iblk m c 4 t) (k0_pay7 (F := Ideal) (iblk m c 6 t)) (View.ld (iblk m c 1 t) (Rect.unit (s := S32x1024) (goff g) ![32, 128] (goff_inb g)))
    (rowOf (k0_pay3 (F := Ideal) (iblk m c 10 t)) g g.isLt) (gD (m ((c : Thread nD τ).loc main_arg2)) (bt t) g) (ga (m ((c : Thread nD τ).loc main_arg3)) g)
    (fun s q => rd4 m c t g s q) (fun q => inA m c t g q) (fun s r => hpos _) (fun r => nonpos_rate _) n q).trans ?_
  unfold gT
  rw [inX, inB m c t g (goff g) (goff_eq g) (goff_inb g), inS m c t g g.isLt]

/-- A group's output, of the arguments. -/
theorem out_at (c : Dev nD) (hpos : ∀ i, (0 : EReal) ≤ (m ((c : Thread nD τ).loc main_arg2)) i) (t : Fin cfg0.N) (g : Fin 8) (s : Fin 32) (q : Fin 512) :
    (outsAt0 m c t).1 (ix2 s (col g q)) = gY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bt t) g s q := by
  refine (y_at m c t g s q).trans ?_
  unfold outG
  refine (out_eq (g := g) (v48 := X0_0 m c t) (v50 := iblk m c 4 t) (v93 := X0_3 m c t) (v64 := iblk m c 5 t)
    (v30 := (k0_pay7 (F := Ideal) (iblk m c 6 t))) (v38 := k0_pay9 (F := Ideal) (iblk m c 8 t)) (v39 := iblk m c 9 t) (v36 := k0_pay8 (F := Ideal) (iblk m c 7 t))
    (vb := View.ld (iblk m c 1 t) (Rect.unit (s := S32x1024) (goff g) ![32, 128] (goff_inb g))) (vc := View.ld (iblk m c 2 t) (Rect.unit (s := S32x1024) (goff g) ![32, 128] (goff_inb g)))
    (vs := rowOf (k0_pay3 (F := Ideal) (iblk m c 10 t)) g g.isLt) (D := gD (m ((c : Thread nD τ).loc main_arg2)) (bt t) g) (a := ga (m ((c : Thread nD τ).loc main_arg3)) g) (dsk := gk (m ((c : Thread nD τ).loc main_arg4)) g)
    (hD := fun s q => rd4 m c t g s q) (ha := fun q => inA m c t g q) (hDt := fun r s => rd5 m c t g s r) (hat := fun r => inAt m c t g r)
    (hdsk := fun q => inK m c t g q) (hD0 := fun s r => hpos _) (ha0 := fun r => nonpos_rate _) (t := s) (q := q)).trans ?_
  unfold gY
  rw [inX, inB m c t g (goff g) (goff_eq g) (goff_inb g), inC m c t g (goff g) (goff_eq g) (goff_inb g), inS m c t g g.isLt, inZ, inW]

end Cert.Kernel9Ideal.Value

end
-- ==== Proof.Samp.Grid.lean ====
module

public import proofs.«01_k».proof.Proof.Samp.Value
public import Idealize.ShloMosaic.Lib.Pipeline.ValueKit

@[expose] public section

set_option maxRecDepth 16384

noncomputable section

namespace Cert.Kernel9Ideal.Value

open Idealize.ShloMosaic Idealize.ShloMosaic.TcCoe Idealize.SL.Sem
open Cert.Kernel9Ideal Cert.Kernel9Ideal.Gen
open Cert.Samp
open Cert.Ssd (hd pl)

/-- The outputs of the chunks, as one array of the arguments. -/
def OUT (a0 : Shape.Idx ⟨2, ![512, 6144]⟩ → EReal) (a1 : Shape.Idx ⟨2, ![8704, 34816]⟩ → EReal) (a2 : Shape.Idx ⟨2, ![8704, 128]⟩ → EReal)
    (a3 a4 : Shape.Idx ⟨1, ![64]⟩ → EReal) (a5 : Shape.Idx ⟨1, ![4096]⟩ → EReal) (a6 : Shape.Idx ⟨5, ![1, 16, 64, 64, 128]⟩ → EReal) :
    Shape.Idx ⟨2, ![512, 4096]⟩ → EReal := fun i =>
  gY a0 a1 a2 a3 a4 a5 a6 ⟨(i 0).val / 32, by have : (i 0).val < 512 := (i 0).isLt; omega⟩ ⟨(i 1).val / 512, by have : (i 1).val < 4096 := (i 1).isLt; omega⟩
    ⟨(i 0).val % 32, by omega⟩ ⟨(i 1).val % 512, by omega⟩

/-- The states after the chunks, as one array of the arguments. -/
def STATE (a0 : Shape.Idx ⟨2, ![512, 6144]⟩ → EReal) (a2 : Shape.Idx ⟨2, ![8704, 128]⟩ → EReal)
    (a3 : Shape.Idx ⟨1, ![64]⟩ → EReal) (a6 : Shape.Idx ⟨5, ![1, 16, 64, 64, 128]⟩ → EReal) : Shape.Idx ⟨4, ![16, 8, 128, 512]⟩ → EReal :=
  fun i => gT a0 a2 a3 a6 (i 0) (i 1) (hd (i 3)) (pl (i 3)) (i 2)

theorem OUT_at (a0 : Shape.Idx ⟨2, ![512, 6144]⟩ → EReal) (a1 : Shape.Idx ⟨2, ![8704, 34816]⟩ → EReal) (a2 : Shape.Idx ⟨2, ![8704, 128]⟩ → EReal)
    (a3 a4 : Shape.Idx ⟨1, ![64]⟩ → EReal) (a5 : Shape.Idx ⟨1, ![4096]⟩ → EReal) (a6 : Shape.Idx ⟨5, ![1, 16, 64, 64, 128]⟩ → EReal)
    (b : Fin 16) (G : Fin 8) (s : Fin 32) (q : Fin 512) (r : Fin 512) (j : Fin 4096) (hr : (r : ℕ) = 32 * (b : ℕ) + (s : ℕ))
    (hj : (j : ℕ) = 512 * (G : ℕ) + (q : ℕ)) :
    OUT a0 a1 a2 a3 a4 a5 a6 (ix2 r j) = gY a0 a1 a2 a3 a4 a5 a6 b G s q := by
  have key : ∀ b' G' s' q', b' = b → G' = G → s' = s → q' = q →
      gY a0 a1 a2 a3 a4 a5 a6 b' G' s' q' = gY a0 a1 a2 a3 a4 a5 a6 b G s q := by
    rintro _ _ _ _ rfl rfl rfl rfl
    rfl
  exact key _ _ _ _ (Fin.ext (by show (r : ℕ) / 32 = (b : ℕ); omega)) (Fin.ext (by show (j : ℕ) / 512 = (G : ℕ); omega))
    (Fin.ext (by show (r : ℕ) % 32 = (s : ℕ); omega)) (Fin.ext (by show (j : ℕ) % 512 = (q : ℕ); omega))

variable (m : (ℓ : Loc nD τ sig) → Buf (Elt Ideal) ℓ)

theorem final11 (c : Dev nD) (hpos : ∀ i, (0 : EReal) ≤ (m ((c : Thread nD τ).loc main_arg2)) i) : (dats m 0 c).arrAt 11 cfg0.N = OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  have ht := lt16 t
  blk_simp
  rw [after0_11]
  obtain ⟨r, l, rfl⟩ : ∃ (r : Fin 32) (l : Fin 4096), y = ix2 r l := ⟨y 0, y 1, eq_ix2 y⟩
  have e0 : ((((cfg0.win 11).blk t).view.emb (ix2 r l)) (0 : Fin 2) : ℕ) = 32 * t.val + r.val := by
    blk_simp [idxC t]
    try omega
  have e1 : ((((cfg0.win 11).blk t).view.emb (ix2 r l)) (1 : Fin 2) : ℕ) = l.val := by
    blk_simp [idxC t]
    try omega
  obtain ⟨G, q, rfl⟩ : ∃ (G : Fin 8) (q : Fin 512), l = col G q :=
    ⟨⟨l.val / 512, by omega⟩, ⟨l.val % 512, by omega⟩, Fin.ext (by show l.val = 512 * (l.val / 512) + l.val % 512; omega)⟩
  refine (out_at m c hpos t G r q).trans (Eq.trans ?_ (congrArg (OUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (eq_ix2 _).symm))
  exact (OUT_at _ _ _ _ _ _ _ (bt t) G r q _ _ e0 e1).symm

theorem final12 (c : Dev nD) (hpos : ∀ i, (0 : EReal) ≤ (m ((c : Thread nD τ).loc main_arg2)) i) : (dats m 0 c).arrAt 12 cfg0.N = STATE (m ((c : Thread nD τ).loc main_arg0)) (m ((c : Thread nD τ).loc main_arg2)) (m ((c : Thread nD τ).loc main_arg3)) (m ((c : Thread nD τ).loc main_arg6)) := by
  refine (dats m 0 c).arrAt_eq_of_covers 12 _ (by decide +kernel) fun t hf y => ?_
  have ht := lt16 t
  blk_simp
  rw [after0_12]
  obtain ⟨z, G, n, q, rfl⟩ : ∃ (z : Fin 1) (G : Fin 8) (n : Fin 128) (q : Fin 512), y = ix4 z G n q := ⟨y 0, y 1, y 2, y 3, eq_ix4 y⟩
  obtain rfl : z = 0 := Subsingleton.elim _ _
  have e0 : (((cfg0.win 12).blk t).view.emb (ix4 0 G n q)) (0 : Fin 4) = bt t := by
    refine Fin.ext (?_ : _ = t.val)
    blk_simp [idxC t]
    try omega
  have e1 : (((cfg0.win 12).blk t).view.emb (ix4 0 G n q)) (1 : Fin 4) = G := by
    refine Fin.ext (?_ : _ = G.val)
    blk_simp [idxC t]
    try omega
  have e2 : (((cfg0.win 12).blk t).view.emb (ix4 0 G n q)) (2 : Fin 4) = n := by
    refine Fin.ext (?_ : _ = n.val)
    blk_simp [idxC t]
    try omega
  have e3 : (((cfg0.win 12).blk t).view.emb (ix4 0 G n q)) (3 : Fin 4) = q := by
    refine Fin.ext (?_ : _ = q.val)
    blk_simp [idxC t]
    try omega
  refine (state_at m c hpos t G n q).trans ?_
  unfold STATE
  rw [e0, e1, e2, e3]

end Cert.Kernel9Ideal.Value

end
-- ==== Proof.Samp.RefSteps.lean ====
module

public import proofs.«01_k».proof.Proof.Gen.Reference9Ideal.Run
public import proofs.«01_k».proof.Proof.Samp.Data
public import Idealize.ShloMosaic.Lib.Pipeline.ValueKit
public import Idealize.ShloMosaic.Lib.WordCmp

@[expose] public section

set_option maxRecDepth 16384

noncomputable section

namespace Cert.Reference9Ideal.Value

open Idealize.ShloMosaic Idealize.ShloMosaic.TcCoe Idealize.SL.Sem
open Cert.Reference9Ideal Cert.Reference9Ideal.Gen
open Cert.Samp
open Cert.Ssd (hd pl gate ga gk gw)

/-! One trip's terms at an index, over any chunk. -/

theorem state_term (S7 : FVec Ideal S16x8x8x64x128 .f32) (v58 : FVec Ideal S16x32x8x8x64 .f32) (v59 v65 : FVec Ideal S16x32x8x8 .f32)
    (v60 : FVec Ideal S16x32x8x128 .f32) (β : Fin 16) (g r : Fin 8) (p : Fin 64) (n : Fin 128) :
    (addf (mulf S7 (broadcastInDim S16x8x8x64x128 ![0, 1, 2, 3, 4] bcast_S16x8x8x1x1_S16x8x8x64x128_0_1_2_3_4 (broadcastInDim S16x8x8x1x1 ![0, 1, 2] bcast_S16x8x8_S16x8x8x1x1_0_1_2 (Host.exp (shapeCast S16x8x8 (extractStridedSlice S16x1x8x8 ![0, 31, 0, 0] v65 slices_S16x32x8x8_S16x1x8x8_0_31_0_0) shapeCasts_S16x1x8x8_S16x8x8))))) (Host.dotGeneral dot_S16x32x8x8x64_S16x32x8x128_S16x8x8x64x128_1_1_34_3_02_02 none (mulf v58 (broadcastInDim S16x32x8x8x64 ![0, 1, 2, 3, 4] bcast_S16x32x8x8x1_S16x32x8x8x64_0_1_2_3_4 (broadcastInDim S16x32x8x8x1 ![0, 1, 2, 3] bcast_S16x32x8x8_S16x32x8x8x1_0_1_2_3 (mulf (Host.exp (subf (broadcastInDim S16x32x8x8 ![0, 1, 2, 3] bcast_S16x1x8x8_S16x32x8x8_0_1_2_3 (extractStridedSlice S16x1x8x8 ![0, 31, 0, 0] v65 slices_S16x32x8x8_S16x1x8x8_0_31_0_0)) v65)) v59)))) v60) : FVec Ideal S16x8x8x64x128 .f32) (ix5 β g r p n)
      = S7 (ix5 β g r p n) * Ideal.exp (v65 (ix4 β 31 g r)) + ∑ s : Fin 32, v58 (ix5 β s g r p) * (Ideal.exp (v65 (ix4 β 31 g r) - v65 (ix4 β s g r)) * v59 (ix4 β s g r)) * v60 (ix4 β s g n) := by
  pointwise

theorem out_term (S7 : FVec Ideal S16x8x8x64x128 .f32) (v58 : FVec Ideal S16x32x8x8x64 .f32) (v59 v65 : FVec Ideal S16x32x8x8 .f32)
    (v60 v61 : FVec Ideal S16x32x8x128 .f32) (msk : IVec S1x32x32x1x1 1) (β : Fin 16) (t : Fin 32) (g r : Fin 8) (p : Fin 64) :
    (addf (transpose S16x32x8x8x64 [0, 4, 1, 2, 3] (Host.dotGeneral dot_S16x32x8x8x64_S16x32x32x8x8_S16x8x8x64x32_1_2_4_1_023_034 none (mulf v58 (broadcastInDim S16x32x8x8x64 ![0, 1, 2, 3, 4] bcast_S16x32x8x8x1_S16x32x8x8x64_0_1_2_3_4 (broadcastInDim S16x32x8x8x1 ![0, 1, 2, 3] bcast_S16x32x8x8_S16x32x8x8x1_0_1_2_3 v59))) (mulf (broadcastInDim S16x32x32x8x8 ![0, 1, 2, 3, 4] bcast_S16x32x32x8x1_S16x32x32x8x8_0_1_2_3_4 (broadcastInDim S16x32x32x8x1 ![0, 1, 2, 3] bcast_S16x32x32x8_S16x32x32x8x1_0_1_2_3 (transpose S16x32x32x8 [0, 3, 2, 1] (Host.dotGeneral dot_S16x32x8x128_S16x32x8x128_S16x8x32x32_3_3_1_1_02_02 none v60 v61) transposes_S16x8x32x32_S16x32x32x8_0_3_2_1))) (Host.exp (select (broadcastInDim S16x32x32x8x8 ![0, 1, 2, 3, 4] bcast_S1x32x32x1x1_S16x32x32x8x8_0_1_2_3_4 msk) (subf (broadcastInDim S16x32x32x8x8 ![0, 1, 2, 3, 4] bcast_S16x32x1x8x8_S16x32x32x8x8_0_1_2_3_4 (broadcastInDim S16x32x1x8x8 ![0, 1, 3, 4] bcast_S16x32x8x8_S16x32x1x8x8_0_1_3_4 v65)) (broadcastInDim S16x32x32x8x8 ![0, 1, 2, 3, 4] bcast_S16x1x32x8x8_S16x32x32x8x8_0_1_2_3_4 (broadcastInDim S16x1x32x8x8 ![0, 2, 3, 4] bcast_S16x32x8x8_S16x1x32x8x8_0_2_3_4 v65))) (broadcastInDim S16x32x32x8x8 ![] bcast_S_S16x32x32x8x8 (id (constant S_ .f32 0xFF800000#32))))))) transposes_S16x8x8x64x32_S16x32x8x8x64_0_4_1_2_3) (mulf (transpose S16x32x8x8x64 [0, 4, 1, 2, 3] (Host.dotGeneral dot_S16x8x8x64x128_S16x32x8x128_S16x8x8x64x32_4_3_23_1_01_02 none S7 v61) transposes_S16x8x8x64x32_S16x32x8x8x64_0_4_1_2_3) (broadcastInDim S16x32x8x8x64 ![0, 1, 2, 3, 4] bcast_S16x32x8x8x1_S16x32x8x8x64_0_1_2_3_4 (broadcastInDim S16x32x8x8x1 ![0, 1, 2, 3] bcast_S16x32x8x8_S16x32x8x8x1_0_1_2_3 (Host.exp v65)))) : FVec Ideal S16x32x8x8x64 .f32) (ix5 β t g r p)
      = (∑ s : Fin 32, (v58 (ix5 β s g r p) * v59 (ix4 β s g r)) * ((∑ n : Fin 128, v60 (ix4 β s g n) * v61 (ix4 β t g n)) * Ideal.exp (Scalar.select (msk (ix5 0 t s 0 0)) (v65 (ix4 β t g r) - v65 (ix4 β s g r)) (Ideal.ofBits .f32 0xFF800000#32))))
        + (∑ n : Fin 128, S7 (ix5 β g r p n) * v61 (ix4 β t g n)) * Ideal.exp (v65 (ix4 β t g r)) := by
  pointwise
  rfl

theorem foldl_add {α : Type} (f : α → EReal) : ∀ (l : List α) (v : EReal), l.foldl (fun r k => r + f k) v = v + (l.map f).sum
  | [], v => (add_zero v).symm
  | k :: l, v => by
    rw [List.foldl_cons, foldl_add f l (v + f k), List.map_cons, List.sum_cons, add_assoc]

/-- A running sum along the rows of one chunk. -/
theorem cum_term (x : FVec Ideal S16x32x8x8 .f32) (β : Fin 16) (t : Fin 32) (g r : Fin 8) :
    (Host.reduceWindowAdd ![1, 32, 1, 1] ![1, 1, 1, 1] ![0, 31, 0, 0] ![0, 0, 0, 0] x (broadcastInDim S_ ![] bcast_S_S_ (constant S_ .f32 0x00000000#32)) reduceWindows_S16x32x8x8_S16x32x8x8_w1s1p0_0_w32s1p31_0_w1s1p0_0_w1s1p0_0 h_S_ : FVec Ideal S16x32x8x8 .f32) (ix4 β t g r)
      = ∑ s : Fin 32, if s ≤ t then x (ix4 β s g r) else 0 := by
  have h0 : (broadcastInDim S_ ![] bcast_S_S_ (constant (F := Ideal) S_ .f32 0x00000000#32)) (Shape.Idx.first h_S_) = (0 : EReal) := by
    show Ideal.ofBits .f32 0x00000000#32 = 0
    exact Ideal.ofBits_zero_f32
  unfold Host.reduceWindowAdd
  rw [Ideal.hostReduceWindowAdd_def, h0]
  unfold Ideal.hostReduceWindowAdd Host.reduceWindow
  dsimp only
  rw [foldl_add, zero_add, ← Fin.sum_univ_def]
  have key : ∀ (w : (⟨4, ![1, 32, 1, 1]⟩ : Shape).Idx) (inst : Decidable (∀ a : Fin 4, (![0, 31, 0, 0] : Fin 4 → ℕ) a ≤ (ix4 β t g r a).val * (![1, 1, 1, 1] : Fin 4 → ℕ) a + (w a).val
          ∧ (ix4 β t g r a).val * (![1, 1, 1, 1] : Fin 4 → ℕ) a + (w a).val - (![0, 31, 0, 0] : Fin 4 → ℕ) a < (![16, 32, 8, 8] : Fin 4 → ℕ) a)),
      (@dite EReal (∀ a : Fin 4, (![0, 31, 0, 0] : Fin 4 → ℕ) a ≤ (ix4 β t g r a).val * (![1, 1, 1, 1] : Fin 4 → ℕ) a + (w a).val
          ∧ (ix4 β t g r a).val * (![1, 1, 1, 1] : Fin 4 → ℕ) a + (w a).val - (![0, 31, 0, 0] : Fin 4 → ℕ) a < (![16, 32, 8, 8] : Fin 4 → ℕ) a) inst (fun hin => x (fun a => ⟨(ix4 β t g r a).val * (![1, 1, 1, 1] : Fin 4 → ℕ) a + (w a).val - (![0, 31, 0, 0] : Fin 4 → ℕ) a, (hin a).2⟩)) (fun _ => (0 : EReal)))
      = if h : 31 ≤ (t : ℕ) + (w 1).val then x (ix4 β ⟨(t : ℕ) + (w 1).val - 31, by have := (w 1).isLt; change _ < 32 at this; omega⟩ g r) else 0 := by
    intro w inst
    have w0 : (w 0).val < 1 := (w 0).isLt
    have w1 : (w 1).val < 32 := (w 1).isLt
    have w2 : (w 2).val < 1 := (w 2).isLt
    have w3 : (w 3).val < 1 := (w 3).isLt
    by_cases h : 31 ≤ (t : ℕ) + (w 1).val
    · have hin : ∀ a : Fin 4, (![0, 31, 0, 0] : Fin 4 → ℕ) a ≤ (ix4 β t g r a).val * (![1, 1, 1, 1] : Fin 4 → ℕ) a + (w a).val
          ∧ (ix4 β t g r a).val * (![1, 1, 1, 1] : Fin 4 → ℕ) a + (w a).val - (![0, 31, 0, 0] : Fin 4 → ℕ) a < (![16, 32, 8, 8] : Fin 4 → ℕ) a := by
        intro a
        fin_cases a
        · show 0 ≤ (β : ℕ) * 1 + (w 0).val ∧ (β : ℕ) * 1 + (w 0).val - 0 < 16; omega
        · show 31 ≤ (t : ℕ) * 1 + (w 1).val ∧ (t : ℕ) * 1 + (w 1).val - 31 < 32; omega
        · show 0 ≤ (g : ℕ) * 1 + (w 2).val ∧ (g : ℕ) * 1 + (w 2).val - 0 < 8; omega
        · show 0 ≤ (r : ℕ) * 1 + (w 3).val ∧ (r : ℕ) * 1 + (w 3).val - 0 < 8; omega
      rw [dif_pos hin, dif_pos h]
      refine congrArg x (funext fun a => Fin.ext ?_)
      fin_cases a
      · show (β : ℕ) * 1 + (w 0).val - 0 = β; omega
      · show (t : ℕ) * 1 + (w 1).val - 31 = (t : ℕ) + (w 1).val - 31; omega
      · show (g : ℕ) * 1 + (w 2).val - 0 = g; omega
      · show (r : ℕ) * 1 + (w 3).val - 0 = r; omega
    · rw [dif_neg h, dif_neg]
      intro hin
      have h1 := (hin 1).1
      change 31 ≤ (t : ℕ) * 1 + (w 1).val at h1
      omega
  refine (Finset.sum_congr rfl (fun i _ => key ((Shape.rowMajor (⟨4, ![1, 32, 1, 1]⟩ : Shape)).symm i) _)).trans ?_
  rw [Equiv.sum_comp (Shape.rowMajor (⟨4, ![1, 32, 1, 1]⟩ : Shape)).symm
    (fun w : (⟨4, ![1, 32, 1, 1]⟩ : Shape).Idx => if h : 31 ≤ (t : ℕ) + (w 1).val then x (ix4 β ⟨(t : ℕ) + (w 1).val - 31, by have := (w 1).isLt; change _ < 32 at this; omega⟩ g r) else 0)]
  rw [sum_idx4, Fin.sum_univ_one]
  have e : ∀ b : Fin 32, (∑ c : Fin 1, ∑ d : Fin 1, if h : 31 ≤ (t : ℕ) + (ix4 (0 : Fin 1) b c d 1).val then x (ix4 β ⟨(t : ℕ) + (ix4 (0 : Fin 1) b c d 1).val - 31, by show (t : ℕ) + (b : ℕ) - 31 < 32; omega⟩ g r) else 0)
      = if h : 31 ≤ (t : ℕ) + (b : ℕ) then x (ix4 β ⟨(t : ℕ) + (b : ℕ) - 31, by omega⟩ g r) else 0 := by
    intro b
    rw [Fin.sum_univ_one, Fin.sum_univ_one]
    rfl
  refine (Finset.sum_congr rfl (fun b _ => e b)).trans ?_
  refine Eq.trans ?_ (Finset.sum_filter (fun s : Fin 32 => s ≤ t) (fun s => x (ix4 β s g r)))
  have e2 : ∀ b : Fin 32, (if h : 31 ≤ (t : ℕ) + (b : ℕ) then x (ix4 β ⟨(t : ℕ) + (b : ℕ) - 31, by omega⟩ g r) else 0)
      = if 31 ≤ (t : ℕ) + (b : ℕ) then x (ix4 β ⟨(t : ℕ) + (b : ℕ) - 31, by omega⟩ g r) else 0 := fun b => by
    by_cases h : 31 ≤ (t : ℕ) + (b : ℕ)
    · rw [dif_pos h, if_pos h]
    · rw [dif_neg h, if_neg h]
  rw [Finset.sum_congr rfl (fun b _ => e2 b), ← Finset.sum_filter]
  refine Finset.sum_bij' (fun b _ => (⟨(t : ℕ) + (b : ℕ) - 31, by omega⟩ : Fin 32)) (fun s hs => (⟨31 - ((t : ℕ) - (s : ℕ)), by omega⟩ : Fin 32)) ?_ ?_ ?_ ?_ ?_
  · intro b hb
    simp only [Finset.mem_filter, Finset.mem_univ, true_and] at hb ⊢
    rw [Fin.le_def]; dsimp only; omega
  · intro s hs
    simp only [Finset.mem_filter, Finset.mem_univ, true_and] at hs ⊢
    rw [Fin.le_def] at hs; omega
  · intro b hb
    simp only [Finset.mem_filter, Finset.mem_univ, true_and] at hb
    apply Fin.ext; dsimp only; omega
  · intro s hs
    simp only [Finset.mem_filter, Finset.mem_univ, true_and] at hs
    rw [Fin.le_def] at hs
    apply Fin.ext; dsimp only; omega
  · intro b hb
    rfl

end Cert.Reference9Ideal.Value

end
-- ==== Proof.Samp.RefSlices.lean ====
module

public import proofs.«01_k».proof.Proof.Samp.RefSteps

@[expose] public section

set_option maxRecDepth 16384

noncomputable section

namespace Cert.Reference9Ideal.Value

open Idealize.ShloMosaic Idealize.ShloMosaic.TcCoe Idealize.SL.Sem
open Cert.Reference9Ideal Cert.Reference9Ideal.Gen
open Cert.Samp
open Cert.Ssd (hd pl gate ga gk gw)

theorem toInt_ofNat (k : Fin 1) : (BitVec.ofNat 32 (k : ℕ)).toInt = ((k : ℕ) : Int) :=
  (by decide +kernel : ∀ k : Fin 1, (BitVec.ofNat 32 (k : ℕ)).toInt = ((k : ℕ) : Int)) k

theorem slices6 (k : Fin 1) : S1x16x32x8x8x64.Slices ![(k : ℕ), 0, 0, 0, 0, 0] S1x16x32x8x8x64 :=
  ⟨rfl, fun a => by have := k.isLt; fin_cases a <;> simp <;> omega⟩

theorem slices5 (k : Fin 1) : S1x16x32x8x128.Slices ![(k : ℕ), 0, 0, 0, 0] S1x16x32x8x128 :=
  ⟨rfl, fun a => by have := k.isLt; fin_cases a <;> simp <;> omega⟩

theorem slices55 (k : Fin 1) : S1x16x32x8x8.Slices ![(k : ℕ), 0, 0, 0, 0] S1x16x32x8x8 :=
  ⟨rfl, fun a => by have := k.isLt; fin_cases a <;> simp <;> omega⟩

variable (V : Valuation τ sig (Elt Ideal)) (β : Fin 16)

theorem v58_at (k : Fin 1) (hk : V (Proc.devRef .tc main_v25_6) = fun _ => BitVec.ofNat 32 k) (s : Fin 32) (g r : Fin 8) (p : Fin 64) :
    res_main_while0b_v59 V (ix5 β s g r p) = V (Proc.devRef .tc main_v25_0) (ix6 k β s g r p) := by
  unfold res_main_while0b_v59
  rw [hk]
  generalize V (Proc.devRef .tc main_v25_0) = x
  revert x
  intro (x : FVec Ideal S1x16x32x8x8x64 .f32)
  rw [WordCmp.dynamicSlice_eq_extract _ x _ _ ![(k : ℕ), 0, 0, 0, 0, 0] (slices6 k) (by
    intro a; fin_cases a
    · exact toInt_ofNat k
    · rfl
    · rfl
    · rfl
    · rfl
    · rfl)]
  pointwise
  try blk_ext

theorem v59_at (k : Fin 1) (hk : V (Proc.devRef .tc main_v25_6) = fun _ => BitVec.ofNat 32 k) (s : Fin 32) (g r : Fin 8) :
    res_main_while0b_v60 V (ix4 β s g r) = V (Proc.devRef .tc main_v25_1) (ix5 k β s g r) := by
  unfold res_main_while0b_v60
  rw [hk]
  generalize V (Proc.devRef .tc main_v25_1) = x
  revert x
  intro (x : FVec Ideal S1x16x32x8x8 .f32)
  rw [WordCmp.dynamicSlice_eq_extract _ x _ _ ![(k : ℕ), 0, 0, 0, 0] (slices55 k) (by
    intro a; fin_cases a
    · exact toInt_ofNat k
    · rfl
    · rfl
    · rfl
    · rfl)]
  pointwise
  try blk_ext

theorem v60_at (k : Fin 1) (hk : V (Proc.devRef .tc main_v25_6) = fun _ => BitVec.ofNat 32 k) (s : Fin 32) (g : Fin 8) (n : Fin 128) :
    res_main_while0b_v61 V (ix4 β s g n) = V (Proc.devRef .tc main_v25_2) (ix5 k β s g n) := by
  unfold res_main_while0b_v61
  rw [hk]
  generalize V (Proc.devRef .tc main_v25_2) = x
  revert x
  intro (x : FVec Ideal S1x16x32x8x128 .f32)
  rw [WordCmp.dynamicSlice_eq_extract _ x _ _ ![(k : ℕ), 0, 0, 0, 0] (slices5 k) (by
    intro a; fin_cases a
    · exact toInt_ofNat k
    · rfl
    · rfl
    · rfl
    · rfl)]
  pointwise
  try blk_ext

theorem v61_at (k : Fin 1) (hk : V (Proc.devRef .tc main_v25_6) = fun _ => BitVec.ofNat 32 k) (s : Fin 32) (g : Fin 8) (n : Fin 128) :
    res_main_while0b_v62 V (ix4 β s g n) = V (Proc.devRef .tc main_v25_3) (ix5 k β s g n) := by
  unfold res_main_while0b_v62
  rw [hk]
  generalize V (Proc.devRef .tc main_v25_3) = x
  revert x
  intro (x : FVec Ideal S1x16x32x8x128 .f32)
  rw [WordCmp.dynamicSlice_eq_extract _ x _ _ ![(k : ℕ), 0, 0, 0, 0] (slices5 k) (by
    intro a; fin_cases a
    · exact toInt_ofNat k
    · rfl
    · rfl
    · rfl
    · rfl)]
  pointwise
  try blk_ext

theorem ys_at (β : Fin 16) (k : Fin 1) (x : FVec Ideal S1x16x32x8x8x64 .f32) (y : FVec Ideal S16x32x8x8x64 .f32) (j : Fin 1) (s : Fin 32) (g r : Fin 8) (p : Fin 64) :
    Host.dynamicUpdateSlice x (broadcastInDim S1x16x32x8x8x64 ![1, 2, 3, 4, 5] bcast_S16x32x8x8x64_S1x16x32x8x8x64_1_2_3_4_5 y) (fun b => (((![fun _ => BitVec.ofNat 32 k, constantI S_ 32 0#32, constantI S_ 32 0#32, constantI S_ 32 0#32, constantI S_ 32 0#32, constantI S_ 32 0#32] : Fin 6 → (⟨S_, .i32⟩ : BufTy).Contents (Elt Ideal))) b (Shape.Idx.first h_S_)).toInt) updateFits_S1x16x32x8x8x64_S1x16x32x8x8x64 (ix6 j β s g r p)
      = if j = k then y (ix5 β s g r p) else x (ix6 j β s g r p) := by
  rw [WordCmp.dynamicUpdateSlice_eq_update x _ _ _ ![(k : ℕ), 0, 0, 0, 0, 0] (slices6 k) (by
    intro a; fin_cases a
    · exact toInt_ofNat k
    · rfl
    · rfl
    · rfl
    · rfl
    · rfl)]
  pointwise
  exact (if_pos (Subsingleton.elim j k)).symm

/-- The running sums of chunk `k`. -/
theorem cum_at (k : Fin 1) (hk : V (Proc.devRef .tc main_v25_6) = fun _ => BitVec.ofNat 32 k)
    (D : Fin 8 → Fin 32 → Fin 8 → EReal) (a : Fin 8 → Fin 8 → EReal)
    (hD : ∀ g s r, V (Proc.devRef .tc main_v25_1) (ix5 k β s g r) = D g s r)
    (ha : ∀ g r, V (Proc.devRef .tc main_v25_4) (ix2 g r) = a g r) (g : Fin 8) (t : Fin 32) (r : Fin 8) :
    res_main_while0b_v66 V (ix4 β t g r) = cum (D g) (a g) t r := by
  unfold res_main_while0b_v66 cum
  refine (cum_term _ β t g r).trans (Finset.sum_congr rfl fun s _ => ?_)
  by_cases h : s ≤ t
  · rw [if_pos h, if_pos h]
    refine congrArg₂ (· * ·) ((v59_at V β k hk s g r).trans (hD g s r)) ?_
    refine Eq.trans ?_ (ha g r)
    generalize V (Proc.devRef .tc main_v25_4) = x
    revert x
    intro (x : FVec Ideal S8x8 .f32)
    pointwise
  · rw [if_neg h, if_neg h]

theorem exp_low : Ideal.exp (Ideal.ofBits .f32 0xFF800000#32) = 0 := by
  have h : Ideal.ofBits .f32 0xFF800000#32 = ⊥ := by simp [Ideal.ofBits, Ideal.ieee]
  rw [h]; simp

/-- The state after the trip that reads chunk `k`. -/
theorem step7_at (k : Fin 1) (hk : V (Proc.devRef .tc main_v25_6) = fun _ => BitVec.ofNat 32 k)
    (D : Fin 8 → Fin 32 → Fin 8 → EReal) (a : Fin 8 → Fin 8 → EReal) (X : Fin 8 → Fin 32 → Fin 8 → Fin 64 → EReal)
    (B : Fin 8 → Fin 32 → Fin 128 → EReal) (S : Fin 8 → Fin 8 → Fin 64 → Fin 128 → EReal)
    (hX : ∀ g s r p, V (Proc.devRef .tc main_v25_0) (ix6 k β s g r p) = X g s r p)
    (hD : ∀ g s r, V (Proc.devRef .tc main_v25_1) (ix5 k β s g r) = D g s r)
    (hB : ∀ g s n, V (Proc.devRef .tc main_v25_2) (ix5 k β s g n) = B g s n)
    (ha : ∀ g r, V (Proc.devRef .tc main_v25_4) (ix2 g r) = a g r)
    (hS : ∀ g r p n, V (Proc.devRef .tc main_v25_7) (ix5 β g r p n) = S g r p n)
    (g r : Fin 8) (p : Fin 64) (n : Fin 128) :
    step_main_v25_7 V (ix5 β g r p n) = nextS (D g) (a g) (X g) (B g) (S g) r p n := by
  have hc := cum_at V β k hk D a hD ha
  unfold step_main_v25_7
  refine (state_term (V (Proc.devRef .tc main_v25_7)) (res_main_while0b_v59 V) (res_main_while0b_v60 V) (res_main_while0b_v66 V) (res_main_while0b_v61 V) β g r p n).trans ?_
  unfold nextS
  refine congrArg₂ (· + ·) (congrArg₂ (· * ·) (hS g r p n) (congrArg Ideal.exp (hc g 31 r))) (Finset.sum_congr rfl fun s _ => ?_)
  rw [v58_at V β k hk, v59_at V β k hk, v60_at V β k hk, hX, hD, hB, mul_comm]
  refine congrArg₂ (· * ·) rfl (congrArg₂ (· * ·) rfl (congrArg₂ (· * ·) (congrArg Ideal.exp ?_) rfl))
  exact congrArg₂ (· - ·) (hc g 31 r) (hc g s r)

/-- The outputs stored by the trip that reads chunk `k`. -/
theorem step8_at (k : Fin 1) (hk : V (Proc.devRef .tc main_v25_6) = fun _ => BitVec.ofNat 32 k)
    (D : Fin 8 → Fin 32 → Fin 8 → EReal) (a : Fin 8 → Fin 8 → EReal) (X : Fin 8 → Fin 32 → Fin 8 → Fin 64 → EReal)
    (B C : Fin 8 → Fin 32 → Fin 128 → EReal) (S : Fin 8 → Fin 8 → Fin 64 → Fin 128 → EReal)
    (hX : ∀ g s r p, V (Proc.devRef .tc main_v25_0) (ix6 k β s g r p) = X g s r p)
    (hD : ∀ g s r, V (Proc.devRef .tc main_v25_1) (ix5 k β s g r) = D g s r)
    (hB : ∀ g s n, V (Proc.devRef .tc main_v25_2) (ix5 k β s g n) = B g s n)
    (hC : ∀ g s n, V (Proc.devRef .tc main_v25_3) (ix5 k β s g n) = C g s n)
    (ha : ∀ g r, V (Proc.devRef .tc main_v25_4) (ix2 g r) = a g r)
    (hM : ∀ t s, V (Proc.devRef .tc main_v25_5) (ix5 0 t s 0 0) = BitVec.ofBool (decide (s ≤ t)))
    (hS : ∀ g r p n, V (Proc.devRef .tc main_v25_7) (ix5 β g r p n) = S g r p n)
    (j : Fin 1) (t : Fin 32) (g r : Fin 8) (p : Fin 64) :
    step_main_v25_8 V (ix6 j β t g r p)
      = if j = k then raw (D g) (a g) (X g) (B g) (C g) (S g) t r p else V (Proc.devRef .tc main_v25_8) (ix6 j β t g r p) := by
  have hc := cum_at V β k hk D a hD ha
  unfold step_main_v25_8
  rw [hk]
  refine (ys_at β k (V (Proc.devRef .tc main_v25_8)) _ j t g r p).trans ?_
  by_cases h : j = k
  · rw [if_pos h, if_pos h]
    refine (out_term (V (Proc.devRef .tc main_v25_7)) (res_main_while0b_v59 V) (res_main_while0b_v60 V) (res_main_while0b_v66 V) (res_main_while0b_v61 V) (res_main_while0b_v62 V) (V (Proc.devRef .tc main_v25_5)) β t g r p).trans ?_
    rw [add_comm]
    unfold raw Samp.inner att
    refine congrArg₂ (· + ·) (congrArg₂ (· * ·) (Finset.sum_congr rfl fun n _ => ?_) (congrArg Ideal.exp (hc g t r))) (Finset.sum_congr rfl fun s _ => ?_)
    · rw [v61_at V β k hk, hC, hS, mul_comm]
    · rw [v58_at V β k hk, v59_at V β k hk, hX, hD, hM, mul_comm]
      refine congrArg₂ (· * ·) (congrArg₂ (· * ·) (Finset.sum_congr rfl fun n _ => ?_) ?_) rfl
      · rw [v60_at V β k hk, v61_at V β k hk, hC, hB, mul_comm]
      · by_cases hs : s ≤ t
        · rw [if_pos hs, decide_eq_true hs]
          exact congrArg Ideal.exp (congrArg₂ (· - ·) (hc g t r) (hc g s r))
        · rw [if_neg hs, decide_eq_false hs]
          exact exp_low
  · rw [if_neg h, if_neg h]

end Cert.Reference9Ideal.Value

end
-- ==== Proof.Samp.RefEntry.lean ====
module

public import proofs.«01_k».proof.Proof.Samp.RefSlices

@[expose] public section

set_option maxRecDepth 16384

noncomputable section

namespace Cert.Reference9Ideal.Value

open Idealize.ShloMosaic Idealize.ShloMosaic.TcCoe Idealize.SL.Sem
open Cert.Reference9Ideal Cert.Reference9Ideal.Gen
open Cert.Samp
open Cert.Ssd (hd pl gate ga gk gw)
open Idealize.ShloMosaic.StableHlo

variable (m : (ℓ : Loc nD τ sig) → Buf (Elt Ideal) ℓ)

theorem ent0 (c : Dev nD) (k : Fin 1) (b : Fin 16) (s : Fin 32) (g r : Fin 8) (p : Fin 64) :
    entryContents preI m c (Proc.devRef .tc main_v25_0) (ix6 k b s g r p) = gX (m ((c.tc : Thread nD τ).loc main_arg0)) b g s r p := by
  unfold gX
  simp only [entryContents, preI, afterL_cons, afterL_nil, hostOps0, hostOps0_1, hostOps0_2]
  after_results
  simp only [id_eq]
  rw [show launchContents m c (Proc.devRef .tc main_arg0) = m ((c.tc : Thread nD τ).loc main_arg0) from rfl]
  generalize (m ((c.tc : Thread nD τ).loc main_arg0)) = x
  revert x
  intro (x : FVec Ideal S512x6144 .f32)
  pointwise
  blk_ext

theorem ent1 (c : Dev nD) (k : Fin 1) (b : Fin 16) (s : Fin 32) (g r : Fin 8) :
    entryContents preI m c (Proc.devRef .tc main_v25_1) (ix5 k b s g r) = gD (m ((c.tc : Thread nD τ).loc main_arg2)) b g s r := by
  unfold gD
  simp only [entryContents, preI, afterL_cons, afterL_nil, hostOps0, hostOps0_1, hostOps0_2]
  after_results
  simp only [id_eq]
  rw [show launchContents m c (Proc.devRef .tc main_arg2) = m ((c.tc : Thread nD τ).loc main_arg2) from rfl]
  generalize (m ((c.tc : Thread nD τ).loc main_arg2)) = x
  revert x
  intro (x : FVec Ideal S8704x128 .f32)
  pointwise
  blk_ext

theorem ent2 (c : Dev nD) (k : Fin 1) (b : Fin 16) (s : Fin 32) (g : Fin 8) (n : Fin 128) :
    entryContents preI m c (Proc.devRef .tc main_v25_2) (ix5 k b s g n) = gB (m ((c.tc : Thread nD τ).loc main_arg0)) b g s n := by
  unfold gB
  simp only [entryContents, preI, afterL_cons, afterL_nil, hostOps0, hostOps0_1, hostOps0_2]
  after_results
  simp only [id_eq]
  rw [show launchContents m c (Proc.devRef .tc main_arg0) = m ((c.tc : Thread nD τ).loc main_arg0) from rfl]
  generalize (m ((c.tc : Thread nD τ).loc main_arg0)) = x
  revert x
  intro (x : FVec Ideal S512x6144 .f32)
  pointwise
  blk_ext

theorem ent3 (c : Dev nD) (k : Fin 1) (b : Fin 16) (s : Fin 32) (g : Fin 8) (n : Fin 128) :
    entryContents preI m c (Proc.devRef .tc main_v25_3) (ix5 k b s g n) = gC (m ((c.tc : Thread nD τ).loc main_arg0)) b g s n := by
  unfold gC
  simp only [entryContents, preI, afterL_cons, afterL_nil, hostOps0, hostOps0_1, hostOps0_2]
  after_results
  simp only [id_eq]
  rw [show launchContents m c (Proc.devRef .tc main_arg0) = m ((c.tc : Thread nD τ).loc main_arg0) from rfl]
  generalize (m ((c.tc : Thread nD τ).loc main_arg0)) = x
  revert x
  intro (x : FVec Ideal S512x6144 .f32)
  pointwise
  blk_ext

theorem ent4 (c : Dev nD) (g r : Fin 8) :
    entryContents preI m c (Proc.devRef .tc main_v25_4) (ix2 g r) = ga (m ((c.tc : Thread nD τ).loc main_arg3)) g r := by
  unfold ga
  rw [zero_sub]
  simp only [entryContents, preI, afterL_cons, afterL_nil, hostOps0, hostOps0_1, hostOps0_2]
  after_results
  simp only [id_eq]
  rw [show launchContents m c (Proc.devRef .tc main_arg3) = m ((c.tc : Thread nD τ).loc main_arg3) from rfl]
  generalize (m ((c.tc : Thread nD τ).loc main_arg3)) = x
  revert x
  intro (x : FVec Ideal S64 .f32)
  pointwise
  refine congrArg (fun z => -Ideal.exp z) ?_
  blk_ext

theorem ent5 (c : Dev nD) (t s : Fin 32) :
    entryContents preI m c (Proc.devRef .tc main_v25_5) (ix5 0 t s 0 0) = BitVec.ofBool (decide (s ≤ t)) := by
  simp only [entryContents, preI, afterL_cons, afterL_nil, hostOps0, hostOps0_1, hostOps0_2]
  after_results
  pointwise
  revert t s
  decide +kernel

theorem ent7 (c : Dev nD) (b : Fin 16) (g r : Fin 8) (p : Fin 64) (n : Fin 128) :
    entryContents preI m c (Proc.devRef .tc main_v25_7) (ix5 b g r p n) = gS (m ((c.tc : Thread nD τ).loc main_arg6)) b g r p n := by
  unfold gS
  simp only [entryContents, preI, afterL_cons, afterL_nil, hostOps0, hostOps0_1, hostOps0_2]
  after_results
  simp only [id_eq]
  rw [show launchContents m c (Proc.devRef .tc main_arg6) = m ((c.tc : Thread nD τ).loc main_arg6) from rfl]
  generalize (m ((c.tc : Thread nD τ).loc main_arg6)) = x
  revert x
  intro (x : FVec Ideal S1x16x64x64x128 .f32)
  pointwise
  blk_ext

end Cert.Reference9Ideal.Value

end
-- ==== Proof.Samp.RefOut.lean ====
module

public import proofs.«01_k».proof.Proof.Samp.RefEntry

@[expose] public section

set_option maxRecDepth 16384

noncomputable section

namespace Cert.Reference9Ideal.Value

open Idealize.ShloMosaic Idealize.ShloMosaic.TcCoe Idealize.SL.Sem
open Cert.Reference9Ideal Cert.Reference9Ideal.Gen
open Cert.Samp
open Cert.Ssd (hd pl gate ga gk gw)
open Idealize.ShloMosaic.StableHlo

/-- The gated output at an index. -/
theorem gated_term (ys : FVec Ideal S1x16x32x8x8x64 .f32) (xc : FVec Ideal S512x6144 .f32) (pj : FVec Ideal S8704x34816 .f32) (dk : FVec Ideal S64 .f32)
    (b : Fin 16) (t : Fin 32) (G : Fin 8) (q : Fin 512) :
    (shapeCast S16x32x8x512 (mulf (shapeCast _ (addf (shapeCast _ (transpose S16x1x32x8x8x64 [1, 0, 2, 3, 4, 5] ys transposes_S1x16x32x8x8x64_S16x1x32x8x8x64_1_0_2_3_4_5) shapeCasts_S16x1x32x8x8x64_S16x32x8x8x64) (mulf (broadcastInDim S16x32x8x8x64 ![0, 1, 2, 3, 4] bcast_S1x1x8x8x1_S16x32x8x8x64_0_1_2_3_4 (broadcastInDim S1x1x8x8x1 ![2, 3, 4] bcast_S8x8x1_S1x1x8x8x1_2_3_4 (shapeCast _ dk shapeCasts_S64_S8x8x1))) (shapeCast _ (extractStridedSlice S512x4096 ![0, 0] xc slices_S512x6144_S512x4096_0_0) shapeCasts_S512x4096_S16x32x8x8x64))) shapeCasts_S16x32x8x8x64_S16x32x4096) (mulf (shapeCast _ (extractStridedSlice S512x4096 ![8192, 0] pj slices_S8704x34816_S512x4096_8192_0) shapeCasts_S512x4096_S16x32x4096) (Host.divf (broadcastInDim S16x32x4096 ![] bcast_S_S16x32x4096 (constant S_ .f32 0x3F800000#32)) (addf (broadcastInDim S16x32x4096 ![] bcast_S_S16x32x4096 (constant S_ .f32 0x3F800000#32)) (Host.exp (Host.negf (shapeCast _ (extractStridedSlice S512x4096 ![8192, 0] pj slices_S8704x34816_S512x4096_8192_0) shapeCasts_S512x4096_S16x32x4096))))))) shapeCasts_S16x32x4096_S16x32x8x512 : FVec Ideal S16x32x8x512 .f32) (ix4 b t G q)
      = (ys (ix6 0 b t G (hd q) (pl q)) + dk (ix1 ⟨8 * (G : ℕ) + (hd q : ℕ), by omega⟩) * xc (ix2 ⟨32 * (b : ℕ) + (t : ℕ), by omega⟩ ⟨512 * (G : ℕ) + 64 * (hd q : ℕ) + (pl q : ℕ), by omega⟩)) * gate (pj (ix2 ⟨8192 + 32 * (b : ℕ) + (t : ℕ), by omega⟩ ⟨512 * (G : ℕ) + (q : ℕ), by omega⟩)) := by
  pointwise
  have e1 : ((G : ℕ) * 512 + (q : ℕ)) / 64 % 8 = (q : ℕ) / 64 := by omega
  have e2 : ((G : ℕ) * 512 + (q : ℕ)) % 64 = (q : ℕ) % 64 := by omega
  have e3 : (G : ℕ) * 8 = 8 * (G : ℕ) := by omega
  have e5 : (G : ℕ) * 512 = 512 * (G : ℕ) := by omega
  have e6 : (q : ℕ) / 64 * 64 = 64 * ((q : ℕ) / 64) := by omega
  simp only [e1, e2, gate, hd, pl, zero_sub]
  have e7 : (b : ℕ) * 32 = 32 * (b : ℕ) := by omega
  simp only [e3, e5, e6, e7, Nat.add_assoc]

theorem normed_term (gs : FVec Ideal S16x32x8x512 .f32) (nw : FVec Ideal S4096 .f32) (b : Fin 16) (t : Fin 32) (G : Fin 8) (q : Fin 512) :
    (truncf .bf16 (shapeCast _ (mulf (mulf gs (broadcastInDim S16x32x8x512 ![0, 1, 2, 3] bcast_S16x32x8x1_S16x32x8x512_0_1_2_3 (Host.rsqrt (addf (Host.divf (broadcastInDim S16x32x8x1 ![0, 1, 2] bcast_S16x32x8_S16x32x8x1_0_1_2 (Host.reduceAdd (mulf gs gs) (constant S_ .f32 0x00000000#32) reducesTo_S16x32x8x512_S16x32x8_d3 h_S_)) (broadcastInDim S16x32x8x1 ![] bcast_S_S16x32x8x1 (constant S_ .f32 0x44000000#32))) (broadcastInDim S16x32x8x1 ![] bcast_S_S16x32x8x1 (constant S_ .f32 0x358637BD#32)))))) (broadcastInDim S16x32x8x512 ![0, 1, 2, 3] bcast_S1x1x8x512_S16x32x8x512_0_1_2_3 (broadcastInDim S1x1x8x512 ![2, 3] bcast_S8x512_S1x1x8x512_2_3 (shapeCast _ nw shapeCasts_S4096_S8x512)))) shapeCasts_S16x32x8x512_S512x4096) bitsLt_bf16_f32 : FVec Ideal S512x4096 .bf16) (ix2 ⟨32 * (b : ℕ) + (t : ℕ), by omega⟩ ⟨512 * (G : ℕ) + (q : ℕ), by omega⟩)
      = gs (ix4 b t G q) * Ideal.rsqrt (Ideal.div (∑ k : Fin 512, gs (ix4 b t G k) * gs (ix4 b t G k)) (Ideal.ofBits .f32 0x44000000#32)
    + Ideal.ofBits .f32 0x358637BD#32) * nw (ix1 ⟨512 * (G : ℕ) + (q : ℕ), by omega⟩) := by
  pointwise
  have e5 : (G : ℕ) * 512 = 512 * (G : ℕ) := by omega
  have e7 : (b : ℕ) * 32 = 32 * (b : ℕ) := by omega
  simp only [e5, e7]

variable (m : (ℓ : Loc nD τ sig) → Buf (Elt Ideal) ℓ)

/-- The state after the trip. -/
theorem state_at (c : Dev nD) (b : Fin 16) (G r : Fin 8) (p : Fin 64) (n : Fin 128) :
    STEP^[1] (entryContents preI m c) (Proc.devRef .tc main_v25_7) (ix5 b G r p n) = gT (m ((c.tc : Thread nD τ).loc main_arg0)) (m ((c.tc : Thread nD τ).loc main_arg2)) (m ((c.tc : Thread nD τ).loc main_arg3)) (m ((c.tc : Thread nD τ).loc main_arg6)) b G r p n := by
  rw [Function.iterate_one, STEP_main_v25_7]
  exact step7_at (entryContents preI m c) b 0 (ctr_entry m c) (fun g => gD (m ((c.tc : Thread nD τ).loc main_arg2)) b g) (fun g => ga (m ((c.tc : Thread nD τ).loc main_arg3)) g) (fun g => gX (m ((c.tc : Thread nD τ).loc main_arg0)) b g) (fun g => gB (m ((c.tc : Thread nD τ).loc main_arg0)) b g) (fun g => gS (m ((c.tc : Thread nD τ).loc main_arg6)) b g)
    (fun g s r p => ent0 m c 0 b s g r p) (fun g s r => ent1 m c 0 b s g r) (fun g s n => ent2 m c 0 b s g n) (ent4 m c) (fun g r p n => ent7 m c b g r p n) G r p n

/-- The outputs after the trip. -/
theorem ys_after (c : Dev nD) (b : Fin 16) (t : Fin 32) (G r : Fin 8) (p : Fin 64) :
    STEP^[1] (entryContents preI m c) (Proc.devRef .tc main_v25_8) (ix6 0 b t G r p) = raw (gD (m ((c.tc : Thread nD τ).loc main_arg2)) b G) (ga (m ((c.tc : Thread nD τ).loc main_arg3)) G) (gX (m ((c.tc : Thread nD τ).loc main_arg0)) b G) (gB (m ((c.tc : Thread nD τ).loc main_arg0)) b G) (gC (m ((c.tc : Thread nD τ).loc main_arg0)) b G) (gS (m ((c.tc : Thread nD τ).loc main_arg6)) b G) t r p := by
  rw [Function.iterate_one, STEP_main_v25_8]
  refine (step8_at (entryContents preI m c) b 0 (ctr_entry m c) (fun g => gD (m ((c.tc : Thread nD τ).loc main_arg2)) b g) (fun g => ga (m ((c.tc : Thread nD τ).loc main_arg3)) g) (fun g => gX (m ((c.tc : Thread nD τ).loc main_arg0)) b g) (fun g => gB (m ((c.tc : Thread nD τ).loc main_arg0)) b g) (fun g => gC (m ((c.tc : Thread nD τ).loc main_arg0)) b g) (fun g => gS (m ((c.tc : Thread nD τ).loc main_arg6)) b g)
    (fun g s r p => ent0 m c 0 b s g r p) (fun g s r => ent1 m c 0 b s g r) (fun g s n => ent2 m c 0 b s g n) (fun g s n => ent3 m c 0 b s g n) (ent4 m c) (ent5 m c) (fun g r p n => ent7 m c b g r p n) 0 t G r p).trans ?_
  rw [if_pos rfl]

/-- The reference's output. -/
theorem out56_at (c : Dev nD) (b : Fin 16) (t : Fin 32) (G : Fin 8) (q : Fin 512) :
    out_main_v56 (STEP^[1] (entryContents preI m c)) (ix2 ⟨32 * (b : ℕ) + (t : ℕ), by omega⟩ ⟨512 * (G : ℕ) + (q : ℕ), by omega⟩) = gY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b G t q := by
  have I := ys_after m c b
  have a0 := iter_main_arg0 m c 1
  have a1 := iter_main_arg1 m c 1
  have a4 := iter_main_arg4 m c 1
  have a5 := iter_main_arg5 m c 1
  generalize STEP^[1] (entryContents preI m c) = V at I a0 a1 a4 a5 ⊢
  unfold out_main_v56
  rw [a0, a1, a4, a5]
  refine (normed_term _ (m ((c.tc : Thread nD τ).loc main_arg5)) b t G q).trans ?_
  have hg : ∀ q : Fin 512, _ = gated (gD (m ((c.tc : Thread nD τ).loc main_arg2)) b G) (ga (m ((c.tc : Thread nD τ).loc main_arg3)) G) (gX (m ((c.tc : Thread nD τ).loc main_arg0)) b G) (gB (m ((c.tc : Thread nD τ).loc main_arg0)) b G) (gC (m ((c.tc : Thread nD τ).loc main_arg0)) b G) (gS (m ((c.tc : Thread nD τ).loc main_arg6)) b G) (gk (m ((c.tc : Thread nD τ).loc main_arg4)) G) (gZ (m ((c.tc : Thread nD τ).loc main_arg1)) b G) t q := fun q => by
    refine (gated_term (V (Proc.devRef .tc main_v25_8)) (m ((c.tc : Thread nD τ).loc main_arg0)) (m ((c.tc : Thread nD τ).loc main_arg1)) (m ((c.tc : Thread nD τ).loc main_arg4)) b t G q).trans ?_
    rw [I t G (hd q) (pl q)]
    rfl
  unfold gY normed gw
  refine congrArg₂ (· * ·) (congrArg₂ (· * ·) (hg q) (congrArg (fun z => Ideal.rsqrt (Ideal.div z _ + _)) (Finset.sum_congr rfl fun j _ => congrArg₂ (· * ·) (hg j) (hg j)))) rfl

/-- The reference's last state. -/
theorem out58_at (c : Dev nD) (b : Fin 16) (G : Fin 8) (n : Fin 128) (q : Fin 512) :
    out_main_v58 (STEP^[1] (entryContents preI m c)) (ix4 b G n q) = gT (m ((c.tc : Thread nD τ).loc main_arg0)) (m ((c.tc : Thread nD τ).loc main_arg2)) (m ((c.tc : Thread nD τ).loc main_arg3)) (m ((c.tc : Thread nD τ).loc main_arg6)) b G (hd q) (pl q) n := by
  refine Eq.trans ?_ (state_at m c b G (hd q) (pl q) n)
  generalize STEP^[1] (entryContents preI m c) = V
  unfold out_main_v58
  generalize V (Proc.devRef .tc main_v25_7) = x
  revert x
  intro (x : FVec Ideal S16x8x8x64x128 .f32)
  simp only [hd, pl]
  pointwise
  try blk_ext

end Cert.Reference9Ideal.Value

end
-- ==== Proof.Samp.Algebraic.lean ====
module

public import proofs.«01_k».proof.Defs
public import proofs.«01_k».proof.Proof.Samp.Grid
public import proofs.«01_k».proof.Proof.Samp.RefOut
public import proofs.«01_k».proof.Proof.Ssd.Assemble
public import proofs.«01_k».proof.Proof.Gen.Kernel9.Frame
public import proofs.«01_k».proof.Proof.Gen.Reference9Ideal.Run
public import Idealize.ShloMosaic.Lib.ReduceAll

@[expose] public section

set_option maxRecDepth 16384

noncomputable section

namespace Cert.Samp

open Idealize.ShloMosaic Idealize.ShloMosaic.TcCoe Idealize.SL.Sem

theorem pre_facts : Cert.Pre_dt_nonneg_sample.Facts where
  bcast_S_S8704x128 := by decide
  reducesTo_S8704x128_S_d0_1 := by decide
  h_S_ := by decide

theorem kernel_frame : Cert.quiescent_Kernel9 (hKernel9 := Cert.Kernel9.Gen.facts) :=
  fun m g _ => Cert.Kernel9.Gen.frame (F := Bits) m g

theorem kernelIdeal_frame : Cert.quiescent_Kernel9Ideal (hKernel9Ideal := Cert.Kernel9Ideal.Gen.facts) :=
  fun m g _ => Cert.Kernel9Ideal.Gen.frame (F := Ideal) m g

theorem kernelIdeal_frame_pre :
    Cert.quiescent_Kernel9Ideal_pre_dt_nonneg_sample (hKernel9Ideal := Cert.Kernel9Ideal.Gen.facts) (hPre_dt_nonneg_sample := pre_facts) :=
  fun m g _ => Cert.Kernel9Ideal.Gen.frame (F := Ideal) m g

theorem reference_frame : Cert.quiescent_Reference9Ideal (hReference9Ideal := Cert.Reference9Ideal.Gen.facts) := by
  intro m g _
  exact (θ_run Cert.Reference9Ideal.defs _ _).mono (fun r h => ⟨fun c => (h c).2.2,
    Idealize.ShloMosaic.sem_eq_zero_of_no_sems (by decide) r.2⟩) (Cert.Reference9Ideal.Value.run (F := Ideal) m g)

theorem reference_frame_pre :
    Cert.quiescent_Reference9Ideal_pre_dt_nonneg_sample (hReference9Ideal := Cert.Reference9Ideal.Gen.facts) (hPre_dt_nonneg_sample := pre_facts) := by
  intro m g _
  exact (θ_run Cert.Reference9Ideal.defs _ _).mono (fun r h => ⟨fun c => (h c).2.2,
    Idealize.ShloMosaic.sem_eq_zero_of_no_sems (by decide) r.2⟩) (Cert.Reference9Ideal.Value.run (F := Ideal) m g)

/-- The precondition, read: every step size is at least zero. -/
theorem dt_pos (m : (ℓ : Loc Cert.Kernel9Ideal.nD Cert.Kernel9Ideal.τ Cert.Kernel9Ideal.sig) → Buf (Elt Ideal) ℓ)
    (h : Cert.Pre_Kernel9Ideal_dt_nonneg_sample (hPre_dt_nonneg_sample := pre_facts) m) (c : Dev Cert.Kernel9Ideal.nD) :
    ∀ i, (0 : EReal) ≤ m ((c.tc : Thread Cert.Kernel9Ideal.nD Cert.Kernel9Ideal.τ).loc Cert.Kernel9Ideal.main_arg2) i := by
  haveI : Subsingleton Cert.Pre_dt_nonneg_sample.S_.Idx := ⟨fun a b => funext fun x => x.elim0⟩
  have e := congrFun (h c) (fun x => x.elim0)
  intro i
  have e2 := Host.reduce_andi_all _ _ _ _ _ e i
  have e3 : Ideal.cmp .oge (m ((c.tc : Thread Cert.Kernel9Ideal.nD Cert.Kernel9Ideal.τ).loc Cert.Kernel9Ideal.main_arg2) i : EReal) (Ideal.ofBits .f32 0x00000000#32) = 1 := e2
  rw [Ideal.ofBits_zero] at e3
  exact (Ideal.cmp_oge_eq_one _ _).1 e3

/-- An index of the output, as sequence, step, group and column of the group. -/
theorem out_index (i : Shape.Idx ⟨2, ![512, 4096]⟩) :
    ∃ (b : Fin 16) (s : Fin 32) (G : Fin 8) (q : Fin 512),
      i = ix2 ⟨32 * (b : ℕ) + (s : ℕ), by omega⟩ ⟨512 * (G : ℕ) + (q : ℕ), by omega⟩ := by
  obtain ⟨a, ha⟩ := (⟨i 0, rfl⟩ : ∃ a : Fin 512, i 0 = a)
  obtain ⟨b, hb⟩ := (⟨i 1, rfl⟩ : ∃ b : Fin 4096, i 1 = b)
  refine ⟨⟨(a : ℕ) / 32, by omega⟩, ⟨(a : ℕ) % 32, by omega⟩, ⟨(b : ℕ) / 512, by omega⟩, ⟨(b : ℕ) % 512, by omega⟩, ?_⟩
  funext d
  fin_cases d
  · refine ha.trans (Fin.ext ?_); show (a : ℕ) = 32 * ((a : ℕ) / 32) + (a : ℕ) % 32; omega
  · refine hb.trans (Fin.ext ?_); show (b : ℕ) = 512 * ((b : ℕ) / 512) + (b : ℕ) % 512; omega

theorem algebraic : Cert.algebraic_Kernel9Ideal_Reference9Ideal_pre_dt_nonneg_sample (hKernel9Ideal := Cert.Kernel9Ideal.Gen.facts)
    (hReference9Ideal := Cert.Reference9Ideal.Gen.facts) (hPre_dt_nonneg_sample := pre_facts) := by
  intro m g m' g' hp hargs
  refine ⟨_, _, (θ_run Cert.Kernel9Ideal.defs _ _).mono (fun r h c => ⟨(h c).1.trans (Cert.Kernel9Ideal.Value.final11 m c (dt_pos m hp c)),
    (h c).2.1.trans (Cert.Kernel9Ideal.Value.final12 m c (dt_pos m hp c)), (h c).2.2⟩) (Cert.Kernel9Ideal.Value.run_blocks (F := Ideal) m g), ?_⟩
  refine (θ_run Cert.Reference9Ideal.defs _ _).mono (fun r h c => ?_) (Cert.Reference9Ideal.Value.run (F := Ideal) m' g')
  obtain ⟨h0, h1, hrest⟩ := h c
  obtain ⟨a0, a1, a2, a3, a4, a5, a6⟩ := hargs c
  refine ⟨h0.trans ?_, h1.trans ?_, hrest⟩
  · funext i
    obtain ⟨b, s, G, q, rfl⟩ := out_index i
    have e1 := Cert.Reference9Ideal.Value.out56_at m' c b s G q
    rw [a0, a1, a2, a3, a4, a5, a6] at e1
    exact e1.trans (Cert.Kernel9Ideal.Value.OUT_at _ _ _ _ _ _ _ b G s q _ _ rfl rfl).symm
  · funext i
    obtain ⟨b, G, n, q, rfl⟩ : ∃ (b : Fin 16) (G : Fin 8) (n : Fin 128) (q : Fin 512), i = ix4 b G n q := ⟨i 0, i 1, i 2, i 3, eq_ix4 i⟩
    have e1 := Cert.Reference9Ideal.Value.out58_at m' c b G n q
    rw [a0, a2, a3, a6] at e1
    exact e1

end Cert.Samp

end
-- ==== Proof.lean ====
module

public import proofs.«01_k».proof.Defs
public import proofs.«01_k».proof.Proof.Ssd.Algebraic
public import proofs.«01_k».proof.Proof.Dense.Algebraic
public import proofs.«01_k».proof.Proof.Dense.InAlgebraic
public import proofs.«01_k».proof.Proof.Dense.ConvAlgebraic
public import proofs.«01_k».proof.Proof.Samp.Algebraic

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Ssd.pre_facts, Cert.Samp.pre_facts, Cert.Ssd.kernel_frame, Cert.Ssd.kernelIdeal_frame, Cert.Ssd.kernelIdeal_frame_pre,
  Cert.Ssd.reference_frame, Cert.Ssd.reference_frame_pre,
  Cert.Dense.inProj_kernel, Cert.Dense.inProj_ideal, Cert.Dense.inProj_reference,
  Cert.Dense.merge_kernel, Cert.Dense.merge_ideal, Cert.Dense.merge_reference,
  Cert.Dense.resid_kernel, Cert.Dense.resid_ideal, Cert.Dense.resid_reference,
  Cert.Dense.normP_kernel, Cert.Dense.normP_ideal, Cert.Dense.normP_reference,
  Cert.Dense.normS_kernel, Cert.Dense.normS_ideal, Cert.Dense.normS_reference,
  Cert.Dense.convP_kernel, Cert.Dense.convP_ideal, Cert.Dense.convP_reference,
  Cert.Dense.convS_kernel, Cert.Dense.convS_ideal, Cert.Dense.convS_reference,
  Cert.Samp.kernel_frame, Cert.Samp.kernelIdeal_frame, Cert.Samp.kernelIdeal_frame_pre,
  Cert.Samp.reference_frame, Cert.Samp.reference_frame_pre,
  trivial, Cert.Ssd.algebraic,
  trivial, Cert.Dense.inProj_algebraic,
  trivial, Cert.Dense.merge_algebraic,
  trivial, Cert.Dense.resid_algebraic,
  trivial, Cert.Dense.normP_algebraic,
  trivial, Cert.Dense.normS_algebraic,
  trivial, Cert.Dense.convP_algebraic,
  trivial, Cert.Dense.convS_algebraic,
  trivial, Cert.Samp.algebraic⟩

end Cert.Proof

end
